-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def preserves_Kernel_KernelIdeal : Prop :=
  IdealRules.named_const.Statement Cert.KernelIdeal.κ "log2e_0" .f32 0x3FB90000#32 (((302779788716910274990971 / 302231454903657293676544) * (Real.log 2)⁻¹ : ℝ) : EReal)
  ∧ IdealRules.named_const.Statement Cert.KernelIdeal.κ "log2e_1" .f32 0xBB2C0000#32 (((-8389454219722201 / 4611686018427387904) * (Real.log 2)⁻¹ : ℝ) : EReal)
  ∧ IdealRules.named_const.Statement Cert.KernelIdeal.κ "log2e_2" .f32 0x36ED0000#32 (((2889971875107793 / 590295810358705651712) * (Real.log 2)⁻¹ : ℝ) : EReal)
  ∧ IdealRules.named_const.Statement Cert.KernelIdeal.κ "log2e_3" .f32 0xB2350000#32 (((-2207109322339707 / 302231454903657293676544) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Proj_ProjIdeal : Prop :=
  IdealRules.named_const.Statement Cert.ProjIdeal.κ "q_prescale" .f32 0x3E38AA3B#32 (((1 / 8) * (Real.log 2)⁻¹ : ℝ) : EReal)

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)) (v4 : (c : Dev Cert.ProjIdeal.nD) → Buf (Elt Ideal) ((c.tc : Thread Cert.ProjIdeal.nD Cert.ProjIdeal.τ).loc Cert.ProjIdeal.main_v7_4)) (v5 : (c : Dev Cert.ProjIdeal.nD) → Buf (Elt Ideal) ((c.tc : Thread Cert.ProjIdeal.nD Cert.ProjIdeal.τ).loc Cert.ProjIdeal.main_v7_5)) (v6 : (c : Dev Cert.ProjIdeal.nD) → Buf (Elt Ideal) ((c.tc : Thread Cert.ProjIdeal.nD Cert.ProjIdeal.τ).loc Cert.ProjIdeal.main_v7_6)) (v7 : (c : Dev Cert.ProjIdeal.nD) → Buf (Elt Ideal) ((c.tc : Thread Cert.ProjIdeal.nD Cert.ProjIdeal.τ).loc Cert.ProjIdeal.main_v7_7)) (v8 : (c : Dev Cert.ProjIdeal.nD) → Buf (Elt Ideal) ((c.tc : Thread Cert.ProjIdeal.nD Cert.ProjIdeal.τ).loc Cert.ProjIdeal.main_v7_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_v7_4) = v4 c
          ∧ r.2.mem ((c.tc : Thread Cert.ProjIdeal.nD Cert.ProjIdeal.τ).loc Cert.ProjIdeal.main_v7_5) = v5 c
          ∧ r.2.mem ((c.tc : Thread Cert.ProjIdeal.nD Cert.ProjIdeal.τ).loc Cert.ProjIdeal.main_v7_6) = v6 c
          ∧ r.2.mem ((c.tc : Thread Cert.ProjIdeal.nD Cert.ProjIdeal.τ).loc Cert.ProjIdeal.main_v7_7) = v7 c
          ∧ r.2.mem ((c.tc : Thread Cert.ProjIdeal.nD Cert.ProjIdeal.τ).loc Cert.ProjIdeal.main_v7_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v54) = v0 c
          ∧ r.2.mem ((c.tc : Thread Cert.ProjReferenceIdeal.nD Cert.ProjReferenceIdeal.τ).loc Cert.ProjReferenceIdeal.main_v55) = v1 c
          ∧ r.2.mem ((c.tc : Thread Cert.ProjReferenceIdeal.nD Cert.ProjReferenceIdeal.τ).loc Cert.ProjReferenceIdeal.main_v58) = v2 c
          ∧ r.2.mem ((c.tc : Thread Cert.ProjReferenceIdeal.nD Cert.ProjReferenceIdeal.τ).loc Cert.ProjReferenceIdeal.main_v60) = v3 c
          ∧ r.2.mem ((c.tc : Thread Cert.ProjReferenceIdeal.nD Cert.ProjReferenceIdeal.τ).loc Cert.ProjReferenceIdeal.main_v63) = v4 c
          ∧ r.2.mem ((c.tc : Thread Cert.ProjReferenceIdeal.nD Cert.ProjReferenceIdeal.τ).loc Cert.ProjReferenceIdeal.main_v64) = v5 c
          ∧ r.2.mem ((c.tc : Thread Cert.ProjReferenceIdeal.nD Cert.ProjReferenceIdeal.τ).loc Cert.ProjReferenceIdeal.main_v65) = v6 c
          ∧ r.2.mem ((c.tc : Thread Cert.ProjReferenceIdeal.nD Cert.ProjReferenceIdeal.τ).loc Cert.ProjReferenceIdeal.main_v72) = v7 c
          ∧ r.2.mem ((c.tc : Thread Cert.ProjReferenceIdeal.nD Cert.ProjReferenceIdeal.τ).loc Cert.ProjReferenceIdeal.main_v79) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v25)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v25) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v89) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
-- ==== Pre_finite.lean ====
abbrev S2x8192x1024 : Shape := ⟨3, ![2, 8192, 1024]⟩
abbrev S1x64 : Shape := ⟨2, ![1, 64]⟩
abbrev S1x128 : Shape := ⟨2, ![1, 128]⟩
abbrev S_ : Shape := ⟨0, ![]⟩

class Facts : Prop where
  bcast_S_S2x8192x1024 : S_.BroadcastsInDim S2x8192x1024 (![] : Fin 0 → Fin S2x8192x1024.rank)
  bcast_S_S1x64 : S_.BroadcastsInDim S1x64 (![] : Fin 0 → Fin S1x64.rank)

variable [Facts]

def fn_part1 {F : FTy → Type} [FloatOps F] (main_arg6 : FVec F S1x64 .f32) (main_v2 : IVec S2x8192x1024 1) (main_v5 : IVec S2x8192x1024 1) (main_v8 : IVec S2x8192x1024 1) (main_v11 : IVec S1x64 1) (main_v14 : IVec S1x64 1) (main_v17 : IVec S1x64 1) : IVec S2x8192x1024 1 × IVec S2x8192x1024 1 × IVec S2x8192x1024 1 × IVec S1x64 1 × IVec S1x64 1 × IVec S1x64 1 × IVec S1x64 1 :=
  let main_v18 : FVec F S1x64 .f32 := Host.absf main_arg6
  let main_cst_5 : FVec F S_ .f32 := constant S_ .f32 0x7F800000#32
  let main_v19 : FVec F S1x64 .f32 := broadcastInDim S1x64 ![] bcast_S_S1x64 main_cst_5
  let main_v20 : IVec S1x64 1 := cmpf .olt main_v18 main_v19
  (main_v2, main_v5, main_v8, main_v11, main_v14, main_v17, main_v20)

def fn {F : FTy → Type} [FloatOps F] (main_arg0 : FVec F S2x8192x1024 .f32) (main_arg1 : FVec F S2x8192x1024 .f32) (main_arg2 : FVec F S2x8192x1024 .f32) (main_arg3 : FVec F S1x64 .f32) (main_arg4 : FVec F S1x64 .f32) (main_arg5 : FVec F S1x64 .f32) (main_arg6 : FVec F S1x64 .f32) (main_arg7 : FVec F S1x128 .f32) : IVec S2x8192x1024 1 × IVec S2x8192x1024 1 × IVec S2x8192x1024 1 × IVec S1x64 1 × IVec S1x64 1 × IVec S1x64 1 × IVec S1x64 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x8192x1024 .f32 := Host.absf main_arg1
  let main_cst_0 : FVec F S_ .f32 := constant S_ .f32 0x7F800000#32
  let main_v4 : FVec F S2x8192x1024 .f32 := broadcastInDim S2x8192x1024 ![] bcast_S_S2x8192x1024 main_cst_0
  let main_v5 : IVec S2x8192x1024 1 := cmpf .olt main_v3 main_v4
  let main_v6 : FVec F S2x8192x1024 .f32 := Host.absf main_arg2
  let main_cst_1 : FVec F S_ .f32 := constant S_ .f32 0x7F800000#32
  let main_v7 : FVec F S2x8192x1024 .f32 := broadcastInDim S2x8192x1024 ![] bcast_S_S2x8192x1024 main_cst_1
  let main_v8 : IVec S2x8192x1024 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x64 .f32 := Host.absf main_arg4
  let main_cst_3 : FVec F S_ .f32 := constant S_ .f32 0x7F800000#32
  let main_v13 : FVec F S1x64 .f32 := broadcastInDim S1x64 ![] bcast_S_S1x64 main_cst_3
  let main_v14 : IVec S1x64 1 := cmpf .olt main_v12 main_v13
  let main_v15 : FVec F S1x64 .f32 := Host.absf main_arg5
  let main_cst_4 : FVec F S_ .f32 := constant S_ .f32 0x7F800000#32
  let main_v16 : FVec F S1x64 .f32 := broadcastInDim S1x64 ![] bcast_S_S1x64 main_cst_4
  let main_v17 : IVec S1x64 1 := cmpf .olt main_v15 main_v16
  fn_part1 (F := F) main_arg6 main_v2 main_v5 main_v8 main_v11 main_v14 main_v17
-- ==== Kernel.lean ====
abbrev S2x8192x1024 : Shape := ⟨3, ![2, 8192, 1024]⟩
abbrev S1x64 : Shape := ⟨2, ![1, 64]⟩
abbrev S1x128 : Shape := ⟨2, ![1, 128]⟩
abbrev S8 : Shape := ⟨1, ![8]⟩
abbrev S_ : Shape := ⟨0, ![]⟩
abbrev S2x32x256x1024 : Shape := ⟨4, ![2, 32, 256, 1024]⟩
abbrev S2x32x1024x256 : Shape := ⟨4, ![2, 32, 1024, 256]⟩
abbrev S64 : Shape := ⟨1, ![64]⟩
abbrev S4x64 : Shape := ⟨2, ![4, 64]⟩
abbrev S128 : Shape := ⟨1, ![128]⟩
abbrev S2x8x1024x1024 : Shape := ⟨4, ![2, 8, 1024, 1024]⟩
abbrev S8x1024x128 : Shape := ⟨3, ![8, 1024, 128]⟩
abbrev S8x1x1 : Shape := ⟨3, ![8, 1, 1]⟩
abbrev S256x512 : Shape := ⟨2, ![256, 512]⟩
abbrev S8x1x512 : Shape := ⟨3, ![8, 1, 512]⟩
abbrev S16384x1024 : Shape := ⟨2, ![16384, 1024]⟩
abbrev S1x1x256x256 : Shape := ⟨4, ![1, 1, 256, 256]⟩
abbrev S1x8x1024x256 : Shape := ⟨4, ![1, 8, 1024, 256]⟩
abbrev S1x32x256x256 : Shape := ⟨4, ![1, 32, 256, 256]⟩
abbrev S2x1024x128 : Shape := ⟨3, ![2, 1024, 128]⟩
abbrev S2x1x512 : Shape := ⟨3, ![2, 1, 512]⟩
abbrev S256x256 : Shape := ⟨2, ![256, 256]⟩
abbrev S2x256x512 : Shape := ⟨3, ![2, 256, 512]⟩
abbrev S2x128x512 : Shape := ⟨3, ![2, 128, 512]⟩
abbrev S2x1024x512 : Shape := ⟨3, ![2, 1024, 512]⟩
abbrev S64x256 : Shape := ⟨2, ![64, 256]⟩
abbrev S128x512 : Shape := ⟨2, ![128, 512]⟩
abbrev S1x1x128x256 : Shape := ⟨4, ![1, 1, 128, 256]⟩
abbrev S128x256 : Shape := ⟨2, ![128, 256]⟩
abbrev S1x64x256 : Shape := ⟨3, ![1, 64, 256]⟩
abbrev S1x128x512 : Shape := ⟨3, ![1, 128, 512]⟩
abbrev S1x512 : Shape := ⟨2, ![1, 512]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1024x256 : Shape := ⟨2, ![1024, 256]⟩
abbrev S1x256x512 : Shape := ⟨3, ![1, 256, 512]⟩
abbrev S1024x512 : Shape := ⟨2, ![1024, 512]⟩
abbrev S1x1x256x128 : Shape := ⟨4, ![1, 1, 256, 128]⟩
abbrev S256x128 : Shape := ⟨2, ![256, 128]⟩
abbrev S1x256x128 : Shape := ⟨3, ![1, 256, 128]⟩
abbrev S512 : Shape := ⟨1, ![512]⟩
abbrev S768x512 : Shape := ⟨2, ![768, 512]⟩
abbrev S1x1x512 : Shape := ⟨3, ![1, 1, 512]⟩
abbrev S128x1024 : Shape := ⟨2, ![128, 1024]⟩
abbrev S16x1024 : Shape := ⟨2, ![16, 1024]⟩
abbrev S144x1024 : Shape := ⟨2, ![144, 1024]⟩
abbrev S144x512 : Shape := ⟨2, ![144, 512]⟩
abbrev S1x1x768x128 : Shape := ⟨4, ![1, 1, 768, 128]⟩
abbrev S768x128 : Shape := ⟨2, ![768, 128]⟩
abbrev S1x768x128 : Shape := ⟨3, ![1, 768, 128]⟩
abbrev S768x256 : Shape := ⟨2, ![768, 256]⟩
abbrev S512x512 : Shape := ⟨2, ![512, 512]⟩
abbrev S128x768 : Shape := ⟨2, ![128, 768]⟩
abbrev S16x768 : Shape := ⟨2, ![16, 768]⟩
abbrev S144x768 : Shape := ⟨2, ![144, 768]⟩
abbrev S1x1x512x128 : Shape := ⟨4, ![1, 1, 512, 128]⟩
abbrev S512x128 : Shape := ⟨2, ![512, 128]⟩
abbrev S1x512x128 : Shape := ⟨3, ![1, 512, 128]⟩
abbrev S512x256 : Shape := ⟨2, ![512, 256]⟩
abbrev S16x512 : Shape := ⟨2, ![16, 512]⟩
abbrev S16x256 : Shape := ⟨2, ![16, 256]⟩
abbrev S144x256 : Shape := ⟨2, ![144, 256]⟩
abbrev S1x1024x512 : Shape := ⟨3, ![1, 1024, 512]⟩
abbrev S1 : Shape := ⟨1, ![1]⟩
abbrev S1x1 : Shape := ⟨2, ![1, 1]⟩
abbrev S256 : Shape := ⟨1, ![256]⟩
abbrev S1x256 : Shape := ⟨2, ![1, 256]⟩

abbrev nBuf : Space → Nat
  | .hbm => 70
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x1024, .f32⟩
  | .hbm, ⟨14, _⟩ => ⟨S2x8192x1024, .f32⟩
  | .hbm, ⟨15, _⟩ => ⟨S2x32x256x1024, .f32⟩
  | .hbm, ⟨16, _⟩ => ⟨S2x32x1024x256, .f32⟩
  | .hbm, ⟨17, _⟩ => ⟨S2x32x1024x256, .bf16⟩
  | .hbm, ⟨18, _⟩ => ⟨S2x8192x1024, .bf16⟩
  | .hbm, ⟨19, _⟩ => ⟨S2x32x256x1024, .f32⟩
  | .hbm, ⟨20, _⟩ => ⟨S2x32x1024x256, .f32⟩
  | .hbm, ⟨21, _⟩ => ⟨S2x32x1024x256, .bf16⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S4x64, .f32⟩
  | .hbm, ⟨31, _⟩ => ⟨S128, .f32⟩
  | .hbm, ⟨32, _⟩ => ⟨S1x128, .f32⟩
  | .hbm, ⟨33, _⟩ => ⟨S2x8x1024x1024, .bf16⟩
  | .hbm, ⟨34, _⟩ => ⟨S8x1024x128, .i32⟩
  | .hbm, ⟨35, _⟩ => ⟨S8x1024x128, .i32⟩
  | .hbm, ⟨36, _⟩ => ⟨S_, .i32⟩
  | .hbm, ⟨37, _⟩ => ⟨S8x1024x128, .i32⟩
  | .hbm, ⟨38, _⟩ => ⟨S8x1024x128, .i32⟩
  | .hbm, ⟨39, _⟩ => ⟨S_, .i32⟩
  | .hbm, ⟨40, _⟩ => ⟨S8x1024x128, .i32⟩
  | .hbm, ⟨41, _⟩ => ⟨S8x1024x128, .i1⟩
  | .hbm, ⟨42, _⟩ => ⟨S8x1024x128, .i32⟩
  | .hbm, ⟨43, _⟩ => ⟨S_, .i32⟩
  | .hbm, ⟨44, _⟩ => ⟨S8x1024x128, .i32⟩
  | .hbm, ⟨45, _⟩ => ⟨S8x1024x128, .i1⟩
  | .hbm, ⟨46, _⟩ => ⟨S_, .i32⟩
  | .hbm, ⟨47, _⟩ => ⟨S_, .i32⟩
  | .hbm, ⟨48, _⟩ => ⟨S8x1024x128, .i32⟩
  | .hbm, ⟨49, _⟩ => ⟨S8x1024x128, .i32⟩
  | .hbm, ⟨50, _⟩ => ⟨S8x1024x128, .i32⟩
  | .hbm, ⟨51, _⟩ => ⟨S8x1x1, .f32⟩
  | .hbm, ⟨52, _⟩ => ⟨S8x1024x128, .f32⟩
  | .hbm, ⟨53, _⟩ => ⟨S8x1024x128, .f32⟩
  | .hbm, ⟨54, _⟩ => ⟨S8x1024x128, .f32⟩
  | .hbm, ⟨55, _⟩ => ⟨S8x1024x128, .bf16⟩
  | .hbm, ⟨56, _⟩ => ⟨S256x512, .i32⟩
  | .hbm, ⟨57, _⟩ => ⟨S256x512, .i32⟩
  | .hbm, ⟨58, _⟩ => ⟨S_, .i32⟩
  | .hbm, ⟨59, _⟩ => ⟨S256x512, .i32⟩
  | .hbm, ⟨60, _⟩ => ⟨S256x512, .i32⟩
  | .hbm, ⟨61, _⟩ => ⟨S256x512, .i32⟩
  | .hbm, ⟨62, _⟩ => ⟨S256x512, .f32⟩
  | .hbm, ⟨63, _⟩ => ⟨S_, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8x1x1, .f32⟩
  | .hbm, ⟨68, _⟩ => ⟨S8x1x512, .f32⟩
  | .hbm, ⟨69, _⟩ => ⟨S16384x1024, .f32⟩
  | .local _ .vmem, ⟨0, _⟩ => ⟨S1x1x256x256, .bf16⟩
  | .local _ .vmem, ⟨1, _⟩ => ⟨S1x1x256x256, .bf16⟩
  | .local _ .vmem, ⟨2, _⟩ => ⟨S1x8x1024x256, .bf16⟩
  | .local _ .vmem, ⟨3, _⟩ => ⟨S1x8x1024x256, .bf16⟩
  | .local _ .vmem, ⟨4, _⟩ => ⟨S1x32x256x256, .bf16⟩
  | .local _ .vmem, ⟨5, _⟩ => ⟨S1x32x256x256, .bf16⟩
  | .local _ .vmem, ⟨6, _⟩ => ⟨S2x1024x128, .bf16⟩
  | .local _ .vmem, ⟨7, _⟩ => ⟨S2x1024x128, .bf16⟩
  | .local _ .vmem, ⟨8, _⟩ => ⟨S256x512, .f32⟩
  | .local _ .vmem, ⟨9, _⟩ => ⟨S2x1x512, .f32⟩
  | .local _ .vmem, ⟨10, _⟩ => ⟨S2x1x512, .f32⟩
  | .local _ .vmem, ⟨11, _⟩ => ⟨S4x64, .f32⟩
  | .local _ .vmem, ⟨12, _⟩ => ⟨S1x128, .f32⟩
  | .local _ .vmem, ⟨13, _⟩ => ⟨S256x256, .f32⟩
  | .local _ .vmem, ⟨14, _⟩ => ⟨S256x256, .f32⟩
  | .local _ .vmem, ⟨15, _⟩ => ⟨S2x256x512, .bf16⟩
  | .local _ .vmem, ⟨16, _⟩ => ⟨S2x128x512, .f32⟩
  | .local _ .vmem, ⟨17, _⟩ => ⟨S2x1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_c_4 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 4, 32], ![false, false, false]⟩

def k0_cond1 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c0_i32_59 : BitVec 32 := 0#32
  let v107 : BitVec 1 := Scalar.cmpi .ne v106 c0_i32_59
  v107

def k0_cond2 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c1_i32_94 : BitVec 32 := 1#32
  let v192 : BitVec 32 := Scalar.subi v106 c1_i32_94
  let c0_i32_95 : BitVec 32 := 0#32
  let v193 : BitVec 1 := Scalar.cmpi .ne v192 c0_i32_95
  v193

def k0_cond3 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c1_i32_94 : BitVec 32 := 1#32
  let v192 : BitVec 32 := Scalar.subi v106 c1_i32_94
  let c1_i32_96 : BitVec 32 := 1#32
  let v195 : BitVec 32 := Scalar.subi v192 c1_i32_96
  let c0_i32_97 : BitVec 32 := 0#32
  let v196 : BitVec 1 := Scalar.cmpi .ne v195 c0_i32_97
  v196

def k0_cond4 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c1_i32_94 : BitVec 32 := 1#32
  let v192 : BitVec 32 := Scalar.subi v106 c1_i32_94
  let c1_i32_96 : BitVec 32 := 1#32
  let v195 : BitVec 32 := Scalar.subi v192 c1_i32_96
  let c1_i32_98 : BitVec 32 := 1#32
  let v198 : BitVec 32 := Scalar.subi v195 c1_i32_98
  let c0_i32_99 : BitVec 32 := 0#32
  let v199 : BitVec 1 := Scalar.cmpi .ne v198 c0_i32_99
  v199

def k0_cond5 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c1_i32_94 : BitVec 32 := 1#32
  let v192 : BitVec 32 := Scalar.subi v106 c1_i32_94
  let c1_i32_96 : BitVec 32 := 1#32
  let v195 : BitVec 32 := Scalar.subi v192 c1_i32_96
  let c1_i32_98 : BitVec 32 := 1#32
  let v198 : BitVec 32 := Scalar.subi v195 c1_i32_98
  let c1_i32_100 : BitVec 32 := 1#32
  let v201 : BitVec 32 := Scalar.subi v198 c1_i32_100
  let c0_i32_101 : BitVec 32 := 0#32
  let v202 : BitVec 1 := Scalar.cmpi .ne v201 c0_i32_101
  v202

def k0_cond6 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c1_i32_94 : BitVec 32 := 1#32
  let v192 : BitVec 32 := Scalar.subi v106 c1_i32_94
  let c1_i32_96 : BitVec 32 := 1#32
  let v195 : BitVec 32 := Scalar.subi v192 c1_i32_96
  let c1_i32_98 : BitVec 32 := 1#32
  let v198 : BitVec 32 := Scalar.subi v195 c1_i32_98
  let c1_i32_100 : BitVec 32 := 1#32
  let v201 : BitVec 32 := Scalar.subi v198 c1_i32_100
  let c1_i32_102 : BitVec 32 := 1#32
  let v204 : BitVec 32 := Scalar.subi v201 c1_i32_102
  let c0_i32_103 : BitVec 32 := 0#32
  let v205 : BitVec 1 := Scalar.cmpi .ne v204 c0_i32_103
  v205

def k0_cond7 (i : grid0.Coords) : BitVec 1 :=
  let arg2 : BitVec 32 := BitVec.ofNat 32 (i 2).val
  let c4_i32_49 : BitVec 32 := 4#32
  let c0_i32_50 : BitVec 32 := 0#32
  let v91 : BitVec 1 := Scalar.cmpi .eq c4_i32_49 c0_i32_50
  let c1_i32_51 : BitVec 32 := 1#32
  let v92 : BitVec 32 := Scalar.select v91 c1_i32_51 c4_i32_49
  let v93 : BitVec 32 := Scalar.remsi arg2 v92
  let c0_i32_53 : BitVec 32 := 0#32
  let v95 : BitVec 1 := Scalar.cmpi .slt v93 c0_i32_53
  let c0_i32_54 : BitVec 32 := 0#32
  let v96 : BitVec 1 := Scalar.cmpi .slt v92 c0_i32_54
  let v97 : BitVec 1 := Scalar.xori v95 v96
  let c0_i32_52 : BitVec 32 := 0#32
  let v94 : BitVec 1 := Scalar.cmpi .ne v93 c0_i32_52
  let v98 : BitVec 1 := Scalar.andi v97 v94
  let v99 : BitVec 32 := Scalar.addi v93 v92
  let v100 : BitVec 32 := Scalar.select v98 v99 v93
  let c4_i32_56 : BitVec 32 := 4#32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_55 : BitVec 32 := 0#32
  let v101 : BitVec 1 := Scalar.cmpi .sgt v16 c0_i32_55
  let v102 : BitVec 32 := Scalar.extui v101
  let v103 : BitVec 32 := Scalar.muli c4_i32_56 v102
  let v104 : BitVec 32 := Scalar.addi v100 v103
  let c0_i32_57 : BitVec 32 := 0#32
  let v105 : BitVec 32 := Scalar.maxsi v104 c0_i32_57
  let c7_i32_58 : BitVec 32 := 7#32
  let v106 : BitVec 32 := Scalar.minsi v105 c7_i32_58
  let c1_i32_94 : BitVec 32 := 1#32
  let v192 : BitVec 32 := Scalar.subi v106 c1_i32_94
  let c1_i32_96 : BitVec 32 := 1#32
  let v195 : BitVec 32 := Scalar.subi v192 c1_i32_96
  let c1_i32_98 : BitVec 32 := 1#32
  let v198 : BitVec 32 := Scalar.subi v195 c1_i32_98
  let c1_i32_100 : BitVec 32 := 1#32
  let v201 : BitVec 32 := Scalar.subi v198 c1_i32_100
  let c1_i32_102 : BitVec 32 := 1#32
  let v204 : BitVec 32 := Scalar.subi v201 c1_i32_102
  let c1_i32_104 : BitVec 32 := 1#32
  let v207 : BitVec 32 := Scalar.subi v204 c1_i32_104
  let c0_i32_105 : BitVec 32 := 0#32
  let v208 : BitVec 1 := Scalar.cmpi .ne v207 c0_i32_105
  v208

def k0_off1 (i : grid0.Coords) : Fin 4 → Nat :=
  let c0_106 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v210 : Index := Scalar.indexCast v16
  let c0_107 : Index := 0#32
  let c0_108 : Index := 0#32
  ![0, v210.toNat, 0, 0]
def k0_off2 (i : grid0.Coords) : Fin 4 → Nat :=
  let c0_116 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v219 : Index := Scalar.indexCast v16
  let c0_117 : Index := 0#32
  let c128_118 : Index := 128#32
  ![0, v219.toNat, 0, 128]
def k0_off3 (i : grid0.Coords) (c0_i32_234 : BitVec 32) : Fin 4 → Nat :=
  let c0_235 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_233 : BitVec 32 := 4#32
  let v350 : BitVec 32 := Scalar.muli v16 c4_i32_233
  let v351 : BitVec 32 := Scalar.addi v350 c0_i32_234
  let v352 : Index := Scalar.indexCast v351
  let c0_236 : Index := 0#32
  let c0_237 : Index := 0#32
  ![0, v352.toNat, 0, 0]
def k0_off4 (i : grid0.Coords) (c0_i32_259 : BitVec 32) : Fin 4 → Nat :=
  let c0_260 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_258 : BitVec 32 := 4#32
  let v380 : BitVec 32 := Scalar.muli v16 c4_i32_258
  let v381 : BitVec 32 := Scalar.addi v380 c0_i32_259
  let v382 : Index := Scalar.indexCast v381
  let c128_261 : Index := 128#32
  let c0_262 : Index := 0#32
  ![0, v382.toNat, 128, 0]
def k0_off5 (i : grid0.Coords) : Fin 4 → Nat :=
  let c0_106 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v210 : Index := Scalar.indexCast v16
  let c0_107 : Index := 0#32
  let c0_108 : Index := 0#32
  ![0, v210.toNat, 0, 0]
def k0_off6 (i : grid0.Coords) : Fin 4 → Nat :=
  let c0_116 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v219 : Index := Scalar.indexCast v16
  let c0_117 : Index := 0#32
  let c128_118 : Index := 128#32
  ![0, v219.toNat, 0, 128]
def k0_off7 (i : grid0.Coords) (c0_i32_234 : BitVec 32) : Fin 4 → Nat :=
  let c0_235 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_233 : BitVec 32 := 4#32
  let v350 : BitVec 32 := Scalar.muli v16 c4_i32_233
  let v351 : BitVec 32 := Scalar.addi v350 c0_i32_234
  let v352 : Index := Scalar.indexCast v351
  let c0_236 : Index := 0#32
  let c0_237 : Index := 0#32
  ![0, v352.toNat, 0, 0]
def k0_off8 (i : grid0.Coords) (c0_i32_254 : BitVec 32) : Fin 4 → Nat :=
  let c0_255 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_253 : BitVec 32 := 4#32
  let v375 : BitVec 32 := Scalar.muli v16 c4_i32_253
  let v376 : BitVec 32 := Scalar.addi v375 c0_i32_254
  let v377 : Index := Scalar.indexCast v376
  let c128_256 : Index := 128#32
  let c0_257 : Index := 0#32
  ![0, v377.toNat, 128, 0]
def k0_off9 (i : grid0.Coords) : Fin 4 → Nat :=
  let c0_104 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v207 : Index := Scalar.indexCast v16
  let c0_105 : Index := 0#32
  let c0_106 : Index := 0#32
  ![0, v207.toNat, 0, 0]
def k0_off10 (i : grid0.Coords) : Fin 4 → Nat :=
  let c0_114 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v216 : Index := Scalar.indexCast v16
  let c0_115 : Index := 0#32
  let c128_116 : Index := 128#32
  ![0, v216.toNat, 0, 128]
def k0_off11 (i : grid0.Coords) (c0_i32_232 : BitVec 32) : Fin 4 → Nat :=
  let c0_233 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_231 : BitVec 32 := 4#32
  let v347 : BitVec 32 := Scalar.muli v16 c4_i32_231
  let v348 : BitVec 32 := Scalar.addi v347 c0_i32_232
  let v349 : Index := Scalar.indexCast v348
  let c0_234 : Index := 0#32
  let c0_235 : Index := 0#32
  ![0, v349.toNat, 0, 0]
def k0_off12 (i : grid0.Coords) (c0_i32_247 : BitVec 32) : Fin 4 → Nat :=
  let c0_248 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_246 : BitVec 32 := 4#32
  let v367 : BitVec 32 := Scalar.muli v16 c4_i32_246
  let v368 : BitVec 32 := Scalar.addi v367 c0_i32_247
  let v369 : Index := Scalar.indexCast v368
  let c128_249 : Index := 128#32
  let c0_250 : Index := 0#32
  ![0, v369.toNat, 128, 0]
def k0_off13 (i : grid0.Coords) : Fin 4 → Nat :=
  let c0_102 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v204 : Index := Scalar.indexCast v16
  let c0_103 : Index := 0#32
  let c0_104 : Index := 0#32
  ![0, v204.toNat, 0, 0]
def k0_off14 (i : grid0.Coords) : Fin 4 → Nat :=
  let c0_112 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v213 : Index := Scalar.indexCast v16
  let c0_113 : Index := 0#32
  let c128_114 : Index := 128#32
  ![0, v213.toNat, 0, 128]
def k0_off15 (i : grid0.Coords) : Fin 4 → Nat :=
  let c0_231 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_229 : BitVec 32 := 4#32
  let v338 : BitVec 32 := Scalar.muli v16 c4_i32_229
  let c0_i32_230 : BitVec 32 := 0#32
  let v339 : BitVec 32 := Scalar.addi v338 c0_i32_230
  let v340 : Index := Scalar.indexCast v339
  let c0_232 : Index := 0#32
  let c0_233 : Index := 0#32
  ![0, v340.toNat, 0, 0]
def k0_off16 (i : grid0.Coords) : Fin 4 → Nat :=
  let c0_241 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_239 : BitVec 32 := 4#32
  let v352 : BitVec 32 := Scalar.muli v16 c4_i32_239
  let c0_i32_240 : BitVec 32 := 0#32
  let v353 : BitVec 32 := Scalar.addi v352 c0_i32_240
  let v354 : Index := Scalar.indexCast v353
  let c128_242 : Index := 128#32
  let c0_243 : Index := 0#32
  ![0, v354.toNat, 128, 0]
def k0_off17 (i : grid0.Coords) : Fin 4 → Nat :=
  let c0_101 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v202 : Index := Scalar.indexCast v16
  let c0_102 : Index := 0#32
  let c0_103 : Index := 0#32
  ![0, v202.toNat, 0, 0]
def k0_off18 (i : grid0.Coords) : Fin 4 → Nat :=
  let c0_111 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v211 : Index := Scalar.indexCast v16
  let c0_112 : Index := 0#32
  let c128_113 : Index := 128#32
  ![0, v211.toNat, 0, 128]
def k0_off19 (i : grid0.Coords) (c0_i32_140 : BitVec 32) : Fin 4 → Nat :=
  let c0_141 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_139 : BitVec 32 := 4#32
  let v260 : BitVec 32 := Scalar.muli v16 c4_i32_139
  let v261 : BitVec 32 := Scalar.addi v260 c0_i32_140
  let v262 : Index := Scalar.indexCast v261
  let c0_142 : Index := 0#32
  let c0_143 : Index := 0#32
  ![0, v262.toNat, 0, 0]
def k0_off20 (i : grid0.Coords) (c0_i32_165 : BitVec 32) : Fin 4 → Nat :=
  let c0_166 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_164 : BitVec 32 := 4#32
  let v290 : BitVec 32 := Scalar.muli v16 c4_i32_164
  let v291 : BitVec 32 := Scalar.addi v290 c0_i32_165
  let v292 : Index := Scalar.indexCast v291
  let c128_167 : Index := 128#32
  let c0_168 : Index := 0#32
  ![0, v292.toNat, 128, 0]
def k0_off21 (i : grid0.Coords) : Fin 4 → Nat :=
  let c0_99 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v199 : Index := Scalar.indexCast v16
  let c0_100 : Index := 0#32
  let c0_101 : Index := 0#32
  ![0, v199.toNat, 0, 0]
def k0_off22 (i : grid0.Coords) : Fin 4 → Nat :=
  let c0_109 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v208 : Index := Scalar.indexCast v16
  let c0_110 : Index := 0#32
  let c128_111 : Index := 128#32
  ![0, v208.toNat, 0, 128]
def k0_off23 (i : grid0.Coords) (c0_i32_138 : BitVec 32) : Fin 4 → Nat :=
  let c0_139 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_137 : BitVec 32 := 4#32
  let v257 : BitVec 32 := Scalar.muli v16 c4_i32_137
  let v258 : BitVec 32 := Scalar.addi v257 c0_i32_138
  let v259 : Index := Scalar.indexCast v258
  let c0_140 : Index := 0#32
  let c0_141 : Index := 0#32
  ![0, v259.toNat, 0, 0]
def k0_off24 (i : grid0.Coords) (c0_i32_158 : BitVec 32) : Fin 4 → Nat :=
  let c0_159 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_157 : BitVec 32 := 4#32
  let v282 : BitVec 32 := Scalar.muli v16 c4_i32_157
  let v283 : BitVec 32 := Scalar.addi v282 c0_i32_158
  let v284 : Index := Scalar.indexCast v283
  let c128_160 : Index := 128#32
  let c0_161 : Index := 0#32
  ![0, v284.toNat, 128, 0]
def k0_off25 (i : grid0.Coords) : Fin 4 → Nat :=
  let c0_97 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v196 : Index := Scalar.indexCast v16
  let c0_98 : Index := 0#32
  let c0_99 : Index := 0#32
  ![0, v196.toNat, 0, 0]
def k0_off26 (i : grid0.Coords) : Fin 4 → Nat :=
  let c0_107 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v205 : Index := Scalar.indexCast v16
  let c0_108 : Index := 0#32
  let c128_109 : Index := 128#32
  ![0, v205.toNat, 0, 128]
def k0_off27 (i : grid0.Coords) (c0_i32_136 : BitVec 32) : Fin 4 → Nat :=
  let c0_137 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_135 : BitVec 32 := 4#32
  let v254 : BitVec 32 := Scalar.muli v16 c4_i32_135
  let v255 : BitVec 32 := Scalar.addi v254 c0_i32_136
  let v256 : Index := Scalar.indexCast v255
  let c0_138 : Index := 0#32
  let c0_139 : Index := 0#32
  ![0, v256.toNat, 0, 0]
def k0_off28 (i : grid0.Coords) (c0_i32_151 : BitVec 32) : Fin 4 → Nat :=
  let c0_152 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_150 : BitVec 32 := 4#32
  let v274 : BitVec 32 := Scalar.muli v16 c4_i32_150
  let v275 : BitVec 32 := Scalar.addi v274 c0_i32_151
  let v276 : Index := Scalar.indexCast v275
  let c128_153 : Index := 128#32
  let c0_154 : Index := 0#32
  ![0, v276.toNat, 128, 0]
def k0_off29 (i : grid0.Coords) : Fin 4 → Nat :=
  let c0_95 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v193 : Index := Scalar.indexCast v16
  let c0_96 : Index := 0#32
  let c0_97 : Index := 0#32
  ![0, v193.toNat, 0, 0]
def k0_off30 (i : grid0.Coords) : Fin 4 → Nat :=
  let c0_105 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let v202 : Index := Scalar.indexCast v16
  let c0_106 : Index := 0#32
  let c128_107 : Index := 128#32
  ![0, v202.toNat, 0, 128]
def k0_off31 (i : grid0.Coords) : Fin 4 → Nat :=
  let c0_135 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_133 : BitVec 32 := 4#32
  let v245 : BitVec 32 := Scalar.muli v16 c4_i32_133
  let c0_i32_134 : BitVec 32 := 0#32
  let v246 : BitVec 32 := Scalar.addi v245 c0_i32_134
  let v247 : Index := Scalar.indexCast v246
  let c0_136 : Index := 0#32
  let c0_137 : Index := 0#32
  ![0, v247.toNat, 0, 0]
def k0_off32 (i : grid0.Coords) : Fin 4 → Nat :=
  let c0_145 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c4_i32_143 : BitVec 32 := 4#32
  let v259 : BitVec 32 := Scalar.muli v16 c4_i32_143
  let c0_i32_144 : BitVec 32 := 0#32
  let v260 : BitVec 32 := Scalar.addi v259 c0_i32_144
  let v261 : Index := Scalar.indexCast v260
  let c128_146 : Index := 128#32
  let c0_147 : Index := 0#32
  ![0, v261.toNat, 128, 0]
@[reducible] def k0_t1_loop (i : grid0.Coords) : Scf.Loop 32 :=
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_63 : BitVec 32 := 1#32
  ⟨c0_i32_61, v114, c1_i32_63⟩
def k0_off33 (i : grid0.Coords) (k0_t1 : Fin (k0_t1_loop i).trips) : Fin 4 → Nat :=
  let c0_98 : Index := 0#32
  let c0_i32_61 : BitVec 32 := 0#32
  let c1_i32_63 : BitVec 32 := 1#32
  let arg15 : BitVec 32 := Scf.iv c0_i32_61 c1_i32_63 k0_t1
  let c1_i32_97 : BitVec 32 := 1#32
  let v205 : BitVec 32 := Scalar.addi arg15 c1_i32_97
  let v206 : Index := Scalar.indexCast v205
  let c0_99 : Index := 0#32
  let c0_100 : Index := 0#32
  ![0, v206.toNat, 0, 0]
def k0_off34 (i : grid0.Coords) (k0_t1 : Fin (k0_t1_loop i).trips) (c0_i32_116 : BitVec 32) : Fin 4 → Nat :=
  let c0_117 : Index := 0#32
  let c0_i32_61 : BitVec 32 := 0#32
  let c1_i32_63 : BitVec 32 := 1#32
  let arg15 : BitVec 32 := Scf.iv c0_i32_61 c1_i32_63 k0_t1
  let c4_i32_115 : BitVec 32 := 4#32
  let v225 : BitVec 32 := Scalar.muli arg15 c4_i32_115
  let v226 : BitVec 32 := Scalar.addi v225 c0_i32_116
  let v227 : Index := Scalar.indexCast v226
  let c0_118 : Index := 0#32
  let c0_119 : Index := 0#32
  ![0, v227.toNat, 0, 0]
def k0_off35 (i : grid0.Coords) (k0_t1 : Fin (k0_t1_loop i).trips) : Fin 4 → Nat :=
  let c0_123 : Index := 0#32
  let c0_i32_61 : BitVec 32 := 0#32
  let c1_i32_63 : BitVec 32 := 1#32
  let arg15 : BitVec 32 := Scf.iv c0_i32_61 c1_i32_63 k0_t1
  let c1_i32_122 : BitVec 32 := 1#32
  let v234 : BitVec 32 := Scalar.addi arg15 c1_i32_122
  let v235 : Index := Scalar.indexCast v234
  let c256_124 : Index := 256#32
  let c0_125 : Index := 0#32
  ![0, v235.toNat, 256, 0]
def k0_off36 (i : grid0.Coords) (k0_t1 : Fin (k0_t1_loop i).trips) : Fin 4 → Nat :=
  let c0_148 : Index := 0#32
  let c0_i32_61 : BitVec 32 := 0#32
  let c1_i32_63 : BitVec 32 := 1#32
  let arg15 : BitVec 32 := Scf.iv c0_i32_61 c1_i32_63 k0_t1
  let c1_i32_147 : BitVec 32 := 1#32
  let v265 : BitVec 32 := Scalar.addi arg15 c1_i32_147
  let v266 : Index := Scalar.indexCast v265
  let c512 : Index := 512#32
  let c0_149 : Index := 0#32
  ![0, v266.toNat, 512, 0]
def k0_off37 (i : grid0.Coords) (k0_t1 : Fin (k0_t1_loop i).trips) : Fin 4 → Nat :=
  let c0_172 : Index := 0#32
  let c0_i32_61 : BitVec 32 := 0#32
  let c1_i32_63 : BitVec 32 := 1#32
  let arg15 : BitVec 32 := Scf.iv c0_i32_61 c1_i32_63 k0_t1
  let c1_i32_171 : BitVec 32 := 1#32
  let v296 : BitVec 32 := Scalar.addi arg15 c1_i32_171
  let v297 : Index := Scalar.indexCast v296
  let c768 : Index := 768#32
  let c0_173 : Index := 0#32
  ![0, v297.toNat, 768, 0]
def k0_off38 (i : grid0.Coords) (k0_t1 : Fin (k0_t1_loop i).trips) : Fin 4 → Nat :=
  let c0_207 : Index := 0#32
  let c0_i32_61 : BitVec 32 := 0#32
  let c1_i32_63 : BitVec 32 := 1#32
  let arg15 : BitVec 32 := Scf.iv c0_i32_61 c1_i32_63 k0_t1
  let c1_i32_206 : BitVec 32 := 1#32
  let v352 : BitVec 32 := Scalar.addi arg15 c1_i32_206
  let v353 : Index := Scalar.indexCast v352
  let c0_208 : Index := 0#32
  let c128_209 : Index := 128#32
  ![0, v353.toNat, 0, 128]
def k0_off39 (i : grid0.Coords) (k0_t1 : Fin (k0_t1_loop i).trips) (c0_i32_225 : BitVec 32) : Fin 4 → Nat :=
  let c0_226 : Index := 0#32
  let c0_i32_61 : BitVec 32 := 0#32
  let c1_i32_63 : BitVec 32 := 1#32
  let arg15 : BitVec 32 := Scf.iv c0_i32_61 c1_i32_63 k0_t1
  let c4_i32_224 : BitVec 32 := 4#32
  let v372 : BitVec 32 := Scalar.muli arg15 c4_i32_224
  let v373 : BitVec 32 := Scalar.addi v372 c0_i32_225
  let v374 : Index := Scalar.indexCast v373
  let c128_227 : Index := 128#32
  let c0_228 : Index := 0#32
  ![0, v374.toNat, 128, 0]
def k0_off40 (i : grid0.Coords) (k0_t1 : Fin (k0_t1_loop i).trips) : Fin 4 → Nat :=
  let c0_232 : Index := 0#32
  let c0_i32_61 : BitVec 32 := 0#32
  let c1_i32_63 : BitVec 32 := 1#32
  let arg15 : BitVec 32 := Scf.iv c0_i32_61 c1_i32_63 k0_t1
  let c1_i32_231 : BitVec 32 := 1#32
  let v381 : BitVec 32 := Scalar.addi arg15 c1_i32_231
  let v382 : Index := Scalar.indexCast v381
  let c256_233 : Index := 256#32
  let c128_234 : Index := 128#32
  ![0, v382.toNat, 256, 128]
def k0_off41 (i : grid0.Coords) (k0_t1 : Fin (k0_t1_loop i).trips) : Fin 4 → Nat :=
  let c0_257 : Index := 0#32
  let c0_i32_61 : BitVec 32 := 0#32
  let c1_i32_63 : BitVec 32 := 1#32
  let arg15 : BitVec 32 := Scf.iv c0_i32_61 c1_i32_63 k0_t1
  let c1_i32_256 : BitVec 32 := 1#32
  let v412 : BitVec 32 := Scalar.addi arg15 c1_i32_256
  let v413 : Index := Scalar.indexCast v412
  let c512_258 : Index := 512#32
  let c128_259 : Index := 128#32
  ![0, v413.toNat, 512, 128]
def k0_off42 (i : grid0.Coords) (k0_t1 : Fin (k0_t1_loop i).trips) : Fin 4 → Nat :=
  let c0_282 : Index := 0#32
  let c0_i32_61 : BitVec 32 := 0#32
  let c1_i32_63 : BitVec 32 := 1#32
  let arg15 : BitVec 32 := Scf.iv c0_i32_61 c1_i32_63 k0_t1
  let c1_i32_281 : BitVec 32 := 1#32
  let v443 : BitVec 32 := Scalar.addi arg15 c1_i32_281
  let v444 : Index := Scalar.indexCast v443
  let c768_283 : Index := 768#32
  let c128_284 : Index := 128#32
  ![0, v444.toNat, 768, 128]
@[reducible] def k0_t2_loop (i : grid0.Coords) : Scf.Loop 32 :=
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let v111 : BitVec 32 := Scalar.addi c0_i32_61 v110
  let c1_i32_64 : BitVec 32 := 1#32
  ⟨v114, v111, c1_i32_64⟩
def k0_off43 (i : grid0.Coords) (k0_t2 : Fin (k0_t2_loop i).trips) : Fin 4 → Nat :=
  let c0_98 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_97 : BitVec 32 := 1#32
  let v205 : BitVec 32 := Scalar.addi arg15 c1_i32_97
  let v206 : Index := Scalar.indexCast v205
  let c0_99 : Index := 0#32
  let c0_100 : Index := 0#32
  ![0, v206.toNat, 0, 0]
def k0_off44 (i : grid0.Coords) (k0_t2 : Fin (k0_t2_loop i).trips) (c0_i32_116 : BitVec 32) : Fin 4 → Nat :=
  let c0_117 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c4_i32_115 : BitVec 32 := 4#32
  let v225 : BitVec 32 := Scalar.muli arg15 c4_i32_115
  let v226 : BitVec 32 := Scalar.addi v225 c0_i32_116
  let v227 : Index := Scalar.indexCast v226
  let c0_118 : Index := 0#32
  let c0_119 : Index := 0#32
  ![0, v227.toNat, 0, 0]
def k0_off45 (i : grid0.Coords) (k0_t2 : Fin (k0_t2_loop i).trips) : Fin 4 → Nat :=
  let c0_123 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_122 : BitVec 32 := 1#32
  let v234 : BitVec 32 := Scalar.addi arg15 c1_i32_122
  let v235 : Index := Scalar.indexCast v234
  let c256_124 : Index := 256#32
  let c0_125 : Index := 0#32
  ![0, v235.toNat, 256, 0]
def k0_off46 (i : grid0.Coords) (k0_t2 : Fin (k0_t2_loop i).trips) : Fin 4 → Nat :=
  let c0_148 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_147 : BitVec 32 := 1#32
  let v265 : BitVec 32 := Scalar.addi arg15 c1_i32_147
  let v266 : Index := Scalar.indexCast v265
  let c512 : Index := 512#32
  let c0_149 : Index := 0#32
  ![0, v266.toNat, 512, 0]
def k0_off47 (i : grid0.Coords) (k0_t2 : Fin (k0_t2_loop i).trips) : Fin 4 → Nat :=
  let c0_172 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_171 : BitVec 32 := 1#32
  let v296 : BitVec 32 := Scalar.addi arg15 c1_i32_171
  let v297 : Index := Scalar.indexCast v296
  let c768 : Index := 768#32
  let c0_173 : Index := 0#32
  ![0, v297.toNat, 768, 0]
def k0_off48 (i : grid0.Coords) (k0_t2 : Fin (k0_t2_loop i).trips) : Fin 4 → Nat :=
  let c0_207 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_206 : BitVec 32 := 1#32
  let v352 : BitVec 32 := Scalar.addi arg15 c1_i32_206
  let v353 : Index := Scalar.indexCast v352
  let c0_208 : Index := 0#32
  let c128_209 : Index := 128#32
  ![0, v353.toNat, 0, 128]
def k0_off49 (i : grid0.Coords) (k0_t2 : Fin (k0_t2_loop i).trips) (c0_i32_225 : BitVec 32) : Fin 4 → Nat :=
  let c0_226 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c4_i32_224 : BitVec 32 := 4#32
  let v372 : BitVec 32 := Scalar.muli arg15 c4_i32_224
  let v373 : BitVec 32 := Scalar.addi v372 c0_i32_225
  let v374 : Index := Scalar.indexCast v373
  let c128_227 : Index := 128#32
  let c0_228 : Index := 0#32
  ![0, v374.toNat, 128, 0]
def k0_off50 (i : grid0.Coords) (k0_t2 : Fin (k0_t2_loop i).trips) : Fin 4 → Nat :=
  let c0_232 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_231 : BitVec 32 := 1#32
  let v381 : BitVec 32 := Scalar.addi arg15 c1_i32_231
  let v382 : Index := Scalar.indexCast v381
  let c256_233 : Index := 256#32
  let c128_234 : Index := 128#32
  ![0, v382.toNat, 256, 128]
def k0_off51 (i : grid0.Coords) (k0_t2 : Fin (k0_t2_loop i).trips) : Fin 4 → Nat :=
  let c0_257 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_256 : BitVec 32 := 1#32
  let v412 : BitVec 32 := Scalar.addi arg15 c1_i32_256
  let v413 : Index := Scalar.indexCast v412
  let c512_258 : Index := 512#32
  let c128_259 : Index := 128#32
  ![0, v413.toNat, 512, 128]
def k0_off52 (i : grid0.Coords) (k0_t2 : Fin (k0_t2_loop i).trips) : Fin 4 → Nat :=
  let c0_282 : Index := 0#32
  let c0_i32_61 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_60 : BitVec 32 := 1#32
  let v109 : BitVec 32 := Scalar.subi v16 c1_i32_60
  let v110 : BitVec 32 := Scalar.subi v109 c0_i32_61
  let c1_i32_62 : BitVec 32 := 1#32
  let v112 : BitVec 32 := Scalar.divsi v110 c1_i32_62
  let v113 : BitVec 32 := Scalar.muli v112 c1_i32_62
  let v114 : BitVec 32 := Scalar.addi c0_i32_61 v113
  let c1_i32_64 : BitVec 32 := 1#32
  let arg15 : BitVec 32 := Scf.iv v114 c1_i32_64 k0_t2
  let c1_i32_281 : BitVec 32 := 1#32
  let v443 : BitVec 32 := Scalar.addi arg15 c1_i32_281
  let v444 : Index := Scalar.indexCast v443
  let c768_283 : Index := 768#32
  let c128_284 : Index := 128#32
  ![0, v444.toNat, 768, 128]
def k0_cond8 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c0_i32_65 : BitVec 32 := 0#32
  let v117 : BitVec 1 := Scalar.cmpi .sgt v16 c0_i32_65
  let v118 : BitVec 32 := Scalar.extui v117
  let c0_i32_66 : BitVec 32 := 0#32
  let v119 : BitVec 1 := Scalar.cmpi .ne v118 c0_i32_66
  v119

def k0_off53 (i : grid0.Coords) (c0_i32_102 : BitVec 32) : Fin 4 → Nat :=
  let c0_103 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_94 : BitVec 32 := 1#32
  let v192 : BitVec 32 := Scalar.subi v16 c1_i32_94
  let c4_i32_101 : BitVec 32 := 4#32
  let v211 : BitVec 32 := Scalar.muli v192 c4_i32_101
  let v212 : BitVec 32 := Scalar.addi v211 c0_i32_102
  let v213 : Index := Scalar.indexCast v212
  let c0_104 : Index := 0#32
  let c0_105 : Index := 0#32
  ![0, v213.toNat, 0, 0]
def k0_off54 (i : grid0.Coords) (c0_i32_138 : BitVec 32) : Fin 4 → Nat :=
  let c0_139 : Index := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let v0 : BitVec 32 := Scalar.divsi arg2 c4_i32
  let c1_i32 : BitVec 32 := 1#32
  let v15 : BitVec 32 := Scalar.subi v0 c1_i32
  let v16 : BitVec 32 := Scalar.select v14 v15 v0
  let c1_i32_94 : BitVec 32 := 1#32
  let v192 : BitVec 32 := Scalar.subi v16 c1_i32_94
  let c4_i32_137 : BitVec 32 := 4#32
  let v266 : BitVec 32 := Scalar.muli v192 c4_i32_137
  let v267 : BitVec 32 := Scalar.addi v266 c0_i32_138
  let v268 : Index := Scalar.indexCast v267
  let c128_140 : Index := 128#32
  let c0_141 : Index := 0#32
  ![0, v268.toNat, 128, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S2x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e_0" => some (((302779788716910274990971 / 302231454903657293676544) * (Real.log 2)⁻¹ : ℝ) : EReal)
  | "log2e_1" => some (((-8389454219722201 / 4611686018427387904) * (Real.log 2)⁻¹ : ℝ) : EReal)
  | "log2e_2" => some (((2889971875107793 / 590295810358705651712) * (Real.log 2)⁻¹ : ℝ) : EReal)
  | "log2e_3" => some (((-2207109322339707 / 302231454903657293676544) * (Real.log 2)⁻¹ : ℝ) : EReal)
  | "mask" => some ⊥
  | _ => none
-- ==== ReferenceIdeal.lean ====
abbrev S2x8192x1024 : Shape := ⟨3, ![2, 8192, 1024]⟩
abbrev S1x64 : Shape := ⟨2, ![1, 64]⟩
abbrev S1x128 : Shape := ⟨2, ![1, 128]⟩
abbrev S2x8192x8x2x64 : Shape := ⟨5, ![2, 8192, 8, 2, 64]⟩
abbrev S2x8192x8x128 : Shape := ⟨4, ![2, 8192, 8, 128]⟩
abbrev S64 : Shape := ⟨1, ![64]⟩
abbrev S_ : Shape := ⟨0, ![]⟩
abbrev S2x2x8x8192x8192 : Shape := ⟨5, ![2, 2, 8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8 : Shape := ⟨1, ![8]⟩
abbrev S8x1x1 : Shape := ⟨3, ![8, 1, 1]⟩
abbrev S8x8192x8192 : Shape := ⟨3, ![8, 8192, 8192]⟩
abbrev S1x1x8x8192x8192 : Shape := ⟨5, ![1, 1, 8, 8192, 8192]⟩
abbrev S2x2x8x8192 : Shape := ⟨4, ![2, 2, 8, 8192]⟩
abbrev S2x2x8x8192x1 : Shape := ⟨5, ![2, 2, 8, 8192, 1]⟩
abbrev S2x1x8x8192x8192 : Shape := ⟨5, ![2, 1, 8, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩
abbrev S16384x1024 : Shape := ⟨2, ![16384, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S2x8192x8x2x64, .f32⟩
  | .hbm, ⟨9, _⟩ => ⟨S2x8192x8x2x64, .f32⟩
  | .hbm, ⟨10, _⟩ => ⟨S2x8192x8x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x2x8x8192x8192, .f32⟩
  | .hbm, ⟨27, _⟩ => ⟨S_, .f32⟩
  | .hbm, ⟨28, _⟩ => ⟨S2x2x8x8192x8192, .f32⟩
  | .hbm, ⟨29, _⟩ => ⟨S2x2x8x8192x8192, .f32⟩
  | .hbm, ⟨30, _⟩ => ⟨S8192, .i32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S1x8192x8192, .i32⟩
  | .hbm, ⟨37, _⟩ => ⟨S_, .i32⟩
  | .hbm, ⟨38, _⟩ => ⟨S1x8192x8192, .i32⟩
  | .hbm, ⟨39, _⟩ => ⟨S1x8192x8192, .i1⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S8x1x1, .f32⟩
  | .hbm, ⟨54, _⟩ => ⟨S8x1x1, .f32⟩
  | .hbm, ⟨55, _⟩ => ⟨S1x8192x8192, .i32⟩
  | .hbm, ⟨56, _⟩ => ⟨S1x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S_, .f32⟩
  | .hbm, ⟨62, _⟩ => ⟨S8x8192x8192, .i1⟩
  | .hbm, ⟨63, _⟩ => ⟨S8x8192x8192, .f32⟩
  | .hbm, ⟨64, _⟩ => ⟨S8x8192x8192, .f32⟩
  | .hbm, ⟨65, _⟩ => ⟨S1x1x8x8192x8192, .f32⟩
  | .hbm, ⟨66, _⟩ => ⟨S2x2x8x8192x8192, .f32⟩
  | .hbm, ⟨67, _⟩ => ⟨S2x2x8x8192x8192, .f32⟩
  | .hbm, ⟨68, _⟩ => ⟨S_, .f32⟩
  | .hbm, ⟨69, _⟩ => ⟨S2x2x8x8192, .f32⟩
  | .hbm, ⟨70, _⟩ => ⟨S_, .f32⟩
  | .hbm, ⟨71, _⟩ => ⟨S2x2x8x8192, .f32⟩
  | .hbm, ⟨72, _⟩ => ⟨S2x2x8x8192, .f32⟩
  | .hbm, ⟨73, _⟩ => ⟨S2x2x8x8192x1, .f32⟩
  | .hbm, ⟨74, _⟩ => ⟨S2x2x8x8192x8192, .f32⟩
  | .hbm, ⟨75, _⟩ => ⟨S2x2x8x8192x8192, .f32⟩
  | .hbm, ⟨76, _⟩ => ⟨S2x2x8x8192x8192, .f32⟩
  | .hbm, ⟨77, _⟩ => ⟨S_, .f32⟩
  | .hbm, ⟨78, _⟩ => ⟨S2x2x8x8192, .f32⟩
  | .hbm, ⟨79, _⟩ => ⟨S2x2x8x8192x1, .f32⟩
  | .hbm, ⟨80, _⟩ => ⟨S2x2x8x8192x8192, .f32⟩
  | .hbm, ⟨81, _⟩ => ⟨S2x2x8x8192x8192, .f32⟩
  | .hbm, ⟨82, _⟩ => ⟨S2x1x8x8192x8192, .f32⟩
  | .hbm, ⟨83, _⟩ => ⟨S2x8x8192x8192, .f32⟩
  | .hbm, ⟨84, _⟩ => ⟨S2x1x8x8192x8192, .f32⟩
  | .hbm, ⟨85, _⟩ => ⟨S2x8x8192x8192, .f32⟩
  | .hbm, ⟨86, _⟩ => ⟨S2x8x8192x8192, .f32⟩
  | .hbm, ⟨87, _⟩ => ⟨S2x8x8192x8192, .f32⟩
  | .hbm, ⟨88, _⟩ => ⟨S2x8x8192x8192, .f32⟩
  | .hbm, ⟨89, _⟩ => ⟨S2x8x128x8192, .f32⟩
  | .hbm, ⟨90, _⟩ => ⟨S2x8192x8x128, .f32⟩
  | .hbm, ⟨91, _⟩ => ⟨S2x8192x8x128, .f32⟩
  | .hbm, ⟨92, _⟩ => ⟨S_, .f32⟩
  | .hbm, ⟨93, _⟩ => ⟨S2x8192x8, .f32⟩
  | .hbm, ⟨94, _⟩ => ⟨S2x8192x8x1, .f32⟩
  | .hbm, ⟨95, _⟩ => ⟨S_, .f32⟩
  | .hbm, ⟨96, _⟩ => ⟨S2x8192x8x1, .f32⟩
  | .hbm, ⟨97, _⟩ => ⟨S2x8192x8x1, .f32⟩
  | .hbm, ⟨98, _⟩ => ⟨S_, .f32⟩
  | .hbm, ⟨99, _⟩ => ⟨S2x8192x8x1, .f32⟩
  | .hbm, ⟨100, _⟩ => ⟨S2x8192x8x1, .f32⟩
  | .hbm, ⟨101, _⟩ => ⟨S2x8192x8x1, .f32⟩
  | .hbm, ⟨102, _⟩ => ⟨S2x8192x8x128, .f32⟩
  | .hbm, ⟨103, _⟩ => ⟨S2x8192x8x128, .f32⟩
  | .hbm, ⟨104, _⟩ => ⟨S128, .f32⟩
  | .hbm, ⟨105, _⟩ => ⟨S1x1x1x128, .f32⟩
  | .hbm, ⟨106, _⟩ => ⟨S2x8192x8x128, .f32⟩
  | .hbm, ⟨107, _⟩ => ⟨S2x8192x8x128, .f32⟩
  | .hbm, ⟨108, _⟩ => ⟨S_, .f32⟩
  | .hbm, ⟨109, _⟩ => ⟨S2x8192x8x128, .f32⟩
  | .hbm, ⟨110, _⟩ => ⟨S2x8192x8x128, .f32⟩
  | .hbm, ⟨111, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]
-- ==== Ffn.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 18
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S16384x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2x8192x2816 : Shape := ⟨3, ![2, 8192, 2816]⟩
abbrev S_ : Shape := ⟨0, ![]⟩
abbrev S2816x1024 : Shape := ⟨2, ![2816, 1024]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024x2816, .f32⟩
  | .hbm, ⟨7, _⟩ => ⟨S2x8192x2816, .f32⟩
  | .hbm, ⟨8, _⟩ => ⟨S2x8192x2816, .f32⟩
  | .hbm, ⟨9, _⟩ => ⟨S2x8192x2816, .f32⟩
  | .hbm, ⟨10, _⟩ => ⟨S_, .f32⟩
  | .hbm, ⟨11, _⟩ => ⟨S2x8192x2816, .f32⟩
  | .hbm, ⟨12, _⟩ => ⟨S2x8192x2816, .f32⟩
  | .hbm, ⟨13, _⟩ => ⟨S_, .f32⟩
  | .hbm, ⟨14, _⟩ => ⟨S2x8192x2816, .f32⟩
  | .hbm, ⟨15, _⟩ => ⟨S2x8192x2816, .f32⟩
  | .hbm, ⟨16, _⟩ => ⟨S2x8192x2816, .f32⟩
  | .hbm, ⟨17, _⟩ => ⟨S1024x2816, .f32⟩
  | .hbm, ⟨18, _⟩ => ⟨S2x8192x2816, .f32⟩
  | .hbm, ⟨19, _⟩ => ⟨S2x8192x2816, .f32⟩
  | .hbm, ⟨20, _⟩ => ⟨S2816x1024, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1024, .f32⟩
  | .hbm, ⟨53, _⟩ => ⟨S1x1x1024, .f32⟩
  | .hbm, ⟨54, _⟩ => ⟨S2x8192x1024, .f32⟩
  | .hbm, ⟨55, _⟩ => ⟨S2x8192x1024, .f32⟩
  | .hbm, ⟨56, _⟩ => ⟨S1024, .f32⟩
  | .hbm, ⟨57, _⟩ => ⟨S1x1x1024, .f32⟩
  | .hbm, ⟨58, _⟩ => ⟨S2x8192x1024, .f32⟩
  | .hbm, ⟨59, _⟩ => ⟨S2x8192x1024, .f32⟩
  | .hbm, ⟨60, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024x7168 : Shape := ⟨3, ![1, 1024, 7168]⟩
abbrev S1x1024 : Shape := ⟨2, ![1, 1024]⟩
abbrev S1024 : Shape := ⟨1, ![1024]⟩
abbrev S16384x1024 : Shape := ⟨2, ![16384, 1024]⟩
abbrev S1024x7168 : Shape := ⟨2, ![1024, 7168]⟩
abbrev S16384x8x128 : Shape := ⟨3, ![16384, 8, 128]⟩
abbrev S2x32x1024x256 : Shape := ⟨4, ![2, 32, 1024, 256]⟩
abbrev S256x1024 : Shape := ⟨2, ![256, 1024]⟩
abbrev S256x8x128 : Shape := ⟨3, ![256, 8, 128]⟩
abbrev S1x1x1024x256 : Shape := ⟨4, ![1, 1, 1024, 256]⟩
abbrev S1024x1024 : Shape := ⟨2, ![1024, 1024]⟩
abbrev S1024x256 : Shape := ⟨2, ![1024, 256]⟩
abbrev S256 : Shape := ⟨1, ![256]⟩
abbrev S256x1 : Shape := ⟨2, ![256, 1]⟩

abbrev nBuf : Space → Nat
  | .hbm => 20
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1x1024x7168, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S1024x7168, .f32⟩
  | .hbm, ⟨10, _⟩ => ⟨S1024x7168, .bf16⟩
  | .hbm, ⟨11, _⟩ => ⟨S16384x8x128, .f32⟩
  | .hbm, ⟨12, _⟩ => ⟨S16384x8x128, .f32⟩
  | .hbm, ⟨13, _⟩ => ⟨S2x32x1024x256, .bf16⟩
  | .hbm, ⟨14, _⟩ => ⟨S16384x1024, .bf16⟩
  | .hbm, ⟨15, _⟩ => ⟨S2x32x1024x256, .bf16⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1024x7168, .bf16⟩
  | .local _ .vmem, ⟨3, _⟩ => ⟨S1x1024, .f32⟩
  | .local _ .vmem, ⟨4, _⟩ => ⟨S1x1024, .f32⟩
  | .local _ .vmem, ⟨5, _⟩ => ⟨S256x8x128, .f32⟩
  | .local _ .vmem, ⟨6, _⟩ => ⟨S256x8x128, .f32⟩
  | .local _ .vmem, ⟨7, _⟩ => ⟨S256x8x128, .f32⟩
  | .local _ .vmem, ⟨8, _⟩ => ⟨S256x8x128, .f32⟩
  | .local _ .vmem, ⟨9, _⟩ => ⟨S1x1x1024x256, .bf16⟩
  | .local _ .vmem, ⟨10, _⟩ => ⟨S1x1x1024x256, .bf16⟩
  | .local _ .vmem, ⟨11, _⟩ => ⟨S256x1024, .bf16⟩
  | .local _ .vmem, ⟨12, _⟩ => ⟨S256x1024, .bf16⟩
  | .local _ .vmem, ⟨13, _⟩ => ⟨S1x1x1024x256, .bf16⟩
  | .local _ .vmem, ⟨14, _⟩ => ⟨S1x1x1024x256, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjIdeal.lean ====
variable {F : FTy → Type} [FloatOps F] [Named F]
def κ : String → Option EReal := fun
  | "q_prescale" => some (((1 / 8) * (Real.log 2)⁻¹ : ℝ) : EReal)
  | _ => none
-- ==== ProjReferenceIdeal.lean ====
abbrev S2x8192x1024 : Shape := ⟨3, ![2, 8192, 1024]⟩
abbrev S1x1024x7168 : Shape := ⟨3, ![1, 1024, 7168]⟩
abbrev S1x1024 : Shape := ⟨2, ![1, 1024]⟩
abbrev S1024x7168 : Shape := ⟨2, ![1024, 7168]⟩
abbrev S2x8192x7168 : Shape := ⟨3, ![2, 8192, 7168]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S16384x8x128 : Shape := ⟨3, ![16384, 8, 128]⟩
abbrev S2x32x256x1024 : Shape := ⟨4, ![2, 32, 256, 1024]⟩
abbrev S2x32x1024x256 : Shape := ⟨4, ![2, 32, 1024, 256]⟩
abbrev S16384x1024 : Shape := ⟨2, ![16384, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x7168, .f32⟩
  | .hbm, ⟨2, _⟩ => ⟨S1x1024, .f32⟩
  | .hbm, ⟨3, _⟩ => ⟨S1x1024, .f32⟩
  | .hbm, ⟨4, _⟩ => ⟨S1024x7168, .f32⟩
  | .hbm, ⟨5, _⟩ => ⟨S2x8192x7168, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S_, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1024, .f32⟩
  | .hbm, ⟨62, _⟩ => ⟨S1x1x1024, .f32⟩
  | .hbm, ⟨63, _⟩ => ⟨S2x8192x1024, .f32⟩
  | .hbm, ⟨64, _⟩ => ⟨S2x8192x1024, .f32⟩
  | .hbm, ⟨65, _⟩ => ⟨S1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | .hbm, ⟨69, _⟩ => ⟨S16384x8x128, .f32⟩
  | .hbm, ⟨70, _⟩ => ⟨S16384x8x128, .f32⟩
  | .hbm, ⟨71, _⟩ => ⟨S2x32x256x1024, .f32⟩
  | .hbm, ⟨72, _⟩ => ⟨S2x32x1024x256, .f32⟩
  | .hbm, ⟨73, _⟩ => ⟨S2x32x1024x256, .bf16⟩
  | .hbm, ⟨74, _⟩ => ⟨S16384x1024, .f32⟩
  | .hbm, ⟨75, _⟩ => ⟨S16384x1024, .bf16⟩
  | .hbm, ⟨76, _⟩ => ⟨S2x32x256x1024, .f32⟩
  | .hbm, ⟨77, _⟩ => ⟨S2x32x1024x256, .f32⟩
  | .hbm, ⟨78, _⟩ => ⟨S2x32x1024x256, .bf16⟩
  | .hbm, ⟨79, _⟩ => ⟨S16384x1024, .f32⟩
  | .hbm, ⟨80, _⟩ => ⟨S16384x1024, .f32⟩
  | .hbm, ⟨81, _⟩ => ⟨S2x8192x1024, .f32⟩
  | .hbm, ⟨82, _⟩ => ⟨S2x8192x1024, .f32⟩
  | .hbm, ⟨83, _⟩ => ⟨S_, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S16384x1024, .f32⟩
  | .hbm, ⟨90, _⟩ => ⟨S2x8192x1024, .f32⟩
  | .hbm, ⟨91, _⟩ => ⟨S2x8192x1024, .f32⟩
  | .hbm, ⟨92, _⟩ => ⟨S_, .f32⟩
  | .hbm, ⟨93, _⟩ => ⟨S2x8192x1024, .f32⟩
  | .hbm, ⟨94, _⟩ => ⟨S2x8192x1024, .f32⟩
  | .hbm, ⟨95, _⟩ => ⟨S_, .f32⟩
  | .hbm, ⟨96, _⟩ => ⟨S2x8192x1024, .f32⟩
  | .hbm, ⟨97, _⟩ => ⟨S2x8192x1024, .f32⟩
  | .hbm, ⟨98, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_12 : Ref sig .tc := ⟨.hbm, 92, rfl⟩
abbrev main_v75 : Ref sig .tc := ⟨.hbm, 93, rfl⟩
abbrev main_v76 : Ref sig .tc := ⟨.hbm, 94, rfl⟩
abbrev main_cst_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Mix.lean ====
abbrev S2x8192x1024 : Shape := ⟨3, ![2, 8192, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S16384x1024 : Shape := ⟨2, ![16384, 1024]⟩
abbrev S8x128x128 : Shape := ⟨3, ![8, 128, 128]⟩
abbrev S8x128 : Shape := ⟨2, ![8, 128]⟩
abbrev S8x128x1 : Shape := ⟨3, ![8, 128, 1]⟩
abbrev S256x1024 : Shape := ⟨2, ![256, 1024]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S256 : Shape := ⟨1, ![256]⟩
abbrev S256x1 : Shape := ⟨2, ![256, 1]⟩
abbrev S256x2816 : Shape := ⟨2, ![256, 2816]⟩

abbrev nBuf : Space → Nat
  | .hbm => 42
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x1024, .f32⟩
  | .hbm, ⟨6, _⟩ => ⟨S1x8x128x128, .f32⟩
  | .hbm, ⟨7, _⟩ => ⟨S1x8x128, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1x1024, .f32⟩
  | .hbm, ⟨15, _⟩ => ⟨S1x1024, .f32⟩
  | .hbm, ⟨16, _⟩ => ⟨S1024x2816, .f32⟩
  | .hbm, ⟨17, _⟩ => ⟨S1024x2816, .bf16⟩
  | .hbm, ⟨18, _⟩ => ⟨S1024x2816, .f32⟩
  | .hbm, ⟨19, _⟩ => ⟨S1024x2816, .bf16⟩
  | .hbm, ⟨20, _⟩ => ⟨S2816x1024, .f32⟩
  | .hbm, ⟨21, _⟩ => ⟨S2816x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S8x128x128, .f32⟩
  | .hbm, ⟨39, _⟩ => ⟨S8x128, .f32⟩
  | .hbm, ⟨40, _⟩ => ⟨S8x128x1, .f32⟩
  | .hbm, ⟨41, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x128x128, .f32⟩
  | .local _ .vmem, ⟨13, _⟩ => ⟨S8x128x1, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixReferenceIdeal.lean ====
abbrev S2x8192x1024 : Shape := ⟨3, ![2, 8192, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S8x128x128 : Shape := ⟨3, ![8, 128, 128]⟩
abbrev S_ : Shape := ⟨0, ![]⟩
abbrev S128x128 : Shape := ⟨2, ![128, 128]⟩
abbrev S1x128x128 : Shape := ⟨3, ![1, 128, 128]⟩
abbrev S2x64x128x8x128 : Shape := ⟨5, ![2, 64, 128, 8, 128]⟩
abbrev S8x2x64x128x128 : Shape := ⟨5, ![8, 2, 64, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x2816 : Shape := ⟨2, ![1024, 2816]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 136
  | .vmem => 0
  | .smem => 0
  | _ => 0

abbrev hbmTy0_0 (i : Nat) : BufTy := match i % 128 with
  | 0 => ⟨S2x8192x1024, .f32⟩
  | 1 => ⟨S2x8192x1024, .f32⟩
  | 2 => ⟨S2x8192x1024, .f32⟩
  | 3 => ⟨S2x8192x1024, .f32⟩
  | 4 => ⟨S2x8192x1024, .f32⟩
  | 5 => ⟨S2x8192x1024, .f32⟩
  | 6 => ⟨S1x8x128x128, .f32⟩
  | 7 => ⟨S1x8x128, .f32⟩
  | 8 => ⟨S1x1024x1024, .f32⟩
  | 9 => ⟨S1x1024, .f32⟩
  | 10 => ⟨S1x1024, .f32⟩
  | 11 => ⟨S1x1024x2816, .f32⟩
  | 12 => ⟨S1x1024x2816, .f32⟩
  | 13 => ⟨S1x2816x1024, .f32⟩
  | 14 => ⟨S1x1024, .f32⟩
  | 15 => ⟨S1x1024, .f32⟩
  | 16 => ⟨S8x128x128, .f32⟩
  | 17 => ⟨S_, .f32⟩
  | 18 => ⟨S128x128, .f32⟩
  | 19 => ⟨S128x128, .i32⟩
  | 20 => ⟨S_, .i32⟩
  | 21 => ⟨S128x128, .i32⟩
  | 22 => ⟨S128x128, .i32⟩
  | 23 => ⟨S128x128, .i32⟩
  | 24 => ⟨S128x128, .i1⟩
  | 25 => ⟨S_, .f32⟩
  | 26 => ⟨S128x128, .f32⟩
  | 27 => ⟨S128x128, .f32⟩
  | 28 => ⟨S1x128x128, .f32⟩
  | 29 => ⟨S8x128x128, .f32⟩
  | 30 => ⟨S8x128x128, .f32⟩
  | 31 => ⟨S2x64x128x8x128, .f32⟩
  | 32 => ⟨S8x2x64x128x128, .f32⟩
  | 33 => ⟨S2x64x128x8x128, .f32⟩
  | 34 => ⟨S8x128, .f32⟩
  | 35 => ⟨S128x8, .f32⟩
  | 36 => ⟨S1x1x128x8x1, .f32⟩
  | 37 => ⟨S2x64x128x8x128, .f32⟩
  | 38 => ⟨S2x64x128x8x128, .f32⟩
  | 39 => ⟨S2x8192x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S1024x1024, .f32⟩
  | 45 => ⟨S2x8192x1024, .f32⟩
  | 46 => ⟨S_, .f32⟩
  | 47 => ⟨S2x8192x1024, .f32⟩
  | 48 => ⟨S2x8192x1024, .f32⟩
  | 49 => ⟨S2x8192x1024, .f32⟩
  | 50 => ⟨S_, .f32⟩
  | 51 => ⟨S2x8192, .f32⟩
  | 52 => ⟨S2x8192x1, .f32⟩
  | 53 => ⟨S_, .f32⟩
  | 54 => ⟨S2x8192x1, .f32⟩
  | 55 => ⟨S2x8192x1, .f32⟩
  | 56 => ⟨S2x8192x1024, .f32⟩
  | 57 => ⟨S2x8192x1024, .f32⟩
  | 58 => ⟨S2x8192x1024, .f32⟩
  | 59 => ⟨S_, .f32⟩
  | 60 => ⟨S2x8192, .f32⟩
  | 61 => ⟨S2x8192x1, .f32⟩
  | 62 => ⟨S_, .f32⟩
  | 63 => ⟨S2x8192x1, .f32⟩
  | 64 => ⟨S2x8192x1, .f32⟩
  | 65 => ⟨S2x8192x1024, .f32⟩
  | 66 => ⟨S2x8192x1024, .f32⟩
  | 67 => ⟨S_, .f32⟩
  | 68 => ⟨S2x8192x1, .f32⟩
  | 69 => ⟨S2x8192x1, .f32⟩
  | 70 => ⟨S2x8192x1, .f32⟩
  | 71 => ⟨S2x8192x1024, .f32⟩
  | 72 => ⟨S2x8192x1024, .f32⟩
  | 73 => ⟨S1024, .f32⟩
  | 74 => ⟨S1x1x1024, .f32⟩
  | 75 => ⟨S2x8192x1024, .f32⟩
  | 76 => ⟨S2x8192x1024, .f32⟩
  | 77 => ⟨S1024, .f32⟩
  | 78 => ⟨S1x1x1024, .f32⟩
  | 79 => ⟨S2x8192x1024, .f32⟩
  | 80 => ⟨S2x8192x1024, .f32⟩
  | 81 => ⟨S1024x2816, .f32⟩
  | 82 => ⟨S2x8192x2816, .f32⟩
  | 83 => ⟨S2x8192x2816, .f32⟩
  | 84 => ⟨S2x8192x2816, .f32⟩
  | 85 => ⟨S_, .f32⟩
  | 86 => ⟨S2x8192x2816, .f32⟩
  | 87 => ⟨S2x8192x2816, .f32⟩
  | 88 => ⟨S_, .f32⟩
  | 89 => ⟨S2x8192x2816, .f32⟩
  | 90 => ⟨S2x8192x2816, .f32⟩
  | 91 => ⟨S2x8192x2816, .f32⟩
  | 92 => ⟨S1024x2816, .f32⟩
  | 93 => ⟨S2x8192x2816, .f32⟩
  | 94 => ⟨S2x8192x2816, .f32⟩
  | 95 => ⟨S2816x1024, .f32⟩
  | 96 => ⟨S2x8192x1024, .f32⟩
  | 97 => ⟨S_, .f32⟩
  | 98 => ⟨S2x8192x1024, .f32⟩
  | 99 => ⟨S2x8192x1024, .f32⟩
  | 100 => ⟨S_, .f32⟩
  | 101 => ⟨S2x8192x1024, .f32⟩
  | 102 => ⟨S2x8192x1024, .f32⟩
  | 103 => ⟨S2x8192x1024, .f32⟩
  | 104 => ⟨S_, .f32⟩
  | 105 => ⟨S2x8192, .f32⟩
  | 106 => ⟨S2x8192x1, .f32⟩
  | 107 => ⟨S_, .f32⟩
  | 108 => ⟨S2x8192x1, .f32⟩
  | 109 => ⟨S2x8192x1, .f32⟩
  | 110 => ⟨S2x8192x1024, .f32⟩
  | 111 => ⟨S2x8192x1024, .f32⟩
  | 112 => ⟨S2x8192x1024, .f32⟩
  | 113 => ⟨S_, .f32⟩
  | 114 => ⟨S2x8192, .f32⟩
  | 115 => ⟨S2x8192x1, .f32⟩
  | 116 => ⟨S_, .f32⟩
  | 117 => ⟨S2x8192x1, .f32⟩
  | 118 => ⟨S2x8192x1, .f32⟩
  | 119 => ⟨S2x8192x1024, .f32⟩
  | 120 => ⟨S2x8192x1024, .f32⟩
  | 121 => ⟨S_, .f32⟩
  | 122 => ⟨S2x8192x1, .f32⟩
  | 123 => ⟨S2x8192x1, .f32⟩
  | 124 => ⟨S2x8192x1, .f32⟩
  | 125 => ⟨S2x8192x1024, .f32⟩
  | 126 => ⟨S2x8192x1024, .f32⟩
  | 127 => ⟨S1024, .f32⟩
  | _ => ⟨S2x8192x1024, .f32⟩

abbrev hbmTy0_1 (i : Nat) : BufTy := match i % 128 with
  | 0 => ⟨S1x1x1024, .f32⟩
  | 1 => ⟨S2x8192x1024, .f32⟩
  | 2 => ⟨S2x8192x1024, .f32⟩
  | 3 => ⟨S1024, .f32⟩
  | 4 => ⟨S1x1x1024, .f32⟩
  | 5 => ⟨S2x8192x1024, .f32⟩
  | 6 => ⟨S2x8192x1024, .f32⟩
  | 7 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_6 : Ref sig .tc := ⟨.hbm, 97, rfl⟩
abbrev main_v58 : Ref sig .tc := ⟨.hbm, 98, rfl⟩
abbrev main_v59 : Ref sig .tc := ⟨.hbm, 99, rfl⟩
abbrev main_cst_7 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_8 : Ref sig .tc := ⟨.hbm, 104, rfl⟩
abbrev main_v63 : Ref sig .tc := ⟨.hbm, 105, rfl⟩
abbrev main_v64 : Ref sig .tc := ⟨.hbm, 106, rfl⟩
abbrev main_cst_9 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_10 : Ref sig .tc := ⟨.hbm, 113, rfl⟩
abbrev main_v70 : Ref sig .tc := ⟨.hbm, 114, rfl⟩
abbrev main_v71 : Ref sig .tc := ⟨.hbm, 115, rfl⟩
abbrev main_cst_11 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_12 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩

abbrev nD : Nat := 1
abbrev τ : Topo := Topo.v7x

variable {F : FTy → Type} [FloatOps F]
-- ==== Proof.Cases.lean ====
/-
  The kernel's branch, decided by the query tile: tile `q` of a row lies in a block of four tiles, and the `lax.switch`
  takes the branch `q % 4`, four more when an earlier block exists.
-/
module

public import proofs.«01_k».proof.Proof.Gen.KernelIdeal.Frame
public import proofs.«01_k».proof.Proof.Gen.KernelIdeal.Loops

@[expose] public section

noncomputable section

namespace Cert.KernelIdeal.Attn

open Cert.KernelIdeal Cert.KernelIdeal.Gen
open Idealize.ShloMosaic

/-- The branch of the switch at query tile `q`. -/
abbrev br (q : ℕ) : ℕ := q % 4 + if 4 ≤ q then 4 else 0

/-- A grid point whose query tile is `q`. -/
def at2 (q : Fin 32) : grid0.Coords := fun a => match a with
  | ⟨0, _⟩ => (0 : Fin 2) | ⟨1, _⟩ => (0 : Fin 4) | ⟨2, _⟩ => q

theorem cond1_iff (i : grid0.Coords) : k0_cond1 i = 1#1 ↔ br (i 2).val ≠ 0 :=
  (by decide +kernel : ∀ q : Fin 32, k0_cond1 (at2 q) = 1#1 ↔ br q.val ≠ 0) (i 2)
theorem cond2_iff (i : grid0.Coords) : k0_cond2 i = 1#1 ↔ br (i 2).val ≠ 1 :=
  (by decide +kernel : ∀ q : Fin 32, k0_cond2 (at2 q) = 1#1 ↔ br q.val ≠ 1) (i 2)
theorem cond3_iff (i : grid0.Coords) : k0_cond3 i = 1#1 ↔ br (i 2).val ≠ 2 :=
  (by decide +kernel : ∀ q : Fin 32, k0_cond3 (at2 q) = 1#1 ↔ br q.val ≠ 2) (i 2)
theorem cond4_iff (i : grid0.Coords) : k0_cond4 i = 1#1 ↔ br (i 2).val ≠ 3 :=
  (by decide +kernel : ∀ q : Fin 32, k0_cond4 (at2 q) = 1#1 ↔ br q.val ≠ 3) (i 2)
theorem cond5_iff (i : grid0.Coords) : k0_cond5 i = 1#1 ↔ br (i 2).val ≠ 4 :=
  (by decide +kernel : ∀ q : Fin 32, k0_cond5 (at2 q) = 1#1 ↔ br q.val ≠ 4) (i 2)
theorem cond6_iff (i : grid0.Coords) : k0_cond6 i = 1#1 ↔ br (i 2).val ≠ 5 :=
  (by decide +kernel : ∀ q : Fin 32, k0_cond6 (at2 q) = 1#1 ↔ br q.val ≠ 5) (i 2)
theorem cond7_iff (i : grid0.Coords) : k0_cond7 i = 1#1 ↔ br (i 2).val ≠ 6 :=
  (by decide +kernel : ∀ q : Fin 32, k0_cond7 (at2 q) = 1#1 ↔ br q.val ≠ 6) (i 2)
theorem cond8_iff (i : grid0.Coords) : k0_cond8 i = 1#1 ↔ 4 ≤ br (i 2).val :=
  (by decide +kernel : ∀ q : Fin 32, k0_cond8 (at2 q) = 1#1 ↔ 4 ≤ br q.val) (i 2)

/-- The pipelined loop runs over the blocks before the last whole one. -/
theorem trips1 (i : grid0.Coords) : (k0_t1_loop i).trips = (i 2).val / 4 - 1 :=
  (by decide +kernel : ∀ q : Fin 32, (k0_t1_loop (at2 q)).trips = q.val / 4 - 1) (i 2)
/-- The second loop is empty. -/
theorem trips2 (i : grid0.Coords) : (k0_t2_loop i).trips = 0 :=
  (by decide +kernel : ∀ q : Fin 32, (k0_t2_loop (at2 q)).trips = 0) (i 2)

end Cert.KernelIdeal.Attn
-- ==== Proof.Runs.lean ====
/-
  The body's run in each branch of the switch: the printed operations executed one after the other. What a branch leaves in
  the output block is the list of pieces the run finds; its three scratch buffers end at some contents.
-/
module

public import proofs.«01_k».proof.Proof.Cases

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (X_arg9 : BufTy.Contents (Elt F) arg9.view.ty)
  (X_arg10 : BufTy.Contents (Elt F) arg10.view.ty)
  (X_arg11 : BufTy.Contents (Elt F) arg11.view.ty)
  (X_arg12 : BufTy.Contents (Elt F) arg12.view.ty)
  (X_arg13 : BufTy.Contents (Elt F) arg13.view.ty)
  (X_arg14 : BufTy.Contents (Elt F) arg14.view.ty)

/-- The body's triple at grid point `i`: from the contents of its twelve operands it runs to its return, the eight inputs as
    they were, the pieces `L` written to the output block, the scratch buffers at some contents. -/
def Triple (L : List (View.Piece (Elt F) S256x256 .f32)) : Prop :=
  ∀ (E : Set ℕ) (K : PUnit → sProp 𝕄),
    iprop((arg3.view.loc (c : Thread nD τ) ↦[arg3.view.set]{fullShare} X_arg3)
        ∗ (arg4.view.loc (c : Thread nD τ) ↦[arg4.view.set]{fullShare} X_arg4)
        ∗ (arg5.view.loc (c : Thread nD τ) ↦[arg5.view.set]{fullShare} X_arg5)
        ∗ (arg6.view.loc (c : Thread nD τ) ↦[arg6.view.set]{fullShare} X_arg6)
        ∗ (arg7.view.loc (c : Thread nD τ) ↦[arg7.view.set]{fullShare} X_arg7)
        ∗ (arg8.view.loc (c : Thread nD τ) ↦[arg8.view.set]{fullShare} X_arg8)
        ∗ (arg9.view.loc (c : Thread nD τ) ↦[arg9.view.set]{fullShare} X_arg9)
        ∗ (arg10.view.loc (c : Thread nD τ) ↦[arg10.view.set]{fullShare} X_arg10)
        ∗ (arg11.view.loc (c : Thread nD τ) ↦[arg11.view.set]{fullShare} X_arg11)
        ∗ (arg12.view.loc (c : Thread nD τ) ↦[arg12.view.set]{fullShare} X_arg12)
        ∗ (arg13.view.loc (c : Thread nD τ) ↦[arg13.view.set]{fullShare} X_arg13)
        ∗ (arg14.view.loc (c : Thread nD τ) ↦[arg14.view.set]{fullShare} X_arg14)
        ∗ (iprop((arg3.view.loc (c : Thread nD τ) ↦[arg3.view.set]{fullShare} X_arg3)
            ∗ (arg4.view.loc (c : Thread nD τ) ↦[arg4.view.set]{fullShare} X_arg4)
            ∗ (arg5.view.loc (c : Thread nD τ) ↦[arg5.view.set]{fullShare} X_arg5)
            ∗ (arg6.view.loc (c : Thread nD τ) ↦[arg6.view.set]{fullShare} X_arg6)
            ∗ (arg7.view.loc (c : Thread nD τ) ↦[arg7.view.set]{fullShare} X_arg7)
            ∗ (arg8.view.loc (c : Thread nD τ) ↦[arg8.view.set]{fullShare} X_arg8)
            ∗ (arg9.view.loc (c : Thread nD τ) ↦[arg9.view.set]{fullShare} X_arg9)
            ∗ (arg10.view.loc (c : Thread nD τ) ↦[arg10.view.set]{fullShare} X_arg10)
            ∗ (arg11.view.loc (c : Thread nD τ) ↦[arg11.view.set]{fullShare} (arg11.view.writes (Elt F) X_arg11 L))
            ∗ (∃ f, (arg12.view.loc (c : Thread nD τ) ↦[arg12.view.set]{fullShare} f))
            ∗ (∃ f, (arg13.view.loc (c : Thread nD τ) ↦[arg13.view.set]{fullShare} f))
            ∗ (∃ f, (arg14.view.loc (c : Thread nD τ) ↦[arg14.view.set]{fullShare} f))) -∗ K ⟨⟩))
      ⊢ wp frame (wpE (defs₀ (F := F)) Variants.none (c : Thread nD τ) none) E
          (cc0_attn_prompt i arg3 harg3 arg4 harg4 arg5 harg5 arg6 harg6 arg7 harg7 arg8 harg8 arg9 harg9 arg10 harg10 arg11 harg11 arg12 harg12 arg13 harg13 arg14 harg14) K

set_option maxHeartbeats 4000000 in
/-- Branch zero. -/
@[irreducible] def run0 (hq : br (i 2).val = 0) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : ¬ k0_cond1 i = 1#1 := fun h => (cond1_iff i).mp h hq
  have c8 : ¬ k0_cond8 i = 1#1 := fun h => absurd (le_of_le_of_eq ((cond8_iff i).mp h) hq) (by decide)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch one. -/
@[irreducible] def run1 (hq : br (i 2).val = 1) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : ¬ k0_cond2 i = 1#1 := fun h => (cond2_iff i).mp h hq
  have c8 : ¬ k0_cond8 i = 1#1 := fun h => absurd (le_of_le_of_eq ((cond8_iff i).mp h) hq) (by decide)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch two. -/
@[irreducible] def run2 (hq : br (i 2).val = 2) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : k0_cond2 i = 1#1 := (cond2_iff i).mpr (by rw [hq]; decide)
  have c3 : ¬ k0_cond3 i = 1#1 := fun h => (cond3_iff i).mp h hq
  have c8 : ¬ k0_cond8 i = 1#1 := fun h => absurd (le_of_le_of_eq ((cond8_iff i).mp h) hq) (by decide)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch three. -/
@[irreducible] def run3 (hq : br (i 2).val = 3) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : k0_cond2 i = 1#1 := (cond2_iff i).mpr (by rw [hq]; decide)
  have c3 : k0_cond3 i = 1#1 := (cond3_iff i).mpr (by rw [hq]; decide)
  have c4 : ¬ k0_cond4 i = 1#1 := fun h => (cond4_iff i).mp h hq
  have c8 : ¬ k0_cond8 i = 1#1 := fun h => absurd (le_of_le_of_eq ((cond8_iff i).mp h) hq) (by decide)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch four. -/
@[irreducible] def run4 (hq : br (i 2).val = 4) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : k0_cond2 i = 1#1 := (cond2_iff i).mpr (by rw [hq]; decide)
  have c3 : k0_cond3 i = 1#1 := (cond3_iff i).mpr (by rw [hq]; decide)
  have c4 : k0_cond4 i = 1#1 := (cond4_iff i).mpr (by rw [hq]; decide)
  have c5 : ¬ k0_cond5 i = 1#1 := fun h => (cond5_iff i).mp h hq
  have c8 : k0_cond8 i = 1#1 := (cond8_iff i).mpr (le_of_le_of_eq (by decide) hq.symm)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch five. -/
@[irreducible] def run5 (hq : br (i 2).val = 5) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : k0_cond2 i = 1#1 := (cond2_iff i).mpr (by rw [hq]; decide)
  have c3 : k0_cond3 i = 1#1 := (cond3_iff i).mpr (by rw [hq]; decide)
  have c4 : k0_cond4 i = 1#1 := (cond4_iff i).mpr (by rw [hq]; decide)
  have c5 : k0_cond5 i = 1#1 := (cond5_iff i).mpr (by rw [hq]; decide)
  have c6 : ¬ k0_cond6 i = 1#1 := fun h => (cond6_iff i).mp h hq
  have c8 : k0_cond8 i = 1#1 := (cond8_iff i).mpr (le_of_le_of_eq (by decide) hq.symm)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch six. -/
@[irreducible] def run6 (hq : br (i 2).val = 6) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : k0_cond2 i = 1#1 := (cond2_iff i).mpr (by rw [hq]; decide)
  have c3 : k0_cond3 i = 1#1 := (cond3_iff i).mpr (by rw [hq]; decide)
  have c4 : k0_cond4 i = 1#1 := (cond4_iff i).mpr (by rw [hq]; decide)
  have c5 : k0_cond5 i = 1#1 := (cond5_iff i).mpr (by rw [hq]; decide)
  have c6 : k0_cond6 i = 1#1 := (cond6_iff i).mpr (by rw [hq]; decide)
  have c7 : ¬ k0_cond7 i = 1#1 := fun h => (cond7_iff i).mp h hq
  have c8 : k0_cond8 i = 1#1 := (cond8_iff i).mpr (le_of_le_of_eq (by decide) hq.symm)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

set_option maxHeartbeats 4000000 in
/-- Branch seven. -/
@[irreducible] def run7 (hq : br (i 2).val = 7) :
    { L : List (View.Piece (Elt F) S256x256 .f32) // Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L } := by
  have c1 : k0_cond1 i = 1#1 := (cond1_iff i).mpr (by rw [hq]; decide)
  have c2 : k0_cond2 i = 1#1 := (cond2_iff i).mpr (by rw [hq]; decide)
  have c3 : k0_cond3 i = 1#1 := (cond3_iff i).mpr (by rw [hq]; decide)
  have c4 : k0_cond4 i = 1#1 := (cond4_iff i).mpr (by rw [hq]; decide)
  have c5 : k0_cond5 i = 1#1 := (cond5_iff i).mpr (by rw [hq]; decide)
  have c6 : k0_cond6 i = 1#1 := (cond6_iff i).mpr (by rw [hq]; decide)
  have c7 : k0_cond7 i = 1#1 := (cond7_iff i).mpr (by rw [hq]; decide)
  have c8 : k0_cond8 i = 1#1 := (cond8_iff i).mpr (le_of_le_of_eq (by decide) hq.symm)
  refine ⟨?_, fun E K => ?run⟩
  case run =>
    simp only [cc0_attn_prompt_eq_skeleton]; unfold cc0_attn_prompt_skel
    iintro ⟨H3, H4, H5, H6, H7, H8, H9, H10, H11, H12, H13, H14, HK⟩
    sl_exec
    sl_step
    iapply HK
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iexists _; iexact H14

end Cert.KernelIdeal.Attn
-- ==== Proof.Body.lean ====
/-
  The frame of the kernel's program: the body's triple at any grid point, by the branch its query tile takes, and the launch.
  The output window is forgotten: nothing here reads what the kernel leaves in it.
-/
module

public import proofs.«01_k».proof.Proof.Runs
public import Idealize.ShloMosaic.Lib.Pipeline.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The branches are the eight. -/
theorem br_lt (q : ℕ) : br q < 8 := by unfold br; split <;> omega

section
variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt F) arg3.view.ty)
  (X_arg4 : BufTy.Contents (Elt F) arg4.view.ty)
  (X_arg5 : BufTy.Contents (Elt F) arg5.view.ty)
  (X_arg6 : BufTy.Contents (Elt F) arg6.view.ty)
  (X_arg7 : BufTy.Contents (Elt F) arg7.view.ty)
  (X_arg8 : BufTy.Contents (Elt F) arg8.view.ty)
  (X_arg9 : BufTy.Contents (Elt F) arg9.view.ty)
  (X_arg10 : BufTy.Contents (Elt F) arg10.view.ty)
  (X_arg11 : BufTy.Contents (Elt F) arg11.view.ty)
  (X_arg12 : BufTy.Contents (Elt F) arg12.view.ty)
  (X_arg13 : BufTy.Contents (Elt F) arg13.view.ty)
  (X_arg14 : BufTy.Contents (Elt F) arg14.view.ty)

/-- At every grid point the body runs. -/
theorem exists_triple : ∃ L, Triple c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L := by
  have h := br_lt (i 2).val
  rcases (by omega : br (i 2).val = 0 ∨ br (i 2).val = 1 ∨ br (i 2).val = 2 ∨ br (i 2).val = 3
      ∨ br (i 2).val = 4 ∨ br (i 2).val = 5 ∨ br (i 2).val = 6 ∨ br (i 2).val = 7)
    with hq | hq | hq | hq | hq | hq | hq | hq
  · exact ⟨_, (run0 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run1 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run2 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run3 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run4 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run5 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run6 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩
  · exact ⟨_, (run7 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2⟩

end

/-! ## The proof data and the body obligation -/

/-- The output window, the last of the nine, is forgotten. -/
def forgets0 : Fin 9 → Bool := fun w => decide (w = 8)

/-- The proof data on core `c`: the arrays as the region finds them; each input's block left as it was; what the body
    leaves in the output unnamed; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

/-- The invariant between two points: the three scratch buffers at some contents and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

set_option maxHeartbeats 1000000 in
/-- The body at any point: the inputs hold their blocks, the run of the point's branch applies, and the invariant is closed
    again with the scratch buffers at what the run leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6, after0_7]
  unfold owns
  iintro ⟨⟨⟨⟨%e12, %f12, -, S0⟩, ⟨%e13, %f13, -, S1⟩, ⟨%e14, %f14, -, S2⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩⟩
  obtain ⟨L, hL⟩ := exists_triple c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _)
    f0 f1 f2 f3 f4 f5 f6 f7 f8 f12 f13 f14
  iapply (hL Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, ⟨%g12, S0⟩, ⟨%g13, S1⟩, ⟨%g14, S2⟩⟩
  isplitl [Hg S0 S1 S2]
  · isplitr [Hg]; swap; · iexact Hg
    isplitl [S0]
    · iexists _, g12; isplitr; swap; · iexact S0
      ipureintro; rfl
    isplitl [S1]
    · iexists _, g13; isplitr; swap; · iexact S1
      ipureintro; rfl
    iexists _, g14; isplitr; swap; · iexact S2
    ipureintro; rfl
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _, _; isplitr; swap; · iexact H8
  ipureintro; rfl

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments are found by unifying the conclusion with this one, which takes unfolding plain definitions in a
-- metavariable's type
set_option backward.isDefEq.respectTransparency.types false in
/-- The launch: every buffer that is no window's array ends as the region found it, and every counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ)

end Cert.KernelIdeal.Attn
-- ==== Proof.Ops.lean ====
/-
  The operations of a step read at real entries: a score block, its column maxima, the exponentials, and the product with the
  values and the rows of ones. The number `n` of keys in the block is arbitrary.
-/
module

public import proofs.«01_k».proof.Proof.Cases
public import Idealize.ShloMosaic.Lib.MatmulPlain
public import Idealize.ShloMosaic.Lib.ValueLayout

@[expose] public section

set_option maxRecDepth 16384

noncomputable section

namespace Cert.KernelIdeal.Attn

open Idealize.ShloMosaic Idealize.ShloMosaic.ValueIdx

/-- A finite sum of reals, taken among the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over `Fin n` of reals given by a function of the natural numbers. -/
theorem sum_fin_coe {n : ℕ} (g : Fin n → EReal) (f : ℕ → ℝ) (h : ∀ k : Fin n, g k = (f k.val : EReal)) :
    ∑ k, g k = ((∑ k ∈ Finset.range n, f k : ℝ) : EReal) := by
  rw [Finset.sum_congr rfl fun k _ => h k, sum_coe, Fin.sum_univ_eq_sum_range f n]

theorem exp2_coe (r : ℝ) : Ideal.exp2 (r : EReal) = (((2 : ℝ) ^ r : ℝ) : EReal) := rfl
theorem exp2_bot : Ideal.exp2 ⊥ = 0 := rfl

/-- A product of an `n × m` by an `m × p` block of reals. -/
theorem matmul_real {n m p : ℕ} {φ₁ φ₂ : FTy} (lhs : FVec Ideal ⟨2, ![n, m]⟩ φ₁) (rhs : FVec Ideal ⟨2, ![m, p]⟩ φ₂)
    (L R : ℕ → ℝ) (r : Fin n) (c : Fin p) (hl : ∀ k : Fin m, lhs (ix2 r k) = (L k.val : EReal))
    (hr : ∀ k : Fin m, rhs (ix2 k c) = (R k.val : EReal)) :
    matmul (DotDims.plain n m p) none lhs rhs (constant (F := Ideal) ⟨2, ![n, p]⟩ .f32 0#32) (ix2 r c)
      = ((∑ k ∈ Finset.range m, L k * R k : ℝ) : EReal) := by
  show FloatOps.matmul (DotDims.plain n m p) none lhs rhs _ (ix2 r c) = _
  rw [Ideal.matmul_plain_apply, sum_fin_coe _ (fun k => L k * R k) (fun k => by rw [hl, hr, EReal.coe_mul])]
  show Ideal.ofBits .f32 0#32 + _ = _
  rw [Ideal.ofBits_zero_f32, zero_add]

/-- The factor of a score: 128 features beside 128 entries of the position digits. -/
theorem lhs_apply {n : ℕ} (kb : FVec Ideal ⟨4, ![1, 1, n, 128]⟩ .bf16) (pb : FVec Ideal ⟨3, ![1, n, 128]⟩ .bf16)
    (h₁ : (⟨4, ![1, 1, n, 128]⟩ : Shape).ShapeCasts ⟨2, ![n, 128]⟩) (h₂ : (⟨3, ![1, n, 128]⟩ : Shape).ShapeCasts ⟨2, ![n, 128]⟩)
    (hc : Shape.Concatenates [⟨2, ![n, 128]⟩, ⟨2, ![n, 128]⟩] ⟨2, ![n, 256]⟩ 1)
    (kf pf : ℕ → ℝ) (κ : Fin n) (hk : ∀ t : Fin 128, kb (ix4 (0 : Fin 1) (0 : Fin 1) κ t) = (kf t.val : EReal))
    (hp : ∀ t : Fin 128, pb (ix3 (0 : Fin 1) κ t) = (pf t.val : EReal)) (t : Fin 256) :
    concatenate ⟨2, ![n, 256]⟩ 1 [⟨⟨2, ![n, 128]⟩, shapeCast ⟨2, ![n, 128]⟩ kb h₁⟩, ⟨⟨2, ![n, 128]⟩, shapeCast ⟨2, ![n, 128]⟩ pb h₂⟩] hc (ix2 κ t)
      = ((if t.val < 128 then kf t.val else pf (t.val - 128) : ℝ) : EReal) := by
  by_cases ht : t.val < 128
  · rw [concatenate_pair_apply_left (s₁ := ⟨2, ![n, 128]⟩) (1 : Fin 2) _ _ hc (ix2 κ t) rfl (ix2 κ ⟨t.val, ht⟩) (by
      intro b; match b with
      | ⟨0, _⟩ => rfl
      | ⟨1, _⟩ => rfl), if_pos ht]
    rw [shapeCast_apply kb h₁ (ix2 κ ⟨t.val, ht⟩) (ix4 0 0 κ ⟨t.val, ht⟩) (by
      rw [Shape.rowMajor_val_four, Shape.rowMajor_val_two]
      show ((0 * 1 + 0) * n + κ.val) * 128 + t.val = κ.val * 128 + t.val
      simp), hk]
  · have ht' : t.val - 128 < 128 := by omega
    rw [concatenate_pair_apply_right (s₁ := ⟨2, ![n, 128]⟩) (s₂ := ⟨2, ![n, 128]⟩) (1 : Fin 2) _ _ hc (ix2 κ t) rfl rfl (ix2 κ ⟨t.val - 128, ht'⟩) (by
      intro b hb; match b with
      | ⟨0, _⟩ => rfl
      | ⟨1, _⟩ => exact absurd rfl hb) (by show (t.val - 128) + 128 = t.val; omega), if_neg ht, shapeCast_1ab_ab_apply, hp]

/-- A block of scores: keys and their positions' digits against the prepared queries. -/
theorem scores_apply {n : ℕ} (kb : FVec Ideal ⟨4, ![1, 1, n, 128]⟩ .bf16) (pb : FVec Ideal ⟨3, ![1, n, 128]⟩ .bf16)
    (w : FVec Ideal ⟨3, ![1, 256, 512]⟩ .bf16)
    (h₁ : (⟨4, ![1, 1, n, 128]⟩ : Shape).ShapeCasts ⟨2, ![n, 128]⟩) (h₂ : (⟨3, ![1, n, 128]⟩ : Shape).ShapeCasts ⟨2, ![n, 128]⟩)
    (hc : Shape.Concatenates [⟨2, ![n, 128]⟩, ⟨2, ![n, 128]⟩] ⟨2, ![n, 256]⟩ 1)
    (h₃ : (⟨3, ![1, 256, 512]⟩ : Shape).ShapeCasts ⟨2, ![256, 512]⟩)
    (kf pf wf : ℕ → ℝ) (κ : Fin n) (x : Fin 512)
    (hk : ∀ t : Fin 128, kb (ix4 (0 : Fin 1) (0 : Fin 1) κ t) = (kf t.val : EReal))
    (hp : ∀ t : Fin 128, pb (ix3 (0 : Fin 1) κ t) = (pf t.val : EReal))
    (hw : ∀ t : Fin 256, w (ix3 (0 : Fin 1) t x) = (wf t.val : EReal)) :
    matmul (DotDims.plain n 256 512) none
        (concatenate ⟨2, ![n, 256]⟩ 1 [⟨⟨2, ![n, 128]⟩, shapeCast ⟨2, ![n, 128]⟩ kb h₁⟩, ⟨⟨2, ![n, 128]⟩, shapeCast ⟨2, ![n, 128]⟩ pb h₂⟩] hc)
        (shapeCast ⟨2, ![256, 512]⟩ w h₃) (constant (F := Ideal) ⟨2, ![n, 512]⟩ .f32 0#32) (ix2 κ x)
      = ((∑ t ∈ Finset.range 128, kf t * wf t + ∑ t ∈ Finset.range 128, pf t * wf (128 + t) : ℝ) : EReal) := by
  rw [matmul_real _ _ (fun t => if t < 128 then kf t else pf (t - 128)) wf κ x
    (fun t => lhs_apply kb pb h₁ h₂ hc kf pf κ hk hp t) (fun t => by rw [shapeCast_1ab_ab_apply, hw])]
  congr 1
  rw [show (256 : ℕ) = 128 + 128 from rfl, Finset.sum_range_add]
  refine congrArg₂ (· + ·) (Finset.sum_congr rfl fun t ht => ?_) (Finset.sum_congr rfl fun t ht => ?_)
  · rw [if_pos (Finset.mem_range.1 ht)]
  · rw [if_neg (by omega), Nat.add_sub_cancel_left]

/-- The largest of entries each real or `⊥`, one of them real, is real. -/
theorem fold_max_real {ι : Type*} (s : Finset ι) (f : ι → EReal) (hne : ∀ i ∈ s, f i ≠ ⊤) (i : ι) (hi : i ∈ s) (hr : f i ≠ ⊥) :
    ∃ M : ℝ, s.fold max ⊥ f = (M : EReal) := by
  have h1 : s.fold max ⊥ f ≠ ⊤ := by
    have : s.fold max ⊥ f < ⊤ := (Finset.fold_max_lt _).2 ⟨bot_lt_top, fun x hx => lt_top_iff_ne_top.2 (hne x hx)⟩
    exact this.ne
  have h2 : s.fold max ⊥ f ≠ ⊥ := fun e => by
    have : f i ≤ s.fold max ⊥ f := (Finset.le_fold_max _).2 (.inr ⟨i, hi, le_rfl⟩)
    rw [e] at this; exact hr (le_bot_iff.1 this)
  exact ⟨_, (EReal.coe_toReal h1 h2).symm⟩

/-- The column maxima of a block whose entries are real or `⊥`, one in each column real. -/
theorem colmax_real {n : ℕ} (s : FVec Ideal ⟨2, ![n, 512]⟩ .f32) (hd : (⟨2, ![n, 512]⟩ : Shape).Reduces [0] ⟨1, ![512]⟩)
    (h0 : FKind.Formats .f32) (h1 : (0xFF800000#32 : BitVec FTy.f32.bits) = FKind.maximumf.neutral .f32 h0)
    (hc : (⟨1, ![512]⟩ : Shape).ShapeCasts ⟨2, ![1, 512]⟩) (x : Fin 512)
    (hs : ∀ κ : Fin n, s (ix2 κ x) ≠ ⊤) (κ : Fin n) (hκ : s (ix2 κ x) ≠ ⊥) :
    ∃ M : ℝ, shapeCast ⟨2, ![1, 512]⟩ (multiReduction .maximumf [0] ⟨1, ![512]⟩ s 0xFF800000#32 hd h0 h1) hc (ix2 (0 : Fin 1) x) = (M : EReal) := by
  rw [shapeCast_a_1a_apply, Ideal.multiReduction_maximumf_single]
  have e : ∀ k : Fin n, hd.lift (ix1 x) k = ix2 k x := fun k => by
    funext a; apply Fin.ext
    match a with
    | ⟨0, _⟩ => rfl
    | ⟨1, _⟩ => rfl
  have hb : (FloatOps.ofBits .f32 0xFF800000#32 : Ideal .f32) = (⊥ : EReal) := by
    show Ideal.ofBits .f32 0xFF800000#32 = ⊥
    simp [Ideal.ofBits, Ideal.ieee]
  rw [hb]
  exact fold_max_real _ _ (fun k _ => ((congrArg s (e k)).trans_ne (hs k))) κ (Finset.mem_univ _) ((congrArg s (e κ)).trans_ne hκ)

/-- The values of a block beside sixteen rows of ones, times the exponentials: a row of the values' part. -/
theorem pv_apply {n : ℕ} (v : FVec Ideal ⟨2, ![128, n]⟩ .bf16) (p : FVec Ideal ⟨2, ![n, 512]⟩ .f32)
    (hc : Shape.Concatenates [⟨2, ![128, n]⟩, ⟨2, ![16, n]⟩] ⟨2, ![144, n]⟩ 0) (hb : FTy.bits .bf16 < FTy.bits .f32)
    (vf pf : ℕ → ℝ) (e : Fin 128) (e' : Fin 144) (he : e'.val = e.val) (x : Fin 512)
    (hv : ∀ κ : Fin n, v (ix2 e κ) = (vf κ.val : EReal)) (hp : ∀ κ : Fin n, p (ix2 κ x) = (pf κ.val : EReal)) :
    matmul (DotDims.plain 144 n 512) none
        (concatenate ⟨2, ![144, n]⟩ 0 [⟨⟨2, ![128, n]⟩, v⟩, ⟨⟨2, ![16, n]⟩, broadcast ⟨2, ![16, n]⟩ (FloatOps.ofBits .bf16 0x3F80#16 : Ideal .bf16)⟩] hc)
        (truncf .bf16 p hb) (constant (F := Ideal) ⟨2, ![144, 512]⟩ .f32 0#32) (ix2 e' x)
      = ((∑ κ ∈ Finset.range n, vf κ * pf κ : ℝ) : EReal) := by
  refine matmul_real _ _ vf pf e' x (fun κ => ?_) hp
  rw [concatenate_pair_apply_left (s₁ := ⟨2, ![128, n]⟩) (0 : Fin 2) _ _ hc (ix2 e' κ) rfl (ix2 e κ) (by
      intro b; match b with
      | ⟨0, _⟩ => exact he.symm
      | ⟨1, _⟩ => rfl), hv]

/-- …and the row of ones: the sum of the exponentials. -/
theorem pv_ones {n : ℕ} (v : FVec Ideal ⟨2, ![128, n]⟩ .bf16) (p : FVec Ideal ⟨2, ![n, 512]⟩ .f32)
    (hc : Shape.Concatenates [⟨2, ![128, n]⟩, ⟨2, ![16, n]⟩] ⟨2, ![144, n]⟩ 0) (hb : FTy.bits .bf16 < FTy.bits .f32)
    (pf : ℕ → ℝ) (e' : Fin 144) (he : e'.val = 128) (x : Fin 512)
    (hp : ∀ κ : Fin n, p (ix2 κ x) = (pf κ.val : EReal)) :
    matmul (DotDims.plain 144 n 512) none
        (concatenate ⟨2, ![144, n]⟩ 0 [⟨⟨2, ![128, n]⟩, v⟩, ⟨⟨2, ![16, n]⟩, broadcast ⟨2, ![16, n]⟩ (FloatOps.ofBits .bf16 0x3F80#16 : Ideal .bf16)⟩] hc)
        (truncf .bf16 p hb) (constant (F := Ideal) ⟨2, ![144, 512]⟩ .f32 0#32) (ix2 e' x)
      = ((∑ κ ∈ Finset.range n, pf κ : ℝ) : EReal) := by
  rw [matmul_real _ (truncf .bf16 p hb) (fun _ => 1) pf e' x (fun κ => ?_) hp]
  · simp only [one_mul]
  · rw [concatenate_pair_apply_right (s₁ := ⟨2, ![128, n]⟩) (s₂ := ⟨2, ![16, n]⟩) (0 : Fin 2) _ _ hc (ix2 e' κ) rfl rfl (ix2 (0 : Fin 16) κ) (by
      intro b hb; match b with
      | ⟨0, _⟩ => exact absurd rfl hb
      | ⟨1, _⟩ => rfl) (by show 0 + 128 = e'.val; omega)]
    show Ideal.ofBits .bf16 0x3F80#16 = _
    simp [Ideal.ofBits, Ideal.ieee, -EReal.coe_mul]; norm_num

/-- The exponentials of a block against a row of shifts. -/
theorem exps_apply {n : ℕ} (s : FVec Ideal ⟨2, ![n, 512]⟩ .f32) (m : FVec Ideal ⟨2, ![1, 512]⟩ .f32)
    (hb : (⟨2, ![1, 512]⟩ : Shape).Broadcasts ⟨2, ![n, 512]⟩) (keep : Prop) [Decidable keep] (S M : ℝ) (κ : Fin n) (x : Fin 512)
    (hs : s (ix2 κ x) = if keep then (S : EReal) else ⊥) (hm : m (ix2 (0 : Fin 1) x) = (M : EReal)) :
    exp2 (subf s (broadcastTo ⟨2, ![n, 512]⟩ m hb)) (ix2 κ x) = ((if keep then (2 : ℝ) ^ (S - M) else 0 : ℝ) : EReal) := by
  show Ideal.exp2 (s (ix2 κ x) - broadcastTo ⟨2, ![n, 512]⟩ m hb (ix2 κ x)) = _
  rw [broadcastTo_1b_ab_apply, hs, hm]
  by_cases h : keep
  · rw [if_pos h, if_pos h, ← EReal.coe_sub, exp2_coe]
  · rw [if_neg h, if_neg h, EReal.bot_sub, exp2_bot, EReal.coe_zero]

end Cert.KernelIdeal.Attn
-- ==== Proof.Heads.lean ====
/-
  One head of a step, over the real numbers: the running maximum, the sum of exponentials and the weighted values after the
  keys of the tile's own block, and after one earlier block more.
-/
module

public import proofs.«01_k».proof.Proof.Ops

@[expose] public section

set_option maxRecDepth 16384

noncomputable section

namespace Cert.KernelIdeal.Attn

open Idealize.ShloMosaic Idealize.ShloMosaic.ValueIdx

/-- The real numbers a step reads: queries by feature and column, keys by number and feature, values by number and feature,
    a slope per head, and the number of the query tile. -/
structure Data where
  qr : ℕ → ℕ → ℝ
  kr : ℕ → ℕ → ℝ
  vr : ℕ → ℕ → ℝ
  sl : ℕ → ℝ
  qi : ℕ

/-- The reciprocal of the natural logarithm of two. -/
abbrev L2 : ℝ := (Real.log 2)⁻¹

variable (D : Data)

/-- The score of key `K` in column `x`, the key's position counted from its block. -/
def raw (h K x : ℕ) : ℝ :=
  (∑ t ∈ Finset.range 64, D.kr K (h * 128 + x / 256 * 64 + t) * D.qr (h * 128 + x / 256 * 64 + t) (x % 256))
    + D.sl h * ((K % 1024 : ℕ) : ℝ) * L2

/-- What a block's scores miss: the distance from the query tile to the block. -/
def dist (h B : ℕ) : ℝ := D.sl h * L2 * ((B * 1024 : ℕ) - (D.qi * 256 : ℕ) : ℝ)

/-- The score of key `K` in column `x`. -/
def score (h K x : ℕ) : ℝ := raw D h K x + dist D h (K / 1024)

/-- The last key that column `x` sees. -/
def last (x : ℕ) : ℕ := D.qi * 256 + x % 256

/-- Column `x`'s running maximum, sum and weighted values over the keys `P`. -/
def Good (h : ℕ) (P : Finset ℕ) (m l : FVec Ideal ⟨2, ![1, 512]⟩ .f32) (acc : FVec Ideal ⟨2, ![128, 512]⟩ .f32) (x : Fin 512) : Prop :=
  ∃ M : ℝ, m (ix2 (0 : Fin 1) x) = (M : EReal)
    ∧ l (ix2 (0 : Fin 1) x) = ((∑ K ∈ P, (2 : ℝ) ^ (score D h K x - M) : ℝ) : EReal)
    ∧ ∀ e : Fin 128, acc (ix2 e x) = ((∑ K ∈ P, D.vr K (h * 128 + e) * (2 : ℝ) ^ (score D h K x - M) : ℝ) : EReal)

/-- A sum over the rows of a block of the terms kept. -/
theorem sum_keep (n K0 b : ℕ) (f : ℕ → ℝ) (h0 : K0 ≤ b) (hb : b < K0 + n) :
    ∑ κ ∈ Finset.range n, (if K0 + κ ≤ b then f (K0 + κ) else 0) = ∑ K ∈ Finset.Ico K0 (b + 1), f K := by
  rw [Finset.sum_Ico_eq_sum_range, ← Finset.sum_filter]
  refine Finset.sum_congr ?_ fun _ _ => rfl
  ext κ; simp only [Finset.mem_filter, Finset.mem_range]; omega

/-- A selection by the comparison with zero. -/
theorem select_ole {p : Prop} [Decidable p] (r a b : EReal) (h : r ≤ 0 ↔ p) :
    Scalar.select (Ideal.cmp .ole r 0) a b = if p then a else b := by
  by_cases hp : p
  · rw [if_pos hp, show Ideal.cmp .ole r 0 = 1#1 from congrArg BitVec.ofBool (decide_eq_true (h.2 hp))]; rfl
  · rw [if_neg hp, show Ideal.cmp .ole r 0 = 0#1 from congrArg BitVec.ofBool (decide_eq_false fun q => hp (h.1 q))]; rfl

/-- A block, masked where the key comes after the query. -/
theorem mask_apply {n n0 : ℕ} (hn : n = n0 + 256) (s : FVec Ideal ⟨2, ![n, 512]⟩ .f32) (rel : FVec Ideal ⟨2, ![256, 512]⟩ .f32) (mk : Ideal .f32)
    (h₁ : (⟨2, ![256, 512]⟩ : Shape).ShapeCasts ⟨2, ![256, 512]⟩)
    (h₂ : (⟨2, ![n, 512]⟩ : Shape).Slices ![n0, 0] ⟨2, ![256, 512]⟩) (h₃ : (⟨2, ![n, 512]⟩ : Shape).Slices ![0, 0] ⟨2, ![n0, 512]⟩)
    (hc : Shape.Concatenates [⟨2, ![n0, 512]⟩, ⟨2, ![256, 512]⟩] ⟨2, ![n, 512]⟩ 0)
    (S : ℕ → ℝ) (κ : Fin n) (x : Fin 512) (hm : mk = (⊥ : EReal))
    (hr : ∀ κ : Fin 256, rel (ix2 κ x) = (((κ.val : ℝ) - ((x.val % 256 : ℕ) : ℝ) : ℝ) : EReal))
    (hs : ∀ κ : Fin n, s (ix2 κ x) = (S κ.val : EReal)) :
    concatenate ⟨2, ![n, 512]⟩ 0 [⟨⟨2, ![n0, 512]⟩, extractStridedSlice ⟨2, ![n0, 512]⟩ ![0, 0] s h₃⟩,
        ⟨⟨2, ![256, 512]⟩, select (cmpf .ole (shapeCast ⟨2, ![256, 512]⟩ rel h₁) (broadcast ⟨2, ![256, 512]⟩ (Scalar.ofBits (F := Ideal) .f32 0#32)))
          (extractStridedSlice ⟨2, ![256, 512]⟩ ![n0, 0] s h₂) (broadcast ⟨2, ![256, 512]⟩ mk)⟩] hc (ix2 κ x)
      = if κ.val ≤ n0 + x.val % 256 then (S κ.val : EReal) else ⊥ := by
  by_cases hk : κ.val < n0
  · rw [concatenate_pair_apply_left (s₁ := ⟨2, ![n0, 512]⟩) (0 : Fin 2) _ _ hc (ix2 κ x) rfl (ix2 ⟨κ.val, hk⟩ x) (by
      intro b; match b with
      | ⟨0, _⟩ => rfl
      | ⟨1, _⟩ => rfl), if_pos (by omega), slice2_axis0_apply 0 s h₃ ⟨κ.val, hk⟩ x κ (Nat.zero_add _).symm, hs]
  · have hk' : κ.val - n0 < 256 := by have := κ.isLt; omega
    rw [concatenate_pair_apply_right (s₁ := ⟨2, ![n0, 512]⟩) (s₂ := ⟨2, ![256, 512]⟩) (0 : Fin 2) _ _ hc (ix2 κ x) rfl rfl (ix2 ⟨κ.val - n0, hk'⟩ x) (by
      intro b hb; match b with
      | ⟨0, _⟩ => exact absurd rfl hb
      | ⟨1, _⟩ => rfl) (by show κ.val - n0 + n0 = κ.val; omega)]
    show Scalar.select (FloatOps.cmpf .ole _ _) _ _ = _
    rw [shapeCast_self, hr, slice2_axis0_apply n0 s h₂ ⟨κ.val - n0, hk'⟩ x κ (by show κ.val = n0 + (κ.val - n0); omega), hs]
    show Scalar.select (Ideal.cmp .ole _ (Ideal.ofBits .f32 0#32)) _ mk = _
    rw [Ideal.ofBits_zero_f32, hm]
    have e : (((((κ.val - n0 : ℕ) : ℝ) - ((x.val % 256 : ℕ) : ℝ) : ℝ) : EReal) ≤ 0) ↔ κ.val ≤ n0 + x.val % 256 := by
      rw [← EReal.coe_zero, EReal.coe_le_coe_iff, sub_nonpos, Nat.cast_le]; omega
    exact select_ole _ _ _ e

/-- The first block of a row, masked. -/
theorem mask0_apply (s : FVec Ideal ⟨2, ![256, 512]⟩ .f32) (rel : FVec Ideal ⟨2, ![256, 512]⟩ .f32) (mk : Ideal .f32)
    (h₁ : (⟨2, ![256, 512]⟩ : Shape).ShapeCasts ⟨2, ![256, 512]⟩)
    (S : ℕ → ℝ) (κ : Fin 256) (x : Fin 512) (hm : mk = (⊥ : EReal))
    (hr : ∀ κ : Fin 256, rel (ix2 κ x) = (((κ.val : ℝ) - ((x.val % 256 : ℕ) : ℝ) : ℝ) : EReal))
    (hs : ∀ κ : Fin 256, s (ix2 κ x) = (S κ.val : EReal)) :
    select (cmpf .ole (shapeCast ⟨2, ![256, 512]⟩ rel h₁) (broadcast ⟨2, ![256, 512]⟩ (Scalar.ofBits (F := Ideal) .f32 0#32)))
          s (broadcast ⟨2, ![256, 512]⟩ mk) (ix2 κ x)
      = if κ.val ≤ 0 + x.val % 256 then (S κ.val : EReal) else ⊥ := by
  show Scalar.select (FloatOps.cmpf .ole _ _) _ _ = _
  rw [shapeCast_self, hr, hs]
  show Scalar.select (Ideal.cmp .ole _ (Ideal.ofBits .f32 0#32)) _ mk = _
  rw [Ideal.ofBits_zero_f32, hm]
  have e : ((((κ.val : ℝ) - ((x.val % 256 : ℕ) : ℝ) : ℝ) : EReal) ≤ 0) ↔ κ.val ≤ 0 + x.val % 256 := by
    rw [← EReal.coe_zero, EReal.coe_le_coe_iff, sub_nonpos, Nat.cast_le]; omega
  exact select_ole _ _ _ e

/-- What a block's product with values and ones holds, the scores taken against a shift. -/
def Sums (h : ℕ) (Q : Finset ℕ) (pv : FVec Ideal ⟨2, ![144, 512]⟩ .f32) (x : Fin 512) (S : ℝ) : Prop :=
  (∀ (e : Fin 128) (e' : Fin 144), e'.val = e.val → pv (ix2 e' x) = ((∑ K ∈ Q, D.vr K (h * 128 + e) * (2 : ℝ) ^ (raw D h K x - S) : ℝ) : EReal))
    ∧ ∀ e' : Fin 144, e'.val = 128 → pv (ix2 e' x) = ((∑ K ∈ Q, (2 : ℝ) ^ (raw D h K x - S) : ℝ) : EReal)

/-- The product of a block, of its keys up to `b`. -/
theorem sums_block {n : ℕ} (h K0 b : ℕ) (v : FVec Ideal ⟨2, ![128, n]⟩ .bf16) (s : FVec Ideal ⟨2, ![n, 512]⟩ .f32) (m : FVec Ideal ⟨2, ![1, 512]⟩ .f32)
    (hb : (⟨2, ![1, 512]⟩ : Shape).Broadcasts ⟨2, ![n, 512]⟩)
    (hc : Shape.Concatenates [⟨2, ![128, n]⟩, ⟨2, ![16, n]⟩] ⟨2, ![144, n]⟩ 0) (hlt : FTy.bits .bf16 < FTy.bits .f32)
    (x : Fin 512) (S : ℝ) (hm : m (ix2 (0 : Fin 1) x) = (S : EReal)) (h0 : K0 ≤ b) (hbn : b < K0 + n)
    (hv : ∀ (e : Fin 128) (κ : Fin n), v (ix2 e κ) = (D.vr (K0 + κ) (h * 128 + e) : EReal))
    (hs : ∀ κ : Fin n, s (ix2 κ x) = if K0 + κ.val ≤ b then (raw D h (K0 + κ) x : EReal) else ⊥) :
    Sums D h (Finset.Ico K0 (b + 1)) (matmul (DotDims.plain 144 n 512) none
        (concatenate ⟨2, ![144, n]⟩ 0 [⟨⟨2, ![128, n]⟩, v⟩, ⟨⟨2, ![16, n]⟩, broadcast ⟨2, ![16, n]⟩ (FloatOps.ofBits .bf16 0x3F80#16 : Ideal .bf16)⟩] hc)
        (truncf .bf16 (exp2 (subf s (broadcastTo ⟨2, ![n, 512]⟩ m hb))) hlt) (constant (F := Ideal) ⟨2, ![144, 512]⟩ .f32 0#32)) x S := by
  have hp : ∀ κ : Fin n, exp2 (subf s (broadcastTo ⟨2, ![n, 512]⟩ m hb)) (ix2 κ x)
      = ((if K0 + κ.val ≤ b then (2 : ℝ) ^ (raw D h (K0 + κ) x - S) else 0 : ℝ) : EReal) := fun κ =>
    exps_apply s m hb _ _ _ κ x (hs κ) hm
  refine ⟨fun e e' he => ?_, fun e' he => ?_⟩
  · rw [pv_apply v _ hc hlt (fun κ => D.vr (K0 + κ) (h * 128 + e)) (fun κ => if K0 + κ ≤ b then (2 : ℝ) ^ (raw D h (K0 + κ) x - S) else 0) e e' he x (hv e) hp]
    rw [← sum_keep n K0 b (fun K => D.vr K (h * 128 + e) * (2 : ℝ) ^ (raw D h K x - S)) h0 hbn]
    congr 1
    refine Finset.sum_congr rfl fun κ _ => ?_
    split <;> simp
  · rw [pv_ones v _ hc hlt (fun κ => if K0 + κ ≤ b then (2 : ℝ) ^ (raw D h (K0 + κ) x - S) else 0) e' he x hp]
    rw [← sum_keep n K0 b (fun K => (2 : ℝ) ^ (raw D h K x - S)) h0 hbn]

/-- Two blocks' products added. -/
theorem sums_add (h : ℕ) (P Q : Finset ℕ) (hd : Disjoint P Q) (a b : FVec Ideal ⟨2, ![144, 512]⟩ .f32) (x : Fin 512) (S : ℝ)
    (ha : Sums D h P a x S) (hb : Sums D h Q b x S) : Sums D h (P ∪ Q) (addf a b) x S := by
  refine ⟨fun e e' he => ?_, fun e' he => ?_⟩
  · show a (ix2 e' x) + b (ix2 e' x) = _
    rw [ha.1 e e' he, hb.1 e e' he, Finset.sum_union hd, EReal.coe_add]
  · show a (ix2 e' x) + b (ix2 e' x) = _
    rw [ha.2 e' he, hb.2 e' he, Finset.sum_union hd, EReal.coe_add]

/-- The tile's own block: the state after it. -/
theorem diag_good {n : ℕ} (h B b : ℕ) (s : FVec Ideal ⟨2, ![n, 512]⟩ .f32) (d : FVec Ideal ⟨2, ![1, 512]⟩ .f32) (v : FVec Ideal ⟨2, ![128, n]⟩ .bf16)
    (hd : (⟨2, ![n, 512]⟩ : Shape).Reduces [0] ⟨1, ![512]⟩)
    (hf : FKind.Formats .f32) (hi : (0xFF800000#32 : BitVec FTy.f32.bits) = FKind.maximumf.neutral .f32 hf)
    (hsc : (⟨1, ![512]⟩ : Shape).ShapeCasts ⟨2, ![1, 512]⟩)
    (hb : (⟨2, ![1, 512]⟩ : Shape).Broadcasts ⟨2, ![n, 512]⟩)
    (hc : Shape.Concatenates [⟨2, ![128, n]⟩, ⟨2, ![16, n]⟩] ⟨2, ![144, n]⟩ 0) (hlt : FTy.bits .bf16 < FTy.bits .f32)
    (h₁ : (⟨2, ![144, 512]⟩ : Shape).Slices ![128, 0] ⟨2, ![1, 512]⟩) (h₂ : (⟨2, ![144, 512]⟩ : Shape).Slices ![0, 0] ⟨2, ![128, 512]⟩)
    (x : Fin 512) (h0 : B * 1024 ≤ b) (hbn : b < B * 1024 + n) (hn : n ≤ 1024)
    (hdd : d (ix2 (0 : Fin 1) x) = (dist D h B : EReal))
    (hv : ∀ (e : Fin 128) (κ : Fin n), v (ix2 e κ) = (D.vr (B * 1024 + κ) (h * 128 + e) : EReal))
    (hs : ∀ κ : Fin n, s (ix2 κ x) = if B * 1024 + κ.val ≤ b then (raw D h (B * 1024 + κ) x : EReal) else ⊥) :
    let m := addf (shapeCast ⟨2, ![1, 512]⟩ (multiReduction .maximumf [0] ⟨1, ![512]⟩ s 0xFF800000#32 hd hf hi) hsc) d
    let pv := (matmul (DotDims.plain 144 n 512) none
        (concatenate ⟨2, ![144, n]⟩ 0 [⟨⟨2, ![128, n]⟩, v⟩, ⟨⟨2, ![16, n]⟩, broadcast ⟨2, ![16, n]⟩ (FloatOps.ofBits .bf16 0x3F80#16 : Ideal .bf16)⟩] hc)
        (truncf .bf16 (exp2 (subf s (broadcastTo ⟨2, ![n, 512]⟩ (subf m d) hb))) hlt) (constant (F := Ideal) ⟨2, ![144, 512]⟩ .f32 0#32))
    Good D h (Finset.Ico (B * 1024) (b + 1)) m (extractStridedSlice ⟨2, ![1, 512]⟩ ![128, 0] pv h₁) (extractStridedSlice ⟨2, ![128, 512]⟩ ![0, 0] pv h₂) x := by
  intro m pv
  obtain ⟨C, hC⟩ := colmax_real s hd hf hi hsc x (fun κ => by rw [hs]; split <;> simp) ⟨0, by omega⟩ (by rw [hs, if_pos (by simpa using h0)]; simp)
  have hm : m (ix2 (0 : Fin 1) x) = ((C + dist D h B : ℝ) : EReal) := by
    show _ + d (ix2 (0 : Fin 1) x) = _
    rw [hC, hdd, EReal.coe_add]
  have hsh : subf m d (ix2 (0 : Fin 1) x) = (C : EReal) := by
    show m (ix2 (0 : Fin 1) x) - d (ix2 (0 : Fin 1) x) = _
    rw [hm, hdd, ← EReal.coe_sub, add_sub_cancel_right]
  have H : Sums D h (Finset.Ico (B * 1024) (b + 1)) pv x C := sums_block D h (B * 1024) b v s (subf m d) hb hc hlt x C hsh h0 hbn hv hs
  have hK : ∀ K ∈ Finset.Ico (B * 1024) (b + 1), raw D h K x - C = score D h K x - (C + dist D h B) := fun K hK => by
    have : K / 1024 = B := by have := Finset.mem_Ico.1 hK; omega
    rw [score, this]; ring
  refine ⟨_, hm, ?_, fun e => ?_⟩
  · rw [slice2_axis0_apply 128 pv h₁ 0 x ⟨128, by decide⟩ rfl, H.2 _ rfl]
    congr 1
    exact Finset.sum_congr rfl fun K h => by rw [hK K h]
  · rw [slice2_axis0_apply 0 pv h₂ e x ⟨e.val, by omega⟩ (Nat.zero_add _).symm, H.1 e ⟨e.val, by omega⟩ rfl]
    congr 1
    exact Finset.sum_congr rfl fun K h => by rw [hK K h]

/-- An earlier block: the state after it. -/
theorem absorb_good (h B : ℕ) (P : Finset ℕ) (m l cm d : FVec Ideal ⟨2, ![1, 512]⟩ .f32) (acc : FVec Ideal ⟨2, ![128, 512]⟩ .f32)
    (pv : FVec Ideal ⟨2, ![144, 512]⟩ .f32)
    (hb : (⟨2, ![1, 512]⟩ : Shape).Broadcasts ⟨2, ![128, 512]⟩)
    (h₁ : (⟨2, ![144, 512]⟩ : Shape).Slices ![128, 0] ⟨2, ![1, 512]⟩) (h₂ : (⟨2, ![144, 512]⟩ : Shape).Slices ![0, 0] ⟨2, ![128, 512]⟩)
    (x : Fin 512) (C : ℝ) (hC : cm (ix2 (0 : Fin 1) x) = (C : EReal)) (hdd : d (ix2 (0 : Fin 1) x) = (dist D h B : EReal))
    (hP : ∀ K ∈ P, K < B * 1024 ∨ (B + 1) * 1024 ≤ K)
    (hpv : ∀ S : ℝ, subf (maximumf m (addf cm d)) d (ix2 (0 : Fin 1) x) = (S : EReal) →
      Sums D h (Finset.Ico (B * 1024) ((B + 1) * 1024)) pv x S)
    (G : Good D h P m l acc x) :
    Good D h (P ∪ Finset.Ico (B * 1024) ((B + 1) * 1024)) (maximumf m (addf cm d))
      (addf (mulf (exp2 (subf m (maximumf m (addf cm d)))) l) (extractStridedSlice ⟨2, ![1, 512]⟩ ![128, 0] pv h₁))
      (addf (mulf (broadcastTo ⟨2, ![128, 512]⟩ (exp2 (subf m (maximumf m (addf cm d)))) hb) acc) (extractStridedSlice ⟨2, ![128, 512]⟩ ![0, 0] pv h₂)) x := by
  obtain ⟨M, hM, hl, ha⟩ := G
  have hm : maximumf m (addf cm d) (ix2 (0 : Fin 1) x) = ((max M (C + dist D h B) : ℝ) : EReal) := by
    show max (m (ix2 (0 : Fin 1) x)) (cm (ix2 (0 : Fin 1) x) + d (ix2 (0 : Fin 1) x)) = _
    rw [hM, hC, hdd, ← EReal.coe_add]; exact (EReal.coe_strictMono.monotone.map_max).symm
  generalize max M (C + dist D h B) = N at hm
  have hsh : subf (maximumf m (addf cm d)) d (ix2 (0 : Fin 1) x) = ((N - dist D h B : ℝ) : EReal) := by
    show maximumf m (addf cm d) (ix2 (0 : Fin 1) x) - d (ix2 (0 : Fin 1) x) = _
    rw [hm, hdd, EReal.coe_sub]
  have haa : exp2 (subf m (maximumf m (addf cm d))) (ix2 (0 : Fin 1) x) = (((2 : ℝ) ^ (M - N) : ℝ) : EReal) := by
    show Ideal.exp2 (m (ix2 (0 : Fin 1) x) - maximumf m (addf cm d) (ix2 (0 : Fin 1) x)) = _
    rw [hm, hM, ← EReal.coe_sub, exp2_coe]
  have H := hpv _ hsh
  have hK : ∀ K ∈ Finset.Ico (B * 1024) ((B + 1) * 1024), raw D h K x - (N - dist D h B) = score D h K x - N := fun K hK => by
    have : K / 1024 = B := by have := Finset.mem_Ico.1 hK; omega
    rw [score, this]; ring
  have hdis : Disjoint P (Finset.Ico (B * 1024) ((B + 1) * 1024)) := Finset.disjoint_left.2 fun K h1 h2 => by
    have := hP K h1; have := Finset.mem_Ico.1 h2; omega
  have hmul : ∀ K, (2 : ℝ) ^ (M - N) * (2 : ℝ) ^ (score D h K x - M) = (2 : ℝ) ^ (score D h K x - N) := fun K => by
    rw [← Real.rpow_add (by norm_num)]; congr 1; ring
  refine ⟨N, hm, ?_, fun e => ?_⟩
  · show exp2 (subf m (maximumf m (addf cm d))) (ix2 (0 : Fin 1) x) * l (ix2 (0 : Fin 1) x) + extractStridedSlice ⟨2, ![1, 512]⟩ ![128, 0] pv h₁ (ix2 (0 : Fin 1) x) = _
    rw [haa, hl, slice2_axis0_apply 128 pv h₁ 0 x ⟨128, by decide⟩ rfl, H.2 _ rfl, ← EReal.coe_mul, ← EReal.coe_add, Finset.sum_union hdis, Finset.mul_sum]
    congr 2
    · exact Finset.sum_congr rfl fun K _ => hmul K
    · exact Finset.sum_congr rfl fun K h => by rw [hK K h]
  · show broadcastTo ⟨2, ![128, 512]⟩ (exp2 (subf m (maximumf m (addf cm d)))) hb (ix2 e x) * acc (ix2 e x) + extractStridedSlice ⟨2, ![128, 512]⟩ ![0, 0] pv h₂ (ix2 e x) = _
    rw [broadcastTo_1b_ab_apply, haa, ha, slice2_axis0_apply 0 pv h₂ e x ⟨e.val, by omega⟩ (Nat.zero_add _).symm, H.1 e ⟨e.val, by omega⟩ rfl, ← EReal.coe_mul, ← EReal.coe_add, Finset.sum_union hdis, Finset.mul_sum]
    congr 2
    · exact Finset.sum_congr rfl fun K _ => by rw [← hmul K]; ring
    · exact Finset.sum_congr rfl fun K h => by rw [hK K h]

end Cert.KernelIdeal.Attn
-- ==== Proof.Attend.lean ====
/-
  Differential attention over the real numbers, as both programs are shown to compute it: causal scores with a linear bias,
  the weighted mean of the values of each of the two branches, their difference normalised over the features of a head.
-/
module

public import proofs.«01_k».proof.Proof.Heads

@[expose] public section

set_option maxRecDepth 16384

noncomputable section

namespace Cert.Attend

open Idealize.ShloMosaic Idealize.ShloMosaic.ValueIdx
open Cert.KernelIdeal.Attn (Data L2 raw score last Good sum_coe)

/-- The arguments as real numbers: queries, keys and values by batch, row and feature, and the weight of the second branch. -/
structure Inp where
  q : ℕ → ℕ → ℕ → ℝ
  k : ℕ → ℕ → ℕ → ℝ
  v : ℕ → ℕ → ℕ → ℝ
  lam : ℝ

/-- Head `H`'s slope. -/
def slope (H : ℕ) : ℝ := ((2 : ℝ) ^ (H + 1))⁻¹

variable (I : Inp)

/-- The score of key `K` for query `Q` in branch `j` of head `H`. -/
def sc (b H j Q K : ℕ) : ℝ :=
  (∑ t ∈ Finset.range 64, I.q b Q (H * 128 + j * 64 + t) * I.k b K (H * 128 + j * 64 + t)) * 8⁻¹ + slope H * ((K : ℝ) - (Q : ℝ))

/-- The mean of feature `e` of the values of the keys up to the query, weighted by the exponentials of the scores. -/
def att (b H j e Q : ℕ) : ℝ :=
  (∑ K ∈ Finset.Ico 0 (Q + 1), I.v b K (H * 128 + e) * Real.exp (sc I b H j Q K)) / ∑ K ∈ Finset.Ico 0 (Q + 1), Real.exp (sc I b H j Q K)

/-- The difference of the two branches. -/
def ot (b H Q e : ℕ) : ℝ := att I b H 0 e Q - I.lam * att I b H 1 e Q

/-- A head's result: normalised over its features, scaled. -/
def fin (o : ℕ → ℝ) (g : EReal) (e : ℕ) : EReal :=
  (((o e : ℝ) : EReal) * Ideal.rsqrt (Ideal.div (∑ k : Fin 128, ((o k.val : ℝ) : EReal) * ((o k.val : ℝ) : EReal)) (Ideal.ofBits .f32 1124073472#32)
    + Ideal.ofBits .f32 925353388#32) * g) * Ideal.ofBits .f32 1061997773#32

/-- The weighted mean does not change when all scores move by one number. -/
theorem att_shift (b H j e Q : ℕ) (w : ℕ → ℝ) (a : ℝ) (hw : ∀ K, K ≤ Q → w K = Real.exp (sc I b H j Q K + a)) :
    (∑ K ∈ Finset.Ico 0 (Q + 1), I.v b K (H * 128 + e) * w K) / (∑ K ∈ Finset.Ico 0 (Q + 1), w K) = att I b H j e Q := by
  have e1 : ∑ K ∈ Finset.Ico 0 (Q + 1), w K = (∑ K ∈ Finset.Ico 0 (Q + 1), Real.exp (sc I b H j Q K)) * Real.exp a := by
    rw [Finset.sum_mul]
    refine Finset.sum_congr rfl fun K hK => ?_
    rw [hw K (by have := Finset.mem_Ico.1 hK; omega), Real.exp_add]
  have e2 : ∑ K ∈ Finset.Ico 0 (Q + 1), I.v b K (H * 128 + e) * w K = (∑ K ∈ Finset.Ico 0 (Q + 1), I.v b K (H * 128 + e) * Real.exp (sc I b H j Q K)) * Real.exp a := by
    rw [Finset.sum_mul]
    refine Finset.sum_congr rfl fun K hK => ?_
    rw [hw K (by have := Finset.mem_Ico.1 hK; omega), Real.exp_add]; ring
  rw [e1, e2, mul_div_mul_right _ _ (Real.exp_pos a).ne']; rfl

/-- What a step of the kernel reads, of batch `b`, head pair `hp` and query tile `qi`. -/
def dataOf (b hp qi : ℕ) : Data where
  qr f c := I.q b (qi * 256 + c) (hp * 256 + f) * (8⁻¹ * L2)
  kr K f := I.k b K (hp * 256 + f)
  vr K f := I.v b K (hp * 256 + f)
  sl h := slope (2 * hp + h)
  qi := qi

/-- A power of two of the kernel's score is the exponential of the score, moved. -/
theorem pow_score (b hp qi h K x : ℕ) (M : ℝ) :
    (2 : ℝ) ^ (score (dataOf I b hp qi) h K x - M)
      = Real.exp (sc I b (2 * hp + h) (x / 256) (qi * 256 + x % 256) K + (slope (2 * hp + h) * (x % 256 : ℕ) - Real.log 2 * M)) := by
  rw [Real.rpow_def_of_pos (by norm_num)]
  congr 1
  have hl : Real.log 2 ≠ 0 := (Real.log_pos (by norm_num)).ne'
  have hK : ((K : ℕ) : ℝ) = ((K / 1024 * 1024 : ℕ) : ℝ) + ((K % 1024 : ℕ) : ℝ) := by
    rw [← Nat.cast_add, Nat.div_add_mod']
  have hs : (∑ t ∈ Finset.range 64, (dataOf I b hp qi).kr K (h * 128 + x / 256 * 64 + t) * (dataOf I b hp qi).qr (h * 128 + x / 256 * 64 + t) (x % 256))
      = (∑ t ∈ Finset.range 64, I.q b (qi * 256 + x % 256) ((2 * hp + h) * 128 + x / 256 * 64 + t) * I.k b K ((2 * hp + h) * 128 + x / 256 * 64 + t)) * 8⁻¹ * L2 := by
    rw [Finset.sum_mul, Finset.sum_mul]
    refine Finset.sum_congr rfl fun t _ => ?_
    show I.k b K (hp * 256 + (h * 128 + x / 256 * 64 + t)) * (I.q b (qi * 256 + x % 256) (hp * 256 + (h * 128 + x / 256 * 64 + t)) * (8⁻¹ * L2)) = _
    rw [show hp * 256 + (h * 128 + x / 256 * 64 + t) = (2 * hp + h) * 128 + x / 256 * 64 + t by ring]
    ring
  unfold score raw Cert.KernelIdeal.Attn.dist sc
  rw [hs]
  show Real.log 2 * (_ * 8⁻¹ * (Real.log 2)⁻¹ + slope (2 * hp + h) * ((K % 1024 : ℕ) : ℝ) * (Real.log 2)⁻¹
    + slope (2 * hp + h) * (Real.log 2)⁻¹ * (((K / 1024 * 1024 : ℕ) : ℝ) - ((qi * 256 : ℕ) : ℝ)) - M) = _
  rw [hK]
  push_cast
  field_simp
  ring

/-- A column of a head that is done, divided. -/
theorem good_div (b hp qi h : ℕ) (m l : FVec Ideal ⟨2, ![1, 512]⟩ .f32) (acc : FVec Ideal ⟨2, ![128, 512]⟩ .f32) (x : Fin 512)
    (G : Good (dataOf I b hp qi) h (Finset.Ico 0 (last (dataOf I b hp qi) x + 1)) m l acc x) (e : Fin 128) :
    Ideal.div (acc (ix2 e x)) (l (ix2 (0 : Fin 1) x)) = ((att I b (2 * hp + h) (x.val / 256) e.val (qi * 256 + x.val % 256) : ℝ) : EReal) := by
  obtain ⟨M, -, hl, ha⟩ := G
  have hpos : 0 < ∑ K ∈ Finset.Ico 0 (last (dataOf I b hp qi) x + 1), (2 : ℝ) ^ (score (dataOf I b hp qi) h K x - M) :=
    Finset.sum_pos (fun K _ => Real.rpow_pos_of_pos (by norm_num) _) ⟨0, Finset.mem_Ico.2 ⟨le_rfl, Nat.succ_pos _⟩⟩
  rw [hl, ha e, Ideal.div_coe hpos.ne', ← EReal.coe_mul, mul_one_div]
  congr 1
  have hv : ∀ K, (dataOf I b hp qi).vr K (h * 128 + e.val) = I.v b K ((2 * hp + h) * 128 + e.val) := fun K => by
    show I.v b K (hp * 256 + (h * 128 + e.val)) = _
    rw [show hp * 256 + (h * 128 + e.val) = (2 * hp + h) * 128 + e.val by ring]
  simp only [hv]
  exact att_shift I b (2 * hp + h) (x.val / 256) e.val (qi * 256 + x.val % 256) (fun K => (2 : ℝ) ^ (score (dataOf I b hp qi) h K x - M)) _
    (fun K _ => pow_score I b hp qi h K x M)

end Cert.Attend
-- ==== Proof.Host.lean ====
/-
  What the host code before the kernel hands it, element by element.
-/
module

public import proofs.«01_k».proof.Proof.Gen.KernelIdeal.Frame
public import proofs.«01_k».proof.Proof.Attend
public import Idealize.ShloMosaic.Lib.StableHlo.RunRead
public import Idealize.ShloMosaic.Lib.ValueIdx
public import Idealize.ShloMosaic.Lib.IdealHost

@[expose] public section

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (c : Dev nD)

abbrev A0 : FVec Ideal S2x8192x1024 .f32 := m ((c : Thread nD τ).loc main_arg0)
abbrev A1 : FVec Ideal S2x8192x1024 .f32 := m ((c : Thread nD τ).loc main_arg1)
abbrev A2 : FVec Ideal S2x8192x1024 .f32 := m ((c : Thread nD τ).loc main_arg2)
abbrev A3 : FVec Ideal S1x64 .f32 := m ((c : Thread nD τ).loc main_arg3)
abbrev A4 : FVec Ideal S1x64 .f32 := m ((c : Thread nD τ).loc main_arg4)
abbrev A5 : FVec Ideal S1x64 .f32 := m ((c : Thread nD τ).loc main_arg5)
abbrev A6 : FVec Ideal S1x64 .f32 := m ((c : Thread nD τ).loc main_arg6)
abbrev A7 : FVec Ideal S1x128 .f32 := m ((c : Thread nD τ).loc main_arg7)

theorem V_q : (V m c main_v6 : FVec Ideal S2x32x1024x256 .bf16) = truncf .bf16 (transpose S2x32x1024x256 [0, 1, 3, 2]
    (shapeCast S2x32x256x1024 (mulf (A0 m c) (broadcastInDim S2x8192x1024 ![] bcast_S_S2x8192x1024 (Host.divf (constant (F := Ideal) S_ .f32 0x3E000000#32) (Host.log (constant (F := Ideal) S_ .f32 0x40000000#32)))))
      shapeCasts_S2x8192x1024_S2x32x256x1024) transposes_S2x32x256x1024_S2x32x1024x256_0_1_3_2) bitsLt_bf16_f32 := by
  after_reads_simp
  rfl

theorem V_k : (V m c main_v22 : FVec Ideal S2x8x1024x1024 .bf16) = shapeCast S2x8x1024x1024 (truncf .bf16 (A1 m c) bitsLt_bf16_f32) shapeCasts_S2x8192x1024_S2x8x1024x1024 := by
  after_reads_simp
  rfl

theorem V_v : (V m c main_v10 : FVec Ideal S2x32x1024x256 .bf16) = truncf .bf16 (transpose S2x32x1024x256 [0, 1, 3, 2]
    (shapeCast S2x32x256x1024 (A2 m c) shapeCasts_S2x8192x1024_S2x32x256x1024) transposes_S2x32x256x1024_S2x32x1024x256_0_1_3_2) bitsLt_bf16_f32 := by
  after_reads_simp
  rfl

theorem V_lam : (V m c main_v19 : FVec Ideal S4x64 .f32) = concatenate S4x64 0
    [⟨S1x64, broadcastInDim S1x64 ![1] bcast_S64_S1x64_1 (shapeCast S64 (A3 m c) shapeCasts_S1x64_S64)⟩,
     ⟨S1x64, broadcastInDim S1x64 ![1] bcast_S64_S1x64_1 (shapeCast S64 (A4 m c) shapeCasts_S1x64_S64)⟩,
     ⟨S1x64, broadcastInDim S1x64 ![1] bcast_S64_S1x64_1 (shapeCast S64 (A5 m c) shapeCasts_S1x64_S64)⟩,
     ⟨S1x64, broadcastInDim S1x64 ![1] bcast_S64_S1x64_1 (shapeCast S64 (A6 m c) shapeCasts_S1x64_S64)⟩] concatenates_S1x64_S1x64_S1x64_S1x64_S4x64_d0 := by
  after_reads_simp
  rfl

theorem V_g : (V m c main_v21 : FVec Ideal S1x128 .f32) = shapeCast S1x128 (shapeCast S128 (A7 m c) shapeCasts_S1x128_S128) shapeCasts_S128_S1x128 := by
  after_reads_simp
  rfl

/-- The digits of a key's position, by lane, as the host code makes them. -/
def digits : IVec S8x1024x128 32 :=
  let lane : IVec S8x1024x128 32 := iotaInDim S8x1024x128 32 2
  let key : IVec S8x1024x128 32 := iotaInDim S8x1024x128 32 1
  let low := andi key (broadcastInDim S8x1024x128 ![] bcast_S_S8x1024x128 (constantI S_ 32 255#32))
  select (cmpi .slt lane (broadcastInDim S8x1024x128 ![] bcast_S_S8x1024x128 (constantI S_ 32 4#32))) (subi key low)
    (select (cmpi .slt lane (broadcastInDim S8x1024x128 ![] bcast_S_S8x1024x128 (constantI S_ 32 8#32))) low
      (broadcastInDim S8x1024x128 ![] bcast_S_S8x1024x128 (constantI S_ 32 0#32)))

/-- The slopes as literals. -/
def slopes : FVec Ideal S8 .f32 := fun i => FloatOps.ofBits (F := Ideal) .f32 (lit0 (S8.rowMajor i))

theorem V_pos : (V m c main_v38 : FVec Ideal S8x1024x128 .bf16) = truncf .bf16 (mulf (broadcastInDim S8x1024x128 ![0, 1, 2] bcast_S8x1x1_S8x1024x128_0_1_2
    (broadcastInDim S8x1x1 ![0] bcast_S8_S8x1x1_0 slopes)) (sitofp (F := Ideal) .f32 digits)) bitsLt_bf16_f32 := by
  after_reads_simp
  rfl

theorem V_rel : (V m c main_v44 : FVec Ideal S256x512 .f32) = sitofp (F := Ideal) .f32 (subi (iotaInDim S256x512 32 0) (andi (iotaInDim S256x512 32 1) (broadcastInDim S256x512 ![] bcast_S_S256x512 (constantI S_ 32 255#32)))) := by
  after_reads_simp

theorem V_slope : (V m c main_v49 : FVec Ideal S8x1x512 .f32) = broadcastInDim S8x1x512 ![0, 1, 2] bcast_S8x1x1_S8x1x512_0_1_2
    (broadcastInDim S8x1x1 ![0] bcast_S8_S8x1x1_0 (Host.divf slopes (broadcastInDim S8 ![] bcast_S_S8 (Host.log (constant (F := Ideal) S_ .f32 0x40000000#32))))) := by
  after_reads_simp
  rfl

end Cert.KernelIdeal.Whole
-- ==== Proof.Inputs.lean ====
/-
  The arguments of the two programs as real numbers, and the constants both of them write.
-/
module

public import proofs.«01_k».proof.Proof.Attend
public import Idealize.ShloMosaic.Lib.ValueIdx
public import Idealize.ShloMosaic.Lib.IdealHost

@[expose] public section

set_option maxRecDepth 16384

noncomputable section

namespace Cert.Attend

open Idealize.ShloMosaic Idealize.ShloMosaic.ValueIdx
open Cert.KernelIdeal.Attn (sum_coe)

/-- Every element is a real number. -/
def IsReal {s : Shape} (A : FVec Ideal s .f32) : Prop := ∀ j, A j = (((A j).toReal : ℝ) : EReal)

/-- An element of an argument as a real number, by batch, row and feature. -/
def re3 (A : FVec Ideal ⟨3, ![2, 8192, 1024]⟩ .f32) (b r f : ℕ) : ℝ :=
  if h : b < 2 ∧ r < 8192 ∧ f < 1024 then (A (ix3 ⟨b, h.1⟩ ⟨r, h.2.1⟩ ⟨f, h.2.2⟩)).toReal else 0

theorem re3_eq (A : FVec Ideal ⟨3, ![2, 8192, 1024]⟩ .f32) (hA : IsReal A) (b : Fin 2) (r : Fin 8192) (f : Fin 1024) :
    A (ix3 b r f) = ((re3 A b.val r.val f.val : ℝ) : EReal) := by
  rw [re3, dif_pos ⟨b.isLt, r.isLt, f.isLt⟩]; exact hA _

/-- The same at an index of any form. -/
theorem re3_at (A : FVec Ideal ⟨3, ![2, 8192, 1024]⟩ .f32) (hA : IsReal A) (j : Shape.Idx ⟨3, ![2, 8192, 1024]⟩) (b r f : ℕ)
    (h0 : (j 0).val = b) (h1 : (j 1).val = r) (h2 : (j 2).val = f) : A j = ((re3 A b r f : ℝ) : EReal) := by
  subst h0 h1 h2
  have e : j = ix3 (j 0) (j 1) (j 2) := by
    funext a
    match a with
    | ⟨0, _⟩ => rfl
    | ⟨1, _⟩ => rfl
    | ⟨2, _⟩ => rfl
  exact (congrArg A e).trans (re3_eq A hA (j 0) (j 1) (j 2))

/-- The weight of the second branch. -/
def lamOf (a3 a4 a5 a6 : FVec Ideal ⟨2, ![1, 64]⟩ .f32) : ℝ :=
  Real.exp (∑ t : Fin 64, (a3 (ix2 0 t)).toReal * (a4 (ix2 0 t)).toReal) - Real.exp (∑ t : Fin 64, (a5 (ix2 0 t)).toReal * (a6 (ix2 0 t)).toReal)
    + (Ideal.ofBits .f32 0x3E4CCCCD#32).toReal

/-- The arguments as real numbers. -/
def inpOf (a0 a1 a2 : FVec Ideal ⟨3, ![2, 8192, 1024]⟩ .f32) (a3 a4 a5 a6 : FVec Ideal ⟨2, ![1, 64]⟩ .f32) : Inp where
  q := re3 a0
  k := re3 a1
  v := re3 a2
  lam := lamOf a3 a4 a5 a6

/-- The gains of the normalisation, by feature. -/
def gainOf (a7 : FVec Ideal ⟨2, ![1, 128]⟩ .f32) (e : ℕ) : EReal := if h : e < 128 then a7 (ix2 0 ⟨e, h⟩) else 0

theorem gainOf_eq (a7 : FVec Ideal ⟨2, ![1, 128]⟩ .f32) (e : Fin 128) : gainOf a7 e.val = a7 (ix2 0 e) := dif_pos e.isLt

theorem c_zero : Ideal.ofBits .f32 0x00000000#32 = ((0 : ℝ) : EReal) := by rw [Ideal.ofBits_zero_f32]; rfl
theorem c_bot : Ideal.ofBits .f32 0xFF800000#32 = ⊥ := by simp [Ideal.ofBits, Ideal.ieee, -EReal.coe_mul]
theorem c_top : Ideal.ofBits .f32 0x7F800000#32 = ⊤ := by simp [Ideal.ofBits, Ideal.ieee, -EReal.coe_mul]
theorem c_one : Ideal.ofBits .f32 0x3F800000#32 = ((1 : ℝ) : EReal) := by
  simp [Ideal.ofBits, Ideal.ieee, -EReal.coe_mul] <;> norm_num
theorem c_two : Ideal.ofBits .f32 0x40000000#32 = ((2 : ℝ) : EReal) := by
  simp [Ideal.ofBits, Ideal.ieee, -EReal.coe_mul] <;> norm_num
theorem c_eight : Ideal.ofBits .f32 0x41000000#32 = ((8 : ℝ) : EReal) := by
  simp [Ideal.ofBits, Ideal.ieee, -EReal.coe_mul] <;> norm_num
theorem c_neg_eight : Ideal.ofBits .f32 0xC1000000#32 = ((-8 : ℝ) : EReal) := by
  simp [Ideal.ofBits, Ideal.ieee, -EReal.coe_mul] <;> norm_num
theorem c_eighth : Ideal.ofBits .f32 0x3E000000#32 = ((8⁻¹ : ℝ) : EReal) := by
  simp [Ideal.ofBits, Ideal.ieee, -EReal.coe_mul]
  norm_num
theorem c_fifth : Ideal.ofBits .f32 0x3E4CCCCD#32 = (((Ideal.ofBits .f32 0x3E4CCCCD#32).toReal : ℝ) : EReal) := by
  have : ∃ r : ℝ, Ideal.ofBits .f32 0x3E4CCCCD#32 = (r : EReal) := by
    simp only [Ideal.ofBits, Ideal.ieee]
    exact ⟨_, by norm_num [-EReal.coe_mul]; rfl⟩
  obtain ⟨r, hr⟩ := this
  rw [hr]; rfl

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem log_two_ne : Real.log 2 ≠ 0 := (Real.log_pos (by norm_num)).ne'

/-- The weight of the second branch from the argument's elements. -/
theorem lam_eq (a3 a4 a5 a6 : FVec Ideal ⟨2, ![1, 64]⟩ .f32) (h3 : IsReal a3) (h4 : IsReal a4) (h5 : IsReal a5) (h6 : IsReal a6) :
    Ideal.exp (∑ t : Fin 64, a3 (ix2 0 t) * a4 (ix2 0 t)) - Ideal.exp (∑ t : Fin 64, a5 (ix2 0 t) * a6 (ix2 0 t)) + Ideal.ofBits .f32 0x3E4CCCCD#32
      = ((lamOf a3 a4 a5 a6 : ℝ) : EReal) := by
  have e (a b : FVec Ideal ⟨2, ![1, 64]⟩ .f32) (ha : IsReal a) (hb : IsReal b) :
      ∑ t : Fin 64, a (ix2 0 t) * b (ix2 0 t) = ((∑ t : Fin 64, (a (ix2 0 t)).toReal * (b (ix2 0 t)).toReal : ℝ) : EReal) := by
    rw [← sum_coe]
    refine Finset.sum_congr rfl fun t _ => ?_
    rw [EReal.coe_mul, ← ha, ← hb]
  rw [e a3 a4 h3 h4, e a5 a6 h5 h6, c_fifth]
  show ((Real.exp _ : ℝ) : EReal) - ((Real.exp _ : ℝ) : EReal) + _ = _
  rw [← EReal.coe_sub, ← EReal.coe_add]; rfl

/-- The difference of two small numbers as words. -/
theorem sub_toInt (a b : ℕ) (ha : a < 2 ^ 30) (hb : b < 2 ^ 30) : (BitVec.ofNat 32 a - BitVec.ofNat 32 b).toInt = (a : ℤ) - (b : ℤ) := by
  have e1 : (BitVec.ofNat 32 a).toInt = (a : ℤ) := by
    rw [BitVec.toInt_eq_toNat_bmod, BitVec.toNat_ofNat, Nat.mod_eq_of_lt (by omega)]; norm_num [Int.bmod]; omega
  have e2 : (BitVec.ofNat 32 b).toInt = (b : ℤ) := by
    rw [BitVec.toInt_eq_toNat_bmod, BitVec.toNat_ofNat, Nat.mod_eq_of_lt (by omega)]; norm_num [Int.bmod]; omega
  rw [BitVec.toInt_sub, e1, e2]
  norm_num [Int.bmod]; omega

end Cert.Attend
-- ==== Proof.Tiles.lean ====
/-
  What the blocks of a step hold, over the real numbers, and what the prepared queries and a block of scores hold of them.
-/
module

public import proofs.«01_k».proof.Proof.Heads
public import Idealize.ShloMosaic.Lib.Pipeline.ValueKit.Tiles

@[expose] public section

set_option maxRecDepth 16384

noncomputable section

namespace Cert.KernelIdeal.Attn

open Cert.KernelIdeal Cert.KernelIdeal.Gen
open Idealize.ShloMosaic Idealize.ShloMosaic.ValueIdx

/-- The four shares of the logarithm's reciprocal, twice over. -/
def shareV (l : ℕ) : ℝ :=
  if l = 7 then (-2207109322339707 / 302231454903657293676544) * (Real.log 2)⁻¹
  else if l = 6 then (2889971875107793 / 590295810358705651712) * (Real.log 2)⁻¹
  else if l = 5 then (-8389454219722201 / 4611686018427387904) * (Real.log 2)⁻¹
  else if l = 4 then (302779788716910274990971 / 302231454903657293676544) * (Real.log 2)⁻¹
  else if l = 3 then (-2207109322339707 / 302231454903657293676544) * (Real.log 2)⁻¹
  else if l = 2 then (2889971875107793 / 590295810358705651712) * (Real.log 2)⁻¹
  else if l = 1 then (-8389454219722201 / 4611686018427387904) * (Real.log 2)⁻¹
  else if l = 0 then (302779788716910274990971 / 302231454903657293676544) * (Real.log 2)⁻¹
  else 0

/-- A position's digits: its multiple of 256 four times, its rest four times. -/
def dig (κ l : ℕ) : ℕ := if l < 4 then κ - κ % 256 else if l < 8 then κ % 256 else 0

/-- The digits against the shares give the position back, over the logarithm. -/
theorem digits_shares (s : ℝ) (κ : ℕ) :
    ∑ l ∈ Finset.range 128, (s * (dig κ l : ℕ)) * shareV l = s * (κ : ℝ) * L2 := by
  rw [show (128 : ℕ) = 8 + 120 from rfl, Finset.sum_range_add,
    Finset.sum_eq_zero (s := Finset.range 120) (fun l _ => by
      have : dig κ (8 + l) = 0 := by unfold dig; rw [if_neg (by omega), if_neg (by omega)]
      rw [this]; simp), add_zero]
  simp only [Finset.sum_range_succ, Finset.sum_range_zero, zero_add]
  simp only [dig, shareV]
  norm_num
  have h : ((κ - κ % 256 : ℕ) : ℝ) = (κ : ℝ) - ((κ % 256 : ℕ) : ℝ) := Nat.cast_sub (Nat.mod_le _ _)
  rw [h]; ring

/-- The prepared queries of a head: the two branches' features in their own columns, then the shares. -/
def wf (D : Data) (h x t : ℕ) : ℝ :=
  if t < 64 then (if x < 256 then D.qr (h * 128 + t) x else 0)
  else if t < 128 then (if x < 256 then 0 else D.qr (h * 128 + t) (x - 256))
  else shareV (t - 128)

/-- The features that a column meets. -/
theorem feats_sum (D : Data) (h x : ℕ) (hx : x < 512) (k : ℕ → ℝ) :
    ∑ t ∈ Finset.range 128, k (h * 128 + t) * wf D h x t
      = ∑ t ∈ Finset.range 64, k (h * 128 + x / 256 * 64 + t) * D.qr (h * 128 + x / 256 * 64 + t) (x % 256) := by
  rw [show (128 : ℕ) = 64 + 64 from rfl, Finset.sum_range_add]
  by_cases h2 : x < 256
  · rw [Finset.sum_eq_zero (s := Finset.range 64) (f := fun t => k (h * (64 + 64) + (64 + t)) * wf D h x (64 + t)) (fun t ht => by
      have := Finset.mem_range.1 ht
      simp only [wf]; rw [if_neg (by omega), if_pos (by omega), if_pos h2, mul_zero]), add_zero]
    refine Finset.sum_congr rfl fun t ht => ?_
    have := Finset.mem_range.1 ht
    simp only [wf]; rw [if_pos this, if_pos h2, Nat.div_eq_of_lt h2, Nat.mod_eq_of_lt h2, Nat.zero_mul]; rfl
  · rw [Finset.sum_eq_zero (s := Finset.range 64) (f := fun t => k (h * (64 + 64) + t) * wf D h x t) (fun t ht => by
      have := Finset.mem_range.1 ht
      simp only [wf]; rw [if_pos this, if_neg h2, mul_zero]), zero_add]
    refine Finset.sum_congr rfl fun t ht => ?_
    have := Finset.mem_range.1 ht
    have e1 : x / 256 = 1 := by omega
    have e2 : x % 256 = x - 256 := by omega
    simp only [wf]; rw [if_neg (by omega), if_pos (by omega), if_neg h2, e1, e2, Nat.one_mul, Nat.add_assoc]

/-- A score out of its two parts. -/
theorem raw_eq (D : Data) (h x B κ : ℕ) (hx : x < 512) (hκ : κ < 1024) :
    ∑ t ∈ Finset.range 128, D.kr (B * 1024 + κ) (h * 128 + t) * wf D h x t
        + ∑ t ∈ Finset.range 128, (D.sl h * (dig κ t : ℕ)) * wf D h x (128 + t) = raw D h (B * 1024 + κ) x := by
  rw [feats_sum D h x hx (D.kr (B * 1024 + κ)), raw]
  congr 1
  rw [show (B * 1024 + κ) % 1024 = κ by omega, ← digits_shares]
  refine Finset.sum_congr rfl fun t ht => ?_
  simp only [wf]; rw [if_neg (by omega), if_neg (by omega), Nat.add_sub_cancel_left]

/-! ## The prepared queries as a buffer -/

theorem canon3_miss {e : EltTy} {n0 n1 n2 o0 o1 o2 z0 z1 z2 : ℕ} (inb)
    (w : (Rect.unit (s := ⟨3, ![n0, n1, n2]⟩) ![o0, o1, o2] ![z0, z1, z2] inb).shape.Idx → Elt Ideal e)
    (L : List (View.Piece (Elt Ideal) ⟨3, ![n0, n1, n2]⟩ e)) (a : Fin n0) (b : Fin n1) (c : Fin n2)
    (h : (a.val < o0 ∨ o0 + z0 ≤ a.val) ∨ (b.val < o1 ∨ o1 + z1 ≤ b.val) ∨ (c.val < o2 ∨ o2 + z2 ≤ c.val)) :
    View.canon (⟨Rect.unit (s := ⟨3, ![n0, n1, n2]⟩) ![o0, o1, o2] ![z0, z1, z2] inb, w⟩ :: L) (ix3 a b c) = View.canon L (ix3 a b c) := by
  refine View.canon_cons_of_not_mem _ _ ?_
  intro hx
  have hm := (Rect.mem_set_unit (inb := inb)).1 hx
  have h0 : o0 ≤ a.val ∧ a.val < o0 + z0 := hm 0
  have h1 : o1 ≤ b.val ∧ b.val < o1 + z1 := hm 1
  have h2 : o2 ≤ c.val ∧ c.val < o2 + z2 := hm 2
  omega

theorem canon3_hit {e : EltTy} {n0 n1 n2 o0 o1 o2 z0 z1 z2 : ℕ} (inb)
    (w : (Rect.unit (s := ⟨3, ![n0, n1, n2]⟩) ![o0, o1, o2] ![z0, z1, z2] inb).shape.Idx → Elt Ideal e)
    (L : List (View.Piece (Elt Ideal) ⟨3, ![n0, n1, n2]⟩ e)) (a : Fin n0) (b : Fin n1) (c : Fin n2) (a' : Fin z0) (b' : Fin z1) (c' : Fin z2)
    (h0 : a.val = o0 + a'.val) (h1 : b.val = o1 + b'.val) (h2 : c.val = o2 + c'.val) :
    View.canon (⟨Rect.unit (s := ⟨3, ![n0, n1, n2]⟩) ![o0, o1, o2] ![z0, z1, z2] inb, w⟩ :: L) (ix3 a b c) = w (ix3 a' b' c') := by
  have e : ix3 a b c = (Rect.unit (s := ⟨3, ![n0, n1, n2]⟩) ![o0, o1, o2] ![z0, z1, z2] inb).emb (ix3 a' b' c') := by
    funext ax; apply Fin.ext
    refine Eq.trans ?_ (Rect.idx_unit_val ![o0, o1, o2] ![z0, z1, z2] inb (ix3 a' b' c') ax).symm
    match ax with
    | ⟨0, _⟩ => exact h0
    | ⟨1, _⟩ => exact h1
    | ⟨2, _⟩ => exact h2
  rw [e]; exact View.canon_cons_emb _ w L _

/-- A selection by a row number. -/
theorem select_row {α : Type} (t k : ℕ) (ht : t < 2 ^ 32) (hk : k < 2 ^ 32) (a b : α) :
    Scalar.select (Scalar.cmpi .eq (BitVec.ofNat 32 t) (BitVec.ofNat 32 k)) a b = if t = k then a else b := by
  by_cases h : t = k
  · subst h; rw [if_pos rfl]; simp [Scalar.select, Scalar.cmpi, IntOp.cmpi]
  · rw [if_neg h]
    have : BitVec.ofNat 32 t ≠ BitVec.ofNat 32 k := fun e => h (by
      have := congrArg BitVec.toNat e
      rwa [BitVec.toNat_ofNat, BitVec.toNat_ofNat, Nat.mod_eq_of_lt ht, Nat.mod_eq_of_lt hk] at this)
    have e : Scalar.cmpi .eq (BitVec.ofNat 32 t) (BitVec.ofNat 32 k) = 0#1 := congrArg BitVec.ofBool (beq_eq_false_iff_ne.2 this)
    rw [e]; rfl

/-- The rows of shares below the features. -/
theorem shares_apply (t : Fin 128) (x : Fin 512) :
    k0_pay343 (F := Ideal) (iota .tc S128x512 32 [0] iota_S128x512_d0_w32) k0_pay341 k0_pay342 (Named.named κ "log2e_0" 0x3FB90000#32) (ix2 t x)
      = (shareV t.val : EReal) := by
  have n0 : (Named.named κ "log2e_0" 0x3FB90000#32 : Ideal .f32) = (((302779788716910274990971 / 302231454903657293676544) * (Real.log 2)⁻¹ : ℝ) : EReal) := IdealRules.named_const.ideal_named_scalar _ _ _ _ rfl
  have n1 : (Named.named κ "log2e_1" 0xBB2C0000#32 : Ideal .f32) = (((-8389454219722201 / 4611686018427387904) * (Real.log 2)⁻¹ : ℝ) : EReal) := IdealRules.named_const.ideal_named_scalar _ _ _ _ rfl
  have n2 : (Named.named κ "log2e_2" 0x36ED0000#32 : Ideal .f32) = (((2889971875107793 / 590295810358705651712) * (Real.log 2)⁻¹ : ℝ) : EReal) := IdealRules.named_const.ideal_named_scalar _ _ _ _ rfl
  have n3 : (Named.named κ "log2e_3" 0xB2350000#32 : Ideal .f32) = (((-2207109322339707 / 302231454903657293676544) * (Real.log 2)⁻¹ : ℝ) : EReal) := IdealRules.named_const.ideal_named_scalar _ _ _ _ rfl
  have ht : t.val < 2 ^ 32 := by have := t.isLt; omega
  show Scalar.select (Scalar.cmpi .eq (iota .tc S128x512 32 [0] iota_S128x512_d0_w32 (ix2 t x)) (BitVec.ofNat 32 7)) (Named.named κ "log2e_3" 0xB2350000#32 : Ideal .f32)
    (Scalar.select (Scalar.cmpi .eq (iota .tc S128x512 32 [0] iota_S128x512_d0_w32 (ix2 t x)) (BitVec.ofNat 32 6)) (Named.named κ "log2e_2" 0x36ED0000#32 : Ideal .f32)
    (Scalar.select (Scalar.cmpi .eq (iota .tc S128x512 32 [0] iota_S128x512_d0_w32 (ix2 t x)) (BitVec.ofNat 32 5)) (Named.named κ "log2e_1" 0xBB2C0000#32 : Ideal .f32)
    (Scalar.select (Scalar.cmpi .eq (iota .tc S128x512 32 [0] iota_S128x512_d0_w32 (ix2 t x)) (BitVec.ofNat 32 4)) (Named.named κ "log2e_0" 0x3FB90000#32 : Ideal .f32)
    (Scalar.select (Scalar.cmpi .eq (iota .tc S128x512 32 [0] iota_S128x512_d0_w32 (ix2 t x)) (BitVec.ofNat 32 3)) (Named.named κ "log2e_3" 0xB2350000#32 : Ideal .f32)
    (Scalar.select (Scalar.cmpi .eq (iota .tc S128x512 32 [0] iota_S128x512_d0_w32 (ix2 t x)) (BitVec.ofNat 32 2)) (Named.named κ "log2e_2" 0x36ED0000#32 : Ideal .f32)
    (Scalar.select (Scalar.cmpi .eq (iota .tc S128x512 32 [0] iota_S128x512_d0_w32 (ix2 t x)) (BitVec.ofNat 32 1)) (Named.named κ "log2e_1" 0xBB2C0000#32 : Ideal .f32)
    (Scalar.select (Scalar.cmpi .eq (iota .tc S128x512 32 [0] iota_S128x512_d0_w32 (ix2 t x)) (BitVec.ofNat 32 0)) (Named.named κ "log2e_0" 0x3FB90000#32 : Ideal .f32)
      (Ideal.ofBits .f32 0#32)))))))) = _
  rw [Ideal.ofBits_zero_f32, n0, n1, n2, n3, show iota .tc S128x512 32 [0] iota_S128x512_d0_w32 (ix2 t x) = BitVec.ofNat 32 t.val from iota_single_apply _ _ _ _ _ _]
  rw [select_row t.val 7 ht (by norm_num), select_row t.val 6 ht (by norm_num), select_row t.val 5 ht (by norm_num), select_row t.val 4 ht (by norm_num),
    select_row t.val 3 ht (by norm_num), select_row t.val 2 ht (by norm_num), select_row t.val 1 ht (by norm_num), select_row t.val 0 ht (by norm_num)]
  unfold shareV
  repeat' split
  all_goals rfl

/-- The pieces the preparation of the queries writes: for each head the two branches, their zeros, and the shares. -/
def L12 (q0 q1 : FVec Ideal S1x1x128x256 .bf16) : List (View.Piece (Elt Ideal) S2x256x512 .bf16) :=
  let pos : FVec Ideal S1x128x512 .bf16 := shapeCast S1x128x512 (k0_pay343 (F := Ideal) (iota .tc S128x512 32 [0] iota_S128x512_d0_w32) k0_pay341 k0_pay342 (Named.named κ "log2e_0" 0x3FB90000#32)) shapeCasts_S128x512_S1x128x512
  let z : FVec Ideal S1x64x256 .bf16 := shapeCast S1x64x256 k0_pay340 shapeCasts_S64x256_S1x64x256
  [⟨Rect.unit ![1, 128, 0] S1x128x512.size inb_S2x256x512_S1x128x512_1_128_0, pos⟩,
   ⟨Rect.unit ![1, 64, 256] S1x64x256.size inb_S2x256x512_S1x64x256_1_64_256, k0_pay348 (F := Ideal) q1⟩,
   ⟨Rect.unit ![1, 0, 256] S1x64x256.size inb_S2x256x512_S1x64x256_1_0_256, z⟩,
   ⟨Rect.unit ![1, 64, 0] S1x64x256.size inb_S2x256x512_S1x64x256_1_64_0, z⟩,
   ⟨Rect.unit ![1, 0, 0] S1x64x256.size inb_S2x256x512_S1x64x256_1_0_0, k0_pay345 (F := Ideal) q1⟩,
   ⟨Rect.unit ![0, 128, 0] S1x128x512.size inb_S2x256x512_S1x128x512_0_128_0, pos⟩,
   ⟨Rect.unit ![0, 64, 256] S1x64x256.size inb_S2x256x512_S1x64x256_0_64_256, k0_pay348 (F := Ideal) q0⟩,
   ⟨Rect.unit ![0, 0, 256] S1x64x256.size inb_S2x256x512_S1x64x256_0_0_256, z⟩,
   ⟨Rect.unit ![0, 64, 0] S1x64x256.size inb_S2x256x512_S1x64x256_0_64_0, z⟩,
   ⟨Rect.unit ![0, 0, 0] S1x64x256.size inb_S2x256x512_S1x64x256_0_0_0, k0_pay345 (F := Ideal) q0⟩]

section W
variable (D : Data) (q0 q1 : FVec Ideal S1x1x128x256 .bf16)

theorem upper_apply (q : FVec Ideal S1x1x128x256 .bf16) (t : Fin 64) (c : Fin 256) :
    k0_pay345 (F := Ideal) q (ix3 (0 : Fin 1) t c) = q (ix4 (0 : Fin 1) (0 : Fin 1) (⟨t.val, by omega⟩ : Fin 128) c) := by
  show shapeCast S1x64x256 (extractStridedSlice S64x256 ![0, 0] (shapeCast S128x256 q shapeCasts_S1x1x128x256_S128x256) slices_S128x256_o0_0_S64x256) shapeCasts_S64x256_S1x64x256 _ = _
  refine (shapeCast_ab_1ab_apply _ _ _ _ _).trans ((slice2_axis0_apply (n0 := 128) (n1 := 256) (m := 64) 0 _ _ t c ⟨t.val, by omega⟩ (Nat.zero_add _).symm).trans ?_)
  exact shapeCast_apply q _ _ _ (by
      rw [Shape.rowMajor_val_four, Shape.rowMajor_val_two]
      show ((0 * 1 + 0) * 128 + t.val) * 256 + c.val = t.val * 256 + c.val
      simp)

theorem lower_apply (q : FVec Ideal S1x1x128x256 .bf16) (t : Fin 64) (c : Fin 256) :
    k0_pay348 (F := Ideal) q (ix3 (0 : Fin 1) t c) = q (ix4 (0 : Fin 1) (0 : Fin 1) (⟨64 + t.val, by omega⟩ : Fin 128) c) := by
  show shapeCast S1x64x256 (extractStridedSlice S64x256 ![64, 0] (shapeCast S128x256 q shapeCasts_S1x1x128x256_S128x256) slices_S128x256_o64_0_S64x256) shapeCasts_S64x256_S1x64x256 _ = _
  refine (shapeCast_ab_1ab_apply _ _ _ _ _).trans ((slice2_axis0_apply (n0 := 128) (n1 := 256) (m := 64) 64 _ _ t c ⟨64 + t.val, by omega⟩ rfl).trans ?_)
  exact shapeCast_apply q _ _ _ (by
      rw [Shape.rowMajor_val_four, Shape.rowMajor_val_two]
      show ((0 * 1 + 0) * 128 + (64 + t.val)) * 256 + c.val = (64 + t.val) * 256 + c.val
      simp)

theorem zero_row (t : Fin 64) (c : Fin 256) :
    shapeCast S1x64x256 (k0_pay340 (F := Ideal)) shapeCasts_S64x256_S1x64x256 (ix3 (0 : Fin 1) t c) = ((0 : ℝ) : EReal) := by
  rw [shapeCast_ab_1ab_apply]
  show Ideal.ofBits .bf16 0#16 = _
  simp [Ideal.ofBits, Ideal.ieee]

theorem L12_apply (h0 : ∀ (t : Fin 128) (c : Fin 256), q0 (ix4 (0 : Fin 1) (0 : Fin 1) t c) = (D.qr (0 * 128 + t) c : EReal))
    (h1 : ∀ (t : Fin 128) (c : Fin 256), q1 (ix4 (0 : Fin 1) (0 : Fin 1) t c) = (D.qr (1 * 128 + t) c : EReal))
    (h : Fin 2) (t : Fin 256) (x : Fin 512) : View.canon (L12 q0 q1) (ix3 h t x) = (wf D h x t : EReal) := by
  have ht := t.isLt
  have hx := x.isLt
  have hh := h.isLt
  unfold L12
  by_cases hz : h.val = 1
  · by_cases t2 : 128 ≤ t.val
    · refine (canon3_hit _ _ _ h t x (0 : Fin 1) (⟨t.val - 128, by omega⟩ : Fin 128) x hz (by show t.val = 128 + (t.val - 128); omega) (Nat.zero_add _).symm).trans ?_
      refine (shapeCast_ab_1ab_apply _ _ _ _ _).trans ((shares_apply _ _).trans ?_)
      simp only [wf]; rw [if_neg (by omega), if_neg (by omega)]
    refine (canon3_miss _ _ _ h t x (by omega)).trans ?_
    by_cases t1 : 64 ≤ t.val
    · by_cases x1 : x.val < 256
      · refine (canon3_miss _ _ _ h t x (by omega)).trans ?_
        refine (canon3_miss _ _ _ h t x (by omega)).trans ?_
        refine (canon3_hit _ _ _ h t x (0 : Fin 1) (⟨t.val - 64, by omega⟩ : Fin 64) (⟨x.val, x1⟩ : Fin 256) hz (by show t.val = 64 + (t.val - 64); omega) (Nat.zero_add _).symm).trans ?_
        refine (zero_row _ _).trans ?_
        simp only [wf]; rw [if_neg (by omega), if_pos (by omega), if_pos x1]
      · refine (canon3_hit _ _ _ h t x (0 : Fin 1) (⟨t.val - 64, by omega⟩ : Fin 64) (⟨x.val - 256, by omega⟩ : Fin 256) hz (by show t.val = 64 + (t.val - 64); omega) (by show x.val = 256 + (x.val - 256); omega)).trans ?_
        refine (lower_apply _ _ _).trans ((h1 _ _).trans ?_)
        simp only [wf]; rw [if_neg (by omega), if_pos (by omega), if_neg x1, hz]
        congr 3; omega
    · refine (canon3_miss _ _ _ h t x (by omega)).trans ?_
      by_cases x1 : x.val < 256
      · refine (canon3_miss _ _ _ h t x (by omega)).trans ?_
        refine (canon3_miss _ _ _ h t x (by omega)).trans ?_
        refine (canon3_hit _ _ _ h t x (0 : Fin 1) (⟨t.val, by omega⟩ : Fin 64) (⟨x.val, x1⟩ : Fin 256) hz (Nat.zero_add _).symm (Nat.zero_add _).symm).trans ?_
        refine (upper_apply _ _ _).trans ((h1 _ _).trans ?_)
        simp only [wf]; rw [if_pos (by omega), if_pos x1, hz]
      · refine (canon3_hit _ _ _ h t x (0 : Fin 1) (⟨t.val, by omega⟩ : Fin 64) (⟨x.val - 256, by omega⟩ : Fin 256) hz (Nat.zero_add _).symm (by show x.val = 256 + (x.val - 256); omega)).trans ?_
        refine (zero_row _ _).trans ?_
        simp only [wf]; rw [if_pos (by omega), if_neg x1]
  · have hz : h.val = 0 := by omega
    refine (canon3_miss _ _ _ h t x (by omega)).trans ?_
    refine (canon3_miss _ _ _ h t x (by omega)).trans ?_
    refine (canon3_miss _ _ _ h t x (by omega)).trans ?_
    refine (canon3_miss _ _ _ h t x (by omega)).trans ?_
    refine (canon3_miss _ _ _ h t x (by omega)).trans ?_
    by_cases t2 : 128 ≤ t.val
    · refine (canon3_hit _ _ _ h t x (0 : Fin 1) (⟨t.val - 128, by omega⟩ : Fin 128) x hz (by show t.val = 128 + (t.val - 128); omega) (Nat.zero_add _).symm).trans ?_
      refine (shapeCast_ab_1ab_apply _ _ _ _ _).trans ((shares_apply _ _).trans ?_)
      simp only [wf]; rw [if_neg (by omega), if_neg (by omega)]
    refine (canon3_miss _ _ _ h t x (by omega)).trans ?_
    by_cases t1 : 64 ≤ t.val
    · by_cases x1 : x.val < 256
      · refine (canon3_miss _ _ _ h t x (by omega)).trans ?_
        refine (canon3_miss _ _ _ h t x (by omega)).trans ?_
        refine (canon3_hit _ _ _ h t x (0 : Fin 1) (⟨t.val - 64, by omega⟩ : Fin 64) (⟨x.val, x1⟩ : Fin 256) hz (by show t.val = 64 + (t.val - 64); omega) (Nat.zero_add _).symm).trans ?_
        refine (zero_row _ _).trans ?_
        simp only [wf]; rw [if_neg (by omega), if_pos (by omega), if_pos x1]
      · refine (canon3_hit _ _ _ h t x (0 : Fin 1) (⟨t.val - 64, by omega⟩ : Fin 64) (⟨x.val - 256, by omega⟩ : Fin 256) hz (by show t.val = 64 + (t.val - 64); omega) (by show x.val = 256 + (x.val - 256); omega)).trans ?_
        refine (lower_apply _ _ _).trans ((h0 _ _).trans ?_)
        simp only [wf]; rw [if_neg (by omega), if_pos (by omega), if_neg x1, hz]
        congr 3; omega
    · refine (canon3_miss _ _ _ h t x (by omega)).trans ?_
      by_cases x1 : x.val < 256
      · refine (canon3_miss _ _ _ h t x (by omega)).trans ?_
        refine (canon3_miss _ _ _ h t x (by omega)).trans ?_
        refine (canon3_hit _ _ _ h t x (0 : Fin 1) (⟨t.val, by omega⟩ : Fin 64) (⟨x.val, x1⟩ : Fin 256) hz (Nat.zero_add _).symm (Nat.zero_add _).symm).trans ?_
        refine (upper_apply _ _ _).trans ((h0 _ _).trans ?_)
        simp only [wf]; rw [if_pos (by omega), if_pos x1, hz]
      · refine (canon3_hit _ _ _ h t x (0 : Fin 1) (⟨t.val, by omega⟩ : Fin 64) (⟨x.val - 256, by omega⟩ : Fin 256) hz (Nat.zero_add _).symm (by show x.val = 256 + (x.val - 256); omega)).trans ?_
        refine (zero_row _ _).trans ?_
        simp only [wf]; rw [if_pos (by omega), if_neg x1]

end W

end Cert.KernelIdeal.Attn
-- ==== Proof.Parts.lean ====
/-
  The parts of a step: boxes of the input blocks, strips of values side by side, blocks of scores, and the distance to a block.
-/
module

public import proofs.«01_k».proof.Proof.Tiles
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.ValueIdx

/-! ## Boxes -/

theorem rd4 {sp : Space} {e : EltTy} {n0 n1 n2 n3 z0 z1 z2 z3 : ℕ} (v : View sig .tc sp ⟨4, ![n0, n1, n2, n3]⟩ e)
    (X : BufTy.Contents (Elt Ideal) v.ty) (off : Fin 4 → ℕ) (inb)
    (a : Fin z0) (b : Fin z1) (c : Fin z2) (d : Fin z3) (A : Fin n0) (B : Fin n1) (C : Fin n2) (E : Fin n3)
    (h0 : off 0 + a.val = A.val) (h1 : off 1 + b.val = B.val) (h2 : off 2 + c.val = C.val) (h3 : off 3 + d.val = E.val) :
    v.readAt (Elt Ideal) (Rect.unit (s := ⟨4, ![n0, n1, n2, n3]⟩) off ![z0, z1, z2, z3] inb).toLoadRect X (ix4 a b c d)
      = v.read (Elt Ideal) X (ix4 A B C E) := by
  rw [View.readAt_apply]
  congr 1
  funext ax; apply Fin.ext
  refine (Rect.idx_unit_val off ![z0, z1, z2, z3] inb (ix4 a b c d) ax).trans ?_
  match ax with
  | ⟨0, _⟩ => exact h0
  | ⟨1, _⟩ => exact h1
  | ⟨2, _⟩ => exact h2
  | ⟨3, _⟩ => exact h3

theorem rd3 {sp : Space} {e : EltTy} {n0 n1 n2 z0 z1 z2 : ℕ} (v : View sig .tc sp ⟨3, ![n0, n1, n2]⟩ e)
    (X : BufTy.Contents (Elt Ideal) v.ty) (off : Fin 3 → ℕ) (inb)
    (a : Fin z0) (b : Fin z1) (c : Fin z2) (A : Fin n0) (B : Fin n1) (C : Fin n2)
    (h0 : off 0 + a.val = A.val) (h1 : off 1 + b.val = B.val) (h2 : off 2 + c.val = C.val) :
    v.readAt (Elt Ideal) (Rect.unit (s := ⟨3, ![n0, n1, n2]⟩) off ![z0, z1, z2] inb).toLoadRect X (ix3 a b c)
      = v.read (Elt Ideal) X (ix3 A B C) := by
  rw [View.readAt_apply]
  congr 1
  funext ax; apply Fin.ext
  refine (Rect.idx_unit_val off ![z0, z1, z2] inb (ix3 a b c) ax).trans ?_
  match ax with
  | ⟨0, _⟩ => exact h0
  | ⟨1, _⟩ => exact h1
  | ⟨2, _⟩ => exact h2

theorem rd2 {sp : Space} {e : EltTy} {n0 n1 z0 z1 : ℕ} (v : View sig .tc sp ⟨2, ![n0, n1]⟩ e)
    (X : BufTy.Contents (Elt Ideal) v.ty) (off : Fin 2 → ℕ) (inb)
    (a : Fin z0) (b : Fin z1) (A : Fin n0) (B : Fin n1)
    (h0 : off 0 + a.val = A.val) (h1 : off 1 + b.val = B.val) :
    v.readAt (Elt Ideal) (Rect.unit (s := ⟨2, ![n0, n1]⟩) off ![z0, z1] inb).toLoadRect X (ix2 a b)
      = v.read (Elt Ideal) X (ix2 A B) := by
  rw [View.readAt_apply]
  congr 1
  funext ax; apply Fin.ext
  refine (Rect.idx_unit_val off ![z0, z1] inb (ix2 a b) ax).trans ?_
  match ax with
  | ⟨0, _⟩ => exact h0
  | ⟨1, _⟩ => exact h1

/-- A box of written pieces. -/
theorem cov3 {sp : Space} {e : EltTy} {n0 n1 n2 z0 z1 z2 : ℕ} (v : View sig .tc sp ⟨3, ![n0, n1, n2]⟩ e)
    (L : List (View.Piece (Elt Ideal) ⟨3, ![n0, n1, n2]⟩ e)) (off : Fin 3 → ℕ) (inb)
    (a : Fin z0) (b : Fin z1) (c : Fin z2) (A : Fin n0) (B : Fin n1) (C : Fin n2)
    (h0 : off 0 + a.val = A.val) (h1 : off 1 + b.val = B.val) (h2 : off 2 + c.val = C.val) :
    v.readCov (Val := Elt Ideal) L (Rect.unit (s := ⟨3, ![n0, n1, n2]⟩) off ![z0, z1, z2] inb).toLoadRect (ix3 a b c)
      = View.canon L (ix3 A B C) := by
  rw [View.readCov_eq_canon']
  show View.canon L _ = _
  congr 1
  funext ax; apply Fin.ext
  refine (Rect.idx_unit_val off ![z0, z1, z2] inb (ix3 a b c) ax).trans ?_
  match ax with
  | ⟨0, _⟩ => exact h0
  | ⟨1, _⟩ => exact h1
  | ⟨2, _⟩ => exact h2

/-- …and the same after writing them. -/
theorem wr3 {sp : Space} {e : EltTy} {n0 n1 n2 z0 z1 z2 : ℕ} (v : View sig .tc sp ⟨3, ![n0, n1, n2]⟩ e)
    (L : List (View.Piece (Elt Ideal) ⟨3, ![n0, n1, n2]⟩ e)) (off : Fin 3 → ℕ) (inb)
    (a : Fin z0) (b : Fin z1) (c : Fin z2) (A : Fin n0) (B : Fin n1) (C : Fin n2)
    (h0 : off 0 + a.val = A.val) (h1 : off 1 + b.val = B.val) (h2 : off 2 + c.val = C.val) :
    v.readAt (Elt Ideal) (Rect.unit (s := ⟨3, ![n0, n1, n2]⟩) off ![z0, z1, z2] inb).toLoadRect (v.writes (Elt Ideal) v.junk L) (ix3 a b c)
      = View.canon L (ix3 A B C) := by
  rw [View.readAt_writes_junk_eq_canon]
  show View.canon L _ = _
  congr 1
  funext ax; apply Fin.ext
  refine (Rect.idx_unit_val off ![z0, z1, z2] inb (ix3 a b c) ax).trans ?_
  match ax with
  | ⟨0, _⟩ => exact h0
  | ⟨1, _⟩ => exact h1
  | ⟨2, _⟩ => exact h2

/-! ## The blocks a step reads -/

variable (D : Data)

/-- What the contents of the blocks say of the numbers. -/
structure Reads (A3 : FVec Ideal S1x1x256x256 .bf16) (A4 : FVec Ideal S1x8x1024x256 .bf16) (A5 : FVec Ideal S1x32x256x256 .bf16)
    (A6 : FVec Ideal S2x1024x128 .bf16) (A7 : FVec Ideal S256x512 .f32) (A8 : FVec Ideal S2x1x512 .f32) : Prop where
  q : ∀ d c : Fin 256, A3 (ix4 (0 : Fin 1) (0 : Fin 1) d c) = (D.qr d c : EReal)
  k : ∀ (B : Fin 8) (κ : Fin 1024) (d : Fin 256), A4 (ix4 (0 : Fin 1) B κ d) = (D.kr (B * 1024 + κ) d : EReal)
  v : ∀ (u : Fin 32) (e κ : Fin 256), A5 (ix4 (0 : Fin 1) u e κ) = (D.vr (u * 256 + κ) e : EReal)
  pos : ∀ (h : Fin 2) (κ : Fin 1024) (l : Fin 128), A6 (ix3 h κ l) = ((D.sl h * (dig κ l : ℕ) : ℝ) : EReal)
  rel : ∀ (κ : Fin 256) (x : Fin 512), A7 (ix2 κ x) = (((κ.val : ℝ) - ((x.val % 256 : ℕ) : ℝ) : ℝ) : EReal)
  slope : ∀ (h : Fin 2) (x : Fin 512), A8 (ix3 h (0 : Fin 1) x) = ((D.sl h * L2 : ℝ) : EReal)

/-- A box of keys. -/
theorem kread {sp : Space} (v : View sig .tc sp S1x8x1024x256 .bf16) (X : BufTy.Contents (Elt Ideal) v.ty)
    (hk : ∀ (B : Fin 8) (κ : Fin 1024) (d : Fin 256), v.read (Elt Ideal) X (ix4 (0 : Fin 1) B κ d) = (D.kr (B * 1024 + κ) d : EReal))
    {n : ℕ} (off : Fin 4 → ℕ) (inb) (B r c : ℕ) (ho : off = ![0, B, r, c]) (κ : Fin n) (t : Fin 128) :
    v.readAt (Elt Ideal) (Rect.unit (s := S1x8x1024x256) off ![1, 1, n, 128] inb).toLoadRect X (ix4 (0 : Fin 1) (0 : Fin 1) κ t)
      = (D.kr (B * 1024 + (r + κ)) (c + t) : EReal) := by
  subst ho
  have i1 : B + 1 ≤ 8 := inb 1
  have i2 : r + n ≤ 1024 := inb 2
  have i3 : c + 128 ≤ 256 := inb 3
  have := κ.isLt
  have := t.isLt
  exact (rd4 v X _ inb (0 : Fin 1) (0 : Fin 1) κ t (0 : Fin 1) (⟨B, by omega⟩ : Fin 8) (⟨r + κ, by omega⟩ : Fin 1024) (⟨c + t, by omega⟩ : Fin 256)
    rfl (Nat.add_zero _) rfl rfl).trans (hk _ _ _)

/-- A strip of values. -/
theorem vread {sp : Space} (v : View sig .tc sp S1x32x256x256 .bf16) (X : BufTy.Contents (Elt Ideal) v.ty)
    (hv : ∀ (u : Fin 32) (e κ : Fin 256), v.read (Elt Ideal) X (ix4 (0 : Fin 1) u e κ) = (D.vr (u * 256 + κ) e : EReal))
    (off : Fin 4 → ℕ) (inb) (u h : ℕ) (ho : off = ![0, u, h * 128, 0])
    (hs : S1x1x128x256.ShapeCasts S128x256) (e : Fin 128) (κ : Fin 256) :
    shapeCast S128x256 (v.readAt (Elt Ideal) (Rect.unit (s := S1x32x256x256) off S1x1x128x256.size inb).toLoadRect X) hs (ix2 e κ)
      = (D.vr (u * 256 + κ) (h * 128 + e) : EReal) := by
  subst ho
  have i1 : u + 1 ≤ 32 := inb 1
  have i2 : h * 128 + 128 ≤ 256 := inb 2
  have := e.isLt
  have := κ.isLt
  refine (shapeCast_apply _ hs (ix2 e κ) (ix4 (0 : Fin 1) (0 : Fin 1) e κ) (by
      rw [Shape.rowMajor_val_four, Shape.rowMajor_val_two]
      show ((0 * 1 + 0) * 128 + e.val) * 256 + κ.val = e.val * 256 + κ.val
      simp)).trans ?_
  exact (rd4 v X _ inb (0 : Fin 1) (0 : Fin 1) e κ (0 : Fin 1) (⟨u, by omega⟩ : Fin 32) (⟨h * 128 + e, by omega⟩ : Fin 256) (⟨κ, by omega⟩ : Fin 256)
    rfl (Nat.add_zero _) rfl (Nat.zero_add _)).trans (hv _ _ _)

/-- Position digits. -/
theorem posread {sp : Space} (v : View sig .tc sp S2x1024x128 .bf16) (X : BufTy.Contents (Elt Ideal) v.ty)
    (hp : ∀ (h : Fin 2) (κ : Fin 1024) (l : Fin 128), v.read (Elt Ideal) X (ix3 h κ l) = ((D.sl h * (dig κ l : ℕ) : ℝ) : EReal))
    {n : ℕ} (h r : ℕ) (inb) (κ : Fin n) (l : Fin 128) :
    v.readAt (Elt Ideal) (Rect.unit (s := S2x1024x128) ![h, r, 0] ![1, n, 128] inb).toLoadRect X (ix3 (0 : Fin 1) κ l)
      = ((D.sl h * (dig (r + κ) l : ℕ) : ℝ) : EReal) := by
  have i0 : h + 1 ≤ 2 := inb 0
  have i1 : r + n ≤ 1024 := inb 1
  have := κ.isLt
  exact (rd3 v X _ inb (0 : Fin 1) κ l (⟨h, by omega⟩ : Fin 2) (⟨r + κ, by omega⟩ : Fin 1024) l (Nat.add_zero _) rfl (Nat.zero_add _)).trans (hp _ _ _)

/-- The prepared queries of a head. -/
theorem wread {sp : Space} (v : View sig .tc sp S2x256x512 .bf16) (L : List (View.Piece (Elt Ideal) S2x256x512 .bf16))
    (hL : ∀ (h : Fin 2) (t : Fin 256) (x : Fin 512), View.canon L (ix3 h t x) = (wf D h x t : EReal))
    (h : ℕ) (inb) (t : Fin 256) (x : Fin 512) :
    v.readCov (Val := Elt Ideal) L (Rect.unit (s := S2x256x512) ![h, 0, 0] S1x256x512.size inb).toLoadRect (ix3 (0 : Fin 1) t x) = (wf D h x t : EReal) := by
  have i0 : h + 1 ≤ 2 := inb 0
  exact (cov3 v L _ inb (0 : Fin 1) t x (⟨h, by omega⟩ : Fin 2) t x (Nat.add_zero _) (Nat.zero_add _) (Nat.zero_add _)).trans (hL _ _ _)

theorem wread' {sp : Space} (v : View sig .tc sp S2x256x512 .bf16) (L : List (View.Piece (Elt Ideal) S2x256x512 .bf16))
    (hL : ∀ (h : Fin 2) (t : Fin 256) (x : Fin 512), View.canon L (ix3 h t x) = (wf D h x t : EReal))
    (h : ℕ) (inb) (t : Fin 256) (x : Fin 512) :
    v.readAt (Elt Ideal) (Rect.unit (s := S2x256x512) ![h, 0, 0] S1x256x512.size inb).toLoadRect (v.writes (Elt Ideal) v.junk L) (ix3 (0 : Fin 1) t x) = (wf D h x t : EReal) := by
  have i0 : h + 1 ≤ 2 := inb 0
  exact (wr3 v L _ inb (0 : Fin 1) t x (⟨h, by omega⟩ : Fin 2) t x (Nat.add_zero _) (Nat.zero_add _) (Nat.zero_add _)).trans (hL _ _ _)

/-- A block of scores, `n` keys from row `r` of block `B`. -/
theorem raw_block {n : ℕ} (h B r : ℕ) (kb : FVec Ideal ⟨4, ![1, 1, n, 128]⟩ .bf16) (pb : FVec Ideal ⟨3, ![1, n, 128]⟩ .bf16)
    (w : FVec Ideal ⟨3, ![1, 256, 512]⟩ .bf16)
    (h₁ : (⟨4, ![1, 1, n, 128]⟩ : Shape).ShapeCasts ⟨2, ![n, 128]⟩) (h₂ : (⟨3, ![1, n, 128]⟩ : Shape).ShapeCasts ⟨2, ![n, 128]⟩)
    (hc : Shape.Concatenates [⟨2, ![n, 128]⟩, ⟨2, ![n, 128]⟩] ⟨2, ![n, 256]⟩ 1)
    (h₃ : (⟨3, ![1, 256, 512]⟩ : Shape).ShapeCasts ⟨2, ![256, 512]⟩) (κ : Fin n) (x : Fin 512) (hr : r + n ≤ 1024)
    (hk : ∀ (κ : Fin n) (t : Fin 128), kb (ix4 (0 : Fin 1) (0 : Fin 1) κ t) = (D.kr (B * 1024 + (r + κ)) (h * 128 + t) : EReal))
    (hp : ∀ (κ : Fin n) (t : Fin 128), pb (ix3 (0 : Fin 1) κ t) = ((D.sl h * (dig (r + κ) t : ℕ) : ℝ) : EReal))
    (hw : ∀ t : Fin 256, w (ix3 (0 : Fin 1) t x) = (wf D h x t : EReal)) :
    matmul (DotDims.plain n 256 512) none
        (concatenate ⟨2, ![n, 256]⟩ 1 [⟨⟨2, ![n, 128]⟩, shapeCast ⟨2, ![n, 128]⟩ kb h₁⟩, ⟨⟨2, ![n, 128]⟩, shapeCast ⟨2, ![n, 128]⟩ pb h₂⟩] hc)
        (shapeCast ⟨2, ![256, 512]⟩ w h₃) (constant (F := Ideal) ⟨2, ![n, 512]⟩ .f32 0#32) (ix2 κ x)
      = (raw D h (B * 1024 + (r + κ)) x : EReal) := by
  have := κ.isLt
  rw [scores_apply kb pb w h₁ h₂ hc h₃ (fun t => D.kr (B * 1024 + (r + κ)) (h * 128 + t)) (fun t => D.sl h * (dig (r + κ) t : ℕ)) (wf D h x) κ x
    (hk κ) (hp κ) hw, raw_eq D h x B (r + κ) x.isLt (by omega)]

/-! ## Strips side by side -/

theorem strip_at {n : ℕ} (xs : List ((s : Shape) × FVec Ideal s .bf16)) (hc : Shape.Concatenates (xs.map (·.1)) ⟨2, ![128, n]⟩ 1)
    (k : ℕ) (hk : k < xs.length) (y : FVec Ideal ⟨2, ![128, 256]⟩ .bf16) (hx : xs[k] = ⟨⟨2, ![128, 256]⟩, y⟩)
    (hpre : (((xs.take k).map (·.1)).map fun s => if h : s.rank = 2 then s.size ((1 : Fin 2).cast h.symm) else 0).sum = k * 256)
    (e : Fin 128) (κ : Fin n) (κ' : Fin 256) (hκ : k * 256 + κ'.val = κ.val) :
    concatenate ⟨2, ![128, n]⟩ 1 xs hc (ix2 e κ) = y (ix2 e κ') :=
  concatenate_apply_piece (t := ⟨2, ![128, n]⟩) (1 : Fin 2) xs hc (ix2 e κ) k hk ⟨2, ![128, 256]⟩ y hx rfl (k * 256) hpre (ix2 e κ') (by
    intro b hb; match b with
    | ⟨0, _⟩ => rfl
    | ⟨1, _⟩ => exact absurd rfl hb) hκ

variable (h K : ℕ)

/-- A strip's values: the keys from `K` on. -/
def Strip (y : FVec Ideal ⟨2, ![128, 256]⟩ .bf16) (K : ℕ) : Prop :=
  ∀ (e : Fin 128) (κ : Fin 256), y (ix2 e κ) = (D.vr (K + κ) (h * 128 + e) : EReal)

/-- A strip of the block `B`. -/
theorem Strip.block {y : FVec Ideal ⟨2, ![128, 256]⟩ .bf16} {B : ℕ} (u : ℕ)
    (g : ∀ (e : Fin 128) (κ : Fin 256), y (ix2 e κ) = (D.vr ((B * 4 + u) * 256 + κ) (h * 128 + e) : EReal)) : Strip D h y (B * 1024 + u * 256) :=
  fun e κ => (g e κ).trans (by rw [show (B * 4 + u) * 256 + κ.val = B * 1024 + u * 256 + κ.val by ring])

theorem strips1 (y : FVec Ideal ⟨2, ![128, 256]⟩ .bf16) (g : Strip D h y (K + 0 * 256)) (e : Fin 128) (κ : Fin 256) :
    y (ix2 e κ) = (D.vr (K + κ) (h * 128 + e) : EReal) :=
  (g e κ).trans (by rw [Nat.zero_mul, Nat.add_zero])

theorem strips2 (y0 y1 : FVec Ideal ⟨2, ![128, 256]⟩ .bf16) (hc) (g0 : Strip D h y0 (K + 0 * 256)) (g1 : Strip D h y1 (K + 1 * 256))
    (e : Fin 128) (κ : Fin 512) :
    concatenate ⟨2, ![128, 512]⟩ 1 [⟨⟨2, ![128, 256]⟩, y0⟩, ⟨⟨2, ![128, 256]⟩, y1⟩] hc (ix2 e κ) = (D.vr (K + κ) (h * 128 + e) : EReal) := by
  have := κ.isLt
  rcases (by omega : κ.val / 256 = 0 ∨ κ.val / 256 = 1) with hq | hq
  · refine (strip_at _ hc 0 (by simp) y0 rfl rfl e κ ⟨κ.val - 0 * 256, by omega⟩ (by show 0 * 256 + (κ.val - 0 * 256) = κ.val; omega)).trans ((g0 _ _).trans ?_)
    rw [show K + 0 * 256 + (κ.val - 0 * 256) = K + κ.val by omega]
  · refine (strip_at _ hc 1 (by simp) y1 rfl rfl e κ ⟨κ.val - 1 * 256, by omega⟩ (by show 1 * 256 + (κ.val - 1 * 256) = κ.val; omega)).trans ((g1 _ _).trans ?_)
    rw [show K + 1 * 256 + (κ.val - 1 * 256) = K + κ.val by omega]

theorem strips3 (y0 y1 y2 : FVec Ideal ⟨2, ![128, 256]⟩ .bf16) (hc) (g0 : Strip D h y0 (K + 0 * 256)) (g1 : Strip D h y1 (K + 1 * 256))
    (g2 : Strip D h y2 (K + 2 * 256)) (e : Fin 128) (κ : Fin 768) :
    concatenate ⟨2, ![128, 768]⟩ 1 [⟨⟨2, ![128, 256]⟩, y0⟩, ⟨⟨2, ![128, 256]⟩, y1⟩, ⟨⟨2, ![128, 256]⟩, y2⟩] hc (ix2 e κ) = (D.vr (K + κ) (h * 128 + e) : EReal) := by
  have := κ.isLt
  rcases (by omega : κ.val / 256 = 0 ∨ κ.val / 256 = 1 ∨ κ.val / 256 = 2) with hq | hq | hq
  · refine (strip_at _ hc 0 (by simp) y0 rfl rfl e κ ⟨κ.val - 0 * 256, by omega⟩ (by show 0 * 256 + (κ.val - 0 * 256) = κ.val; omega)).trans ((g0 _ _).trans ?_)
    rw [show K + 0 * 256 + (κ.val - 0 * 256) = K + κ.val by omega]
  · refine (strip_at _ hc 1 (by simp) y1 rfl rfl e κ ⟨κ.val - 1 * 256, by omega⟩ (by show 1 * 256 + (κ.val - 1 * 256) = κ.val; omega)).trans ((g1 _ _).trans ?_)
    rw [show K + 1 * 256 + (κ.val - 1 * 256) = K + κ.val by omega]
  · refine (strip_at _ hc 2 (by simp) y2 rfl rfl e κ ⟨κ.val - 2 * 256, by omega⟩ (by show 2 * 256 + (κ.val - 2 * 256) = κ.val; omega)).trans ((g2 _ _).trans ?_)
    rw [show K + 2 * 256 + (κ.val - 2 * 256) = K + κ.val by omega]

theorem strips4 (y0 y1 y2 y3 : FVec Ideal ⟨2, ![128, 256]⟩ .bf16) (hc) (g0 : Strip D h y0 (K + 0 * 256)) (g1 : Strip D h y1 (K + 1 * 256))
    (g2 : Strip D h y2 (K + 2 * 256)) (g3 : Strip D h y3 (K + 3 * 256)) (e : Fin 128) (κ : Fin 1024) :
    concatenate ⟨2, ![128, 1024]⟩ 1 [⟨⟨2, ![128, 256]⟩, y0⟩, ⟨⟨2, ![128, 256]⟩, y1⟩, ⟨⟨2, ![128, 256]⟩, y2⟩, ⟨⟨2, ![128, 256]⟩, y3⟩] hc (ix2 e κ)
      = (D.vr (K + κ) (h * 128 + e) : EReal) := by
  have := κ.isLt
  rcases (by omega : κ.val / 256 = 0 ∨ κ.val / 256 = 1 ∨ κ.val / 256 = 2 ∨ κ.val / 256 = 3) with hq | hq | hq | hq
  · refine (strip_at _ hc 0 (by simp) y0 rfl rfl e κ ⟨κ.val - 0 * 256, by omega⟩ (by show 0 * 256 + (κ.val - 0 * 256) = κ.val; omega)).trans ((g0 _ _).trans ?_)
    rw [show K + 0 * 256 + (κ.val - 0 * 256) = K + κ.val by omega]
  · refine (strip_at _ hc 1 (by simp) y1 rfl rfl e κ ⟨κ.val - 1 * 256, by omega⟩ (by show 1 * 256 + (κ.val - 1 * 256) = κ.val; omega)).trans ((g1 _ _).trans ?_)
    rw [show K + 1 * 256 + (κ.val - 1 * 256) = K + κ.val by omega]
  · refine (strip_at _ hc 2 (by simp) y2 rfl rfl e κ ⟨κ.val - 2 * 256, by omega⟩ (by show 2 * 256 + (κ.val - 2 * 256) = κ.val; omega)).trans ((g2 _ _).trans ?_)
    rw [show K + 2 * 256 + (κ.val - 2 * 256) = K + κ.val by omega]
  · refine (strip_at _ hc 3 (by simp) y3 rfl rfl e κ ⟨κ.val - 3 * 256, by omega⟩ (by show 3 * 256 + (κ.val - 3 * 256) = κ.val; omega)).trans ((g3 _ _).trans ?_)
    rw [show K + 3 * 256 + (κ.val - 3 * 256) = K + κ.val by omega]

/-! ## The distance to a block -/

theorem slread {sp : Space} (v : View sig .tc sp S2x1x512 .f32) (X : BufTy.Contents (Elt Ideal) v.ty)
    (hp : ∀ (h : Fin 2) (x : Fin 512), v.read (Elt Ideal) X (ix3 h (0 : Fin 1) x) = ((D.sl h * L2 : ℝ) : EReal))
    (h : ℕ) (inb) (hs : S1x1x512.ShapeCasts S1x512) (x : Fin 512) :
    shapeCast S1x512 (v.readAt (Elt Ideal) (Rect.unit (s := S2x1x512) ![h, 0, 0] S1x1x512.size inb).toLoadRect X) hs (ix2 (0 : Fin 1) x)
      = ((D.sl h * L2 : ℝ) : EReal) := by
  have i0 : h + 1 ≤ 2 := inb 0
  refine (shapeCast_1ab_ab_apply _ _ _ _).trans ?_
  exact (rd3 v X _ inb (0 : Fin 1) (0 : Fin 1) x (⟨h, by omega⟩ : Fin 2) (0 : Fin 1) x (Nat.add_zero _) (Nat.zero_add _) (Nat.zero_add _)).trans (hp _ _)

/-- The distance as the tile's own block has it: a multiple of 256 behind. -/
theorem dist_own (s : FVec Ideal S1x512 .f32) (b : BitVec 32) (r B : ℕ) (x : Fin 512) (hs : s (ix2 (0 : Fin 1) x) = ((D.sl h * L2 : ℝ) : EReal))
    (hb : Ideal.ofBits .f32 b = ((-((r * 256 : ℕ) : ℝ) : ℝ) : EReal)) (hq : D.qi = B * 4 + r) :
    mulf s (broadcast S1x512 (Scalar.ofBits (F := Ideal) .f32 b)) (ix2 (0 : Fin 1) x) = (dist D h B : EReal) := by
  show s (ix2 (0 : Fin 1) x) * Ideal.ofBits .f32 b = _
  rw [hs, hb, ← EReal.coe_mul, dist, hq]
  congr 1
  push_cast; ring

/-- The distance to an earlier block. -/
theorem dist_early (s : FVec Ideal S1x512 .f32) (b : BitVec 32) (B : ℕ) (x : Fin 512) (hs : s (ix2 (0 : Fin 1) x) = ((D.sl h * L2 : ℝ) : EReal))
    (hb : b.toInt = (B * 1024 : ℕ) - (D.qi * 256 : ℕ)) :
    mulf s (sitofp .f32 (broadcast S1x512 b)) (ix2 (0 : Fin 1) x) = (dist D h B : EReal) := by
  show s (ix2 (0 : Fin 1) x) * ((b.toInt : ℝ) : EReal) = _
  rw [hs, hb, ← EReal.coe_mul, dist]
  congr 1
  push_cast; ring

/-! ## The tile's own block, up to the queries -/

theorem good_congr {h : ℕ} {P P' : Finset ℕ} {m l : FVec Ideal ⟨2, ![1, 512]⟩ .f32} {acc acc' : FVec Ideal ⟨2, ![128, 512]⟩ .f32} {x : Fin 512}
    (G : Good D h P m l acc x) (hP : P' = P) (he : ∀ e : Fin 128, acc' (ix2 e x) = acc (ix2 e x)) : Good D h P' m l acc' x := by
  subst hP
  obtain ⟨M, hm, hl, ha⟩ := G
  exact ⟨M, hm, hl, fun e => (he e).trans (ha e)⟩

/-- The scores of a tile's own block, masked behind the query: the tile `r` of the block. -/
theorem own_scores {n n0 : ℕ} (r B : ℕ) (hn : n = n0 + 256) (hr : n0 = r * 256) (hr4 : r < 4) (hq : D.qi = B * 4 + r)
    (kb : FVec Ideal ⟨4, ![1, 1, n, 128]⟩ .bf16) (pb : FVec Ideal ⟨3, ![1, n, 128]⟩ .bf16)
    (w : FVec Ideal ⟨3, ![1, 256, 512]⟩ .bf16) (rel : FVec Ideal ⟨2, ![256, 512]⟩ .f32) (mk : Ideal .f32)
    (h₁ : (⟨4, ![1, 1, n, 128]⟩ : Shape).ShapeCasts ⟨2, ![n, 128]⟩) (h₂ : (⟨3, ![1, n, 128]⟩ : Shape).ShapeCasts ⟨2, ![n, 128]⟩)
    (hc : Shape.Concatenates [⟨2, ![n, 128]⟩, ⟨2, ![n, 128]⟩] ⟨2, ![n, 256]⟩ 1)
    (h₃ : (⟨3, ![1, 256, 512]⟩ : Shape).ShapeCasts ⟨2, ![256, 512]⟩)
    (h₄ : (⟨2, ![256, 512]⟩ : Shape).ShapeCasts ⟨2, ![256, 512]⟩)
    (h₅ : (⟨2, ![n, 512]⟩ : Shape).Slices ![n0, 0] ⟨2, ![256, 512]⟩) (h₆ : (⟨2, ![n, 512]⟩ : Shape).Slices ![0, 0] ⟨2, ![n0, 512]⟩)
    (hc' : Shape.Concatenates [⟨2, ![n0, 512]⟩, ⟨2, ![256, 512]⟩] ⟨2, ![n, 512]⟩ 0)
    (hmk : mk = (⊥ : EReal)) (x : Fin 512)
    (hk : ∀ (κ : Fin n) (t : Fin 128), kb (ix4 (0 : Fin 1) (0 : Fin 1) κ t) = (D.kr (B * 1024 + (0 + κ)) (h * 128 + t) : EReal))
    (hp : ∀ (κ : Fin n) (t : Fin 128), pb (ix3 (0 : Fin 1) κ t) = ((D.sl h * (dig (0 + κ) t : ℕ) : ℝ) : EReal))
    (hw : ∀ t : Fin 256, w (ix3 (0 : Fin 1) t x) = (wf D h x t : EReal))
    (hrel : ∀ κ : Fin 256, rel (ix2 κ x) = (((κ.val : ℝ) - ((x.val % 256 : ℕ) : ℝ) : ℝ) : EReal)) (κ : Fin n) :
    let s := matmul (DotDims.plain n 256 512) none
        (concatenate ⟨2, ![n, 256]⟩ 1 [⟨⟨2, ![n, 128]⟩, shapeCast ⟨2, ![n, 128]⟩ kb h₁⟩, ⟨⟨2, ![n, 128]⟩, shapeCast ⟨2, ![n, 128]⟩ pb h₂⟩] hc)
        (shapeCast ⟨2, ![256, 512]⟩ w h₃) (constant (F := Ideal) ⟨2, ![n, 512]⟩ .f32 0#32)
    concatenate ⟨2, ![n, 512]⟩ 0 [⟨⟨2, ![n0, 512]⟩, extractStridedSlice ⟨2, ![n0, 512]⟩ ![0, 0] s h₆⟩,
        ⟨⟨2, ![256, 512]⟩, select (cmpf .ole (shapeCast ⟨2, ![256, 512]⟩ rel h₄) (broadcast ⟨2, ![256, 512]⟩ (Scalar.ofBits (F := Ideal) .f32 0#32)))
          (extractStridedSlice ⟨2, ![256, 512]⟩ ![n0, 0] s h₅) (broadcast ⟨2, ![256, 512]⟩ mk)⟩] hc' (ix2 κ x)
      = if B * 1024 + κ.val ≤ last D x then (raw D h (B * 1024 + κ) x : EReal) else ⊥ := by
  intro s
  refine (mask_apply hn s rel mk h₄ h₅ h₆ hc' (fun κ => raw D h (B * 1024 + (0 + κ)) x) κ x hmk hrel
    (fun κ => raw_block D h B 0 kb pb w h₁ h₂ hc h₃ κ x (by omega) hk hp hw)).trans ?_
  have e : κ.val ≤ n0 + x.val % 256 ↔ B * 1024 + κ.val ≤ last D x := by unfold last; rw [hq, hr]; omega
  simp only [e]; simp only [Nat.zero_add]

theorem own_scores0 (B : ℕ) (hq : D.qi = B * 4 + 0)
    (kb : FVec Ideal ⟨4, ![1, 1, 256, 128]⟩ .bf16) (pb : FVec Ideal ⟨3, ![1, 256, 128]⟩ .bf16)
    (w : FVec Ideal ⟨3, ![1, 256, 512]⟩ .bf16) (rel : FVec Ideal ⟨2, ![256, 512]⟩ .f32) (mk : Ideal .f32)
    (h₁ : (⟨4, ![1, 1, 256, 128]⟩ : Shape).ShapeCasts ⟨2, ![256, 128]⟩) (h₂ : (⟨3, ![1, 256, 128]⟩ : Shape).ShapeCasts ⟨2, ![256, 128]⟩)
    (hc : Shape.Concatenates [⟨2, ![256, 128]⟩, ⟨2, ![256, 128]⟩] ⟨2, ![256, 256]⟩ 1)
    (h₃ : (⟨3, ![1, 256, 512]⟩ : Shape).ShapeCasts ⟨2, ![256, 512]⟩)
    (h₄ : (⟨2, ![256, 512]⟩ : Shape).ShapeCasts ⟨2, ![256, 512]⟩)
    (hmk : mk = (⊥ : EReal)) (x : Fin 512)
    (hk : ∀ (κ : Fin 256) (t : Fin 128), kb (ix4 (0 : Fin 1) (0 : Fin 1) κ t) = (D.kr (B * 1024 + (0 + κ)) (h * 128 + t) : EReal))
    (hp : ∀ (κ : Fin 256) (t : Fin 128), pb (ix3 (0 : Fin 1) κ t) = ((D.sl h * (dig (0 + κ) t : ℕ) : ℝ) : EReal))
    (hw : ∀ t : Fin 256, w (ix3 (0 : Fin 1) t x) = (wf D h x t : EReal))
    (hrel : ∀ κ : Fin 256, rel (ix2 κ x) = (((κ.val : ℝ) - ((x.val % 256 : ℕ) : ℝ) : ℝ) : EReal)) (κ : Fin 256) :
    select (cmpf .ole (shapeCast ⟨2, ![256, 512]⟩ rel h₄) (broadcast ⟨2, ![256, 512]⟩ (Scalar.ofBits (F := Ideal) .f32 0#32)))
      (matmul (DotDims.plain 256 256 512) none
        (concatenate ⟨2, ![256, 256]⟩ 1 [⟨⟨2, ![256, 128]⟩, shapeCast ⟨2, ![256, 128]⟩ kb h₁⟩, ⟨⟨2, ![256, 128]⟩, shapeCast ⟨2, ![256, 128]⟩ pb h₂⟩] hc)
        (shapeCast ⟨2, ![256, 512]⟩ w h₃) (constant (F := Ideal) ⟨2, ![256, 512]⟩ .f32 0#32)) (broadcast ⟨2, ![256, 512]⟩ mk) (ix2 κ x)
      = if B * 1024 + κ.val ≤ last D x then (raw D h (B * 1024 + κ) x : EReal) else ⊥ := by
  refine (mask0_apply _ rel mk h₄ (fun κ => raw D h (B * 1024 + (0 + κ)) x) κ x hmk hrel
    (fun κ => raw_block D h B 0 kb pb w h₁ h₂ hc h₃ κ x (by omega) hk hp hw)).trans ?_
  have e : κ.val ≤ 0 + x.val % 256 ↔ B * 1024 + κ.val ≤ last D x := by unfold last; rw [hq]; omega
  simp only [e]; simp only [Nat.zero_add]

end Cert.KernelIdeal.Attn
-- ==== Proof.Branch.lean ====
/-
  What a branch leaves before the last stage: of each head, the sums of the keys up to the queries' own.
-/
module

public import proofs.«01_k».proof.Proof.Parts
public import proofs.«01_k».proof.Proof.Runs

@[expose] public section

set_option maxRecDepth 16384

noncomputable section

namespace Cert.KernelIdeal.Attn

open Cert.KernelIdeal Cert.KernelIdeal.Gen
open Idealize.ShloMosaic Idealize.ShloMosaic.ValueIdx

/-- The last stage of a head: the two branches divided by their denominators, subtracted, normalised, scaled. -/
def headOut (a : FVec Ideal S1x128x512 .f32) (l : FVec Ideal S1x512 .f32) (lam : FVec Ideal S4x64 .f32) (g : FVec Ideal S1x128 .f32) : FVec Ideal S256x128 .f32 :=
  let on := divf (shapeCast S128x512 a (by decide)) (broadcastTo S128x512 l (by decide))
  let ot := subf (extractStridedSlice S128x256 ![0, 0] on (by decide)) (mulf (broadcastTo S128x256 (k0_pay397 (F := Ideal) lam) (by decide)) (extractStridedSlice S128x256 ![0, 256] on (by decide)))
  let n := rsqrt (addf (divf (shapeCast S1x256 (multiReduction .add [0] S256 (mulf ot ot) 0#32 (by decide) (by decide) (by decide)) (by decide))
      (broadcast S1x256 (Scalar.ofBits (F := Ideal) .f32 1124073472#32))) (broadcast S1x256 (Scalar.ofBits (F := Ideal) .f32 925353388#32)))
  mulf (mulf (transpose S256x128 [1, 0] (mulf ot (broadcastTo S128x256 n (by decide))) (by decide)) (broadcastTo S256x128 (shapeCast S1x128 g (by decide)) (by decide)))
    (broadcast S256x128 (Scalar.ofBits (F := Ideal) .f32 1061997773#32))

/-- The two pieces a step writes. -/
def outL (a0 a1 : FVec Ideal S1x128x512 .f32) (l0 l1 : FVec Ideal S1x512 .f32) (lam : FVec Ideal S4x64 .f32) (g : FVec Ideal S1x128 .f32) :
    List (View.Piece (Elt Ideal) S256x256 .f32) :=
  [⟨Rect.unit ![0, 128] S256x128.size inb_S256x256_S256x128_0_128, headOut a1 l1 lam g⟩,
   ⟨Rect.unit ![0, 0] S256x128.size inb_S256x256_S256x128_0_0, headOut a0 l0 lam g⟩]

variable (D : Data)

/-- A head is done: denominators and numerators over all keys up to the query. -/
def Done (h : ℕ) (a : FVec Ideal S1x128x512 .f32) (l : FVec Ideal S1x512 .f32) : Prop :=
  ∀ x : Fin 512, ∃ m, Good D h (Finset.Ico 0 (last D x + 1)) m l (fun j => a (ix3 (0 : Fin 1) (j 0) (j 1))) x

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

/-- What a list of pieces is to be: the last stage of two heads that are done. -/
def Spec (L : List (View.Piece (Elt Ideal) S256x256 .f32)) : Prop :=
  ∃ a0 a1 l0 l1, L = outL a0 a1 l0 l1 (arg9.view.readAt (Elt Ideal) (Rect.unit (s := S4x64) ![0, 0] S4x64.size inb_S4x64_S4x64_0_0).toLoadRect X_arg9)
      (arg10.view.readAt (Elt Ideal) (Rect.unit (s := S1x128) ![0, 0] S1x128.size inb_S1x128_S1x128_0_0).toLoadRect X_arg10)
    ∧ Done D 0 a0 l0 ∧ Done D 1 a1 l1

theorem off_of {f : grid0.Coords → Fin 4 → ℕ} {g : ℕ → Fin 4 → ℕ} (h : ∀ q : Fin 32, ∀ a, f (at2 q) a = g q.val a)
    (hf : ∀ i, f i = f (at2 (i 2))) (i : grid0.Coords) : f i = g (i 2).val := (hf i).trans (funext (h (i 2)))

/-- The queries as the run has written them. -/
theorem queries (hq : ∀ d c : Fin 256, arg3.view.read (Elt Ideal) X_arg3 (ix4 (0 : Fin 1) (0 : Fin 1) d c) = (D.qr d c : EReal)) (h : Fin 2) (t : Fin 256) (x : Fin 512) :
    View.canon (L12 (arg3.view.readAt (Elt Ideal) (Rect.unit (s := S1x1x256x256) ![0, 0, 0, 0] S1x1x128x256.size (by decide)).toLoadRect X_arg3)
      (arg3.view.readAt (Elt Ideal) (Rect.unit (s := S1x1x256x256) ![0, 0, 128, 0] S1x1x128x256.size (by decide)).toLoadRect X_arg3)) (ix3 h t x) = (wf D h x t : EReal) :=
  L12_apply D _ _
    (fun t c => (rd4 arg3.view X_arg3 _ _ (0 : Fin 1) (0 : Fin 1) t c (0 : Fin 1) (0 : Fin 1) (⟨0 * 128 + t, by omega⟩ : Fin 256) c rfl rfl (by show 0 + t.val = 0 * 128 + t.val; omega) (Nat.zero_add _)).trans (hq _ _))
    (fun t c => (rd4 arg3.view X_arg3 _ _ (0 : Fin 1) (0 : Fin 1) t c (0 : Fin 1) (0 : Fin 1) (⟨1 * 128 + t, by omega⟩ : Fin 256) c rfl rfl (by show 128 + t.val = 1 * 128 + t.val; omega) (Nat.zero_add _)).trans (hq _ _))
    h t x

theorem relread (hp : ∀ (κ : Fin 256) (x : Fin 512), arg7.view.read (Elt Ideal) X_arg7 (ix2 κ x) = (((κ.val : ℝ) - ((x.val % 256 : ℕ) : ℝ) : ℝ) : EReal)) (inb) (x : Fin 512) (κ : Fin 256) :
    arg7.view.readAt (Elt Ideal) (Rect.unit (s := S256x512) ![0, 0] S256x512.size inb).toLoadRect X_arg7 (ix2 κ x) = (((κ.val : ℝ) - ((x.val % 256 : ℕ) : ℝ) : ℝ) : EReal) :=
  (rd2 arg7.view X_arg7 _ inb κ x κ x (Nat.zero_add _) (Nat.zero_add _)).trans (hp κ x)

/-- The two heads' numerators as written. -/
def accL (acc0 acc1 : FVec Ideal S128x512 .f32) : List (View.Piece (Elt Ideal) S2x128x512 .f32) :=
  [⟨Rect.unit ![1, 0, 0] S1x128x512.size inb_S2x128x512_S1x128x512_1_0_0, shapeCast S1x128x512 acc1 shapeCasts_S128x512_S1x128x512⟩,
   ⟨Rect.unit ![0, 0, 0] S1x128x512.size inb_S2x128x512_S1x128x512_0_0_0, shapeCast S1x128x512 acc0 shapeCasts_S128x512_S1x128x512⟩]

theorem accL_1 (acc0 acc1 : FVec Ideal S128x512 .f32) (L) (e : Fin 128) (x : Fin 512) :
    View.canon (accL acc0 acc1 ++ L) (ix3 (1 : Fin 2) e x) = acc1 (ix2 e x) :=
  (canon3_hit inb_S2x128x512_S1x128x512_1_0_0 _ _ (1 : Fin 2) e x (0 : Fin 1) e x rfl (Nat.zero_add _).symm (Nat.zero_add _).symm).trans (shapeCast_ab_1ab_apply _ _ _ _ _)

theorem accL_0 (acc0 acc1 : FVec Ideal S128x512 .f32) (L) (e : Fin 128) (x : Fin 512) :
    View.canon (accL acc0 acc1 ++ L) (ix3 (0 : Fin 2) e x) = acc0 (ix2 e x) :=
  (canon3_miss inb_S2x128x512_S1x128x512_1_0_0 _ _ (0 : Fin 2) e x (Or.inl (by decide))).trans
    ((canon3_hit inb_S2x128x512_S1x128x512_0_0_0 _ _ (0 : Fin 2) e x (0 : Fin 1) e x rfl (Nat.zero_add _).symm (Nat.zero_add _).symm).trans (shapeCast_ab_1ab_apply _ _ _ _ _))

/-- A head's own block: what the run computes of it before any earlier block is taken in. -/
theorem own_head {n n0 : ℕ} (r : ℕ) (hn : n = n0 + 256) (hr : n0 = r * 256) (hr4 : r < 4) (h B : ℕ) (hq : D.qi = B * 4 + r)
    (R : Reads D (arg3.view.read _ X_arg3) (arg4.view.read _ X_arg4) (arg5.view.read _ X_arg5) (arg6.view.read _ X_arg6) (arg7.view.read _ X_arg7) (arg8.view.read _ X_arg8))
    (L : List (View.Piece (Elt Ideal) S2x256x512 .bf16))
    (hL : ∀ (h : Fin 2) (t : Fin 256) (x : Fin 512), View.canon L (ix3 h t x) = (wf D h x t : EReal))
    {offK : Fin 4 → ℕ} {inbK inbP inbW inbR inbS} (hoK : offK = ![0, B, 0, h * 128])
    {v : FVec Ideal ⟨2, ![128, n]⟩ .bf16} (hv : ∀ (e : Fin 128) (κ : Fin n), v (ix2 e κ) = (D.vr (B * 1024 + κ) (h * 128 + e) : EReal))
    (h₁ : (⟨4, ![1, 1, n, 128]⟩ : Shape).ShapeCasts ⟨2, ![n, 128]⟩) (h₂ : (⟨3, ![1, n, 128]⟩ : Shape).ShapeCasts ⟨2, ![n, 128]⟩)
    (hc₁ : Shape.Concatenates [⟨2, ![n, 128]⟩, ⟨2, ![n, 128]⟩] ⟨2, ![n, 256]⟩ 1)
    (h₃ : (⟨3, ![1, 256, 512]⟩ : Shape).ShapeCasts ⟨2, ![256, 512]⟩)
    (h₄ : (⟨2, ![256, 512]⟩ : Shape).ShapeCasts ⟨2, ![256, 512]⟩)
    (h₅ : (⟨2, ![n, 512]⟩ : Shape).Slices ![n0, 0] ⟨2, ![256, 512]⟩) (h₆ : (⟨2, ![n, 512]⟩ : Shape).Slices ![0, 0] ⟨2, ![n0, 512]⟩)
    (hc₂ : Shape.Concatenates [⟨2, ![n0, 512]⟩, ⟨2, ![256, 512]⟩] ⟨2, ![n, 512]⟩ 0) (h₇ : S1x1x512.ShapeCasts S1x512)
    {mk : Ideal .f32} (hmk : mk = (⊥ : EReal)) {b : BitVec 32} (hb : Ideal.ofBits .f32 b = ((-((r * 256 : ℕ) : ℝ) : ℝ) : EReal))
    (hd : (⟨2, ![n, 512]⟩ : Shape).Reduces [0] ⟨1, ![512]⟩)
    (hf : FKind.Formats .f32) (hi : (0xFF800000#32 : BitVec FTy.f32.bits) = FKind.maximumf.neutral .f32 hf)
    (hsc : (⟨1, ![512]⟩ : Shape).ShapeCasts ⟨2, ![1, 512]⟩)
    (hb' : (⟨2, ![1, 512]⟩ : Shape).Broadcasts ⟨2, ![n, 512]⟩)
    (hc : Shape.Concatenates [⟨2, ![128, n]⟩, ⟨2, ![16, n]⟩] ⟨2, ![144, n]⟩ 0) (hlt : FTy.bits .bf16 < FTy.bits .f32)
    (h₈ : (⟨2, ![144, 512]⟩ : Shape).Slices ![128, 0] ⟨2, ![1, 512]⟩) (h₉ : (⟨2, ![144, 512]⟩ : Shape).Slices ![0, 0] ⟨2, ![128, 512]⟩) (x : Fin 512) :
    let kb : FVec Ideal ⟨4, ![1, 1, n, 128]⟩ .bf16 := arg4.view.readAt (Elt Ideal) (Rect.unit (s := S1x8x1024x256) offK ![1, 1, n, 128] inbK).toLoadRect X_arg4
    let pb : FVec Ideal ⟨3, ![1, n, 128]⟩ .bf16 := arg6.view.readAt (Elt Ideal) (Rect.unit (s := S2x1024x128) ![h, 0, 0] ![1, n, 128] inbP).toLoadRect X_arg6
    let w : FVec Ideal ⟨3, ![1, 256, 512]⟩ .bf16 := arg12.view.readCov (Val := Elt Ideal) L (Rect.unit (s := S2x256x512) ![h, 0, 0] S1x256x512.size inbW).toLoadRect
    let rel : FVec Ideal ⟨2, ![256, 512]⟩ .f32 := arg7.view.readAt (Elt Ideal) (Rect.unit (s := S256x512) ![0, 0] S256x512.size inbR).toLoadRect X_arg7
    let sw : FVec Ideal S1x1x512 .f32 := arg8.view.readAt (Elt Ideal) (Rect.unit (s := S2x1x512) ![h, 0, 0] S1x1x512.size inbS).toLoadRect X_arg8
    let s' : FVec Ideal ⟨2, ![n, 512]⟩ .f32 := matmul (DotDims.plain n 256 512) none
        (concatenate ⟨2, ![n, 256]⟩ 1 [⟨⟨2, ![n, 128]⟩, shapeCast ⟨2, ![n, 128]⟩ kb h₁⟩,
          ⟨⟨2, ![n, 128]⟩, shapeCast ⟨2, ![n, 128]⟩ pb h₂⟩] hc₁)
        (shapeCast ⟨2, ![256, 512]⟩ w h₃) (constant (F := Ideal) ⟨2, ![n, 512]⟩ .f32 0#32)
    let s : FVec Ideal ⟨2, ![n, 512]⟩ .f32 := concatenate ⟨2, ![n, 512]⟩ 0 [⟨⟨2, ![n0, 512]⟩, extractStridedSlice ⟨2, ![n0, 512]⟩ ![0, 0] s' h₆⟩,
        ⟨⟨2, ![256, 512]⟩, select (cmpf .ole (shapeCast ⟨2, ![256, 512]⟩ rel h₄) (broadcast ⟨2, ![256, 512]⟩ (Scalar.ofBits (F := Ideal) .f32 0#32)))
          (extractStridedSlice ⟨2, ![256, 512]⟩ ![n0, 0] s' h₅) (broadcast ⟨2, ![256, 512]⟩ mk)⟩] hc₂
    let d := mulf (shapeCast S1x512 sw h₇) (broadcast S1x512 (Scalar.ofBits (F := Ideal) .f32 b))
    let m := addf (shapeCast ⟨2, ![1, 512]⟩ (multiReduction .maximumf [0] ⟨1, ![512]⟩ s 0xFF800000#32 hd hf hi) hsc) d
    let pv := (matmul (DotDims.plain 144 n 512) none
        (concatenate ⟨2, ![144, n]⟩ 0 [⟨⟨2, ![128, n]⟩, v⟩, ⟨⟨2, ![16, n]⟩, broadcast ⟨2, ![16, n]⟩ (FloatOps.ofBits .bf16 0x3F80#16 : Ideal .bf16)⟩] hc)
        (truncf .bf16 (exp2 (subf s (broadcastTo ⟨2, ![n, 512]⟩ (subf m d) hb'))) hlt) (constant (F := Ideal) ⟨2, ![144, 512]⟩ .f32 0#32))
    Good D h (Finset.Ico (B * 1024) (last D x + 1)) m (extractStridedSlice ⟨2, ![1, 512]⟩ ![128, 0] pv h₈) (extractStridedSlice ⟨2, ![128, 512]⟩ ![0, 0] pv h₉) x :=
  diag_good (n := n) D h B (last D x) _ _ v hd hf hi hsc hb' hc hlt h₈ h₉ x (by unfold last; omega) (by unfold last; omega) (by omega)
    (dist_own D h _ _ r B x (slread D arg8.view X_arg8 R.slope h _ h₇ x) hb hq) hv
    (own_scores D h r B hn hr hr4 hq _ _ _ _ mk h₁ h₂ hc₁ h₃ h₄ h₅ h₆ hc₂ hmk x
      (kread D arg4.view X_arg4 R.k _ _ _ 0 _ hoK) (posread D arg6.view X_arg6 R.pos h 0 _)
      (fun t => wread D arg12.view _ hL h _ t x) (relread arg7 X_arg7 R.rel _ x))

/-- A head's own block in the first tile: what the run computes of it before any earlier block is taken in. -/
theorem own_head0 (h B : ℕ) (hq : D.qi = B * 4 + 0)
    (R : Reads D (arg3.view.read _ X_arg3) (arg4.view.read _ X_arg4) (arg5.view.read _ X_arg5) (arg6.view.read _ X_arg6) (arg7.view.read _ X_arg7) (arg8.view.read _ X_arg8))
    (L : List (View.Piece (Elt Ideal) S2x256x512 .bf16))
    (hL : ∀ (h : Fin 2) (t : Fin 256) (x : Fin 512), View.canon L (ix3 h t x) = (wf D h x t : EReal))
    {offK : Fin 4 → ℕ} {inbK inbP inbW inbR inbS} (hoK : offK = ![0, B, 0, h * 128])
    {v : FVec Ideal ⟨2, ![128, 256]⟩ .bf16} (hv : ∀ (e : Fin 128) (κ : Fin 256), v (ix2 e κ) = (D.vr (B * 1024 + κ) (h * 128 + e) : EReal))
    (h₁ : (⟨4, ![1, 1, 256, 128]⟩ : Shape).ShapeCasts ⟨2, ![256, 128]⟩) (h₂ : (⟨3, ![1, 256, 128]⟩ : Shape).ShapeCasts ⟨2, ![256, 128]⟩)
    (hc₁ : Shape.Concatenates [⟨2, ![256, 128]⟩, ⟨2, ![256, 128]⟩] ⟨2, ![256, 256]⟩ 1)
    (h₃ : (⟨3, ![1, 256, 512]⟩ : Shape).ShapeCasts ⟨2, ![256, 512]⟩)
    (h₄ : (⟨2, ![256, 512]⟩ : Shape).ShapeCasts ⟨2, ![256, 512]⟩) (h₇ : S1x1x512.ShapeCasts S1x512)
    {mk : Ideal .f32} (hmk : mk = (⊥ : EReal)) {b : BitVec 32} (hb : Ideal.ofBits .f32 b = ((-((0 * 256 : ℕ) : ℝ) : ℝ) : EReal))
    (hd : (⟨2, ![256, 512]⟩ : Shape).Reduces [0] ⟨1, ![512]⟩)
    (hf : FKind.Formats .f32) (hi : (0xFF800000#32 : BitVec FTy.f32.bits) = FKind.maximumf.neutral .f32 hf)
    (hsc : (⟨1, ![512]⟩ : Shape).ShapeCasts ⟨2, ![1, 512]⟩)
    (hb' : (⟨2, ![1, 512]⟩ : Shape).Broadcasts ⟨2, ![256, 512]⟩)
    (hc : Shape.Concatenates [⟨2, ![128, 256]⟩, ⟨2, ![16, 256]⟩] ⟨2, ![144, 256]⟩ 0) (hlt : FTy.bits .bf16 < FTy.bits .f32)
    (h₈ : (⟨2, ![144, 512]⟩ : Shape).Slices ![128, 0] ⟨2, ![1, 512]⟩) (h₉ : (⟨2, ![144, 512]⟩ : Shape).Slices ![0, 0] ⟨2, ![128, 512]⟩) (x : Fin 512) :
    let kb : FVec Ideal ⟨4, ![1, 1, 256, 128]⟩ .bf16 := arg4.view.readAt (Elt Ideal) (Rect.unit (s := S1x8x1024x256) offK ![1, 1, 256, 128] inbK).toLoadRect X_arg4
    let pb : FVec Ideal ⟨3, ![1, 256, 128]⟩ .bf16 := arg6.view.readAt (Elt Ideal) (Rect.unit (s := S2x1024x128) ![h, 0, 0] ![1, 256, 128] inbP).toLoadRect X_arg6
    let w : FVec Ideal ⟨3, ![1, 256, 512]⟩ .bf16 := arg12.view.readCov (Val := Elt Ideal) L (Rect.unit (s := S2x256x512) ![h, 0, 0] S1x256x512.size inbW).toLoadRect
    let rel : FVec Ideal ⟨2, ![256, 512]⟩ .f32 := arg7.view.readAt (Elt Ideal) (Rect.unit (s := S256x512) ![0, 0] S256x512.size inbR).toLoadRect X_arg7
    let sw : FVec Ideal S1x1x512 .f32 := arg8.view.readAt (Elt Ideal) (Rect.unit (s := S2x1x512) ![h, 0, 0] S1x1x512.size inbS).toLoadRect X_arg8
    let s' : FVec Ideal ⟨2, ![256, 512]⟩ .f32 := matmul (DotDims.plain 256 256 512) none
        (concatenate ⟨2, ![256, 256]⟩ 1 [⟨⟨2, ![256, 128]⟩, shapeCast ⟨2, ![256, 128]⟩ kb h₁⟩,
          ⟨⟨2, ![256, 128]⟩, shapeCast ⟨2, ![256, 128]⟩ pb h₂⟩] hc₁)
        (shapeCast ⟨2, ![256, 512]⟩ w h₃) (constant (F := Ideal) ⟨2, ![256, 512]⟩ .f32 0#32)
    let s : FVec Ideal ⟨2, ![256, 512]⟩ .f32 := select (cmpf .ole (shapeCast ⟨2, ![256, 512]⟩ rel h₄) (broadcast ⟨2, ![256, 512]⟩ (Scalar.ofBits (F := Ideal) .f32 0#32))) s' (broadcast ⟨2, ![256, 512]⟩ mk)
    let d := mulf (shapeCast S1x512 sw h₇) (broadcast S1x512 (Scalar.ofBits (F := Ideal) .f32 b))
    let m := addf (shapeCast ⟨2, ![1, 512]⟩ (multiReduction .maximumf [0] ⟨1, ![512]⟩ s 0xFF800000#32 hd hf hi) hsc) d
    let pv := (matmul (DotDims.plain 144 256 512) none
        (concatenate ⟨2, ![144, 256]⟩ 0 [⟨⟨2, ![128, 256]⟩, v⟩, ⟨⟨2, ![16, 256]⟩, broadcast ⟨2, ![16, 256]⟩ (FloatOps.ofBits .bf16 0x3F80#16 : Ideal .bf16)⟩] hc)
        (truncf .bf16 (exp2 (subf s (broadcastTo ⟨2, ![256, 512]⟩ (subf m d) hb'))) hlt) (constant (F := Ideal) ⟨2, ![144, 512]⟩ .f32 0#32))
    Good D h (Finset.Ico (B * 1024) (last D x + 1)) m (extractStridedSlice ⟨2, ![1, 512]⟩ ![128, 0] pv h₈) (extractStridedSlice ⟨2, ![128, 512]⟩ ![0, 0] pv h₉) x :=
  diag_good (n := 256) D h B (last D x) _ _ v hd hf hi hsc hb' hc hlt h₈ h₉ x (by unfold last; omega) (by unfold last; omega) (by omega)
    (dist_own D h _ _ 0 B x (slread D arg8.view X_arg8 R.slope h _ h₇ x) hb hq) hv
    (own_scores0 D h B hq _ _ _ _ mk h₁ h₂ hc₁ h₃ h₄ hmk x
      (kread D arg4.view X_arg4 R.k _ _ _ 0 _ hoK) (posread D arg6.view X_arg6 R.pos h 0 _)
      (fun t => wread D arg12.view _ hL h _ t x) (relread arg7 X_arg7 R.rel _ x))

theorem done_pair (hz : (i 2).val / 4 = 0) {acc0 acc1 : FVec Ideal S128x512 .f32} {l0 l1 : FVec Ideal S1x512 .f32} (inb0 inb1)
    (G0 : ∀ x : Fin 512, ∃ m, Good D 0 (Finset.Ico ((i 2).val / 4 * 1024) (last D x + 1)) m l0 acc0 x)
    (G1 : ∀ x : Fin 512, ∃ m, Good D 1 (Finset.Ico ((i 2).val / 4 * 1024) (last D x + 1)) m l1 acc1 x) :
    Done D 0 (arg13.view.readCov (Val := Elt Ideal) (accL acc0 acc1) (Rect.unit (s := S2x128x512) ![0, 0, 0] S1x128x512.size inb0).toLoadRect) l0
    ∧ Done D 1 (arg13.view.readCov (Val := Elt Ideal) (accL acc0 acc1) (Rect.unit (s := S2x128x512) ![1, 0, 0] S1x128x512.size inb1).toLoadRect) l1 := by
  refine ⟨fun x => (G0 x).imp fun m G => ?_, fun x => (G1 x).imp fun m G => ?_⟩
  · refine good_congr D G (by rw [hz]) (fun e => ?_)
    exact (cov3 arg13.view _ _ inb0 (0 : Fin 1) e x (0 : Fin 2) e x rfl (Nat.zero_add _) (Nat.zero_add _)).trans (accL_0 acc0 acc1 [] e x)
  · refine good_congr D G (by rw [hz]) (fun e => ?_)
    exact (cov3 arg13.view _ _ inb1 (0 : Fin 1) e x (1 : Fin 2) e x rfl (Nat.zero_add _) (Nat.zero_add _)).trans (accL_1 acc0 acc1 [] e x)

set_option maxHeartbeats 4000000 in
theorem spec0 (hqi : D.qi = (i 2).val) (hq : br (i 2).val = 0)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run0 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 0 := by unfold br at hq; split at hq <;> omega
  have hz : (i 2).val / 4 = 0 := by unfold br at hq; split at hq <;> omega
  refine ⟨_, _, _, _, by unfold run0; rfl, ?_⟩
  have e1 : Scf.trips (k0_t1_loop i).lb (k0_t1_loop i).ub (k0_t1_loop i).st = 0 := (trips1 i).trans (by omega)
  have e2 : Scf.trips (k0_t2_loop i).lb (k0_t2_loop i).ub (k0_t2_loop i).st = 0 := trips2 i
  unfold run0.sl.v138 run0.sl.v165 run0.sl.r_9 run0.sl.r_10
  rw [e2]
  simp only [st_k0_t2.eq_1]
  rw [e1]
  simp only [st_k0_t1.eq_1, List.nil_append]
  refine done_pair D i arg13 hz _ _ (fun x => ?_) (fun x => ?_)
  · unfold run0.sl.r_8 run0.sl.r_4 k0_pay219 run0.sl.r_3 k0_pay218 run0.sl.r_2 k0_pay217 k0_pay227 k0_pay225 k0_pay220
    exact ⟨_, own_head0 D arg3 arg4 arg5 arg6 arg7 arg8 arg12 X_arg3 X_arg4 X_arg5 X_arg6 X_arg7 X_arg8 0 ((i 2).val / 4) hB R _ (queries D arg3 X_arg3 R.q)
      (off_of (f := k0_off29) (g := fun q => ![0, q / 4, 0, 0 * 128]) (by decide +kernel) (fun _ => rfl) i)
      (strips1 D 0 _ _
        (Strip.block D 0 0 (vread D arg5.view X_arg5 R.v _ _ _ 0 (off_of (f := k0_off31) (g := fun q => ![0, q / 4 * 4 + 0, 0 * 128, 0]) (by decide +kernel) (fun _ => rfl) i) _)))
      (by decide) (by decide) (by decide) (by decide) (by decide) (by decide) (IdealRules.named_const.ideal_named_scalar _ _ _ _ rfl) (by simp [Ideal.ofBits, Ideal.ieee])
      (by decide) (.inl rfl) rfl (by decide) (by decide) (by decide) (by decide) (by decide) (by decide) x⟩
  · unfold run0.sl.r_7 run0.sl.r_1 k0_pay216 k0_pay224 k0_pay223 k0_pay222 k0_pay221 k0_pay384 k0_pay382
    exact ⟨_, own_head0 D arg3 arg4 arg5 arg6 arg7 arg8 arg12 X_arg3 X_arg4 X_arg5 X_arg6 X_arg7 X_arg8 1 ((i 2).val / 4) hB R _ (queries D arg3 X_arg3 R.q)
      (off_of (f := k0_off30) (g := fun q => ![0, q / 4, 0, 1 * 128]) (by decide +kernel) (fun _ => rfl) i)
      (strips1 D 1 _ _
        (Strip.block D 1 0 (vread D arg5.view X_arg5 R.v _ _ _ 1 (off_of (f := k0_off32) (g := fun q => ![0, q / 4 * 4 + 0, 1 * 128, 0]) (by decide +kernel) (fun _ => rfl) i) _)))
      (by decide) (by decide) (by decide) (by decide) (by decide) (by decide) (IdealRules.named_const.ideal_named_scalar _ _ _ _ rfl) (by simp [Ideal.ofBits, Ideal.ieee])
      (by decide) (.inl rfl) rfl (by decide) (by decide) (by decide) (by decide) (by decide) (by decide) x⟩

set_option maxHeartbeats 4000000 in
theorem spec1 (hqi : D.qi = (i 2).val) (hq : br (i 2).val = 1)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run1 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 1 := by unfold br at hq; split at hq <;> omega
  have hz : (i 2).val / 4 = 0 := by unfold br at hq; split at hq <;> omega
  refine ⟨_, _, _, _, by unfold run1; rfl, ?_⟩
  have e1 : Scf.trips (k0_t1_loop i).lb (k0_t1_loop i).ub (k0_t1_loop i).st = 0 := (trips1 i).trans (by omega)
  have e2 : Scf.trips (k0_t2_loop i).lb (k0_t2_loop i).ub (k0_t2_loop i).st = 0 := trips2 i
  unfold run1.sl.v138 run1.sl.v165 run1.sl.r_9 run1.sl.r_10
  rw [e2]
  simp only [st_k0_t2.eq_1]
  rw [e1]
  simp only [st_k0_t1.eq_1, List.nil_append]
  refine done_pair D i arg13 hz _ _ (fun x => ?_) (fun x => ?_)
  · unfold run1.sl.r_8 k0_pay214 run1.sl.r_6 run1.sl.r_3 k0_pay205 run1.sl.r_2 k0_pay204 k0_pay206 k0_pay212 k0_pay208 k0_pay207 k0_pay378 k0_pay376
    exact ⟨_, own_head (n := 512) (n0 := 256) D arg3 arg4 arg5 arg6 arg7 arg8 arg12 X_arg3 X_arg4 X_arg5 X_arg6 X_arg7 X_arg8 1 rfl rfl (by decide) 0 ((i 2).val / 4) hB R _ (queries D arg3 X_arg3 R.q)
      (off_of (f := k0_off25) (g := fun q => ![0, q / 4, 0, 0 * 128]) (by decide +kernel) (fun _ => rfl) i)
      (strips2 D 0 _ _ _ _
        (Strip.block D 0 0 (vread D arg5.view X_arg5 R.v _ _ _ 0 (off_of (f := fun i => k0_off27 i 0#32) (g := fun q => ![0, q / 4 * 4 + 0, 0 * 128, 0]) (by decide +kernel) (fun _ => rfl) i) _))
        (Strip.block D 0 1 (vread D arg5.view X_arg5 R.v _ _ _ 0 (off_of (f := fun i => k0_off27 i 1#32) (g := fun q => ![0, q / 4 * 4 + 1, 0 * 128, 0]) (by decide +kernel) (fun _ => rfl) i) _)))
      (by decide) (by decide) (by decide) (by decide) (by decide) (by decide) (by decide) (by decide) (by decide) (IdealRules.named_const.ideal_named_scalar _ _ _ _ rfl) (by simp [Ideal.ofBits, Ideal.ieee, -EReal.coe_mul]; norm_num)
      (by decide) (.inl rfl) rfl (by decide) (by decide) (by decide) (by decide) (by decide) (by decide) x⟩
  · unfold run1.sl.r_7 run1.sl.r_1 k0_pay203 k0_pay213 k0_pay211 k0_pay210 k0_pay209 k0_pay381 k0_pay379
    exact ⟨_, own_head (n := 512) (n0 := 256) D arg3 arg4 arg5 arg6 arg7 arg8 arg12 X_arg3 X_arg4 X_arg5 X_arg6 X_arg7 X_arg8 1 rfl rfl (by decide) 1 ((i 2).val / 4) hB R _ (queries D arg3 X_arg3 R.q)
      (off_of (f := k0_off26) (g := fun q => ![0, q / 4, 0, 1 * 128]) (by decide +kernel) (fun _ => rfl) i)
      (strips2 D 1 _ _ _ _
        (Strip.block D 1 0 (vread D arg5.view X_arg5 R.v _ _ _ 1 (off_of (f := fun i => k0_off28 i 0#32) (g := fun q => ![0, q / 4 * 4 + 0, 1 * 128, 0]) (by decide +kernel) (fun _ => rfl) i) _))
        (Strip.block D 1 1 (vread D arg5.view X_arg5 R.v _ _ _ 1 (off_of (f := fun i => k0_off28 i 1#32) (g := fun q => ![0, q / 4 * 4 + 1, 1 * 128, 0]) (by decide +kernel) (fun _ => rfl) i) _)))
      (by decide) (by decide) (by decide) (by decide) (by decide) (by decide) (by decide) (by decide) (by decide) (IdealRules.named_const.ideal_named_scalar _ _ _ _ rfl) (by simp [Ideal.ofBits, Ideal.ieee, -EReal.coe_mul]; norm_num)
      (by decide) (.inl rfl) rfl (by decide) (by decide) (by decide) (by decide) (by decide) (by decide) x⟩

set_option maxHeartbeats 4000000 in
theorem spec2 (hqi : D.qi = (i 2).val) (hq : br (i 2).val = 2)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run2 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 2 := by unfold br at hq; split at hq <;> omega
  have hz : (i 2).val / 4 = 0 := by unfold br at hq; split at hq <;> omega
  refine ⟨_, _, _, _, by unfold run2; rfl, ?_⟩
  have e1 : Scf.trips (k0_t1_loop i).lb (k0_t1_loop i).ub (k0_t1_loop i).st = 0 := (trips1 i).trans (by omega)
  have e2 : Scf.trips (k0_t2_loop i).lb (k0_t2_loop i).ub (k0_t2_loop i).st = 0 := trips2 i
  unfold run2.sl.v138 run2.sl.v165 run2.sl.r_10 run2.sl.r_11
  rw [e2]
  simp only [st_k0_t2.eq_1]
  rw [e1]
  simp only [st_k0_t1.eq_1, List.nil_append]
  refine done_pair D i arg13 hz _ _ (fun x => ?_) (fun x => ?_)
  · unfold run2.sl.v281 run2.sl.v276 run2.sl.cst_153 run2.sl.v275 run2.sl.r_6 run2.sl.r_3 k0_pay186 run2.sl.r_2 k0_pay185 k0_pay187 k0_pay193 k0_pay189 k0_pay188 run2.sl.v274 run2.sl.v273 run2.sl.cst_152 run2.sl.v272 run2.sl.v271 run2.sl.r_9 k0_pay196 run2.sl.r_8 k0_pay195
    exact ⟨_, own_head (n := 768) (n0 := 512) D arg3 arg4 arg5 arg6 arg7 arg8 arg12 X_arg3 X_arg4 X_arg5 X_arg6 X_arg7 X_arg8 2 rfl rfl (by decide) 0 ((i 2).val / 4) hB R _ (queries D arg3 X_arg3 R.q)
      (off_of (f := k0_off21) (g := fun q => ![0, q / 4, 0, 0 * 128]) (by decide +kernel) (fun _ => rfl) i)
      (strips3 D 0 _ _ _ _ _
        (Strip.block D 0 0 (vread D arg5.view X_arg5 R.v _ _ _ 0 (off_of (f := fun i => k0_off23 i 0#32) (g := fun q => ![0, q / 4 * 4 + 0, 0 * 128, 0]) (by decide +kernel) (fun _ => rfl) i) _))
        (Strip.block D 0 1 (vread D arg5.view X_arg5 R.v _ _ _ 0 (off_of (f := fun i => k0_off23 i 1#32) (g := fun q => ![0, q / 4 * 4 + 1, 0 * 128, 0]) (by decide +kernel) (fun _ => rfl) i) _))
        (Strip.block D 0 2 (vread D arg5.view X_arg5 R.v _ _ _ 0 (off_of (f := fun i => k0_off23 i 2#32) (g := fun q => ![0, q / 4 * 4 + 2, 0 * 128, 0]) (by decide +kernel) (fun _ => rfl) i) _)))
      (by decide) (by decide) (by decide) (by decide) (by decide) (by decide) (by decide) (by decide) (by decide) (IdealRules.named_const.ideal_named_scalar _ _ _ _ rfl) (by simp [Ideal.ofBits, Ideal.ieee, -EReal.coe_mul]; norm_num)
      (by decide) (.inl rfl) rfl (by decide) (by decide) (by decide) (by decide) (by decide) (by decide) x⟩
  · unfold run2.sl.v300 run2.sl.r_7 run2.sl.r_1 k0_pay184 k0_pay194 k0_pay192 k0_pay191 k0_pay190 run2.sl.v299 run2.sl.v273 run2.sl.cst_152 run2.sl.v297 run2.sl.v296 run2.sl.v291 run2.sl.v286 k0_pay375 k0_pay373
    exact ⟨_, own_head (n := 768) (n0 := 512) D arg3 arg4 arg5 arg6 arg7 arg8 arg12 X_arg3 X_arg4 X_arg5 X_arg6 X_arg7 X_arg8 2 rfl rfl (by decide) 1 ((i 2).val / 4) hB R _ (queries D arg3 X_arg3 R.q)
      (off_of (f := k0_off22) (g := fun q => ![0, q / 4, 0, 1 * 128]) (by decide +kernel) (fun _ => rfl) i)
      (strips3 D 1 _ _ _ _ _
        (Strip.block D 1 0 (vread D arg5.view X_arg5 R.v _ _ _ 1 (off_of (f := fun i => k0_off24 i 0#32) (g := fun q => ![0, q / 4 * 4 + 0, 1 * 128, 0]) (by decide +kernel) (fun _ => rfl) i) _))
        (Strip.block D 1 1 (vread D arg5.view X_arg5 R.v _ _ _ 1 (off_of (f := fun i => k0_off24 i 1#32) (g := fun q => ![0, q / 4 * 4 + 1, 1 * 128, 0]) (by decide +kernel) (fun _ => rfl) i) _))
        (Strip.block D 1 2 (vread D arg5.view X_arg5 R.v _ _ _ 1 (off_of (f := fun i => k0_off24 i 2#32) (g := fun q => ![0, q / 4 * 4 + 2, 1 * 128, 0]) (by decide +kernel) (fun _ => rfl) i) _)))
      (by decide) (by decide) (by decide) (by decide) (by decide) (by decide) (by decide) (by decide) (by decide) (IdealRules.named_const.ideal_named_scalar _ _ _ _ rfl) (by simp [Ideal.ofBits, Ideal.ieee, -EReal.coe_mul]; norm_num)
      (by decide) (.inl rfl) rfl (by decide) (by decide) (by decide) (by decide) (by decide) (by decide) x⟩

set_option maxHeartbeats 4000000 in
theorem spec3 (hqi : D.qi = (i 2).val) (hq : br (i 2).val = 3)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run3 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 3 := by unfold br at hq; split at hq <;> omega
  have hz : (i 2).val / 4 = 0 := by unfold br at hq; split at hq <;> omega
  refine ⟨_, _, _, _, by unfold run3; rfl, ?_⟩
  have e1 : Scf.trips (k0_t1_loop i).lb (k0_t1_loop i).ub (k0_t1_loop i).st = 0 := (trips1 i).trans (by omega)
  have e2 : Scf.trips (k0_t2_loop i).lb (k0_t2_loop i).ub (k0_t2_loop i).st = 0 := trips2 i
  unfold run3.sl.v138 run3.sl.v165 run3.sl.r_10 run3.sl.r_11
  rw [e2]
  simp only [st_k0_t2.eq_1]
  rw [e1]
  simp only [st_k0_t1.eq_1, List.nil_append]
  refine done_pair D i arg13 hz _ _ (fun x => ?_) (fun x => ?_)
  · unfold run3.sl.v289 run3.sl.v284 run3.sl.cst_160 run3.sl.v283 run3.sl.r_6 run3.sl.r_3 k0_pay167 run3.sl.r_2 k0_pay166 k0_pay168 k0_pay174 k0_pay170 k0_pay169 run3.sl.v282 run3.sl.v281 run3.sl.cst_159 run3.sl.v280 run3.sl.v279 run3.sl.v274 run3.sl.r_9 k0_pay177 run3.sl.r_8 k0_pay176
    exact ⟨_, own_head (n := 1024) (n0 := 768) D arg3 arg4 arg5 arg6 arg7 arg8 arg12 X_arg3 X_arg4 X_arg5 X_arg6 X_arg7 X_arg8 3 rfl rfl (by decide) 0 ((i 2).val / 4) hB R _ (queries D arg3 X_arg3 R.q)
      (off_of (f := k0_off17) (g := fun q => ![0, q / 4, 0, 0 * 128]) (by decide +kernel) (fun _ => rfl) i)
      (strips4 D 0 _ _ _ _ _ _
        (Strip.block D 0 0 (vread D arg5.view X_arg5 R.v _ _ _ 0 (off_of (f := fun i => k0_off19 i 0#32) (g := fun q => ![0, q / 4 * 4 + 0, 0 * 128, 0]) (by decide +kernel) (fun _ => rfl) i) _))
        (Strip.block D 0 1 (vread D arg5.view X_arg5 R.v _ _ _ 0 (off_of (f := fun i => k0_off19 i 1#32) (g := fun q => ![0, q / 4 * 4 + 1, 0 * 128, 0]) (by decide +kernel) (fun _ => rfl) i) _))
        (Strip.block D 0 2 (vread D arg5.view X_arg5 R.v _ _ _ 0 (off_of (f := fun i => k0_off19 i 2#32) (g := fun q => ![0, q / 4 * 4 + 2, 0 * 128, 0]) (by decide +kernel) (fun _ => rfl) i) _))
        (Strip.block D 0 3 (vread D arg5.view X_arg5 R.v _ _ _ 0 (off_of (f := fun i => k0_off19 i 3#32) (g := fun q => ![0, q / 4 * 4 + 3, 0 * 128, 0]) (by decide +kernel) (fun _ => rfl) i) _)))
      (by decide) (by decide) (by decide) (by decide) (by decide) (by decide) (by decide) (by decide) (by decide) (IdealRules.named_const.ideal_named_scalar _ _ _ _ rfl) (by simp [Ideal.ofBits, Ideal.ieee, -EReal.coe_mul]; norm_num)
      (by decide) (.inl rfl) rfl (by decide) (by decide) (by decide) (by decide) (by decide) (by decide) x⟩
  · unfold run3.sl.v299 run3.sl.v294 run3.sl.r_7 run3.sl.r_1 k0_pay165 k0_pay175 k0_pay173 k0_pay172 k0_pay171 k0_pay372 k0_pay370
    exact ⟨_, own_head (n := 1024) (n0 := 768) D arg3 arg4 arg5 arg6 arg7 arg8 arg12 X_arg3 X_arg4 X_arg5 X_arg6 X_arg7 X_arg8 3 rfl rfl (by decide) 1 ((i 2).val / 4) hB R _ (queries D arg3 X_arg3 R.q)
      (off_of (f := k0_off18) (g := fun q => ![0, q / 4, 0, 1 * 128]) (by decide +kernel) (fun _ => rfl) i)
      (strips4 D 1 _ _ _ _ _ _
        (Strip.block D 1 0 (vread D arg5.view X_arg5 R.v _ _ _ 1 (off_of (f := fun i => k0_off20 i 0#32) (g := fun q => ![0, q / 4 * 4 + 0, 1 * 128, 0]) (by decide +kernel) (fun _ => rfl) i) _))
        (Strip.block D 1 1 (vread D arg5.view X_arg5 R.v _ _ _ 1 (off_of (f := fun i => k0_off20 i 1#32) (g := fun q => ![0, q / 4 * 4 + 1, 1 * 128, 0]) (by decide +kernel) (fun _ => rfl) i) _))
        (Strip.block D 1 2 (vread D arg5.view X_arg5 R.v _ _ _ 1 (off_of (f := fun i => k0_off20 i 2#32) (g := fun q => ![0, q / 4 * 4 + 2, 1 * 128, 0]) (by decide +kernel) (fun _ => rfl) i) _))
        (Strip.block D 1 3 (vread D arg5.view X_arg5 R.v _ _ _ 1 (off_of (f := fun i => k0_off20 i 3#32) (g := fun q => ![0, q / 4 * 4 + 3, 1 * 128, 0]) (by decide +kernel) (fun _ => rfl) i) _)))
      (by decide) (by decide) (by decide) (by decide) (by decide) (by decide) (by decide) (by decide) (by decide) (IdealRules.named_const.ideal_named_scalar _ _ _ _ rfl) (by simp [Ideal.ofBits, Ideal.ieee, -EReal.coe_mul]; norm_num)
      (by decide) (.inl rfl) rfl (by decide) (by decide) (by decide) (by decide) (by decide) (by decide) x⟩

end Cert.KernelIdeal.Attn
-- ==== Proof.Final.lean ====
/-
  The last stage of a head that is done, element by element.
-/
module

public import proofs.«01_k».proof.Proof.Branch
public import proofs.«01_k».proof.Proof.Attend
public import Idealize.ShloMosaic.Lib.ValueIdx

@[expose] public section

set_option maxRecDepth 16384

noncomputable section

namespace Cert.KernelIdeal.Attn

open Cert.KernelIdeal Cert.KernelIdeal.Gen
open Idealize.ShloMosaic Idealize.ShloMosaic.ValueIdx
open Cert.Attend

/-- The last stage at an element: the two branches are real numbers, so is their difference, and the rest is the
    normalisation over the features. -/
theorem headOut_apply (a : FVec Ideal S1x128x512 .f32) (l : FVec Ideal S1x512 .f32) (lam : FVec Ideal S4x64 .f32) (g : FVec Ideal S1x128 .f32)
    (A : ℕ → ℕ → ℝ) (lr : ℝ) (hlam : k0_pay397 (F := Ideal) lam (ix2 (0 : Fin 1) (0 : Fin 1)) = (lr : EReal))
    (hA : ∀ (e : Fin 128) (x : Fin 512), Ideal.div (a (ix3 (0 : Fin 1) e x)) (l (ix2 (0 : Fin 1) x)) = (A e.val x.val : EReal))
    (y : Fin 256) (e : Fin 128) :
    headOut a l lam g (ix2 y e) = fin (fun e => A e y.val - lr * A e (256 + y.val)) (g (ix2 (0 : Fin 1) e)) e.val := by
  have hon : ∀ (e : Fin 128) (x : Fin 512), divf (shapeCast S128x512 a (by decide)) (broadcastTo S128x512 l (by decide)) (ix2 e x) = (A e.val x.val : EReal) := fun e x => by
    rw [divf_apply, shapeCast_1ab_ab_apply, broadcastTo_1b_ab_apply]
    exact hA e x
  generalize hOn : divf (shapeCast S128x512 a (by decide)) (broadcastTo S128x512 l (by decide)) = on at hon
  have hot : ∀ (e : Fin 128) (y : Fin 256), subf (extractStridedSlice S128x256 ![0, 0] on (by decide)) (mulf (broadcastTo S128x256 (k0_pay397 (F := Ideal) lam) (by decide)) (extractStridedSlice S128x256 ![0, 256] on (by decide))) (ix2 e y)
      = ((A e.val y.val - lr * A e.val (256 + y.val) : ℝ) : EReal) := fun e y => by
    rw [subf_apply, mulf_apply, slice2_axis1_apply 0 on _ e y ⟨y.val, by omega⟩ (by show y.val = 0 + y.val; omega), slice2_axis1_apply 256 on _ e y ⟨256 + y.val, by omega⟩ rfl, hon, hon,
      broadcastTo_apply (k0_pay397 (F := Ideal) lam) (by decide) (ix2 e y) (ix2 (0 : Fin 1) (0 : Fin 1)) (by intro b; match b with | ⟨0, _⟩ => rfl | ⟨1, _⟩ => rfl), hlam]
    rw [← EReal.coe_mul, ← EReal.coe_sub]
  unfold headOut
  dsimp only
  rw [hOn]
  generalize subf (extractStridedSlice S128x256 ![0, 0] on (by decide)) (mulf (broadcastTo S128x256 (k0_pay397 (F := Ideal) lam) (by decide)) (extractStridedSlice S128x256 ![0, 256] on (by decide))) = o at hot ⊢
  rw [mulf_apply, mulf_apply, transpose_apply [1, 0] _ (by decide) (ix2 y e) (ix2 e y) (by intro b; match b with | ⟨0, _⟩ => rfl | ⟨1, _⟩ => rfl), mulf_apply,
    broadcastTo_1b_ab_apply, broadcastTo_1b_ab_apply, broadcast_apply, shapeCast_self, hot]
  have hn : ∀ y : Fin 256, shapeCast S1x256 (multiReduction (F := Ideal) .add [0] S256 (mulf o o) 0#32 (by decide) (by decide) (by decide)) (by decide) (ix2 (0 : Fin 1) y)
      = ∑ k : Fin 128, ((A k.val y.val - lr * A k.val (256 + y.val) : ℝ) : EReal) * ((A k.val y.val - lr * A k.val (256 + y.val) : ℝ) : EReal) := fun y => by
    rw [shapeCast_a_1a_apply, Ideal.multiReduction_add_single]
    refine Finset.sum_congr rfl fun k _ => ?_
    rw [← hot k y]
    have ek : (show S128x256.Reduces [0] S256 by decide).lift (ix1 y) k = ix2 k y := by
      funext b; match b with
      | ⟨0, _⟩ => rfl
      | ⟨1, _⟩ => rfl
    show o _ * o _ = o _ * o _
    rw [ek]; rfl
  show (_ * Ideal.rsqrt (Ideal.div (shapeCast S1x256 (multiReduction (F := Ideal) .add [0] S256 (mulf o o) 0#32 _ _ _) _ (ix2 (0 : Fin 1) y)) (Ideal.ofBits .f32 1124073472#32) + Ideal.ofBits .f32 925353388#32) * _) * Ideal.ofBits .f32 1061997773#32 = _
  rw [hn]; rfl

/-- A head that is done, after the last stage. -/
theorem head_done (I : Inp) (b hp qi h : ℕ) (a : FVec Ideal S1x128x512 .f32) (l : FVec Ideal S1x512 .f32) (lam : FVec Ideal S4x64 .f32) (g : FVec Ideal S1x128 .f32)
    (hlam : k0_pay397 (F := Ideal) lam (ix2 (0 : Fin 1) (0 : Fin 1)) = (I.lam : EReal)) (hd : Done (dataOf I b hp qi) h a l)
    (y : Fin 256) (e : Fin 128) :
    headOut a l lam g (ix2 y e) = fin (ot I b (2 * hp + h) (qi * 256 + y.val)) (g (ix2 (0 : Fin 1) e)) e.val := by
  rw [headOut_apply a l lam g (fun e x => att I b (2 * hp + h) (x / 256) e (qi * 256 + x % 256)) I.lam hlam (fun e x => by
    obtain ⟨m, G⟩ := hd x
    exact good_div I b hp qi h m l _ x G e) y e]
  congr 1
  funext k
  show att I b (2 * hp + h) (y.val / 256) k (qi * 256 + y.val % 256) - I.lam * att I b (2 * hp + h) ((256 + y.val) / 256) k (qi * 256 + (256 + y.val) % 256) = _
  have hy := y.isLt
  rw [show y.val / 256 = 0 by omega, show y.val % 256 = y.val by omega, show (256 + y.val) / 256 = 1 by omega, show (256 + y.val) % 256 = y.val by omega]
  rfl

end Cert.KernelIdeal.Attn
-- ==== Proof.Earlier.lean ====
/-
  The loop over the earlier blocks: one trip takes a block in and writes the scores of the next.
-/
module

public import proofs.«01_k».proof.Proof.Branch

@[expose] public section

set_option maxRecDepth 16384

noncomputable section

namespace Cert.KernelIdeal.Attn

open Cert.KernelIdeal Cert.KernelIdeal.Gen
open Idealize.ShloMosaic Idealize.ShloMosaic.ValueIdx

variable (D : Data)

/-! ## Score blocks in scratch -/

/-- A list of pieces holds the scores of block `B`. -/
def Scores (B : ℕ) (L : List (View.Piece (Elt Ideal) S2x1024x512 .f32)) : Prop :=
  ∀ (h : Fin 2) (κ : Fin 1024) (x : Fin 512), View.canon L (ix3 h κ x) = (raw D h (B * 1024 + κ) x : EReal)

/-- A quarter of a block's scores. -/
def Quarter (h B r : ℕ) (s : FVec Ideal ⟨2, ![256, 512]⟩ .f32) : Prop :=
  ∀ (κ : Fin 256) (x : Fin 512), s (ix2 κ x) = (raw D h (B * 1024 + (r + κ)) x : EReal)

theorem canon_quarter {h B r : ℕ} {s : FVec Ideal ⟨2, ![256, 512]⟩ .f32} (q : Quarter D h B r s) (hs : (⟨2, ![256, 512]⟩ : Shape).ShapeCasts ⟨3, ![1, 256, 512]⟩) (inb)
    (L : List (View.Piece (Elt Ideal) S2x1024x512 .f32)) (a : Fin 2) (b : Fin 1024) (x : Fin 512)
    (t : (a.val ≠ h ∨ b.val < r ∨ r + 256 ≤ b.val) → View.canon L (ix3 a b x) = (raw D a (B * 1024 + b) x : EReal)) :
    View.canon (⟨Rect.unit (s := S2x1024x512) ![h, r, 0] ![1, 256, 512] inb, shapeCast ⟨3, ![1, 256, 512]⟩ s hs⟩ :: L) (ix3 a b x) = (raw D a (B * 1024 + b) x : EReal) := by
  by_cases g : a.val ≠ h ∨ b.val < r ∨ r + 256 ≤ b.val
  · refine (canon3_miss (n0 := 2) (n1 := 1024) (n2 := 512) inb _ L a b x ?_).trans (t g)
    omega
  · have ha : a.val = h := by omega
    refine (canon3_hit (n0 := 2) (n1 := 1024) (n2 := 512) inb _ L a b x (0 : Fin 1) (⟨b.val - r, by omega⟩ : Fin 256) x ha (by show b.val = r + (b.val - r); omega) (Nat.zero_add _).symm).trans ?_
    refine (shapeCast_ab_1ab_apply _ _ _ _ _).trans ((q _ _).trans ?_)
    rw [ha, show r + (b.val - r) = b.val by omega]

/-- A piece of scores. -/
abbrev qp (h r : ℕ) (s : FVec Ideal ⟨2, ![256, 512]⟩ .f32) (inb : ∀ a, (![h, r, 0] : Fin 3 → ℕ) a + S1x256x512.size a ≤ S2x1024x512.size a) : View.Piece (Elt Ideal) S2x1024x512 .f32 :=
  ⟨Rect.unit (s := S2x1024x512) ![h, r, 0] S1x256x512.size inb, shapeCast S1x256x512 s shapeCasts_S256x512_S1x256x512⟩

/-- The eight quarters as a trip writes them. -/
def quarters (s0 s1 s2 s3 t0 t1 t2 t3 : FVec Ideal S256x512 .f32) : List (View.Piece (Elt Ideal) S2x1024x512 .f32) :=
  [qp 1 768 t3 inb_S2x1024x512_S1x256x512_1_768_0, qp 1 512 t2 inb_S2x1024x512_S1x256x512_1_512_0, qp 1 256 t1 inb_S2x1024x512_S1x256x512_1_256_0, qp 1 0 t0 inb_S2x1024x512_S1x256x512_1_0_0,
   qp 0 768 s3 inb_S2x1024x512_S1x256x512_0_768_0, qp 0 512 s2 inb_S2x1024x512_S1x256x512_0_512_0, qp 0 256 s1 inb_S2x1024x512_S1x256x512_0_256_0, qp 0 0 s0 inb_S2x1024x512_S1x256x512_0_0_0]

/-- The eight quarters as a branch first writes them. -/
def quarters' (s0 s1 s2 s3 t0 t1 t2 t3 : FVec Ideal S256x512 .f32) : List (View.Piece (Elt Ideal) S2x1024x512 .f32) :=
  [qp 1 768 t3 inb_S2x1024x512_S1x256x512_1_768_0, qp 0 768 s3 inb_S2x1024x512_S1x256x512_0_768_0, qp 1 512 t2 inb_S2x1024x512_S1x256x512_1_512_0, qp 0 512 s2 inb_S2x1024x512_S1x256x512_0_512_0,
   qp 1 256 t1 inb_S2x1024x512_S1x256x512_1_256_0, qp 0 256 s1 inb_S2x1024x512_S1x256x512_0_256_0, qp 1 0 t0 inb_S2x1024x512_S1x256x512_1_0_0, qp 0 0 s0 inb_S2x1024x512_S1x256x512_0_0_0]

theorem quarters_scores {B : ℕ} {s0 s1 s2 s3 t0 t1 t2 t3 : FVec Ideal S256x512 .f32} (L : List (View.Piece (Elt Ideal) S2x1024x512 .f32))
    (hs0 : Quarter D 0 B 0 s0) (hs1 : Quarter D 0 B 256 s1) (hs2 : Quarter D 0 B 512 s2) (hs3 : Quarter D 0 B 768 s3)
    (ht0 : Quarter D 1 B 0 t0) (ht1 : Quarter D 1 B 256 t1) (ht2 : Quarter D 1 B 512 t2) (ht3 : Quarter D 1 B 768 t3) :
    Scores D B (quarters s0 s1 s2 s3 t0 t1 t2 t3 ++ L) := fun a b x =>
  canon_quarter D ht3 _ _ _ a b x fun h1 => canon_quarter D ht2 _ _ _ a b x fun h2 => canon_quarter D ht1 _ _ _ a b x fun h3 => canon_quarter D ht0 _ _ _ a b x fun h4 =>
  canon_quarter D hs3 _ _ _ a b x fun h5 => canon_quarter D hs2 _ _ _ a b x fun h6 => canon_quarter D hs1 _ _ _ a b x fun h7 => canon_quarter D hs0 _ _ _ a b x fun h8 =>
    absurd a.isLt (by have := b.isLt; omega)

theorem quarters'_scores {B : ℕ} {s0 s1 s2 s3 t0 t1 t2 t3 : FVec Ideal S256x512 .f32} (L : List (View.Piece (Elt Ideal) S2x1024x512 .f32))
    (hs0 : Quarter D 0 B 0 s0) (hs1 : Quarter D 0 B 256 s1) (hs2 : Quarter D 0 B 512 s2) (hs3 : Quarter D 0 B 768 s3)
    (ht0 : Quarter D 1 B 0 t0) (ht1 : Quarter D 1 B 256 t1) (ht2 : Quarter D 1 B 512 t2) (ht3 : Quarter D 1 B 768 t3) :
    Scores D B (quarters' s0 s1 s2 s3 t0 t1 t2 t3 ++ L) := fun a b x =>
  canon_quarter D ht3 _ _ _ a b x fun h1 => canon_quarter D hs3 _ _ _ a b x fun h2 => canon_quarter D ht2 _ _ _ a b x fun h3 => canon_quarter D hs2 _ _ _ a b x fun h4 =>
  canon_quarter D ht1 _ _ _ a b x fun h5 => canon_quarter D hs1 _ _ _ a b x fun h6 => canon_quarter D ht0 _ _ _ a b x fun h7 => canon_quarter D hs0 _ _ _ a b x fun h8 =>
    absurd a.isLt (by have := b.isLt; omega)

/-- A maximum of quarters' column maxima is a number. -/
def Num (c : FVec Ideal ⟨2, ![1, 512]⟩ .f32) : Prop := ∀ x : Fin 512, ∃ C : ℝ, c (ix2 (0 : Fin 1) x) = (C : EReal)

theorem Num.max {a b : FVec Ideal ⟨2, ![1, 512]⟩ .f32} (ha : Num a) (hb : Num b) : Num (maximumf a b) := fun x => by
  obtain ⟨A, hA⟩ := ha x
  obtain ⟨B, hB⟩ := hb x
  refine ⟨Max.max A B, ?_⟩
  show Max.max (a (ix2 (0 : Fin 1) x)) (b (ix2 (0 : Fin 1) x)) = _
  rw [hA, hB]; exact (EReal.coe_strictMono.monotone.map_max).symm

theorem Quarter.num {h B r : ℕ} {s : FVec Ideal ⟨2, ![256, 512]⟩ .f32} (q : Quarter D h B r s) (hd : (⟨2, ![256, 512]⟩ : Shape).Reduces [0] ⟨1, ![512]⟩)
    (hf : FKind.Formats .f32) (hi : (0xFF800000#32 : BitVec FTy.f32.bits) = FKind.maximumf.neutral .f32 hf)
    (hsc : (⟨1, ![512]⟩ : Shape).ShapeCasts ⟨2, ![1, 512]⟩) :
    Num (shapeCast ⟨2, ![1, 512]⟩ (multiReduction .maximumf [0] ⟨1, ![512]⟩ s 0xFF800000#32 hd hf hi) hsc) := fun x =>
  colmax_real s hd hf hi hsc x (fun κ => by rw [q]; exact EReal.coe_ne_top _) 0 (by rw [q]; exact EReal.coe_ne_bot _)

/-! ## One head of a trip -/

/-- A quarter's product. -/
theorem sums_quarter (h K0 : ℕ) (v : FVec Ideal ⟨2, ![128, 256]⟩ .bf16) (s : FVec Ideal ⟨2, ![256, 512]⟩ .f32) (m : FVec Ideal ⟨2, ![1, 512]⟩ .f32)
    (hb : (⟨2, ![1, 512]⟩ : Shape).Broadcasts ⟨2, ![256, 512]⟩)
    (hc : Shape.Concatenates [⟨2, ![128, 256]⟩, ⟨2, ![16, 256]⟩] ⟨2, ![144, 256]⟩ 0) (hlt : FTy.bits .bf16 < FTy.bits .f32)
    (x : Fin 512) (S : ℝ) (hm : m (ix2 (0 : Fin 1) x) = (S : EReal)) (hv : Strip D h v K0)
    (hs : ∀ κ : Fin 256, s (ix2 κ x) = (raw D h (K0 + κ) x : EReal)) :
    Sums D h (Finset.Ico K0 (K0 + 256)) (matmul (DotDims.plain 144 256 512) none
        (concatenate ⟨2, ![144, 256]⟩ 0 [⟨⟨2, ![128, 256]⟩, v⟩, ⟨⟨2, ![16, 256]⟩, broadcast ⟨2, ![16, 256]⟩ (FloatOps.ofBits .bf16 0x3F80#16 : Ideal .bf16)⟩] hc)
        (truncf .bf16 (exp2 (subf s (broadcastTo ⟨2, ![256, 512]⟩ m hb))) hlt) (constant (F := Ideal) ⟨2, ![144, 512]⟩ .f32 0#32)) x S :=
  sums_block D h K0 (K0 + 255) v s m hb hc hlt x S hm (by omega) (by omega) hv (fun κ => (hs κ).trans (if_pos (by have := κ.isLt; omega)).symm)

/-- Four quarters one after the other. -/
theorem sums_four (h K0 : ℕ) {a b c d : FVec Ideal ⟨2, ![144, 512]⟩ .f32} (x : Fin 512) (S : ℝ)
    (ha : Sums D h (Finset.Ico (K0 + 0 * 256) (K0 + 0 * 256 + 256)) a x S) (hb : Sums D h (Finset.Ico (K0 + 1 * 256) (K0 + 1 * 256 + 256)) b x S)
    (hc : Sums D h (Finset.Ico (K0 + 2 * 256) (K0 + 2 * 256 + 256)) c x S) (hd : Sums D h (Finset.Ico (K0 + 3 * 256) (K0 + 3 * 256 + 256)) d x S) :
    Sums D h (Finset.Ico K0 (K0 + 1024)) (addf (addf (addf a b) c) d) x S := by
  have e : Finset.Ico K0 (K0 + 1024) = ((Finset.Ico (K0 + 0 * 256) (K0 + 0 * 256 + 256) ∪ Finset.Ico (K0 + 1 * 256) (K0 + 1 * 256 + 256)) ∪ Finset.Ico (K0 + 2 * 256) (K0 + 2 * 256 + 256))
      ∪ Finset.Ico (K0 + 3 * 256) (K0 + 3 * 256 + 256) := by ext K; simp only [Finset.mem_union, Finset.mem_Ico]; omega
  rw [e]
  refine sums_add D h _ _ ?_ _ _ x S (sums_add D h _ _ ?_ _ _ x S (sums_add D h _ _ ?_ _ _ x S ha hb) hc) hd <;>
    exact Finset.disjoint_left.2 fun K h1 h2 => by simp only [Finset.mem_union, Finset.mem_Ico] at h1 h2; omega

/-- The keys taken in before trip `k`. -/
def keys (nf k x : ℕ) : Finset ℕ := Finset.Ico (nf * 1024) (last D x + 1) ∪ Finset.Ico 0 (k * 1024)

theorem keys_succ (nf k x : ℕ) : keys D nf (k + 1) x = keys D nf k x ∪ Finset.Ico (k * 1024) ((k + 1) * 1024) := by
  ext K; simp only [keys, Finset.mem_union, Finset.mem_Ico]; omega

theorem keys_zero (nf x : ℕ) : keys D nf 0 x = Finset.Ico (nf * 1024) (last D x + 1) := by
  ext K; simp only [keys, Finset.mem_union, Finset.mem_Ico]; omega

theorem keys_all (nf x : ℕ) (h : nf * 1024 ≤ last D x) : keys D nf nf x = Finset.Ico 0 (last D x + 1) := by
  ext K; simp only [keys, Finset.mem_union, Finset.mem_Ico]; omega

/-- A head of a trip: block `k` taken in. -/
theorem trip_good (h k nf : ℕ) (hk : k < nf) {m l cm d : FVec Ideal S1x512 .f32} {acc : FVec Ideal S128x512 .f32}
    {v0 v1 v2 v3 : FVec Ideal S128x256 .bf16} {s0 s1 s2 s3 : FVec Ideal S256x512 .f32}
    (hb : S1x512.Broadcasts S256x512) (hb' : S1x512.Broadcasts S128x512)
    (hc : Shape.Concatenates [S128x256, S16x256] S144x256 0) (hlt : FTy.bits .bf16 < FTy.bits .f32)
    (h₁ : S144x512.Slices ![128, 0] S1x512) (h₂ : S144x512.Slices ![0, 0] S128x512) (x : Fin 512)
    (hC : Num cm) (hdd : d (ix2 (0 : Fin 1) x) = (dist D h k : EReal))
    (g0 : Strip D h v0 (k * 1024 + 0 * 256)) (g1 : Strip D h v1 (k * 1024 + 1 * 256)) (g2 : Strip D h v2 (k * 1024 + 2 * 256)) (g3 : Strip D h v3 (k * 1024 + 3 * 256))
    (e0 : Quarter D h k (0 * 256) s0) (e1 : Quarter D h k (1 * 256) s1) (e2 : Quarter D h k (2 * 256) s2) (e3 : Quarter D h k (3 * 256) s3)
    (G : Good D h (keys D nf k x) m l acc x) :
    let sh : FVec Ideal S1x512 .f32 := subf (maximumf m (addf cm d)) d
    let pv (v : FVec Ideal S128x256 .bf16) (s : FVec Ideal S256x512 .f32) : FVec Ideal S144x512 .f32 := matmul (DotDims.plain 144 256 512) none
        (concatenate S144x256 0 [⟨S128x256, v⟩, ⟨S16x256, broadcast S16x256 (FloatOps.ofBits .bf16 0x3F80#16 : Ideal .bf16)⟩] hc)
        (truncf .bf16 (exp2 (subf s (broadcastTo S256x512 sh hb))) hlt) (constant (F := Ideal) S144x512 .f32 0#32)
    let t := addf (addf (addf (pv v0 s0) (pv v1 s1)) (pv v2 s2)) (pv v3 s3)
    Good D h (keys D nf (k + 1) x) (maximumf m (addf cm d))
      (addf (mulf (exp2 (subf m (maximumf m (addf cm d)))) l) (extractStridedSlice S1x512 ![128, 0] t h₁))
      (addf (mulf (broadcastTo S128x512 (exp2 (subf m (maximumf m (addf cm d)))) hb') acc) (extractStridedSlice S128x512 ![0, 0] t h₂)) x := by
  intro sh pv t
  obtain ⟨C, hC⟩ := hC x
  rw [keys_succ]
  refine absorb_good D h k (keys D nf k x) m l cm d acc t hb' h₁ h₂ x C hC hdd (fun K hK => ?_) (fun S hS => ?_) G
  · simp only [keys, Finset.mem_union, Finset.mem_Ico] at hK
    have : (k + 1) * 1024 ≤ nf * 1024 := Nat.mul_le_mul_right _ hk
    omega
  · have Q : ∀ (u : ℕ) (v : FVec Ideal S128x256 .bf16) (s : FVec Ideal S256x512 .f32), Strip D h v (k * 1024 + u * 256) → Quarter D h k (u * 256) s →
        Sums D h (Finset.Ico (k * 1024 + u * 256) (k * 1024 + u * 256 + 256)) (pv v s) x S := fun u v s g e =>
      sums_quarter D h _ v s sh hb hc hlt x S hS g (fun κ => (e κ x).trans (by rw [Nat.add_assoc]))
    rw [show (k + 1) * 1024 = k * 1024 + 1024 by ring]
    exact sums_four D h _ x S (Q 0 _ _ g0 e0) (Q 1 _ _ g1 e1) (Q 2 _ _ g2 e2) (Q 3 _ _ g3 e3)

end Cert.KernelIdeal.Attn
-- ==== Proof.Loop.lean ====
/-
  The loop over the earlier blocks, trip by trip.
-/
module

public import proofs.«01_k».proof.Proof.Earlier

@[expose] public section

set_option maxRecDepth 16384

noncomputable section

namespace Cert.KernelIdeal.Attn

open Cert.KernelIdeal Cert.KernelIdeal.Gen
open Idealize.ShloMosaic Idealize.ShloMosaic.ValueIdx

variable (D : Data)

/-- What the loop carries before trip `k`. -/
structure Inv (nf k : ℕ) (S : FVec Ideal S1x512 .f32 × FVec Ideal S1x512 .f32 × FVec Ideal S1x512 .f32 × FVec Ideal S1x512 .f32 × FVec Ideal S1x512 .f32 × FVec Ideal S1x512 .f32)
    (L13 : List (View.Piece (Elt Ideal) S2x128x512 .f32)) (L14 : List (View.Piece (Elt Ideal) S2x1024x512 .f32)) : Prop where
  g0 : ∀ x : Fin 512, Good D 0 (keys D nf k x) S.1 S.2.1 (fun j => View.canon L13 (ix3 (0 : Fin 2) (j 0) (j 1))) x
  g1 : ∀ x : Fin 512, Good D 1 (keys D nf k x) S.2.2.1 S.2.2.2.1 (fun j => View.canon L13 (ix3 (1 : Fin 2) (j 0) (j 1))) x
  c0 : Num S.2.2.2.2.1
  c1 : Num S.2.2.2.2.2
  sc : Scores D k L14

/-- A quarter read back. -/
theorem oldread {sp : Space} (v : View sig .tc sp S2x1024x512 .f32) (L : List (View.Piece (Elt Ideal) S2x1024x512 .f32)) {k : ℕ} (I : Scores D k L) (h r : ℕ) (inb)
    (hs : S1x256x512.ShapeCasts S256x512) :
    Quarter D h k r (shapeCast S256x512 (v.readAt (Elt Ideal) (Rect.unit (s := S2x1024x512) ![h, r, 0] S1x256x512.size inb).toLoadRect (v.writes (Elt Ideal) v.junk L)) hs) := fun κ x => by
  have i0 : h + 1 ≤ 2 := inb 0
  have i1 : r + 256 ≤ 1024 := inb 1
  have := κ.isLt
  refine (shapeCast_1ab_ab_apply _ _ _ _).trans ?_
  exact (wr3 v L _ inb (0 : Fin 1) κ x (⟨h, by omega⟩ : Fin 2) (⟨r + κ, by omega⟩ : Fin 1024) x (Nat.add_zero _) rfl (Nat.zero_add _)).trans (I _ _ _)

/-- A head's numerators read back. -/
theorem accread {sp : Space} (v : View sig .tc sp S2x128x512 .f32) (L : List (View.Piece (Elt Ideal) S2x128x512 .f32)) (h : Fin 2) (inb)
    (hs : S1x128x512.ShapeCasts S128x512) (e : Fin 128) (x : Fin 512) :
    shapeCast S128x512 (v.readAt (Elt Ideal) (Rect.unit (s := S2x128x512) ![h, 0, 0] S1x128x512.size inb).toLoadRect (v.writes (Elt Ideal) v.junk L)) hs (ix2 e x)
      = View.canon L (ix3 h e x) :=
  (shapeCast_1ab_ab_apply _ _ _ _).trans
    (wr3 v L _ inb (0 : Fin 1) e x h e x (Nat.add_zero _) (Nat.zero_add _) (Nat.zero_add _))

theorem off_of_trip {f : (i : grid0.Coords) → Fin (k0_t1_loop i).trips → Fin 4 → ℕ} {g : ℕ → Fin 4 → ℕ}
    (h : ∀ q : Fin 32, ∀ k : Fin (k0_t1_loop (at2 q)).trips, ∀ a, f (at2 q) k a = g k.val a)
    (hf : ∀ (i : grid0.Coords) (k : Fin (k0_t1_loop i).trips), f i k = f (at2 (i 2)) k) (i : grid0.Coords) (k : Fin (k0_t1_loop i).trips) : f i k = g k.val :=
  (hf i k).trans (funext (h (i 2) k))

/-- The distance a trip computes, as a whole number. -/
theorem trip_dist (i : grid0.Coords) (k : Fin (k0_t1_loop i).trips) :
    (Scalar.subi (Scalar.muli (Scf.iv 0#32 1#32 k.val) 1024#32) (Scalar.muli (BitVec.ofNat 32 (i 2).val) 256#32)).toInt = (k.val * 1024 : ℕ) - ((i 2).val * 256 : ℕ) := by
  have h : ∀ q : Fin 32, ∀ k : Fin 8, (Scalar.subi (Scalar.muli (Scf.iv 0#32 1#32 k.val) 1024#32) (Scalar.muli (BitVec.ofNat 32 q.val) 256#32)).toInt
      = ((k.val * 1024 : ℕ) : ℤ) - ((q.val * 256 : ℕ) : ℤ) := by decide +kernel
  have hk : k.val < 8 := by have := k.isLt; have := trips1 i; have : (i 2).val < 32 := (i 2).isLt; omega
  exact h (i 2) ⟨k.val, hk⟩

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

variable (L : List (View.Piece (Elt Ideal) S2x256x512 .bf16)) (v16 v92 v93 : BitVec 32) (v94 v97 : BitVec 1)

set_option maxHeartbeats 4000000 in
/-- A trip keeps the invariant. -/
theorem trip_inv (hqi : D.qi = (i 2).val)
    (R : Reads D (arg3.view.read _ X_arg3) (arg4.view.read _ X_arg4) (arg5.view.read _ X_arg5) (arg6.view.read _ X_arg6) (arg7.view.read _ X_arg7) (arg8.view.read _ X_arg8))
    (hL : ∀ (h : Fin 2) (t : Fin 256) (x : Fin 512), View.canon L (ix3 h t x) = (wf D h x t : EReal))
    (k : Fin (k0_t1_loop i).trips) (S M13 M14) (I : Inv D ((i 2).val / 4) k.val S M13 M14) :
    let f13 := arg13.view.writes (Elt Ideal) arg13.view.junk M13
    let f14 := arg14.view.writes (Elt Ideal) arg14.view.junk M14
    Inv D ((i 2).val / 4) (k.val + 1) (tripR_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2)) v16 v92 v93 v94 v97 X_arg4 X_arg5 X_arg6 X_arg8 (arg12.view.writes (Elt Ideal) arg12.view.junk L) k S f13 f14) ((tripL_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2)) v16 v92 v93 v94 v97 X_arg4 X_arg5 X_arg6 X_arg8 (arg12.view.writes (Elt Ideal) arg12.view.junk L) k S f13 f14).1 ++ M13) ((tripL_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2)) v16 v92 v93 v94 v97 X_arg4 X_arg5 X_arg6 X_arg8 (arg12.view.writes (Elt Ideal) arg12.view.junk L) k S f13 f14).2 ++ M14) := by
  intro f13 f14
  have hk : k.val < (i 2).val / 4 := by have := k.isLt; have := trips1 i; omega
  have hd : (Scalar.subi (Scalar.muli (Scf.iv 0#32 1#32 k.val) 1024#32) (Scalar.muli (BitVec.ofNat 32 (i 2).val) 256#32)).toInt = (k.val * 1024 : ℕ) - (D.qi * 256 : ℕ) := by
    rw [hqi]; exact trip_dist i k
  unfold tripR_k0_t1 tripL_k0_t1 trip_k0_t1
  refine ⟨fun x => ?_, fun x => ?_, ?_, ?_, ?_⟩
  · unfold k0_pay388 k0_pay387 trip_k0_t1.sl.v336 trip_k0_t1.sl.v333 trip_k0_t1.sl.v328 trip_k0_t1.sl.v332 trip_k0_t1.sl.v330 trip_k0_t1.sl.v331 trip_k0_t1.sl.v338 trip_k0_t1.sl.v327 trip_k0_t1.sl.v326 trip_k0_t1.sl.v325 trip_k0_t1.sl.v324 trip_k0_t1.sl.v310 trip_k0_t1.sl.v309 trip_k0_t1.sl.v307 trip_k0_t1.sl.v306 trip_k0_t1.sl.v323 trip_k0_t1.sl.v321 trip_k0_t1.sl.v295 trip_k0_t1.sl.v294 trip_k0_t1.sl.v293 trip_k0_t1.sl.v279 trip_k0_t1.sl.v278 trip_k0_t1.sl.v276 trip_k0_t1.sl.v275 trip_k0_t1.sl.v292 trip_k0_t1.sl.v290 trip_k0_t1.sl.r trip_k0_t1.sl.v264 trip_k0_t1.sl.v263 trip_k0_t1.sl.v262 trip_k0_t1.sl.v248 trip_k0_t1.sl.v247 trip_k0_t1.sl.v245 trip_k0_t1.sl.v244 trip_k0_t1.sl.v261 trip_k0_t1.sl.v259 trip_k0_t1.sl.v233 trip_k0_t1.sl.cst_121 trip_k0_t1.sl.v232 trip_k0_t1.sl.v219 trip_k0_t1.sl.v218 trip_k0_t1.sl.v217 trip_k0_t1.sl.v204 trip_k0_t1.sl.v216 trip_k0_t1.sl.v231 trip_k0_t1.sl.v230 trip_k0_t1.sl.cst_120 trip_k0_t1.sl.v229 trip_k0_t1.sl.v337 trip_k0_t1.sl.v203 trip_k0_t1.sl.v202 trip_k0_t1.sl.v201 trip_k0_t1.sl.v200 trip_k0_t1.sl.v199 trip_k0_t1.sl.v198 trip_k0_t1.sl.v197 trip_k0_t1.sl.v196 trip_k0_t1.sl.v195 trip_k0_t1.sl.v194 trip_k0_t1.sl.v193
    refine good_congr D (trip_good D 0 k ((i 2).val / 4) hk (acc := shapeCast S128x512 (arg13.view.readAt (Elt Ideal) (Rect.unit (s := S2x128x512) ![0, 0, 0] S1x128x512.size inb_S2x128x512_S1x128x512_0_0_0).toLoadRect (arg13.view.writes (Elt Ideal) arg13.view.junk M13)) shapeCasts_S1x128x512_S128x512)
      broadcasts_S1x512_S256x512 broadcasts_S1x512_S128x512 (by decide) (by decide) (by decide) (by decide) x I.c0
      (dist_early D 0 _ _ k.val x (slread D arg8.view X_arg8 R.slope 0 _ (by decide) x) hd)
      (Strip.block D 0 0 (vread D arg5.view X_arg5 R.v _ _ _ 0 (off_of_trip (f := fun i k => k0_off34 i k 0#32) (g := fun k => ![0, k * 4 + 0, 0 * 128, 0]) (by decide +kernel) (fun _ _ => rfl) i k) _))
      (Strip.block D 0 1 (vread D arg5.view X_arg5 R.v _ _ _ 0 (off_of_trip (f := fun i k => k0_off34 i k 1#32) (g := fun k => ![0, k * 4 + 1, 0 * 128, 0]) (by decide +kernel) (fun _ _ => rfl) i k) _))
      (Strip.block D 0 2 (vread D arg5.view X_arg5 R.v _ _ _ 0 (off_of_trip (f := fun i k => k0_off34 i k 2#32) (g := fun k => ![0, k * 4 + 2, 0 * 128, 0]) (by decide +kernel) (fun _ _ => rfl) i k) _))
      (Strip.block D 0 3 (vread D arg5.view X_arg5 R.v _ _ _ 0 (off_of_trip (f := fun i k => k0_off34 i k 3#32) (g := fun k => ![0, k * 4 + 3, 0 * 128, 0]) (by decide +kernel) (fun _ _ => rfl) i k) _))
      (oldread D arg14.view M14 I.sc 0 (0 * 256) _ _) (oldread D arg14.view M14 I.sc 0 (1 * 256) _ _) (oldread D arg14.view M14 I.sc 0 (2 * 256) _ _) (oldread D arg14.view M14 I.sc 0 (3 * 256) _ _)
      (good_congr D (I.g0 x) rfl (fun e => accread arg13.view M13 0 _ _ e x))) rfl (fun e => accL_0 _ _ _ e x)
  · unfold trip_k0_t1.sl.v476 k0_pay388 trip_k0_t1.sl.v457 trip_k0_t1.sl.v456 trip_k0_t1.sl.v454 trip_k0_t1.sl.v453 trip_k0_t1.sl.v442 trip_k0_t1.sl.v441 trip_k0_t1.sl.v440 trip_k0_t1.sl.v426 trip_k0_t1.sl.v425 trip_k0_t1.sl.v423 trip_k0_t1.sl.v422 trip_k0_t1.sl.v439 trip_k0_t1.sl.v437 trip_k0_t1.sl.v411 trip_k0_t1.sl.v410 trip_k0_t1.sl.v409 trip_k0_t1.sl.v395 trip_k0_t1.sl.v394 trip_k0_t1.sl.v392 trip_k0_t1.sl.v391 trip_k0_t1.sl.v408 trip_k0_t1.sl.v406 trip_k0_t1.sl.v380 trip_k0_t1.sl.v379 trip_k0_t1.sl.v366 trip_k0_t1.sl.v365 trip_k0_t1.sl.v364 trip_k0_t1.sl.v351 trip_k0_t1.sl.v363 trip_k0_t1.sl.v362 trip_k0_t1.sl.v378 trip_k0_t1.sl.v376 trip_k0_t1.sl.v350 trip_k0_t1.sl.v349 k0_pay389 k0_pay387 trip_k0_t1.sl.v348 trip_k0_t1.sl.v347 trip_k0_t1.sl.v346 trip_k0_t1.sl.v340 trip_k0_t1.sl.v336 trip_k0_t1.sl.v333 trip_k0_t1.sl.v328 trip_k0_t1.sl.v326 trip_k0_t1.sl.v325 trip_k0_t1.sl.v324 trip_k0_t1.sl.v310 trip_k0_t1.sl.v309 trip_k0_t1.sl.v307 trip_k0_t1.sl.v306 trip_k0_t1.sl.v323 trip_k0_t1.sl.v321 trip_k0_t1.sl.v295 trip_k0_t1.sl.v294 trip_k0_t1.sl.v293 trip_k0_t1.sl.v279 trip_k0_t1.sl.v278 trip_k0_t1.sl.v276 trip_k0_t1.sl.v275 trip_k0_t1.sl.v292 trip_k0_t1.sl.v290 trip_k0_t1.sl.r trip_k0_t1.sl.v264 trip_k0_t1.sl.v263 trip_k0_t1.sl.v262 trip_k0_t1.sl.v248 trip_k0_t1.sl.v247 trip_k0_t1.sl.v245 trip_k0_t1.sl.v244 trip_k0_t1.sl.v261 trip_k0_t1.sl.v259 trip_k0_t1.sl.v233 trip_k0_t1.sl.cst_121 trip_k0_t1.sl.v232 trip_k0_t1.sl.v219 trip_k0_t1.sl.v218 trip_k0_t1.sl.v217 trip_k0_t1.sl.v204 trip_k0_t1.sl.v216 trip_k0_t1.sl.v231 trip_k0_t1.sl.v230 trip_k0_t1.sl.cst_120 trip_k0_t1.sl.v229 trip_k0_t1.sl.v332 trip_k0_t1.sl.v330 trip_k0_t1.sl.v331 trip_k0_t1.sl.v203 trip_k0_t1.sl.v202 trip_k0_t1.sl.v201 trip_k0_t1.sl.v200 trip_k0_t1.sl.v199 trip_k0_t1.sl.v198 trip_k0_t1.sl.v197 trip_k0_t1.sl.v196 trip_k0_t1.sl.v195 trip_k0_t1.sl.v194 trip_k0_t1.sl.v193
    refine good_congr D (trip_good D 1 k ((i 2).val / 4) hk (acc := shapeCast S128x512 (arg13.view.readAt (Elt Ideal) (Rect.unit (s := S2x128x512) ![1, 0, 0] S1x128x512.size inb_S2x128x512_S1x128x512_1_0_0).toLoadRect (arg13.view.writes (Elt Ideal) arg13.view.junk M13)) shapeCasts_S1x128x512_S128x512)
      broadcasts_S1x512_S256x512 broadcasts_S1x512_S128x512 (by decide) (by decide) (by decide) (by decide) x I.c1
      (dist_early D 1 _ _ k.val x (slread D arg8.view X_arg8 R.slope 1 _ (by decide) x) hd)
      (Strip.block D 1 0 (vread D arg5.view X_arg5 R.v _ _ _ 1 (off_of_trip (f := fun i k => k0_off39 i k 0#32) (g := fun k => ![0, k * 4 + 0, 1 * 128, 0]) (by decide +kernel) (fun _ _ => rfl) i k) _))
      (Strip.block D 1 1 (vread D arg5.view X_arg5 R.v _ _ _ 1 (off_of_trip (f := fun i k => k0_off39 i k 1#32) (g := fun k => ![0, k * 4 + 1, 1 * 128, 0]) (by decide +kernel) (fun _ _ => rfl) i k) _))
      (Strip.block D 1 2 (vread D arg5.view X_arg5 R.v _ _ _ 1 (off_of_trip (f := fun i k => k0_off39 i k 2#32) (g := fun k => ![0, k * 4 + 2, 1 * 128, 0]) (by decide +kernel) (fun _ _ => rfl) i k) _))
      (Strip.block D 1 3 (vread D arg5.view X_arg5 R.v _ _ _ 1 (off_of_trip (f := fun i k => k0_off39 i k 3#32) (g := fun k => ![0, k * 4 + 3, 1 * 128, 0]) (by decide +kernel) (fun _ _ => rfl) i k) _))
      (oldread D arg14.view M14 I.sc 1 (0 * 256) _ _) (oldread D arg14.view M14 I.sc 1 (1 * 256) _ _) (oldread D arg14.view M14 I.sc 1 (2 * 256) _ _) (oldread D arg14.view M14 I.sc 1 (3 * 256) _ _)
      (good_congr D (I.g1 x) rfl (fun e => accread arg13.view M13 1 _ _ e x))) rfl (fun e => accL_1 _ _ _ e x)
  · unfold trip_k0_t1.sl.v316 trip_k0_t1.sl.v315 trip_k0_t1.sl.v314 trip_k0_t1.sl.v305 trip_k0_t1.sl.v302 trip_k0_t1.sl.v301 trip_k0_t1.sl.v299 trip_k0_t1.sl.v285 trip_k0_t1.sl.v284 trip_k0_t1.sl.v283 trip_k0_t1.sl.v274 trip_k0_t1.sl.v271 trip_k0_t1.sl.v270 trip_k0_t1.sl.v268 trip_k0_t1.sl.v254 trip_k0_t1.sl.v253 trip_k0_t1.sl.v252 trip_k0_t1.sl.v243 trip_k0_t1.sl.v240 trip_k0_t1.sl.v239 trip_k0_t1.sl.v237 trip_k0_t1.sl.v224 trip_k0_t1.sl.v223 trip_k0_t1.sl.v214 trip_k0_t1.sl.cst_107 trip_k0_t1.sl.v213 trip_k0_t1.sl.v211 trip_k0_t1.sl.v210 trip_k0_t1.sl.v208
    exact (((Quarter.num D (h := 0) (B := k + 1) (r := 0) (fun κ x => raw_block D 0 (k + 1) 0 _ _ _ (by decide) (by decide) (by decide) (by decide) κ x (by decide)
        (kread D arg4.view X_arg4 R.k _ _ _ 0 (0 * 128) (off_of_trip (f := k0_off33) (g := fun k => ![0, k + 1, 0, 0 * 128]) (by decide +kernel) (fun _ _ => rfl) i k))
        (posread D arg6.view X_arg6 R.pos 0 0 _) (fun t => wread' D arg12.view _ hL 0 _ t x)) (by decide) (.inl rfl) rfl (by decide)).max
      (Quarter.num D (h := 0) (B := k + 1) (r := 256) (fun κ x => raw_block D 0 (k + 1) 256 _ _ _ (by decide) (by decide) (by decide) (by decide) κ x (by decide)
        (kread D arg4.view X_arg4 R.k _ _ _ 256 (0 * 128) (off_of_trip (f := k0_off35) (g := fun k => ![0, k + 1, 256, 0 * 128]) (by decide +kernel) (fun _ _ => rfl) i k))
        (posread D arg6.view X_arg6 R.pos 0 256 _) (fun t => wread' D arg12.view _ hL 0 _ t x)) (by decide) (.inl rfl) rfl (by decide))).max
      (Quarter.num D (h := 0) (B := k + 1) (r := 512) (fun κ x => raw_block D 0 (k + 1) 512 _ _ _ (by decide) (by decide) (by decide) (by decide) κ x (by decide)
        (kread D arg4.view X_arg4 R.k _ _ _ 512 (0 * 128) (off_of_trip (f := k0_off36) (g := fun k => ![0, k + 1, 512, 0 * 128]) (by decide +kernel) (fun _ _ => rfl) i k))
        (posread D arg6.view X_arg6 R.pos 0 512 _) (fun t => wread' D arg12.view _ hL 0 _ t x)) (by decide) (.inl rfl) rfl (by decide))).max
      (Quarter.num D (h := 0) (B := k + 1) (r := 768) (fun κ x => raw_block D 0 (k + 1) 768 _ _ _ (by decide) (by decide) (by decide) (by decide) κ x (by decide)
        (kread D arg4.view X_arg4 R.k _ _ _ 768 (0 * 128) (off_of_trip (f := k0_off37) (g := fun k => ![0, k + 1, 768, 0 * 128]) (by decide +kernel) (fun _ _ => rfl) i k))
        (posread D arg6.view X_arg6 R.pos 0 768 _) (fun t => wread' D arg12.view _ hL 0 _ t x)) (by decide) (.inl rfl) rfl (by decide))
  · unfold trip_k0_t1.sl.v452 trip_k0_t1.sl.v449 trip_k0_t1.sl.v448 trip_k0_t1.sl.v446 trip_k0_t1.sl.v432 trip_k0_t1.sl.v431 trip_k0_t1.sl.v430 trip_k0_t1.sl.v421 trip_k0_t1.sl.v418 trip_k0_t1.sl.v417 trip_k0_t1.sl.v415 trip_k0_t1.sl.v401 trip_k0_t1.sl.v400 trip_k0_t1.sl.v399 trip_k0_t1.sl.v390 trip_k0_t1.sl.v389 trip_k0_t1.sl.v387 trip_k0_t1.sl.v386 trip_k0_t1.sl.v384 trip_k0_t1.sl.v371 trip_k0_t1.sl.v370 trip_k0_t1.sl.v361 trip_k0_t1.sl.cst_107 trip_k0_t1.sl.v360 trip_k0_t1.sl.r_1 trip_k0_t1.sl.v358 trip_k0_t1.sl.v357 trip_k0_t1.sl.v355 k0_pay386
    exact (((Quarter.num D (h := 1) (B := k + 1) (r := 0) (fun κ x => raw_block D 1 (k + 1) 0 _ _ _ (by decide) (by decide) (by decide) (by decide) κ x (by decide)
        (kread D arg4.view X_arg4 R.k _ _ _ 0 (1 * 128) (off_of_trip (f := k0_off38) (g := fun k => ![0, k + 1, 0, 1 * 128]) (by decide +kernel) (fun _ _ => rfl) i k))
        (posread D arg6.view X_arg6 R.pos 1 0 _) (fun t => wread' D arg12.view _ hL 1 _ t x)) (by decide) (.inl rfl) rfl (by decide)).max
      (Quarter.num D (h := 1) (B := k + 1) (r := 256) (fun κ x => raw_block D 1 (k + 1) 256 _ _ _ (by decide) (by decide) (by decide) (by decide) κ x (by decide)
        (kread D arg4.view X_arg4 R.k _ _ _ 256 (1 * 128) (off_of_trip (f := k0_off40) (g := fun k => ![0, k + 1, 256, 1 * 128]) (by decide +kernel) (fun _ _ => rfl) i k))
        (posread D arg6.view X_arg6 R.pos 1 256 _) (fun t => wread' D arg12.view _ hL 1 _ t x)) (by decide) (.inl rfl) rfl (by decide))).max
      (Quarter.num D (h := 1) (B := k + 1) (r := 512) (fun κ x => raw_block D 1 (k + 1) 512 _ _ _ (by decide) (by decide) (by decide) (by decide) κ x (by decide)
        (kread D arg4.view X_arg4 R.k _ _ _ 512 (1 * 128) (off_of_trip (f := k0_off41) (g := fun k => ![0, k + 1, 512, 1 * 128]) (by decide +kernel) (fun _ _ => rfl) i k))
        (posread D arg6.view X_arg6 R.pos 1 512 _) (fun t => wread' D arg12.view _ hL 1 _ t x)) (by decide) (.inl rfl) rfl (by decide))).max
      (Quarter.num D (h := 1) (B := k + 1) (r := 768) (fun κ x => raw_block D 1 (k + 1) 768 _ _ _ (by decide) (by decide) (by decide) (by decide) κ x (by decide)
        (kread D arg4.view X_arg4 R.k _ _ _ 768 (1 * 128) (off_of_trip (f := k0_off42) (g := fun k => ![0, k + 1, 768, 1 * 128]) (by decide +kernel) (fun _ _ => rfl) i k))
        (posread D arg6.view X_arg6 R.pos 1 768 _) (fun t => wread' D arg12.view _ hL 1 _ t x)) (by decide) (.inl rfl) rfl (by decide))
  · unfold trip_k0_t1.sl.v222 trip_k0_t1.sl.v214 trip_k0_t1.sl.v211 trip_k0_t1.sl.v210 trip_k0_t1.sl.v208 trip_k0_t1.sl.v251 trip_k0_t1.sl.v243 trip_k0_t1.sl.v240 trip_k0_t1.sl.v239 trip_k0_t1.sl.v237 trip_k0_t1.sl.v282 trip_k0_t1.sl.v274 trip_k0_t1.sl.v271 trip_k0_t1.sl.v270 trip_k0_t1.sl.v268 trip_k0_t1.sl.v313 trip_k0_t1.sl.v305 trip_k0_t1.sl.v213 trip_k0_t1.sl.v302 trip_k0_t1.sl.v301 trip_k0_t1.sl.v299 trip_k0_t1.sl.v369 trip_k0_t1.sl.v361 trip_k0_t1.sl.v360 trip_k0_t1.sl.r_1 trip_k0_t1.sl.v358 trip_k0_t1.sl.v357 trip_k0_t1.sl.v355 trip_k0_t1.sl.v398 trip_k0_t1.sl.v390 trip_k0_t1.sl.v387 trip_k0_t1.sl.v386 trip_k0_t1.sl.v384 trip_k0_t1.sl.v429 trip_k0_t1.sl.v421 trip_k0_t1.sl.v418 trip_k0_t1.sl.v417 trip_k0_t1.sl.v415 trip_k0_t1.sl.v452 trip_k0_t1.sl.cst_107 trip_k0_t1.sl.v389 trip_k0_t1.sl.v449 trip_k0_t1.sl.v448 trip_k0_t1.sl.v446 k0_pay385
    exact quarters_scores D M14 (fun κ x => raw_block D 0 (k + 1) 0 _ _ _ (by decide) (by decide) (by decide) (by decide) κ x (by decide)
        (kread D arg4.view X_arg4 R.k _ _ _ 0 (0 * 128) (off_of_trip (f := k0_off33) (g := fun k => ![0, k + 1, 0, 0 * 128]) (by decide +kernel) (fun _ _ => rfl) i k))
        (posread D arg6.view X_arg6 R.pos 0 0 _) (fun t => wread' D arg12.view _ hL 0 _ t x))
      (fun κ x => raw_block D 0 (k + 1) 256 _ _ _ (by decide) (by decide) (by decide) (by decide) κ x (by decide)
        (kread D arg4.view X_arg4 R.k _ _ _ 256 (0 * 128) (off_of_trip (f := k0_off35) (g := fun k => ![0, k + 1, 256, 0 * 128]) (by decide +kernel) (fun _ _ => rfl) i k))
        (posread D arg6.view X_arg6 R.pos 0 256 _) (fun t => wread' D arg12.view _ hL 0 _ t x))
      (fun κ x => raw_block D 0 (k + 1) 512 _ _ _ (by decide) (by decide) (by decide) (by decide) κ x (by decide)
        (kread D arg4.view X_arg4 R.k _ _ _ 512 (0 * 128) (off_of_trip (f := k0_off36) (g := fun k => ![0, k + 1, 512, 0 * 128]) (by decide +kernel) (fun _ _ => rfl) i k))
        (posread D arg6.view X_arg6 R.pos 0 512 _) (fun t => wread' D arg12.view _ hL 0 _ t x))
      (fun κ x => raw_block D 0 (k + 1) 768 _ _ _ (by decide) (by decide) (by decide) (by decide) κ x (by decide)
        (kread D arg4.view X_arg4 R.k _ _ _ 768 (0 * 128) (off_of_trip (f := k0_off37) (g := fun k => ![0, k + 1, 768, 0 * 128]) (by decide +kernel) (fun _ _ => rfl) i k))
        (posread D arg6.view X_arg6 R.pos 0 768 _) (fun t => wread' D arg12.view _ hL 0 _ t x))
      (fun κ x => raw_block D 1 (k + 1) 0 _ _ _ (by decide) (by decide) (by decide) (by decide) κ x (by decide)
        (kread D arg4.view X_arg4 R.k _ _ _ 0 (1 * 128) (off_of_trip (f := k0_off38) (g := fun k => ![0, k + 1, 0, 1 * 128]) (by decide +kernel) (fun _ _ => rfl) i k))
        (posread D arg6.view X_arg6 R.pos 1 0 _) (fun t => wread' D arg12.view _ hL 1 _ t x))
      (fun κ x => raw_block D 1 (k + 1) 256 _ _ _ (by decide) (by decide) (by decide) (by decide) κ x (by decide)
        (kread D arg4.view X_arg4 R.k _ _ _ 256 (1 * 128) (off_of_trip (f := k0_off40) (g := fun k => ![0, k + 1, 256, 1 * 128]) (by decide +kernel) (fun _ _ => rfl) i k))
        (posread D arg6.view X_arg6 R.pos 1 256 _) (fun t => wread' D arg12.view _ hL 1 _ t x))
      (fun κ x => raw_block D 1 (k + 1) 512 _ _ _ (by decide) (by decide) (by decide) (by decide) κ x (by decide)
        (kread D arg4.view X_arg4 R.k _ _ _ 512 (1 * 128) (off_of_trip (f := k0_off41) (g := fun k => ![0, k + 1, 512, 1 * 128]) (by decide +kernel) (fun _ _ => rfl) i k))
        (posread D arg6.view X_arg6 R.pos 1 512 _) (fun t => wread' D arg12.view _ hL 1 _ t x))
      (fun κ x => raw_block D 1 (k + 1) 768 _ _ _ (by decide) (by decide) (by decide) (by decide) κ x (by decide)
        (kread D arg4.view X_arg4 R.k _ _ _ 768 (1 * 128) (off_of_trip (f := k0_off42) (g := fun k => ![0, k + 1, 768, 1 * 128]) (by decide +kernel) (fun _ _ => rfl) i k))
        (posread D arg6.view X_arg6 R.pos 1 768 _) (fun t => wread' D arg12.view _ hL 1 _ t x))

end Cert.KernelIdeal.Attn
-- ==== Proof.Last.lean ====
/-
  The loop as a whole, and the last whole block after it.
-/
module

public import proofs.«01_k».proof.Proof.Loop

@[expose] public section

set_option maxRecDepth 16384

noncomputable section

namespace Cert.KernelIdeal.Attn

open Cert.KernelIdeal Cert.KernelIdeal.Gen
open Idealize.ShloMosaic Idealize.ShloMosaic.ValueIdx

variable (D : Data)

/-- A head's last whole block taken in. -/
theorem last_good (h k nf : ℕ) (hk : k + 1 = nf) {m l cm d : FVec Ideal S1x512 .f32} {acc : FVec Ideal S128x512 .f32}
    {v : FVec Ideal S128x1024 .bf16} {s : FVec Ideal S1024x512 .f32}
    (hb : S1x512.Broadcasts S1024x512) (hb' : S1x512.Broadcasts S128x512)
    (hc : Shape.Concatenates [S128x1024, S16x1024] S144x1024 0) (hlt : FTy.bits .bf16 < FTy.bits .f32)
    (h₁ : S144x512.Slices ![128, 0] S1x512) (h₂ : S144x512.Slices ![0, 0] S128x512) (x : Fin 512)
    (hC : Num cm) (hdd : d (ix2 (0 : Fin 1) x) = (dist D h k : EReal))
    (hv : ∀ (e : Fin 128) (κ : Fin 1024), v (ix2 e κ) = (D.vr (k * 1024 + κ) (h * 128 + e) : EReal))
    (hs : ∀ κ : Fin 1024, s (ix2 κ x) = (raw D h (k * 1024 + κ) x : EReal)) (hl : nf * 1024 ≤ last D x)
    (G : Good D h (keys D nf k x) m l acc x) :
    let pv : FVec Ideal S144x512 .f32 := matmul (DotDims.plain 144 1024 512) none
        (concatenate S144x1024 0 [⟨S128x1024, v⟩, ⟨S16x1024, broadcast S16x1024 (FloatOps.ofBits .bf16 0x3F80#16 : Ideal .bf16)⟩] hc)
        (truncf .bf16 (exp2 (subf s (broadcastTo S1024x512 (subf (maximumf m (addf cm d)) d) hb))) hlt) (constant (F := Ideal) S144x512 .f32 0#32)
    Good D h (Finset.Ico 0 (last D x + 1)) (maximumf m (addf cm d))
      (addf (mulf (exp2 (subf m (maximumf m (addf cm d)))) l) (extractStridedSlice S1x512 ![128, 0] pv h₁))
      (addf (mulf (broadcastTo S128x512 (exp2 (subf m (maximumf m (addf cm d)))) hb') acc) (extractStridedSlice S128x512 ![0, 0] pv h₂)) x := by
  intro pv
  obtain ⟨C, hC⟩ := hC x
  subst hk
  rw [← keys_all D (k + 1) x hl, keys_succ]
  refine absorb_good D h k (keys D (k + 1) k x) m l cm d acc pv hb' h₁ h₂ x C hC hdd (fun K hK => ?_) (fun S hS => ?_) G
  · simp only [keys, Finset.mem_union, Finset.mem_Ico] at hK
    omega
  · have := sums_block D h (k * 1024) (k * 1024 + 1023) v s _ hb hc hlt x S hS (by omega) (by omega) hv
      (fun κ => (hs κ).trans (if_pos (by have := κ.isLt; omega)).symm)
    rwa [show k * 1024 + 1023 + 1 = (k + 1) * 1024 by ring] at this

/-- A block of scores read back. -/
theorem blockread {sp : Space} (v : View sig .tc sp S2x1024x512 .f32) (L : List (View.Piece (Elt Ideal) S2x1024x512 .f32)) {k : ℕ} (I : Scores D k L) (h : ℕ) (inb)
    (hs : S1x1024x512.ShapeCasts S1024x512) (κ : Fin 1024) (x : Fin 512) :
    shapeCast S1024x512 (v.readAt (Elt Ideal) (Rect.unit (s := S2x1024x512) ![h, 0, 0] S1x1024x512.size inb).toLoadRect (v.writes (Elt Ideal) v.junk L)) hs (ix2 κ x)
      = (raw D h (k * 1024 + κ) x : EReal) := by
  have i0 : h + 1 ≤ 2 := inb 0
  refine (shapeCast_1ab_ab_apply _ _ _ _).trans ?_
  exact (wr3 v L _ inb (0 : Fin 1) κ x (⟨h, by omega⟩ : Fin 2) κ x (Nat.add_zero _) (Nat.zero_add _) (Nat.zero_add _)).trans (I _ _ _)

theorem acccov {sp : Space} (v : View sig .tc sp S2x128x512 .f32) (L : List (View.Piece (Elt Ideal) S2x128x512 .f32)) (h : Fin 2) (inb)
    (hs : S1x128x512.ShapeCasts S128x512) (e : Fin 128) (x : Fin 512) :
    shapeCast S128x512 (v.readCov (Val := Elt Ideal) L (Rect.unit (s := S2x128x512) ![h, 0, 0] S1x128x512.size inb).toLoadRect) hs (ix2 e x)
      = View.canon L (ix3 h e x) :=
  (shapeCast_1ab_ab_apply _ _ _ _).trans
    (cov3 v L _ inb (0 : Fin 1) e x h e x (Nat.add_zero _) (Nat.zero_add _) (Nat.zero_add _))

/-- Both heads done, whatever was written before. -/
theorem done_both (arg13 : Memref sig .tc .vmem S2x128x512 .f32) {acc0 acc1 : FVec Ideal S128x512 .f32} {l0 l1 : FVec Ideal S1x512 .f32} (L) (inb0 inb1)
    (G0 : ∀ x : Fin 512, ∃ m, Good D 0 (Finset.Ico 0 (last D x + 1)) m l0 acc0 x)
    (G1 : ∀ x : Fin 512, ∃ m, Good D 1 (Finset.Ico 0 (last D x + 1)) m l1 acc1 x) :
    Done D 0 (arg13.view.readCov (Val := Elt Ideal) (accL acc0 acc1 ++ L) (Rect.unit (s := S2x128x512) ![0, 0, 0] S1x128x512.size inb0).toLoadRect) l0
    ∧ Done D 1 (arg13.view.readCov (Val := Elt Ideal) (accL acc0 acc1 ++ L) (Rect.unit (s := S2x128x512) ![1, 0, 0] S1x128x512.size inb1).toLoadRect) l1 := by
  refine ⟨fun x => (G0 x).imp fun m G => ?_, fun x => (G1 x).imp fun m G => ?_⟩
  · refine good_congr D G rfl (fun e => ?_)
    exact (cov3 arg13.view _ _ inb0 (0 : Fin 1) e x (0 : Fin 2) e x rfl (Nat.zero_add _) (Nat.zero_add _)).trans (accL_0 acc0 acc1 L e x)
  · refine good_congr D G rfl (fun e => ?_)
    exact (cov3 arg13.view _ _ inb1 (0 : Fin 1) e x (1 : Fin 2) e x rfl (Nat.zero_add _) (Nat.zero_add _)).trans (accL_1 acc0 acc1 L e x)

/-- A head's own block is where the loop starts. -/
theorem start_good0 {nf : ℕ} {m l : FVec Ideal S1x512 .f32} {acc0 acc1 : FVec Ideal S128x512 .f32} {x : Fin 512}
    (G : Good D 0 (Finset.Ico (nf * 1024) (last D x + 1)) m l acc0 x) :
    Good D 0 (keys D nf 0 x) m l (fun j => View.canon (accL acc0 acc1) (ix3 (0 : Fin 2) (j 0) (j 1))) x :=
  good_congr D G (keys_zero D nf x) (fun e => accL_0 acc0 acc1 [] e x)

theorem start_good1 {nf : ℕ} {m l : FVec Ideal S1x512 .f32} {acc0 acc1 : FVec Ideal S128x512 .f32} {x : Fin 512}
    (G : Good D 1 (Finset.Ico (nf * 1024) (last D x + 1)) m l acc1 x) :
    Good D 1 (keys D nf 0 x) m l (fun j => View.canon (accL acc0 acc1) (ix3 (1 : Fin 2) (j 0) (j 1))) x :=
  good_congr D G (keys_zero D nf x) (fun e => accL_1 acc0 acc1 [] e x)

theorem off_of4 {f : grid0.Coords → Fin 4 → ℕ} {g : ℕ → Fin 4 → ℕ} (h : ∀ q : Fin 32, 4 ≤ q.val → ∀ a, f (at2 q) a = g q.val a)
    (hf : ∀ i, f i = f (at2 (i 2))) (i : grid0.Coords) (hi : 4 ≤ (i 2).val) : f i = g (i 2).val := (hf i).trans (funext (h (i 2) hi))

theorem scalar_of {f : grid0.Coords → BitVec 32} {g : ℕ → ℤ} (h : ∀ q : Fin 32, 4 ≤ q.val → (f (at2 q)).toInt = g q.val)
    (hf : ∀ i, f i = f (at2 (i 2))) (i : grid0.Coords) (hi : 4 ≤ (i 2).val) : (f i).toInt = g (i 2).val := (congrArg BitVec.toInt (hf i)).trans (h (i 2) hi)

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

variable (L : List (View.Piece (Elt Ideal) S2x256x512 .bf16)) (v16 v92 v93 : BitVec 32) (v94 v97 : BitVec 1)

/-- The loop keeps the invariant. -/
theorem loop_inv (hqi : D.qi = (i 2).val)
    (R : Reads D (arg3.view.read _ X_arg3) (arg4.view.read _ X_arg4) (arg5.view.read _ X_arg5) (arg6.view.read _ X_arg6) (arg7.view.read _ X_arg7) (arg8.view.read _ X_arg8))
    (hL : ∀ (h : Fin 2) (t : Fin 256) (x : Fin 512), View.canon L (ix3 h t x) = (wf D h x t : EReal))
    (init M13 M14) (I : Inv D ((i 2).val / 4) 0 init M13 M14) (k : ℕ) (hk : k ≤ (k0_t1_loop i).trips) :
    Inv D ((i 2).val / 4) k (st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2)) v16 v92 v93 v94 v97 X_arg4 X_arg5 X_arg6 X_arg8 (arg12.view.writes (Elt Ideal) arg12.view.junk L) (arg13.view.writes (Elt Ideal) arg13.view.junk M13) (arg14.view.writes (Elt Ideal) arg14.view.junk M14) init k).1 ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2)) v16 v92 v93 v94 v97 X_arg4 X_arg5 X_arg6 X_arg8 (arg12.view.writes (Elt Ideal) arg12.view.junk L) (arg13.view.writes (Elt Ideal) arg13.view.junk M13) (arg14.view.writes (Elt Ideal) arg14.view.junk M14) init k).2.1 ++ M13) ((st_k0_t1 (F := Ideal) Variants.none c none i arg3 harg3 arg4 harg4 arg5 harg5 arg6 harg6 arg7 harg7 arg8 harg8 arg9 harg9 arg10 harg10 arg11 harg11 arg12 harg12 arg13 harg13 arg14 harg14 (BitVec.ofNat 32 (i 2)) v16 v92 v93 v94 v97 X_arg4 X_arg5 X_arg6 X_arg8 (arg12.view.writes (Elt Ideal) arg12.view.junk L) (arg13.view.writes (Elt Ideal) arg13.view.junk M13) (arg14.view.writes (Elt Ideal) arg14.view.junk M14) init k).2.2 ++ M14) := by
  induction k with
  | zero => rw [st_k0_t1.eq_1]; exact I
  | succ k ih =>
    have T := trip_inv D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 L v16 v92 v93 v94 v97 hqi R hL ⟨k, hk⟩ _ _ _ (ih (Nat.le_of_succ_le hk))
    simp only [View.writes_append] at T
    rw [st_k0_t1_succ (k := ⟨k, hk⟩)]
    simp only [List.append_assoc]
    exact T

/-- The last whole block, both heads. -/
theorem last_pair (k : ℕ) (hk : k + 1 = (i 2).val / 4) (hqi : D.qi = (i 2).val)
    (R : Reads D (arg3.view.read _ X_arg3) (arg4.view.read _ X_arg4) (arg5.view.read _ X_arg5) (arg6.view.read _ X_arg6) (arg7.view.read _ X_arg7) (arg8.view.read _ X_arg8))
    (st : (FVec Ideal S1x512 .f32 × FVec Ideal S1x512 .f32 × FVec Ideal S1x512 .f32 × FVec Ideal S1x512 .f32 × FVec Ideal S1x512 .f32 × FVec Ideal S1x512 .f32)
      × List (View.Piece (Elt Ideal) S2x128x512 .f32) × List (View.Piece (Elt Ideal) S2x1024x512 .f32)) (M13 M14)
    (I : Inv D ((i 2).val / 4) k st.1 (st.2.1 ++ M13) (st.2.2 ++ M14))
    {b : BitVec 32} (hb : b.toInt = (k * 1024 : ℕ) - (D.qi * 256 : ℕ)) {v0 v1 : FVec Ideal S128x1024 .bf16}
    (hv0 : ∀ (e : Fin 128) (κ : Fin 1024), v0 (ix2 e κ) = (D.vr (k * 1024 + κ) (0 * 128 + e) : EReal))
    (hv1 : ∀ (e : Fin 128) (κ : Fin 1024), v1 (ix2 e κ) = (D.vr (k * 1024 + κ) (1 * 128 + e) : EReal)) (inb0 inb1 inb2 inb3 inb4 inb5 inb6 inb7) :
    let d0 : FVec Ideal S1x512 .f32 := mulf (shapeCast S1x512 (arg8.view.readAt (Elt Ideal) (Rect.unit (s := S2x1x512) ![0, 0, 0] S1x1x512.size inb0).toLoadRect X_arg8) (show S1x1x512.ShapeCasts S1x512 by decide)) (sitofp .f32 (broadcast S1x512 b))
    let d1 : FVec Ideal S1x512 .f32 := mulf (shapeCast S1x512 (arg8.view.readAt (Elt Ideal) (Rect.unit (s := S2x1x512) ![1, 0, 0] S1x1x512.size inb1).toLoadRect X_arg8) (show S1x1x512.ShapeCasts S1x512 by decide)) (sitofp .f32 (broadcast S1x512 b))
    let s0 : FVec Ideal S1024x512 .f32 := shapeCast S1024x512 (arg14.view.readAt (Elt Ideal) (Rect.unit (s := S2x1024x512) ![0, 0, 0] S1x1024x512.size inb2).toLoadRect (arg14.view.writes (Elt Ideal) arg14.view.junk (st.2.2 ++ M14))) (show S1x1024x512.ShapeCasts S1024x512 by decide)
    let s1 : FVec Ideal S1024x512 .f32 := shapeCast S1024x512 (arg14.view.readAt (Elt Ideal) (Rect.unit (s := S2x1024x512) ![1, 0, 0] S1x1024x512.size inb3).toLoadRect (arg14.view.writes (Elt Ideal) arg14.view.junk (st.2.2 ++ M14))) (show S1x1024x512.ShapeCasts S1024x512 by decide)
    let pv (v : FVec Ideal S128x1024 .bf16) (s : FVec Ideal S1024x512 .f32) (m cm d : FVec Ideal S1x512 .f32) : FVec Ideal S144x512 .f32 := matmul (DotDims.plain 144 1024 512) none
        (concatenate S144x1024 0 [⟨S128x1024, v⟩, ⟨S16x1024, broadcast S16x1024 (FloatOps.ofBits .bf16 0x3F80#16 : Ideal .bf16)⟩] (show Shape.Concatenates [S128x1024, S16x1024] S144x1024 0 by decide))
        (truncf .bf16 (exp2 (subf s (broadcastTo S1024x512 (subf (maximumf m (addf cm d)) d) (by decide)))) (by decide)) (constant (F := Ideal) S144x512 .f32 0#32)
    let l (m l cm d : FVec Ideal S1x512 .f32) (pv : FVec Ideal S144x512 .f32) : FVec Ideal S1x512 .f32 :=
      addf (mulf (exp2 (subf m (maximumf m (addf cm d)))) l) (extractStridedSlice S1x512 ![128, 0] pv (by decide))
    let a (m cm d : FVec Ideal S1x512 .f32) (acc : FVec Ideal S128x512 .f32) (pv : FVec Ideal S144x512 .f32) : FVec Ideal S128x512 .f32 :=
      addf (mulf (broadcastTo S128x512 (exp2 (subf m (maximumf m (addf cm d)))) (by decide)) acc) (extractStridedSlice S128x512 ![0, 0] pv (by decide))
    let pv0 := pv v0 s0 st.1.1 st.1.2.2.2.2.1 d0
    let pv1 := pv v1 s1 st.1.2.2.1 st.1.2.2.2.2.2 d1
    let a0 := a st.1.1 st.1.2.2.2.2.1 d0 (shapeCast S128x512 (arg13.view.readCov (Val := Elt Ideal) (st.2.1 ++ M13) (Rect.unit (s := S2x128x512) ![0, 0, 0] S1x128x512.size inb4).toLoadRect) (show S1x128x512.ShapeCasts S128x512 by decide)) pv0
    let H0 : List (View.Piece (Elt Ideal) S2x128x512 .f32) := ⟨Rect.unit ![0, 0, 0] S1x128x512.size inb_S2x128x512_S1x128x512_0_0_0, shapeCast S1x128x512 a0 shapeCasts_S128x512_S1x128x512⟩ :: (st.2.1 ++ M13)
    let a1 := a st.1.2.2.1 st.1.2.2.2.2.2 d1 (shapeCast S128x512 (arg13.view.readCov (Val := Elt Ideal) H0 (Rect.unit (s := S2x128x512) ![1, 0, 0] S1x128x512.size inb5).toLoadRect) (show S1x128x512.ShapeCasts S128x512 by decide)) pv1
    let H1 : List (View.Piece (Elt Ideal) S2x128x512 .f32) := ⟨Rect.unit ![1, 0, 0] S1x128x512.size inb_S2x128x512_S1x128x512_1_0_0, shapeCast S1x128x512 a1 shapeCasts_S128x512_S1x128x512⟩ :: H0
    Done D 0 (arg13.view.readCov (Val := Elt Ideal) H1 (Rect.unit (s := S2x128x512) ![0, 0, 0] S1x128x512.size inb6).toLoadRect) (l st.1.1 st.1.2.1 st.1.2.2.2.2.1 d0 pv0)
    ∧ Done D 1 (arg13.view.readCov (Val := Elt Ideal) H1 (Rect.unit (s := S2x128x512) ![1, 0, 0] S1x128x512.size inb7).toLoadRect) (l st.1.2.2.1 st.1.2.2.2.1 st.1.2.2.2.2.2 d1 pv1) := by
  intro d0 d1 s0 s1 pv l a pv0 pv1 a0 H0 a1 H1
  have hl : ∀ x : Fin 512, (i 2).val / 4 * 1024 ≤ last D x := fun x => by unfold last; rw [hqi]; omega
  have G0 : ∀ x : Fin 512, Good D 0 (Finset.Ico 0 (last D x + 1)) (maximumf st.1.1 (addf st.1.2.2.2.2.1 d0)) (l st.1.1 st.1.2.1 st.1.2.2.2.2.1 d0 pv0) a0 x := fun x =>
    last_good D 0 k _ hk (by decide) (by decide) (by decide) (by decide) (by decide) (by decide) x I.c0
      (dist_early D 0 _ _ k x (slread D arg8.view X_arg8 R.slope 0 _ (by decide) x) hb) hv0 (fun κ => blockread D arg14.view _ I.sc 0 _ _ κ x) (hl x)
      (good_congr D (I.g0 x) rfl (fun e => acccov arg13.view _ 0 inb4 (by decide) e x))
  have G1 : ∀ x : Fin 512, Good D 1 (Finset.Ico 0 (last D x + 1)) (maximumf st.1.2.2.1 (addf st.1.2.2.2.2.2 d1)) (l st.1.2.2.1 st.1.2.2.2.1 st.1.2.2.2.2.2 d1 pv1) a1 x := fun x =>
    last_good D 1 k _ hk (by decide) (by decide) (by decide) (by decide) (by decide) (by decide) x I.c1
      (dist_early D 1 _ _ k x (slread D arg8.view X_arg8 R.slope 1 _ (by decide) x) hb) hv1 (fun κ => blockread D arg14.view _ I.sc 1 _ _ κ x) (hl x)
      (good_congr D (I.g1 x) rfl (fun e => (acccov arg13.view H0 1 inb5 (by decide) e x).trans
        (canon3_miss inb_S2x128x512_S1x128x512_0_0_0 _ _ (1 : Fin 2) e x (Or.inl (by decide)))))
  exact done_both D arg13 _ inb6 inb7 (fun x => ⟨_, G0 x⟩) (fun x => ⟨_, G1 x⟩)

end Cert.KernelIdeal.Attn
-- ==== Proof.Branch4.lean ====
/-
  The branches with earlier blocks: the loop over them, and the last one.
-/
module

public import proofs.«01_k».proof.Proof.Last

@[expose] public section

set_option maxRecDepth 16384

noncomputable section

namespace Cert.KernelIdeal.Attn

open Cert.KernelIdeal Cert.KernelIdeal.Gen
open Idealize.ShloMosaic Idealize.ShloMosaic.ValueIdx

variable (D : Data)

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

set_option maxHeartbeats 4000000 in
theorem spec4 (hqi : D.qi = (i 2).val) (hq : br (i 2).val = 4)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run4 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 0 := by unfold br at hq; split at hq <;> omega
  have hz : 4 ≤ (i 2).val := by unfold br at hq; split at hq <;> omega
  have e1 : (k0_t1_loop i).trips = (i 2).val / 4 - 1 := trips1 i
  have e2 : Scf.trips (k0_t2_loop i).lb (k0_t2_loop i).ub (k0_t2_loop i).st = 0 := trips2 i
  have hL : ∀ (h : Fin 2) (t : Fin 256) (x : Fin 512), View.canon (run4.sl.H12_10 (F := Ideal) arg3 X_arg3) (ix3 h t x) = (wf D h x t : EReal) := by
    unfold run4.sl.H12_10 run4.sl.v77 run4.sl.v74 run4.sl.v80 run4.sl.v87 run4.sl.v84 run4.sl.v73 run4.sl.v71 run4.sl.r run4.sl.cst_12 run4.sl.v18 k0_pay342 k0_pay341 k0_pay343 k0_pay345 k0_pay346 k0_pay340 k0_pay347 k0_pay348 k0_pay344
    exact queries D arg3 X_arg3 R.q
  refine ⟨_, _, _, _, by unfold run4; rfl, ?_⟩
  unfold run4.sl.r_12 k0_pay396 run4.sl.v247 run4.sl.v246 run4.sl.v245 run4.sl.v165 run4.sl.v138 run4.sl.H13_2_1 run4.sl.v296_1 run4.sl.v295_1 run4.sl.v290 run4.sl.v289 run4.sl.v265 run4.sl.v264 run4.sl.v263 run4.sl.v262 run4.sl.v261 run4.sl.v260 run4.sl.v288 run4.sl.v294 run4.sl.v292_1 run4.sl.v291_1 run4.sl.H13_1 run4.sl.v244 run4.sl.v241 run4.sl.v240_1 run4.sl.v235 run4.sl.cst_122 run4.sl.v234 run4.sl.v210_1 run4.sl.v209_1 run4.sl.v208_1 run4.sl.v207 run4.sl.v206_1 run4.sl.v205 run4.sl.v233 run4.sl.v232 run4.sl.cst_121 run4.sl.v239 run4.sl.v237 run4.sl.v236 run4.sl.v238 run4.sl.v204_1 run4.sl.v203 run4.sl.v202 run4.sl.v201 run4.sl.v200 run4.sl.v194 run4.sl.v293 run4.sl.v259 run4.sl.v258 run4.sl.v257 run4.sl.v256 run4.sl.v255 run4.sl.v199 run4.sl.v198 run4.sl.v249 k0_pay395
  rw [e2]
  simp only [st_k0_t2.eq_1, List.nil_append]
  refine last_pair D i arg3 arg4 arg5 arg6 arg7 arg8 arg13 arg14 X_arg3 X_arg4 X_arg5 X_arg6 X_arg7 X_arg8 (k0_t1_loop i).trips (by omega) hqi R _ _ _
    (loop_inv D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 _ _ _ _ _ _ hqi R hL _ _ _ ?_ _ le_rfl)
    ((scalar_of (f := run4.sl.v197) (g := fun q => ((q / 4 - 1) * 1024 : ℕ) - (q * 256 : ℕ)) (by decide +kernel) (fun _ => rfl) i hz).trans (by rw [hqi, e1])) ?_ ?_ _ _ _ _ _ _ _ _
  · refine ⟨fun x => ?_, fun x => ?_, ?_, ?_, ?_⟩
    · unfold run4.sl.H13_2
      refine start_good0 D ?_
      dsimp only
      unfold run4.sl.v347 run4.sl.v351 run4.sl.v346 run4.sl.cst_235 run4.sl.v345 run4.sl.v305 run4.sl.v304 run4.sl.v303 run4.sl.v302 run4.sl.r_4 run4.sl.r_3 run4.sl.v344 run4.sl.v343 run4.sl.cst_234 run4.sl.v342 run4.sl.r_5 run4.sl.v212 run4.sl.cst_111 run4.sl.v211 run4.sl.v210 run4.sl.H12_10 run4.sl.v77 run4.sl.v74 run4.sl.v80 run4.sl.v87 run4.sl.v84 run4.sl.v73 run4.sl.v71 run4.sl.r run4.sl.cst_12 run4.sl.v18 k0_pay342 k0_pay341 k0_pay343 k0_pay345 k0_pay346 k0_pay340 k0_pay347 k0_pay348 k0_pay344 run4.sl.v209 run4.sl.v208 run4.sl.v206 k0_pay135 k0_pay134 k0_pay133
      exact own_head0 D arg3 arg4 arg5 arg6 arg7 arg8 arg12 X_arg3 X_arg4 X_arg5 X_arg6 X_arg7 X_arg8 0 ((i 2).val / 4) hB R _ (queries D arg3 X_arg3 R.q)
          (off_of (f := k0_off13) (g := fun q => ![0, q / 4, 0, 0 * 128]) (by decide +kernel) (fun _ => rfl) i)
          (strips1 D 0 _ _
            (Strip.block D 0 0 (vread D arg5.view X_arg5 R.v _ _ _ 0 (off_of (f := k0_off15) (g := fun q => ![0, q / 4 * 4 + 0, 0 * 128, 0]) (by decide +kernel) (fun _ => rfl) i) _)))
          (by decide) (by decide) (by decide) (by decide) (by decide) (by decide) (IdealRules.named_const.ideal_named_scalar _ _ _ _ rfl) (by simp [Ideal.ofBits, Ideal.ieee])
          (by decide) (.inl rfl) rfl (by decide) (by decide) (by decide) (by decide) (by decide) (by decide) x
    · unfold run4.sl.H13_2
      refine start_good1 D ?_
      dsimp only
      unfold run4.sl.v361 run4.sl.v365 run4.sl.v360 run4.sl.cst_235 run4.sl.v359 run4.sl.v309 run4.sl.v308 run4.sl.v307 run4.sl.v306 run4.sl.r_7 run4.sl.r_6 run4.sl.v358 run4.sl.v343 run4.sl.cst_234 run4.sl.v356 run4.sl.r_8 run4.sl.v221 run4.sl.cst_111 run4.sl.v220 run4.sl.v219 run4.sl.H12_10 run4.sl.v77 run4.sl.v74 run4.sl.v80 run4.sl.v87 run4.sl.v84 run4.sl.v73 run4.sl.v71 run4.sl.r run4.sl.cst_12 run4.sl.v18 k0_pay342 k0_pay341 k0_pay343 k0_pay345 k0_pay346 k0_pay340 k0_pay347 k0_pay348 k0_pay344 run4.sl.v218 run4.sl.v217 run4.sl.v215 k0_pay138 k0_pay137 k0_pay136
      exact own_head0 D arg3 arg4 arg5 arg6 arg7 arg8 arg12 X_arg3 X_arg4 X_arg5 X_arg6 X_arg7 X_arg8 1 ((i 2).val / 4) hB R _ (queries D arg3 X_arg3 R.q)
          (off_of (f := k0_off14) (g := fun q => ![0, q / 4, 0, 1 * 128]) (by decide +kernel) (fun _ => rfl) i)
          (strips1 D 1 _ _
            (Strip.block D 1 0 (vread D arg5.view X_arg5 R.v _ _ _ 1 (off_of (f := k0_off16) (g := fun q => ![0, q / 4 * 4 + 0, 1 * 128, 0]) (by decide +kernel) (fun _ => rfl) i) _)))
          (by decide) (by decide) (by decide) (by decide) (by decide) (by decide) (IdealRules.named_const.ideal_named_scalar _ _ _ _ rfl) (by simp [Ideal.ofBits, Ideal.ieee])
          (by decide) (.inl rfl) rfl (by decide) (by decide) (by decide) (by decide) (by decide) (by decide) x
    · unfold run4.sl.v379 run4.sl.v378 run4.sl.v377 run4.sl.v373 run4.sl.v370 run4.sl.v369 run4.sl.v367 run4.sl.v323 run4.sl.v322 run4.sl.v321 run4.sl.v317 run4.sl.v314 run4.sl.v313 run4.sl.v311 run4.sl.r_9 run4.sl.v279 run4.sl.r_1 run4.sl.v229 run4.sl.cst_111 run4.sl.v211 run4.sl.v210 run4.sl.v226 run4.sl.v208 run4.sl.v223 k0_pay129 k0_pay141 k0_pay139
      exact ((((Quarter.num D (h := 0) (B := 0) (r := 0) (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (by decide) (.inl rfl) rfl (by decide)).max
      (Quarter.num D (h := 0) (B := 0) (r := 256) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (by decide) (.inl rfl) rfl (by decide))).max
      (Quarter.num D (h := 0) (B := 0) (r := 512) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (by decide) (.inl rfl) rfl (by decide))).max
      (Quarter.num D (h := 0) (B := 0) (r := 768) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x)) (by decide) (.inl rfl) rfl (by decide)))
    · unfold run4.sl.v384 run4.sl.v383 run4.sl.v381 run4.sl.v337 run4.sl.v336 run4.sl.v335 run4.sl.v331 run4.sl.v328 run4.sl.v327 run4.sl.v325 run4.sl.v301 run4.sl.v300 run4.sl.v299 run4.sl.v295 run4.sl.cst_111 run4.sl.v220 run4.sl.v219 run4.sl.v292 run4.sl.v291 run4.sl.r_11 run4.sl.r_10 k0_pay142 run4.sl.r_2 run4.sl.v240 k0_pay132 k0_pay130 k0_pay369 k0_pay367
      exact ((((Quarter.num D (h := 1) (B := 0) (r := 0) (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (by decide) (.inl rfl) rfl (by decide)).max
      (Quarter.num D (h := 1) (B := 0) (r := 256) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (by decide) (.inl rfl) rfl (by decide))).max
      (Quarter.num D (h := 1) (B := 0) (r := 512) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (by decide) (.inl rfl) rfl (by decide))).max
      (Quarter.num D (h := 1) (B := 0) (r := 768) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x)) (by decide) (.inl rfl) rfl (by decide)))
    · unfold run4.sl.H14_8 run4.sl.v229 run4.sl.v226 run4.sl.v208 run4.sl.v223 run4.sl.v279 run4.sl.v298 run4.sl.v295 run4.sl.v292 run4.sl.v291 run4.sl.r_11 run4.sl.r_10 k0_pay142 run4.sl.v320 run4.sl.v317 run4.sl.v314 run4.sl.v313 run4.sl.v311 run4.sl.v334 run4.sl.v331 run4.sl.v220 run4.sl.v219 run4.sl.v328 run4.sl.v327 run4.sl.v325 run4.sl.v376 run4.sl.v373 run4.sl.cst_111 run4.sl.v211 run4.sl.v210 run4.sl.v370 run4.sl.v369 run4.sl.v367 run4.sl.v240 run4.sl.v384 run4.sl.v383 run4.sl.v381 k0_pay128 k0_pay131 k0_pay130 k0_pay140 k0_pay139 k0_pay368 k0_pay367
      exact quarters'_scores D [] (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x))
        (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x))
  · rw [e1]
    unfold run4.sl.v231 run4.sl.v230 run4.sl.v225 run4.sl.v220_1 run4.sl.v215_1
    exact strips4 D 0 _ _ _ _ _ _
        (Strip.block D 0 0 (vread D arg5.view X_arg5 R.v _ _ _ 0 (off_of4 (f := fun i => k0_off53 i 0#32) (g := fun q => ![0, (q / 4 - 1) * 4 + 0, 0 * 128, 0]) (by decide +kernel) (fun _ => rfl) i hz) _))
        (Strip.block D 0 1 (vread D arg5.view X_arg5 R.v _ _ _ 0 (off_of4 (f := fun i => k0_off53 i 1#32) (g := fun q => ![0, (q / 4 - 1) * 4 + 1, 0 * 128, 0]) (by decide +kernel) (fun _ => rfl) i hz) _))
        (Strip.block D 0 2 (vread D arg5.view X_arg5 R.v _ _ _ 0 (off_of4 (f := fun i => k0_off53 i 2#32) (g := fun q => ![0, (q / 4 - 1) * 4 + 2, 0 * 128, 0]) (by decide +kernel) (fun _ => rfl) i hz) _))
        (Strip.block D 0 3 (vread D arg5.view X_arg5 R.v _ _ _ 0 (off_of4 (f := fun i => k0_off53 i 3#32) (g := fun q => ![0, (q / 4 - 1) * 4 + 3, 0 * 128, 0]) (by decide +kernel) (fun _ => rfl) i hz) _))
  · rw [e1]
    unfold run4.sl.v286 run4.sl.v285 run4.sl.v280 run4.sl.v275 run4.sl.v270
    exact strips4 D 1 _ _ _ _ _ _
        (Strip.block D 1 0 (vread D arg5.view X_arg5 R.v _ _ _ 1 (off_of4 (f := fun i => k0_off54 i 0#32) (g := fun q => ![0, (q / 4 - 1) * 4 + 0, 1 * 128, 0]) (by decide +kernel) (fun _ => rfl) i hz) _))
        (Strip.block D 1 1 (vread D arg5.view X_arg5 R.v _ _ _ 1 (off_of4 (f := fun i => k0_off54 i 1#32) (g := fun q => ![0, (q / 4 - 1) * 4 + 1, 1 * 128, 0]) (by decide +kernel) (fun _ => rfl) i hz) _))
        (Strip.block D 1 2 (vread D arg5.view X_arg5 R.v _ _ _ 1 (off_of4 (f := fun i => k0_off54 i 2#32) (g := fun q => ![0, (q / 4 - 1) * 4 + 2, 1 * 128, 0]) (by decide +kernel) (fun _ => rfl) i hz) _))
        (Strip.block D 1 3 (vread D arg5.view X_arg5 R.v _ _ _ 1 (off_of4 (f := fun i => k0_off54 i 3#32) (g := fun q => ![0, (q / 4 - 1) * 4 + 3, 1 * 128, 0]) (by decide +kernel) (fun _ => rfl) i hz) _))

end Cert.KernelIdeal.Attn
-- ==== Proof.Branch5.lean ====
/-
  The branches with earlier blocks: the loop over them, and the last one.
-/
module

public import proofs.«01_k».proof.Proof.Last

@[expose] public section

set_option maxRecDepth 16384

noncomputable section

namespace Cert.KernelIdeal.Attn

open Cert.KernelIdeal Cert.KernelIdeal.Gen
open Idealize.ShloMosaic Idealize.ShloMosaic.ValueIdx

variable (D : Data)

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

set_option maxHeartbeats 4000000 in
theorem spec5 (hqi : D.qi = (i 2).val) (hq : br (i 2).val = 5)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run5 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 1 := by unfold br at hq; split at hq <;> omega
  have hz : 4 ≤ (i 2).val := by unfold br at hq; split at hq <;> omega
  have e1 : (k0_t1_loop i).trips = (i 2).val / 4 - 1 := trips1 i
  have e2 : Scf.trips (k0_t2_loop i).lb (k0_t2_loop i).ub (k0_t2_loop i).st = 0 := trips2 i
  have hL : ∀ (h : Fin 2) (t : Fin 256) (x : Fin 512), View.canon (run5.sl.H12_10 (F := Ideal) arg3 X_arg3) (ix3 h t x) = (wf D h x t : EReal) := by
    unfold run5.sl.H12_10 run5.sl.v77 run5.sl.v74 run5.sl.v80 run5.sl.v87 run5.sl.v84 run5.sl.v73 run5.sl.v71 run5.sl.r run5.sl.cst_12 run5.sl.v18 k0_pay342 k0_pay341 k0_pay343 k0_pay345 k0_pay346 k0_pay340 k0_pay347 k0_pay348 k0_pay344
    exact queries D arg3 X_arg3 R.q
  refine ⟨_, _, _, _, by unfold run5; rfl, ?_⟩
  unfold run5.sl.r_11 k0_pay396 run5.sl.v247 run5.sl.v246 run5.sl.v245 run5.sl.v165 run5.sl.v138 run5.sl.H13_2_1 run5.sl.v296 run5.sl.v295 run5.sl.v290 run5.sl.v289 run5.sl.v265 run5.sl.v264 run5.sl.v263 run5.sl.v262 run5.sl.v261 run5.sl.v260 run5.sl.v288_1 run5.sl.v294 run5.sl.v292 run5.sl.v291 run5.sl.H13_1 run5.sl.v244 run5.sl.v241 run5.sl.v240 run5.sl.v235 run5.sl.cst_122 run5.sl.v234 run5.sl.v210 run5.sl.v209_1 run5.sl.v208 run5.sl.v207_1 run5.sl.v206 run5.sl.v205 run5.sl.v233 run5.sl.v232_1 run5.sl.cst_121 run5.sl.v239 run5.sl.v237 run5.sl.v236 run5.sl.v238 run5.sl.v204 run5.sl.v203 run5.sl.v202 run5.sl.v201 run5.sl.v200 run5.sl.v194 run5.sl.v293 run5.sl.v259 run5.sl.v258 run5.sl.v257 run5.sl.v256 run5.sl.v255 run5.sl.v199 run5.sl.v198 run5.sl.v249 k0_pay395
  rw [e2]
  simp only [st_k0_t2.eq_1, List.nil_append]
  refine last_pair D i arg3 arg4 arg5 arg6 arg7 arg8 arg13 arg14 X_arg3 X_arg4 X_arg5 X_arg6 X_arg7 X_arg8 (k0_t1_loop i).trips (by omega) hqi R _ _ _
    (loop_inv D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 _ _ _ _ _ _ hqi R hL _ _ _ ?_ _ le_rfl)
    ((scalar_of (f := run5.sl.v197) (g := fun q => ((q / 4 - 1) * 1024 : ℕ) - (q * 256 : ℕ)) (by decide +kernel) (fun _ => rfl) i hz).trans (by rw [hqi, e1])) ?_ ?_ _ _ _ _ _ _ _ _
  · refine ⟨fun x => ?_, fun x => ?_, ?_, ?_, ?_⟩
    · unfold run5.sl.H13_2
      refine start_good0 D ?_
      dsimp only
      unfold run5.sl.v362 run5.sl.v366 run5.sl.v361 run5.sl.cst_242 run5.sl.v360 run5.sl.v314 run5.sl.v313 run5.sl.v312 run5.sl.v311 run5.sl.r_3 run5.sl.v359 run5.sl.v358 run5.sl.cst_241 run5.sl.v357 run5.sl.v356 run5.sl.v351 run5.sl.r_6 run5.sl.r_5 run5.sl.v215 run5.sl.cst_113 run5.sl.v214 run5.sl.v213 run5.sl.H12_10 run5.sl.v77 run5.sl.v74 run5.sl.v80 run5.sl.v87 run5.sl.v84 run5.sl.v73 run5.sl.v71 run5.sl.r run5.sl.cst_12 run5.sl.v18 k0_pay342 k0_pay341 k0_pay343 k0_pay345 k0_pay346 k0_pay340 k0_pay347 k0_pay348 k0_pay344 run5.sl.v212 run5.sl.v211 run5.sl.v209 k0_pay97 k0_pay95 run5.sl.r_4 k0_pay96 k0_pay98
      exact own_head (n := 512) (n0 := 256) D arg3 arg4 arg5 arg6 arg7 arg8 arg12 X_arg3 X_arg4 X_arg5 X_arg6 X_arg7 X_arg8 1 rfl rfl (by decide) 0 ((i 2).val / 4) hB R _ (queries D arg3 X_arg3 R.q)
          (off_of (f := k0_off9) (g := fun q => ![0, q / 4, 0, 0 * 128]) (by decide +kernel) (fun _ => rfl) i)
          (strips2 D 0 _ _ _ _
            (Strip.block D 0 0 (vread D arg5.view X_arg5 R.v _ _ _ 0 (off_of (f := fun i => k0_off11 i 0#32) (g := fun q => ![0, q / 4 * 4 + 0, 0 * 128, 0]) (by decide +kernel) (fun _ => rfl) i) _))
            (Strip.block D 0 1 (vread D arg5.view X_arg5 R.v _ _ _ 0 (off_of (f := fun i => k0_off11 i 1#32) (g := fun q => ![0, q / 4 * 4 + 1, 0 * 128, 0]) (by decide +kernel) (fun _ => rfl) i) _)))
          (by decide) (by decide) (by decide) (by decide) (by decide) (by decide) (by decide) (by decide) (by decide) (IdealRules.named_const.ideal_named_scalar _ _ _ _ rfl) (by simp [Ideal.ofBits, Ideal.ieee, -EReal.coe_mul]; norm_num)
          (by decide) (.inl rfl) rfl (by decide) (by decide) (by decide) (by decide) (by decide) (by decide) x
    · unfold run5.sl.H13_2
      refine start_good1 D ?_
      dsimp only
      unfold run5.sl.v382 run5.sl.v386 run5.sl.v381 run5.sl.cst_242 run5.sl.v380 run5.sl.v318 run5.sl.v317 run5.sl.v316 run5.sl.v315 run5.sl.r_8 run5.sl.r_7 run5.sl.v379 run5.sl.v358 run5.sl.cst_241 run5.sl.v377 run5.sl.v376 run5.sl.v371 run5.sl.r_9 run5.sl.v224 run5.sl.cst_113 run5.sl.v223 run5.sl.v222 run5.sl.H12_10 run5.sl.v77 run5.sl.v74 run5.sl.v80 run5.sl.v87 run5.sl.v84 run5.sl.v73 run5.sl.v71 run5.sl.r run5.sl.cst_12 run5.sl.v18 k0_pay342 k0_pay341 k0_pay343 k0_pay345 k0_pay346 k0_pay340 k0_pay347 k0_pay348 k0_pay344 run5.sl.v221 run5.sl.v220 run5.sl.v218 k0_pay101 k0_pay100 k0_pay99
      exact own_head (n := 512) (n0 := 256) D arg3 arg4 arg5 arg6 arg7 arg8 arg12 X_arg3 X_arg4 X_arg5 X_arg6 X_arg7 X_arg8 1 rfl rfl (by decide) 1 ((i 2).val / 4) hB R _ (queries D arg3 X_arg3 R.q)
          (off_of (f := k0_off10) (g := fun q => ![0, q / 4, 0, 1 * 128]) (by decide +kernel) (fun _ => rfl) i)
          (strips2 D 1 _ _ _ _
            (Strip.block D 1 0 (vread D arg5.view X_arg5 R.v _ _ _ 1 (off_of (f := fun i => k0_off12 i 0#32) (g := fun q => ![0, q / 4 * 4 + 0, 1 * 128, 0]) (by decide +kernel) (fun _ => rfl) i) _))
            (Strip.block D 1 1 (vread D arg5.view X_arg5 R.v _ _ _ 1 (off_of (f := fun i => k0_off12 i 1#32) (g := fun q => ![0, q / 4 * 4 + 1, 1 * 128, 0]) (by decide +kernel) (fun _ => rfl) i) _)))
          (by decide) (by decide) (by decide) (by decide) (by decide) (by decide) (by decide) (by decide) (by decide) (IdealRules.named_const.ideal_named_scalar _ _ _ _ rfl) (by simp [Ideal.ofBits, Ideal.ieee, -EReal.coe_mul]; norm_num)
          (by decide) (.inl rfl) rfl (by decide) (by decide) (by decide) (by decide) (by decide) (by decide) x
    · unfold run5.sl.v391 run5.sl.v390 run5.sl.v388 run5.sl.v332 run5.sl.v331 run5.sl.v330 run5.sl.v326 run5.sl.v323 run5.sl.v322 run5.sl.v320 run5.sl.r_10 run5.sl.v288 run5.sl.r_1 run5.sl.v232 run5.sl.cst_134 run5.sl.v214 run5.sl.v213 run5.sl.v229 run5.sl.v228 run5.sl.v226 k0_pay91 k0_pay104 k0_pay102 k0_pay363 k0_pay361
      exact ((((Quarter.num D (h := 0) (B := 0) (r := 0) (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (by decide) (.inl rfl) rfl (by decide)).max
      (Quarter.num D (h := 0) (B := 0) (r := 256) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (by decide) (.inl rfl) rfl (by decide))).max
      (Quarter.num D (h := 0) (B := 0) (r := 512) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (by decide) (.inl rfl) rfl (by decide))).max
      (Quarter.num D (h := 0) (B := 0) (r := 768) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x)) (by decide) (.inl rfl) rfl (by decide)))
    · unfold run5.sl.v346 run5.sl.v345 run5.sl.v344 run5.sl.v340 run5.sl.v337 run5.sl.v336 run5.sl.v334 run5.sl.v310 run5.sl.v309 run5.sl.v308 run5.sl.v304 run5.sl.cst_134 run5.sl.v223 run5.sl.v222 run5.sl.v301 run5.sl.v300 run5.sl.v298 run5.sl.r_2 run5.sl.v243 k0_pay94 k0_pay92 k0_pay366 k0_pay364
      exact ((((Quarter.num D (h := 1) (B := 0) (r := 0) (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (by decide) (.inl rfl) rfl (by decide)).max
      (Quarter.num D (h := 1) (B := 0) (r := 256) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (by decide) (.inl rfl) rfl (by decide))).max
      (Quarter.num D (h := 1) (B := 0) (r := 512) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (by decide) (.inl rfl) rfl (by decide))).max
      (Quarter.num D (h := 1) (B := 0) (r := 768) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x)) (by decide) (.inl rfl) rfl (by decide)))
    · unfold run5.sl.H14_8 run5.sl.v232 run5.sl.v229 run5.sl.v228 run5.sl.v226 run5.sl.v307 run5.sl.v304 run5.sl.v301 run5.sl.v300 run5.sl.v298 run5.sl.v329 run5.sl.v326 run5.sl.v214 run5.sl.v213 run5.sl.v323 run5.sl.v322 run5.sl.v320 run5.sl.v343 run5.sl.v340 run5.sl.cst_134 run5.sl.v223 run5.sl.v222 run5.sl.v337 run5.sl.v336 run5.sl.v334 run5.sl.v288 run5.sl.v391 run5.sl.v390 run5.sl.v388 run5.sl.v243 k0_pay90 k0_pay93 k0_pay92 k0_pay103 k0_pay102 k0_pay362 k0_pay361 k0_pay365 k0_pay364
      exact quarters'_scores D [] (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x))
        (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x))
  · rw [e1]
    unfold run5.sl.v231 run5.sl.v230 run5.sl.v225 run5.sl.v220_1 run5.sl.v215_1
    exact strips4 D 0 _ _ _ _ _ _
        (Strip.block D 0 0 (vread D arg5.view X_arg5 R.v _ _ _ 0 (off_of4 (f := fun i => k0_off53 i 0#32) (g := fun q => ![0, (q / 4 - 1) * 4 + 0, 0 * 128, 0]) (by decide +kernel) (fun _ => rfl) i hz) _))
        (Strip.block D 0 1 (vread D arg5.view X_arg5 R.v _ _ _ 0 (off_of4 (f := fun i => k0_off53 i 1#32) (g := fun q => ![0, (q / 4 - 1) * 4 + 1, 0 * 128, 0]) (by decide +kernel) (fun _ => rfl) i hz) _))
        (Strip.block D 0 2 (vread D arg5.view X_arg5 R.v _ _ _ 0 (off_of4 (f := fun i => k0_off53 i 2#32) (g := fun q => ![0, (q / 4 - 1) * 4 + 2, 0 * 128, 0]) (by decide +kernel) (fun _ => rfl) i hz) _))
        (Strip.block D 0 3 (vread D arg5.view X_arg5 R.v _ _ _ 0 (off_of4 (f := fun i => k0_off53 i 3#32) (g := fun q => ![0, (q / 4 - 1) * 4 + 3, 0 * 128, 0]) (by decide +kernel) (fun _ => rfl) i hz) _))
  · rw [e1]
    unfold run5.sl.v286 run5.sl.v285 run5.sl.v280 run5.sl.v275 run5.sl.v270
    exact strips4 D 1 _ _ _ _ _ _
        (Strip.block D 1 0 (vread D arg5.view X_arg5 R.v _ _ _ 1 (off_of4 (f := fun i => k0_off54 i 0#32) (g := fun q => ![0, (q / 4 - 1) * 4 + 0, 1 * 128, 0]) (by decide +kernel) (fun _ => rfl) i hz) _))
        (Strip.block D 1 1 (vread D arg5.view X_arg5 R.v _ _ _ 1 (off_of4 (f := fun i => k0_off54 i 1#32) (g := fun q => ![0, (q / 4 - 1) * 4 + 1, 1 * 128, 0]) (by decide +kernel) (fun _ => rfl) i hz) _))
        (Strip.block D 1 2 (vread D arg5.view X_arg5 R.v _ _ _ 1 (off_of4 (f := fun i => k0_off54 i 2#32) (g := fun q => ![0, (q / 4 - 1) * 4 + 2, 1 * 128, 0]) (by decide +kernel) (fun _ => rfl) i hz) _))
        (Strip.block D 1 3 (vread D arg5.view X_arg5 R.v _ _ _ 1 (off_of4 (f := fun i => k0_off54 i 3#32) (g := fun q => ![0, (q / 4 - 1) * 4 + 3, 1 * 128, 0]) (by decide +kernel) (fun _ => rfl) i hz) _))

end Cert.KernelIdeal.Attn
-- ==== Proof.Branch6.lean ====
/-
  The branches with earlier blocks: the loop over them, and the last one.
-/
module

public import proofs.«01_k».proof.Proof.Last

@[expose] public section

set_option maxRecDepth 16384

noncomputable section

namespace Cert.KernelIdeal.Attn

open Cert.KernelIdeal Cert.KernelIdeal.Gen
open Idealize.ShloMosaic Idealize.ShloMosaic.ValueIdx

variable (D : Data)

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

set_option maxHeartbeats 4000000 in
theorem spec6 (hqi : D.qi = (i 2).val) (hq : br (i 2).val = 6)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run6 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 2 := by unfold br at hq; split at hq <;> omega
  have hz : 4 ≤ (i 2).val := by unfold br at hq; split at hq <;> omega
  have e1 : (k0_t1_loop i).trips = (i 2).val / 4 - 1 := trips1 i
  have e2 : Scf.trips (k0_t2_loop i).lb (k0_t2_loop i).ub (k0_t2_loop i).st = 0 := trips2 i
  have hL : ∀ (h : Fin 2) (t : Fin 256) (x : Fin 512), View.canon (run6.sl.H12_10 (F := Ideal) arg3 X_arg3) (ix3 h t x) = (wf D h x t : EReal) := by
    unfold run6.sl.H12_10 run6.sl.v77 run6.sl.v74 run6.sl.v80 run6.sl.v87 run6.sl.v84 run6.sl.v73 run6.sl.v71 run6.sl.r run6.sl.cst_12 run6.sl.v18 k0_pay342 k0_pay341 k0_pay343 k0_pay345 k0_pay346 k0_pay340 k0_pay347 k0_pay348 k0_pay344
    exact queries D arg3 X_arg3 R.q
  refine ⟨_, _, _, _, by unfold run6; rfl, ?_⟩
  unfold run6.sl.r_11 k0_pay396 run6.sl.v247 run6.sl.v246_1 run6.sl.v245 run6.sl.v165 run6.sl.v138 run6.sl.H13_2_1 run6.sl.v296 run6.sl.v295 run6.sl.v290 run6.sl.v289 run6.sl.v265 run6.sl.v264 run6.sl.v263 run6.sl.v262 run6.sl.v261 run6.sl.v260 run6.sl.v288 run6.sl.v294 run6.sl.v292 run6.sl.v291_1 run6.sl.H13_1 run6.sl.v244 run6.sl.v241 run6.sl.v240 run6.sl.v235_1 run6.sl.cst_122 run6.sl.v234 run6.sl.v210_1 run6.sl.v209 run6.sl.v208 run6.sl.v207 run6.sl.v206 run6.sl.v205 run6.sl.v233 run6.sl.v232_1 run6.sl.cst_121 run6.sl.v239 run6.sl.v237 run6.sl.v236 run6.sl.v238 run6.sl.v204 run6.sl.v203 run6.sl.v202 run6.sl.v201 run6.sl.v200 run6.sl.v194 run6.sl.v293 run6.sl.v259 run6.sl.v258 run6.sl.v257 run6.sl.v256 run6.sl.v255 run6.sl.v199 run6.sl.v198 run6.sl.v249 k0_pay395
  rw [e2]
  simp only [st_k0_t2.eq_1, List.nil_append]
  refine last_pair D i arg3 arg4 arg5 arg6 arg7 arg8 arg13 arg14 X_arg3 X_arg4 X_arg5 X_arg6 X_arg7 X_arg8 (k0_t1_loop i).trips (by omega) hqi R _ _ _
    (loop_inv D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 _ _ _ _ _ _ hqi R hL _ _ _ ?_ _ le_rfl)
    ((scalar_of (f := run6.sl.v197) (g := fun q => ((q / 4 - 1) * 1024 : ℕ) - (q * 256 : ℕ)) (by decide +kernel) (fun _ => rfl) i hz).trans (by rw [hqi, e1])) ?_ ?_ _ _ _ _ _ _ _ _
  · refine ⟨fun x => ?_, fun x => ?_, ?_, ?_, ?_⟩
    · unfold run6.sl.H13_2
      refine start_good0 D ?_
      dsimp only
      unfold run6.sl.v370 run6.sl.v374 run6.sl.v369 run6.sl.cst_249 run6.sl.v368 run6.sl.v317 run6.sl.v316 run6.sl.v315 run6.sl.v314 run6.sl.r_3 run6.sl.v367 run6.sl.v366 run6.sl.cst_248 run6.sl.v365 run6.sl.v364 run6.sl.v359 run6.sl.v354 run6.sl.r_6 run6.sl.r_5 run6.sl.v218 run6.sl.cst_115 run6.sl.v217 run6.sl.v216 run6.sl.H12_10 run6.sl.v77 run6.sl.v74 run6.sl.v80 run6.sl.v87 run6.sl.v84 run6.sl.v73 run6.sl.v71 run6.sl.r run6.sl.cst_12 run6.sl.v18 k0_pay342 k0_pay341 k0_pay343 k0_pay345 k0_pay346 k0_pay340 k0_pay347 k0_pay348 k0_pay344 run6.sl.v215 run6.sl.v214 run6.sl.v212 k0_pay55 k0_pay53 run6.sl.r_4 k0_pay54 k0_pay56
      exact own_head (n := 768) (n0 := 512) D arg3 arg4 arg5 arg6 arg7 arg8 arg12 X_arg3 X_arg4 X_arg5 X_arg6 X_arg7 X_arg8 2 rfl rfl (by decide) 0 ((i 2).val / 4) hB R _ (queries D arg3 X_arg3 R.q)
          (off_of (f := k0_off5) (g := fun q => ![0, q / 4, 0, 0 * 128]) (by decide +kernel) (fun _ => rfl) i)
          (strips3 D 0 _ _ _ _ _
            (Strip.block D 0 0 (vread D arg5.view X_arg5 R.v _ _ _ 0 (off_of (f := fun i => k0_off7 i 0#32) (g := fun q => ![0, q / 4 * 4 + 0, 0 * 128, 0]) (by decide +kernel) (fun _ => rfl) i) _))
            (Strip.block D 0 1 (vread D arg5.view X_arg5 R.v _ _ _ 0 (off_of (f := fun i => k0_off7 i 1#32) (g := fun q => ![0, q / 4 * 4 + 1, 0 * 128, 0]) (by decide +kernel) (fun _ => rfl) i) _))
            (Strip.block D 0 2 (vread D arg5.view X_arg5 R.v _ _ _ 0 (off_of (f := fun i => k0_off7 i 2#32) (g := fun q => ![0, q / 4 * 4 + 2, 0 * 128, 0]) (by decide +kernel) (fun _ => rfl) i) _)))
          (by decide) (by decide) (by decide) (by decide) (by decide) (by decide) (by decide) (by decide) (by decide) (IdealRules.named_const.ideal_named_scalar _ _ _ _ rfl) (by simp [Ideal.ofBits, Ideal.ieee, -EReal.coe_mul]; norm_num)
          (by decide) (.inl rfl) rfl (by decide) (by decide) (by decide) (by decide) (by decide) (by decide) x
    · unfold run6.sl.H13_2
      refine start_good1 D ?_
      dsimp only
      unfold run6.sl.v395 run6.sl.v399 run6.sl.v394 run6.sl.cst_249 run6.sl.v393 run6.sl.v321 run6.sl.v320 run6.sl.v319 run6.sl.v318 run6.sl.r_8 run6.sl.r_7 run6.sl.v392 run6.sl.v366 run6.sl.cst_248 run6.sl.v390 run6.sl.v389 run6.sl.v384 run6.sl.v379 run6.sl.r_9 run6.sl.v227 run6.sl.cst_115 run6.sl.v226 run6.sl.v225 run6.sl.H12_10 run6.sl.v77 run6.sl.v74 run6.sl.v80 run6.sl.v87 run6.sl.v84 run6.sl.v73 run6.sl.v71 run6.sl.r run6.sl.cst_12 run6.sl.v18 k0_pay342 k0_pay341 k0_pay343 k0_pay345 k0_pay346 k0_pay340 k0_pay347 k0_pay348 k0_pay344 run6.sl.v224 run6.sl.v223 run6.sl.v221 k0_pay59 k0_pay58 k0_pay57
      exact own_head (n := 768) (n0 := 512) D arg3 arg4 arg5 arg6 arg7 arg8 arg12 X_arg3 X_arg4 X_arg5 X_arg6 X_arg7 X_arg8 2 rfl rfl (by decide) 1 ((i 2).val / 4) hB R _ (queries D arg3 X_arg3 R.q)
          (off_of (f := k0_off6) (g := fun q => ![0, q / 4, 0, 1 * 128]) (by decide +kernel) (fun _ => rfl) i)
          (strips3 D 1 _ _ _ _ _
            (Strip.block D 1 0 (vread D arg5.view X_arg5 R.v _ _ _ 1 (off_of (f := fun i => k0_off8 i 0#32) (g := fun q => ![0, q / 4 * 4 + 0, 1 * 128, 0]) (by decide +kernel) (fun _ => rfl) i) _))
            (Strip.block D 1 1 (vread D arg5.view X_arg5 R.v _ _ _ 1 (off_of (f := fun i => k0_off8 i 1#32) (g := fun q => ![0, q / 4 * 4 + 1, 1 * 128, 0]) (by decide +kernel) (fun _ => rfl) i) _))
            (Strip.block D 1 2 (vread D arg5.view X_arg5 R.v _ _ _ 1 (off_of (f := fun i => k0_off8 i 2#32) (g := fun q => ![0, q / 4 * 4 + 2, 1 * 128, 0]) (by decide +kernel) (fun _ => rfl) i) _)))
          (by decide) (by decide) (by decide) (by decide) (by decide) (by decide) (by decide) (by decide) (by decide) (IdealRules.named_const.ideal_named_scalar _ _ _ _ rfl) (by simp [Ideal.ofBits, Ideal.ieee, -EReal.coe_mul]; norm_num)
          (by decide) (.inl rfl) rfl (by decide) (by decide) (by decide) (by decide) (by decide) (by decide) x
    · unfold run6.sl.v413 run6.sl.v412 run6.sl.v411 run6.sl.v407 run6.sl.v404 run6.sl.v403 run6.sl.v401 run6.sl.v335 run6.sl.v334 run6.sl.v333 run6.sl.v329 run6.sl.v326 run6.sl.v325 run6.sl.v323 run6.sl.r_10 run6.sl.v291 run6.sl.r_1 run6.sl.v235 run6.sl.cst_136 run6.sl.v217 run6.sl.v216 run6.sl.v232 run6.sl.v231 run6.sl.v229 k0_pay49 k0_pay62 k0_pay60
      exact ((((Quarter.num D (h := 0) (B := 0) (r := 0) (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (by decide) (.inl rfl) rfl (by decide)).max
      (Quarter.num D (h := 0) (B := 0) (r := 256) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (by decide) (.inl rfl) rfl (by decide))).max
      (Quarter.num D (h := 0) (B := 0) (r := 512) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (by decide) (.inl rfl) rfl (by decide))).max
      (Quarter.num D (h := 0) (B := 0) (r := 768) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x)) (by decide) (.inl rfl) rfl (by decide)))
    · unfold run6.sl.v421 run6.sl.v418 run6.sl.v417 run6.sl.v415 run6.sl.v349 run6.sl.v348 run6.sl.v347 run6.sl.v343 run6.sl.v340 run6.sl.v339 run6.sl.v337 run6.sl.v313 run6.sl.v312 run6.sl.v311 run6.sl.v307 run6.sl.cst_136 run6.sl.v226 run6.sl.v225 run6.sl.v304 run6.sl.v303 run6.sl.v301 run6.sl.r_2 run6.sl.v246 k0_pay52 k0_pay50 k0_pay360
      exact ((((Quarter.num D (h := 1) (B := 0) (r := 0) (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (by decide) (.inl rfl) rfl (by decide)).max
      (Quarter.num D (h := 1) (B := 0) (r := 256) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (by decide) (.inl rfl) rfl (by decide))).max
      (Quarter.num D (h := 1) (B := 0) (r := 512) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (by decide) (.inl rfl) rfl (by decide))).max
      (Quarter.num D (h := 1) (B := 0) (r := 768) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x)) (by decide) (.inl rfl) rfl (by decide)))
    · unfold run6.sl.H14_8 run6.sl.v235 run6.sl.v232 run6.sl.v231 run6.sl.v229 run6.sl.v246 run6.sl.v291 run6.sl.v310 run6.sl.v307 run6.sl.v304 run6.sl.v303 run6.sl.v301 run6.sl.v332 run6.sl.v329 run6.sl.v326 run6.sl.v325 run6.sl.v323 run6.sl.v346 run6.sl.v343 run6.sl.v340 run6.sl.v339 run6.sl.v337 run6.sl.v410 run6.sl.v407 run6.sl.v217 run6.sl.v216 run6.sl.v404 run6.sl.v403 run6.sl.v401 run6.sl.v421 run6.sl.cst_136 run6.sl.v226 run6.sl.v225 run6.sl.v418 run6.sl.v417 run6.sl.v415 k0_pay48 k0_pay51 k0_pay50 k0_pay61 k0_pay60 k0_pay359
      exact quarters'_scores D [] (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x))
        (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x))
  · rw [e1]
    unfold run6.sl.v231_1 run6.sl.v230 run6.sl.v225_1 run6.sl.v220 run6.sl.v215_1
    exact strips4 D 0 _ _ _ _ _ _
        (Strip.block D 0 0 (vread D arg5.view X_arg5 R.v _ _ _ 0 (off_of4 (f := fun i => k0_off53 i 0#32) (g := fun q => ![0, (q / 4 - 1) * 4 + 0, 0 * 128, 0]) (by decide +kernel) (fun _ => rfl) i hz) _))
        (Strip.block D 0 1 (vread D arg5.view X_arg5 R.v _ _ _ 0 (off_of4 (f := fun i => k0_off53 i 1#32) (g := fun q => ![0, (q / 4 - 1) * 4 + 1, 0 * 128, 0]) (by decide +kernel) (fun _ => rfl) i hz) _))
        (Strip.block D 0 2 (vread D arg5.view X_arg5 R.v _ _ _ 0 (off_of4 (f := fun i => k0_off53 i 2#32) (g := fun q => ![0, (q / 4 - 1) * 4 + 2, 0 * 128, 0]) (by decide +kernel) (fun _ => rfl) i hz) _))
        (Strip.block D 0 3 (vread D arg5.view X_arg5 R.v _ _ _ 0 (off_of4 (f := fun i => k0_off53 i 3#32) (g := fun q => ![0, (q / 4 - 1) * 4 + 3, 0 * 128, 0]) (by decide +kernel) (fun _ => rfl) i hz) _))
  · rw [e1]
    unfold run6.sl.v286 run6.sl.v285 run6.sl.v280 run6.sl.v275 run6.sl.v270
    exact strips4 D 1 _ _ _ _ _ _
        (Strip.block D 1 0 (vread D arg5.view X_arg5 R.v _ _ _ 1 (off_of4 (f := fun i => k0_off54 i 0#32) (g := fun q => ![0, (q / 4 - 1) * 4 + 0, 1 * 128, 0]) (by decide +kernel) (fun _ => rfl) i hz) _))
        (Strip.block D 1 1 (vread D arg5.view X_arg5 R.v _ _ _ 1 (off_of4 (f := fun i => k0_off54 i 1#32) (g := fun q => ![0, (q / 4 - 1) * 4 + 1, 1 * 128, 0]) (by decide +kernel) (fun _ => rfl) i hz) _))
        (Strip.block D 1 2 (vread D arg5.view X_arg5 R.v _ _ _ 1 (off_of4 (f := fun i => k0_off54 i 2#32) (g := fun q => ![0, (q / 4 - 1) * 4 + 2, 1 * 128, 0]) (by decide +kernel) (fun _ => rfl) i hz) _))
        (Strip.block D 1 3 (vread D arg5.view X_arg5 R.v _ _ _ 1 (off_of4 (f := fun i => k0_off54 i 3#32) (g := fun q => ![0, (q / 4 - 1) * 4 + 3, 1 * 128, 0]) (by decide +kernel) (fun _ => rfl) i hz) _))

end Cert.KernelIdeal.Attn
-- ==== Proof.Branch7.lean ====
/-
  The branches with earlier blocks: the loop over them, and the last one.
-/
module

public import proofs.«01_k».proof.Proof.Last

@[expose] public section

set_option maxRecDepth 16384

noncomputable section

namespace Cert.KernelIdeal.Attn

open Cert.KernelIdeal Cert.KernelIdeal.Gen
open Idealize.ShloMosaic Idealize.ShloMosaic.ValueIdx

variable (D : Data)

variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

set_option maxHeartbeats 4000000 in
theorem spec7 (hqi : D.qi = (i 2).val) (hq : br (i 2).val = 7)
    (R : Reads D (arg3.view.read _ X_arg3) (arg4.view.read _ X_arg4) (arg5.view.read _ X_arg5) (arg6.view.read _ X_arg6) (arg7.view.read _ X_arg7) (arg8.view.read _ X_arg8)) :
    Spec D arg9 arg10 X_arg9 X_arg10 (run7 (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).1 := by
  have hB : D.qi = (i 2).val / 4 * 4 + 3 := by unfold br at hq; split at hq <;> omega
  have hz : 4 ≤ (i 2).val := by unfold br at hq; split at hq <;> omega
  have e1 : (k0_t1_loop i).trips = (i 2).val / 4 - 1 := trips1 i
  have e2 : Scf.trips (k0_t2_loop i).lb (k0_t2_loop i).ub (k0_t2_loop i).st = 0 := trips2 i
  have hL : ∀ (h : Fin 2) (t : Fin 256) (x : Fin 512), View.canon (run7.sl.H12_10 (F := Ideal) arg3 X_arg3) (ix3 h t x) = (wf D h x t : EReal) := by
    unfold run7.sl.H12_10 run7.sl.v77 run7.sl.v74 run7.sl.v80 run7.sl.v87 run7.sl.v84 run7.sl.v73 run7.sl.v71 run7.sl.r run7.sl.cst_12 run7.sl.v18 k0_pay342 k0_pay341 k0_pay343 k0_pay345 k0_pay346 k0_pay340 k0_pay347 k0_pay348 k0_pay344
    exact queries D arg3 X_arg3 R.q
  refine ⟨_, _, _, _, by unfold run7; rfl, ?_⟩
  unfold run7.sl.r_11 k0_pay396 run7.sl.v247 run7.sl.v246_1 run7.sl.v245 run7.sl.v165 run7.sl.v138 run7.sl.H13_2_1 run7.sl.v296 run7.sl.v295 run7.sl.v290 run7.sl.v289 run7.sl.v265 run7.sl.v264 run7.sl.v263 run7.sl.v262 run7.sl.v261 run7.sl.v260 run7.sl.v288 run7.sl.v294 run7.sl.v292 run7.sl.v291_1 run7.sl.H13_1 run7.sl.v244 run7.sl.v241 run7.sl.v240 run7.sl.v235_1 run7.sl.cst_122 run7.sl.v234 run7.sl.v210_1 run7.sl.v209 run7.sl.v208 run7.sl.v207 run7.sl.v206 run7.sl.v205 run7.sl.v233 run7.sl.v232_1 run7.sl.cst_121 run7.sl.v239 run7.sl.v237 run7.sl.v236 run7.sl.v238 run7.sl.v204 run7.sl.v203 run7.sl.v202 run7.sl.v201 run7.sl.v200 run7.sl.v194 run7.sl.v293 run7.sl.v259 run7.sl.v258 run7.sl.v257 run7.sl.v256 run7.sl.v255 run7.sl.v199 run7.sl.v198 run7.sl.v249 k0_pay395
  rw [e2]
  simp only [st_k0_t2.eq_1, List.nil_append]
  refine last_pair D i arg3 arg4 arg5 arg6 arg7 arg8 arg13 arg14 X_arg3 X_arg4 X_arg5 X_arg6 X_arg7 X_arg8 (k0_t1_loop i).trips (by omega) hqi R _ _ _
    (loop_inv D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 _ _ _ _ _ _ hqi R hL _ _ _ ?_ _ le_rfl)
    ((scalar_of (f := run7.sl.v197) (g := fun q => ((q / 4 - 1) * 1024 : ℕ) - (q * 256 : ℕ)) (by decide +kernel) (fun _ => rfl) i hz).trans (by rw [hqi, e1])) ?_ ?_ _ _ _ _ _ _ _ _
  · refine ⟨fun x => ?_, fun x => ?_, ?_, ?_, ?_⟩
    · unfold run7.sl.H13_2
      refine start_good0 D ?_
      dsimp only
      unfold run7.sl.v375 run7.sl.v379 run7.sl.v374 run7.sl.cst_254 run7.sl.v373 run7.sl.v317 run7.sl.v316 run7.sl.v315 run7.sl.v314 run7.sl.r_3 run7.sl.v372 run7.sl.v371 run7.sl.cst_253 run7.sl.v370 run7.sl.v369 run7.sl.v364 run7.sl.v359 run7.sl.v354 run7.sl.r_6 run7.sl.r_5 run7.sl.v218 run7.sl.cst_115 run7.sl.v217 run7.sl.v216 run7.sl.H12_10 run7.sl.v77 run7.sl.v74 run7.sl.v80 run7.sl.v87 run7.sl.v84 run7.sl.v73 run7.sl.v71 run7.sl.r run7.sl.cst_12 run7.sl.v18 k0_pay342 k0_pay341 k0_pay343 k0_pay345 k0_pay346 k0_pay340 k0_pay347 k0_pay348 k0_pay344 run7.sl.v215 run7.sl.v214 run7.sl.v212 k0_pay12 k0_pay10 run7.sl.r_4 k0_pay11 k0_pay13
      exact own_head (n := 1024) (n0 := 768) D arg3 arg4 arg5 arg6 arg7 arg8 arg12 X_arg3 X_arg4 X_arg5 X_arg6 X_arg7 X_arg8 3 rfl rfl (by decide) 0 ((i 2).val / 4) hB R _ (queries D arg3 X_arg3 R.q)
          (off_of (f := k0_off1) (g := fun q => ![0, q / 4, 0, 0 * 128]) (by decide +kernel) (fun _ => rfl) i)
          (strips4 D 0 _ _ _ _ _ _
            (Strip.block D 0 0 (vread D arg5.view X_arg5 R.v _ _ _ 0 (off_of (f := fun i => k0_off3 i 0#32) (g := fun q => ![0, q / 4 * 4 + 0, 0 * 128, 0]) (by decide +kernel) (fun _ => rfl) i) _))
            (Strip.block D 0 1 (vread D arg5.view X_arg5 R.v _ _ _ 0 (off_of (f := fun i => k0_off3 i 1#32) (g := fun q => ![0, q / 4 * 4 + 1, 0 * 128, 0]) (by decide +kernel) (fun _ => rfl) i) _))
            (Strip.block D 0 2 (vread D arg5.view X_arg5 R.v _ _ _ 0 (off_of (f := fun i => k0_off3 i 2#32) (g := fun q => ![0, q / 4 * 4 + 2, 0 * 128, 0]) (by decide +kernel) (fun _ => rfl) i) _))
            (Strip.block D 0 3 (vread D arg5.view X_arg5 R.v _ _ _ 0 (off_of (f := fun i => k0_off3 i 3#32) (g := fun q => ![0, q / 4 * 4 + 3, 0 * 128, 0]) (by decide +kernel) (fun _ => rfl) i) _)))
          (by decide) (by decide) (by decide) (by decide) (by decide) (by decide) (by decide) (by decide) (by decide) (IdealRules.named_const.ideal_named_scalar _ _ _ _ rfl) (by simp [Ideal.ofBits, Ideal.ieee, -EReal.coe_mul]; norm_num)
          (by decide) (.inl rfl) rfl (by decide) (by decide) (by decide) (by decide) (by decide) (by decide) x
    · unfold run7.sl.H13_2
      refine start_good1 D ?_
      dsimp only
      unfold run7.sl.v405 run7.sl.v409 run7.sl.v404 run7.sl.cst_254 run7.sl.v403 run7.sl.v321 run7.sl.v320 run7.sl.v319 run7.sl.v318 run7.sl.r_8 run7.sl.r_7 run7.sl.v402 run7.sl.v371 run7.sl.cst_253 run7.sl.v400 run7.sl.v399 run7.sl.v394 run7.sl.v389 run7.sl.v384 run7.sl.r_9 run7.sl.v227 run7.sl.cst_115 run7.sl.v226 run7.sl.v225 run7.sl.H12_10 run7.sl.v77 run7.sl.v74 run7.sl.v80 run7.sl.v87 run7.sl.v84 run7.sl.v73 run7.sl.v71 run7.sl.r run7.sl.cst_12 run7.sl.v18 k0_pay342 k0_pay341 k0_pay343 k0_pay345 k0_pay346 k0_pay340 k0_pay347 k0_pay348 k0_pay344 run7.sl.v224 run7.sl.v223 run7.sl.v221 k0_pay16 k0_pay15 k0_pay14
      exact own_head (n := 1024) (n0 := 768) D arg3 arg4 arg5 arg6 arg7 arg8 arg12 X_arg3 X_arg4 X_arg5 X_arg6 X_arg7 X_arg8 3 rfl rfl (by decide) 1 ((i 2).val / 4) hB R _ (queries D arg3 X_arg3 R.q)
          (off_of (f := k0_off2) (g := fun q => ![0, q / 4, 0, 1 * 128]) (by decide +kernel) (fun _ => rfl) i)
          (strips4 D 1 _ _ _ _ _ _
            (Strip.block D 1 0 (vread D arg5.view X_arg5 R.v _ _ _ 1 (off_of (f := fun i => k0_off4 i 0#32) (g := fun q => ![0, q / 4 * 4 + 0, 1 * 128, 0]) (by decide +kernel) (fun _ => rfl) i) _))
            (Strip.block D 1 1 (vread D arg5.view X_arg5 R.v _ _ _ 1 (off_of (f := fun i => k0_off4 i 1#32) (g := fun q => ![0, q / 4 * 4 + 1, 1 * 128, 0]) (by decide +kernel) (fun _ => rfl) i) _))
            (Strip.block D 1 2 (vread D arg5.view X_arg5 R.v _ _ _ 1 (off_of (f := fun i => k0_off4 i 2#32) (g := fun q => ![0, q / 4 * 4 + 2, 1 * 128, 0]) (by decide +kernel) (fun _ => rfl) i) _))
            (Strip.block D 1 3 (vread D arg5.view X_arg5 R.v _ _ _ 1 (off_of (f := fun i => k0_off4 i 3#32) (g := fun q => ![0, q / 4 * 4 + 3, 1 * 128, 0]) (by decide +kernel) (fun _ => rfl) i) _)))
          (by decide) (by decide) (by decide) (by decide) (by decide) (by decide) (by decide) (by decide) (by decide) (IdealRules.named_const.ideal_named_scalar _ _ _ _ rfl) (by simp [Ideal.ofBits, Ideal.ieee, -EReal.coe_mul]; norm_num)
          (by decide) (.inl rfl) rfl (by decide) (by decide) (by decide) (by decide) (by decide) (by decide) x
    · unfold run7.sl.v423 run7.sl.v422 run7.sl.v421 run7.sl.v417 run7.sl.v414 run7.sl.v413 run7.sl.v411 run7.sl.v335 run7.sl.v334 run7.sl.v333 run7.sl.v329 run7.sl.v326 run7.sl.v325 run7.sl.v323 run7.sl.r_10 run7.sl.v291 run7.sl.r_1 run7.sl.v235 run7.sl.cst_136 run7.sl.v217 run7.sl.v216 run7.sl.v232 run7.sl.v231 run7.sl.v229 k0_pay6 k0_pay19 k0_pay17
      exact ((((Quarter.num D (h := 0) (B := 0) (r := 0) (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (by decide) (.inl rfl) rfl (by decide)).max
      (Quarter.num D (h := 0) (B := 0) (r := 256) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (by decide) (.inl rfl) rfl (by decide))).max
      (Quarter.num D (h := 0) (B := 0) (r := 512) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (by decide) (.inl rfl) rfl (by decide))).max
      (Quarter.num D (h := 0) (B := 0) (r := 768) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x)) (by decide) (.inl rfl) rfl (by decide)))
    · unfold run7.sl.v349 run7.sl.v348 run7.sl.v347 run7.sl.v343 run7.sl.v340 run7.sl.v339 run7.sl.v337 run7.sl.v313 run7.sl.v312 run7.sl.v311 run7.sl.v307 run7.sl.cst_136 run7.sl.v226 run7.sl.v225 run7.sl.v304 run7.sl.v303 run7.sl.v301 run7.sl.r_2 run7.sl.v246 k0_pay9 k0_pay7 k0_pay358 k0_pay356
      exact ((((Quarter.num D (h := 1) (B := 0) (r := 0) (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (by decide) (.inl rfl) rfl (by decide)).max
      (Quarter.num D (h := 1) (B := 0) (r := 256) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (by decide) (.inl rfl) rfl (by decide))).max
      (Quarter.num D (h := 1) (B := 0) (r := 512) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (by decide) (.inl rfl) rfl (by decide))).max
      (Quarter.num D (h := 1) (B := 0) (r := 768) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x)) (by decide) (.inl rfl) rfl (by decide)))
    · unfold run7.sl.H14_8 run7.sl.v235 run7.sl.v232 run7.sl.v231 run7.sl.v229 run7.sl.v291 run7.sl.v310 run7.sl.v307 run7.sl.v304 run7.sl.v303 run7.sl.v301 run7.sl.v332 run7.sl.v329 run7.sl.v326 run7.sl.v325 run7.sl.v323 run7.sl.v346 run7.sl.v343 run7.sl.v226 run7.sl.v225 run7.sl.v340 run7.sl.v339 run7.sl.v337 run7.sl.v420 run7.sl.v417 run7.sl.cst_136 run7.sl.v217 run7.sl.v216 run7.sl.v414 run7.sl.v413 run7.sl.v411 run7.sl.v246 k0_pay5 k0_pay8 k0_pay7 k0_pay18 k0_pay17 k0_pay357 k0_pay356
      exact quarters'_scores D [] (fun κ x => raw_block D 0 0 0 _ _ _ (by decide) (by decide) (by decide) (by decide) κ x (by decide)
        (kread D arg4.view X_arg4 R.k _ _ 0 0 (0 * 128) (by decide))
        (posread D arg6.view X_arg6 R.pos 0 0 _) (fun t => wread D arg12.view _ hL 0 _ t x)) (fun κ x => raw_block D 0 0 256 _ _ _ (by decide) (by decide) (by decide) (by decide) κ x (by decide)
        (kread D arg4.view X_arg4 R.k _ _ 0 256 (0 * 128) (by decide))
        (posread D arg6.view X_arg6 R.pos 0 256 _) (fun t => wread D arg12.view _ hL 0 _ t x)) (fun κ x => raw_block D 0 0 512 _ _ _ (by decide) (by decide) (by decide) (by decide) κ x (by decide)
        (kread D arg4.view X_arg4 R.k _ _ 0 512 (0 * 128) (by decide))
        (posread D arg6.view X_arg6 R.pos 0 512 _) (fun t => wread D arg12.view _ hL 0 _ t x)) (fun κ x => raw_block D 0 0 768 _ _ _ (by decide) (by decide) (by decide) (by decide) κ x (by decide)
        (kread D arg4.view X_arg4 R.k _ _ 0 768 (0 * 128) (by decide))
        (posread D arg6.view X_arg6 R.pos 0 768 _) (fun t => wread D arg12.view _ hL 0 _ t x))
        (fun κ x => raw_block D 1 0 0 _ _ _ (by decide) (by decide) (by decide) (by decide) κ x (by decide)
        (kread D arg4.view X_arg4 R.k _ _ 0 0 (1 * 128) (by decide))
        (posread D arg6.view X_arg6 R.pos 1 0 _) (fun t => wread D arg12.view _ hL 1 _ t x)) (fun κ x => raw_block D 1 0 256 _ _ _ (by decide) (by decide) (by decide) (by decide) κ x (by decide)
        (kread D arg4.view X_arg4 R.k _ _ 0 256 (1 * 128) (by decide))
        (posread D arg6.view X_arg6 R.pos 1 256 _) (fun t => wread D arg12.view _ hL 1 _ t x)) (fun κ x => raw_block D 1 0 512 _ _ _ (by decide) (by decide) (by decide) (by decide) κ x (by decide)
        (kread D arg4.view X_arg4 R.k _ _ 0 512 (1 * 128) (by decide))
        (posread D arg6.view X_arg6 R.pos 1 512 _) (fun t => wread D arg12.view _ hL 1 _ t x)) (fun κ x => raw_block D 1 0 768 _ _ _ (by decide) (by decide) (by decide) (by decide) κ x (by decide)
        (kread D arg4.view X_arg4 R.k _ _ 0 768 (1 * 128) (by decide))
        (posread D arg6.view X_arg6 R.pos 1 768 _) (fun t => wread D arg12.view _ hL 1 _ t x))
  · rw [e1]
    unfold run7.sl.v231_1 run7.sl.v230 run7.sl.v225_1 run7.sl.v220 run7.sl.v215_1
    exact strips4 D 0 _ _ _ _ _ _
        (Strip.block D 0 0 (vread D arg5.view X_arg5 R.v _ _ _ 0 (off_of4 (f := fun i => k0_off53 i 0#32) (g := fun q => ![0, (q / 4 - 1) * 4 + 0, 0 * 128, 0]) (by decide +kernel) (fun _ => rfl) i hz) _))
        (Strip.block D 0 1 (vread D arg5.view X_arg5 R.v _ _ _ 0 (off_of4 (f := fun i => k0_off53 i 1#32) (g := fun q => ![0, (q / 4 - 1) * 4 + 1, 0 * 128, 0]) (by decide +kernel) (fun _ => rfl) i hz) _))
        (Strip.block D 0 2 (vread D arg5.view X_arg5 R.v _ _ _ 0 (off_of4 (f := fun i => k0_off53 i 2#32) (g := fun q => ![0, (q / 4 - 1) * 4 + 2, 0 * 128, 0]) (by decide +kernel) (fun _ => rfl) i hz) _))
        (Strip.block D 0 3 (vread D arg5.view X_arg5 R.v _ _ _ 0 (off_of4 (f := fun i => k0_off53 i 3#32) (g := fun q => ![0, (q / 4 - 1) * 4 + 3, 0 * 128, 0]) (by decide +kernel) (fun _ => rfl) i hz) _))
  · rw [e1]
    unfold run7.sl.v286 run7.sl.v285 run7.sl.v280 run7.sl.v275 run7.sl.v270
    exact strips4 D 1 _ _ _ _ _ _
        (Strip.block D 1 0 (vread D arg5.view X_arg5 R.v _ _ _ 1 (off_of4 (f := fun i => k0_off54 i 0#32) (g := fun q => ![0, (q / 4 - 1) * 4 + 0, 1 * 128, 0]) (by decide +kernel) (fun _ => rfl) i hz) _))
        (Strip.block D 1 1 (vread D arg5.view X_arg5 R.v _ _ _ 1 (off_of4 (f := fun i => k0_off54 i 1#32) (g := fun q => ![0, (q / 4 - 1) * 4 + 1, 1 * 128, 0]) (by decide +kernel) (fun _ => rfl) i hz) _))
        (Strip.block D 1 2 (vread D arg5.view X_arg5 R.v _ _ _ 1 (off_of4 (f := fun i => k0_off54 i 2#32) (g := fun q => ![0, (q / 4 - 1) * 4 + 2, 1 * 128, 0]) (by decide +kernel) (fun _ => rfl) i hz) _))
        (Strip.block D 1 3 (vread D arg5.view X_arg5 R.v _ _ _ 1 (off_of4 (f := fun i => k0_off54 i 3#32) (g := fun q => ![0, (q / 4 - 1) * 4 + 3, 1 * 128, 0]) (by decide +kernel) (fun _ => rfl) i hz) _))

end Cert.KernelIdeal.Attn
-- ==== Proof.Exact.lean ====
/-
  Every branch at once: what the body leaves in the output's buffer at a point, element by element.
-/
module

public import proofs.«01_k».proof.Proof.Final
public import proofs.«01_k».proof.Proof.Last
public import proofs.«01_k».proof.Proof.Body
public import proofs.«01_k».proof.Proof.Branch4
public import proofs.«01_k».proof.Proof.Branch5
public import proofs.«01_k».proof.Proof.Branch6
public import proofs.«01_k».proof.Proof.Branch7

@[expose] public section

set_option maxRecDepth 16384

noncomputable section

namespace Cert.KernelIdeal.Attn

open Cert.KernelIdeal Cert.KernelIdeal.Gen
open Idealize.ShloMosaic Idealize.ShloMosaic.ValueIdx
open Cert.Attend

/-- A load of a whole box of two axes is a read. -/
theorem readAt_whole2 {sp : Space} {e : EltTy} {n0 n1 : ℕ} (v : View sig .tc sp ⟨2, ![n0, n1]⟩ e) (X : BufTy.Contents (Elt Ideal) v.ty) (inb) :
    v.readAt (Elt Ideal) (Rect.unit (s := ⟨2, ![n0, n1]⟩) ![0, 0] ![n0, n1] inb).toLoadRect X = v.read (Elt Ideal) X := by
  funext j
  have ej : j = ix2 (j 0) (j 1) := by
    funext a; match a with
    | ⟨0, _⟩ => rfl
    | ⟨1, _⟩ => rfl
  rw [ej]
  exact rd2 v X ![0, 0] inb (j 0) (j 1) (j 0) (j 1) (Nat.zero_add _) (Nat.zero_add _)

/-- The two pieces, read: columns below 128 are the first head's, the others the second's. -/
theorem canon_outL (a0 a1 : FVec Ideal S1x128x512 .f32) (l0 l1 : FVec Ideal S1x512 .f32) (lam : FVec Ideal S4x64 .f32) (g : FVec Ideal S1x128 .f32) (y x : Fin 256) :
    View.canon (outL a0 a1 l0 l1 lam g) (ix2 y x)
      = if h : x.val < 128 then headOut a0 l0 lam g (ix2 y (⟨x.val, h⟩ : Fin 128)) else headOut a1 l1 lam g (ix2 y (⟨x.val - 128, by omega⟩ : Fin 128)) := by
  unfold outL
  split_ifs with h
  · rw [View.canon_cons_of_not_mem _ _ (by
      intro hx
      have hm := (Rect.mem_set_unit (inb := inb_S256x256_S256x128_0_128)).1 hx
      have h1 : 128 ≤ x.val ∧ x.val < 128 + 128 := hm 1
      omega)]
    have e : ix2 y x = (Rect.unit (s := S256x256) ![0, 0] S256x128.size inb_S256x256_S256x128_0_0).emb (ix2 y (⟨x.val, h⟩ : Fin 128)) := by
      funext ax; apply Fin.ext
      match ax with
      | ⟨0, _⟩ => show y.val = 0 + 1 * y.val; omega
      | ⟨1, _⟩ => show x.val = 0 + 1 * x.val; omega
    rw [e]; exact View.canon_cons_emb _ _ _ _
  · have e : ix2 y x = (Rect.unit (s := S256x256) ![0, 128] S256x128.size inb_S256x256_S256x128_0_128).emb (ix2 y (⟨x.val - 128, by omega⟩ : Fin 128)) := by
      funext ax; apply Fin.ext
      match ax with
      | ⟨0, _⟩ => show y.val = 0 + 1 * y.val; omega
      | ⟨1, _⟩ => show x.val = 128 + 1 * (x.val - 128); omega
    rw [e]; exact View.canon_cons_emb _ _ _ _

theorem cover_outL (a0 a1 : FVec Ideal S1x128x512 .f32) (l0 l1 : FVec Ideal S1x512 .f32) (lam : FVec Ideal S4x64 .f32) (g : FVec Ideal S1x128 .f32) (j : S256x256.Idx) :
    ∃ p ∈ outL a0 a1 l0 l1 lam g, j ∈ p.1.set := by
  unfold outL
  have h0 : (j 0 : ℕ) < 256 := (j 0).isLt
  have h1 : (j 1 : ℕ) < 256 := (j 1).isLt
  by_cases h : (j 1 : ℕ) < 128
  · refine ⟨_, List.mem_cons_of_mem _ (List.mem_cons_self ..), (Rect.mem_set_unit (inb := inb_S256x256_S256x128_0_0)).2 fun a => ?_⟩
    match a with
    | ⟨0, _⟩ => show 0 ≤ (j 0 : ℕ) ∧ (j 0 : ℕ) < 0 + 256; omega
    | ⟨1, _⟩ => show 0 ≤ (j 1 : ℕ) ∧ (j 1 : ℕ) < 0 + 128; omega
  · refine ⟨_, List.mem_cons_self .., (Rect.mem_set_unit (inb := inb_S256x256_S256x128_0_128)).2 fun a => ?_⟩
    match a with
    | ⟨0, _⟩ => show 0 ≤ (j 0 : ℕ) ∧ (j 0 : ℕ) < 0 + 256; omega
    | ⟨1, _⟩ => show 128 ≤ (j 1 : ℕ) ∧ (j 1 : ℕ) < 128 + 128; omega

variable (D : Data)

section
variable (c : Dev nD) (i : grid0.Coords)
  (arg3 : Memref sig .tc .vmem S1x1x256x256 .bf16) (harg3 : arg3.IsWhole)
  (arg4 : Memref sig .tc .vmem S1x8x1024x256 .bf16) (harg4 : arg4.IsWhole)
  (arg5 : Memref sig .tc .vmem S1x32x256x256 .bf16) (harg5 : arg5.IsWhole)
  (arg6 : Memref sig .tc .vmem S2x1024x128 .bf16) (harg6 : arg6.IsWhole)
  (arg7 : Memref sig .tc .vmem S256x512 .f32) (harg7 : arg7.IsWhole)
  (arg8 : Memref sig .tc .vmem S2x1x512 .f32) (harg8 : arg8.IsWhole)
  (arg9 : Memref sig .tc .vmem S4x64 .f32) (harg9 : arg9.IsWhole)
  (arg10 : Memref sig .tc .vmem S1x128 .f32) (harg10 : arg10.IsWhole)
  (arg11 : Memref sig .tc .vmem S256x256 .f32) (harg11 : arg11.IsWhole)
  (arg12 : Memref sig .tc .vmem S2x256x512 .bf16) (harg12 : arg12.IsWhole)
  (arg13 : Memref sig .tc .vmem S2x128x512 .f32) (harg13 : arg13.IsWhole)
  (arg14 : Memref sig .tc .vmem S2x1024x512 .f32) (harg14 : arg14.IsWhole)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg7 : BufTy.Contents (Elt Ideal) arg7.view.ty)
  (X_arg8 : BufTy.Contents (Elt Ideal) arg8.view.ty)
  (X_arg9 : BufTy.Contents (Elt Ideal) arg9.view.ty)
  (X_arg10 : BufTy.Contents (Elt Ideal) arg10.view.ty)
  (X_arg11 : BufTy.Contents (Elt Ideal) arg11.view.ty)
  (X_arg12 : BufTy.Contents (Elt Ideal) arg12.view.ty)
  (X_arg13 : BufTy.Contents (Elt Ideal) arg13.view.ty)
  (X_arg14 : BufTy.Contents (Elt Ideal) arg14.view.ty)

/-- At every grid point the body runs and leaves the last stage of two heads that are done. -/
theorem exists_spec (hqi : D.qi = (i 2).val)
    (R : Reads D (arg3.view.read _ X_arg3) (arg4.view.read _ X_arg4) (arg5.view.read _ X_arg5) (arg6.view.read _ X_arg6) (arg7.view.read _ X_arg7) (arg8.view.read _ X_arg8)) :
    ∃ L, Triple (F := Ideal) c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 L ∧ Spec D arg9 arg10 X_arg9 X_arg10 L := by
  have h := br_lt (i 2).val
  rcases (by omega : br (i 2).val = 0 ∨ br (i 2).val = 1 ∨ br (i 2).val = 2 ∨ br (i 2).val = 3
      ∨ br (i 2).val = 4 ∨ br (i 2).val = 5 ∨ br (i 2).val = 6 ∨ br (i 2).val = 7)
    with hq | hq | hq | hq | hq | hq | hq | hq
  · exact ⟨_, (run0 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec0 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run1 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec1 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run2 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec2 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run3 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec3 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run4 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec4 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run5 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec5 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run6 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec6 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩
  · exact ⟨_, (run7 c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hq).2, spec7 D c i arg3 harg3 arg4 harg4 arg5 harg5 arg6 harg6 arg7 harg7 arg8 harg8 arg9 harg9 arg10 harg10 arg11 harg11 arg12 harg12 arg13 harg13 arg14 harg14 X_arg3 X_arg4 X_arg5 X_arg6 X_arg7 X_arg8 X_arg9 X_arg10 X_arg11 X_arg12 X_arg13 X_arg14 hqi hq R⟩

/-- What it leaves, element by element. -/
theorem out_apply (I : Inp) (b hp qi : ℕ) (L : List (View.Piece (Elt Ideal) S256x256 .f32)) (f : BufTy.Contents (Elt Ideal) arg11.view.ty)
    (hlam : k0_pay397 (F := Ideal) (arg9.view.read (Elt Ideal) X_arg9) (ix2 (0 : Fin 1) (0 : Fin 1)) = (I.lam : EReal))
    (hL : Spec (dataOf I b hp qi) arg9 arg10 X_arg9 X_arg10 L) (y x : Fin 256) :
    arg11.view.read (Elt Ideal) (arg11.view.writes (Elt Ideal) f L) (ix2 y x)
      = fin (ot I b (2 * hp + x.val / 128) (qi * 256 + y.val)) (arg10.view.read (Elt Ideal) X_arg10 (ix2 (0 : Fin 1) (⟨x.val % 128, Nat.mod_lt _ (by decide)⟩ : Fin 128))) (x.val % 128) := by
  obtain ⟨a0, a1, l0, l1, rfl, d0, d1⟩ := hL
  have e9 : arg9.view.readAt (Elt Ideal) (Rect.unit (s := S4x64) ![0, 0] S4x64.size inb_S4x64_S4x64_0_0).toLoadRect X_arg9 = arg9.view.read (Elt Ideal) X_arg9 := readAt_whole2 _ _ _
  have e10 : arg10.view.readAt (Elt Ideal) (Rect.unit (s := S1x128) ![0, 0] S1x128.size inb_S1x128_S1x128_0_0).toLoadRect X_arg10 = arg10.view.read (Elt Ideal) X_arg10 := readAt_whole2 _ _ _
  rw [View.read_writes_eq_canon arg11.view f _ (cover_outL _ _ _ _ _ _), canon_outL]
  split_ifs with h
  · rw [e9, e10, head_done I b hp qi 0 a0 l0 _ _ hlam d0 y _]
    have e1 : x.val / 128 = 0 := by omega
    have e2 : x.val % 128 = x.val := by omega
    simp only [e1, e2]
  · rw [e9, e10, head_done I b hp qi 1 a1 l1 _ _ hlam d1 y _]
    have hx := x.isLt
    have e1 : x.val / 128 = 1 := by omega
    have e2 : x.val % 128 = x.val - 128 := by omega
    simp only [e1, e2]

end

end Cert.KernelIdeal.Attn
-- ==== Proof.Blocks.lean ====
/-
  The blocks of the kernel's windows, element by element: which element of its array a block's element is.
-/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Attn

open Cert.KernelIdeal Cert.KernelIdeal.Gen
open Idealize.ShloMosaic Idealize.ShloMosaic.ValueIdx Idealize.ShloMosaic.TcCoe

/-- A point's batch, head pair and query tile. -/
abbrev pb (t : Fin cfg0.N) : ℕ := (grid0.coords t 0).val
abbrev ph (t : Fin cfg0.N) : ℕ := (grid0.coords t 1).val
abbrev pq (t : Fin cfg0.N) : ℕ := (grid0.coords t 2).val

theorem pb_lt (t : Fin cfg0.N) : pb t < 2 := (grid0.coords t 0).isLt
theorem ph_lt (t : Fin cfg0.N) : ph t < 4 := (grid0.coords t 1).isLt
theorem pq_lt (t : Fin cfg0.N) : pq t < 32 := (grid0.coords t 2).isLt

/-- Where a window's block starts, axis by axis. -/
theorem at0 : ∀ t : Fin cfg0.N, win0_0.index t 0 = (grid0.coords t 0).val ∧ win0_0.index t 1 = (grid0.coords t 2).val ∧ win0_0.index t 2 = (grid0.coords t 1).val ∧ win0_0.index t 3 = 0 :=
  (by decide +kernel : ∀ t : Fin grid0.N, win0_0.index t 0 = (grid0.coords t 0).val ∧ win0_0.index t 1 = (grid0.coords t 2).val ∧ win0_0.index t 2 = (grid0.coords t 1).val ∧ win0_0.index t 3 = 0)
theorem at1 : ∀ t : Fin cfg0.N, win0_1.index t 0 = (grid0.coords t 0).val ∧ win0_1.index t 1 = 0 ∧ win0_1.index t 2 = 0 ∧ win0_1.index t 3 = (grid0.coords t 1).val :=
  (by decide +kernel : ∀ t : Fin grid0.N, win0_1.index t 0 = (grid0.coords t 0).val ∧ win0_1.index t 1 = 0 ∧ win0_1.index t 2 = 0 ∧ win0_1.index t 3 = (grid0.coords t 1).val)
theorem at2' : ∀ t : Fin cfg0.N, win0_2.index t 0 = (grid0.coords t 0).val ∧ win0_2.index t 1 = 0 ∧ win0_2.index t 2 = (grid0.coords t 1).val ∧ win0_2.index t 3 = 0 :=
  (by decide +kernel : ∀ t : Fin grid0.N, win0_2.index t 0 = (grid0.coords t 0).val ∧ win0_2.index t 1 = 0 ∧ win0_2.index t 2 = (grid0.coords t 1).val ∧ win0_2.index t 3 = 0)
theorem at3 : ∀ t : Fin cfg0.N, win0_3.index t 0 = (grid0.coords t 1).val ∧ win0_3.index t 1 = 0 ∧ win0_3.index t 2 = 0 :=
  (by decide +kernel : ∀ t : Fin grid0.N, win0_3.index t 0 = (grid0.coords t 1).val ∧ win0_3.index t 1 = 0 ∧ win0_3.index t 2 = 0)
theorem at4 : ∀ t : Fin cfg0.N, win0_4.index t 0 = 0 ∧ win0_4.index t 1 = 0 :=
  (by decide +kernel : ∀ t : Fin grid0.N, win0_4.index t 0 = 0 ∧ win0_4.index t 1 = 0)
theorem at5 : ∀ t : Fin cfg0.N, win0_5.index t 0 = (grid0.coords t 1).val ∧ win0_5.index t 1 = 0 ∧ win0_5.index t 2 = 0 :=
  (by decide +kernel : ∀ t : Fin grid0.N, win0_5.index t 0 = (grid0.coords t 1).val ∧ win0_5.index t 1 = 0 ∧ win0_5.index t 2 = 0)
theorem at6 : ∀ t : Fin cfg0.N, win0_6.index t 0 = 0 ∧ win0_6.index t 1 = 0 :=
  (by decide +kernel : ∀ t : Fin grid0.N, win0_6.index t 0 = 0 ∧ win0_6.index t 1 = 0)
theorem at7 : ∀ t : Fin cfg0.N, win0_7.index t 0 = 0 ∧ win0_7.index t 1 = 0 :=
  (by decide +kernel : ∀ t : Fin grid0.N, win0_7.index t 0 = 0 ∧ win0_7.index t 1 = 0)
theorem at8 : ∀ t : Fin cfg0.N, win0_8.index t 0 = (grid0.coords t 0).val * 32 + (grid0.coords t 2).val ∧ win0_8.index t 1 = (grid0.coords t 1).val :=
  (by decide +kernel : ∀ t : Fin grid0.N, win0_8.index t 0 = (grid0.coords t 0).val * 32 + (grid0.coords t 2).val ∧ win0_8.index t 1 = (grid0.coords t 1).val)

/-- The point of a batch, a head pair and a query tile. -/
theorem point : ∀ (b : Fin 2) (h : Fin 4) (q : Fin 32), ∃ t : Fin cfg0.N, (grid0.coords t 0).val = b.val ∧ (grid0.coords t 1).val = h.val ∧ (grid0.coords t 2).val = q.val := by
  intro b h q
  have key : ∀ (b : Fin 2) (h : Fin 4) (q : Fin 32), (b.val * 4 + h.val) * 32 + q.val < grid0.N := by decide +kernel
  have key2 : ∀ t : Fin grid0.N, (grid0.coords t 0).val = t.val / 128 ∧ (grid0.coords t 1).val = t.val / 32 % 4 ∧ (grid0.coords t 2).val = t.val % 32 := by decide +kernel
  refine ⟨⟨(b.val * 4 + h.val) * 32 + q.val, key b h q⟩, ?_⟩
  obtain ⟨e0, e1, e2⟩ := key2 ⟨(b.val * 4 + h.val) * 32 + q.val, key b h q⟩
  rw [e0, e1, e2]
  dsimp only
  have := b.isLt; have := h.isLt; have := q.isLt
  omega

variable (t : Fin cfg0.N)

theorem blk0 (A : FVec Ideal S2x32x1024x256 .bf16) (d c : Fin 256) :
    ((cfg0.win 0).blk t).view.read (Elt Ideal) A (ix4 (0 : Fin 1) (0 : Fin 1) d c)
      = A (ix4 (⟨pb t, pb_lt t⟩ : Fin 2) (⟨pq t, pq_lt t⟩ : Fin 32) (⟨ph t * 256 + d.val, by have := ph_lt t; omega⟩ : Fin 1024) c) := by
  obtain ⟨e0, e1, e2, e3⟩ := at0 t
  show A _ = _
  congr 1; funext ax; apply Fin.ext
  match ax with
  | ⟨0, _⟩ => show win0_0.index t 0 * 1 + 1 * (0 : ℕ) = _; rw [e0]; show pb t * 1 + 1 * 0 = pb t; omega
  | ⟨1, _⟩ => show win0_0.index t 1 * 1 + 1 * (0 : ℕ) = _; rw [e1]; show pq t * 1 + 1 * 0 = pq t; omega
  | ⟨2, _⟩ => show win0_0.index t 2 * 256 + 1 * d.val = _; rw [e2]; show ph t * 256 + 1 * d.val = ph t * 256 + d.val; omega
  | ⟨3, _⟩ => show win0_0.index t 3 * 256 + 1 * c.val = _; rw [e3]; show 0 * 256 + 1 * c.val = c.val; omega

theorem blk1 (A : FVec Ideal S2x8x1024x1024 .bf16) (B : Fin 8) (κ : Fin 1024) (d : Fin 256) :
    ((cfg0.win 1).blk t).view.read (Elt Ideal) A (ix4 (0 : Fin 1) B κ d)
      = A (ix4 (⟨pb t, pb_lt t⟩ : Fin 2) B κ (⟨ph t * 256 + d.val, by have := ph_lt t; omega⟩ : Fin 1024)) := by
  obtain ⟨e0, e1, e2, e3⟩ := at1 t
  show A _ = _
  congr 1; funext ax; apply Fin.ext
  match ax with
  | ⟨0, _⟩ => show win0_1.index t 0 * 1 + 1 * (0 : ℕ) = _; rw [e0]; show pb t * 1 + 1 * 0 = pb t; omega
  | ⟨1, _⟩ => show win0_1.index t 1 * 8 + 1 * B.val = _; rw [e1]; show 0 * 8 + 1 * B.val = B.val; omega
  | ⟨2, _⟩ => show win0_1.index t 2 * 1024 + 1 * κ.val = _; rw [e2]; show 0 * 1024 + 1 * κ.val = κ.val; omega
  | ⟨3, _⟩ => show win0_1.index t 3 * 256 + 1 * d.val = _; rw [e3]; show ph t * 256 + 1 * d.val = ph t * 256 + d.val; omega

theorem blk2 (A : FVec Ideal S2x32x1024x256 .bf16) (u : Fin 32) (e κ : Fin 256) :
    ((cfg0.win 2).blk t).view.read (Elt Ideal) A (ix4 (0 : Fin 1) u e κ)
      = A (ix4 (⟨pb t, pb_lt t⟩ : Fin 2) u (⟨ph t * 256 + e.val, by have := ph_lt t; omega⟩ : Fin 1024) κ) := by
  obtain ⟨e0, e1, e2, e3⟩ := at2' t
  show A _ = _
  congr 1; funext ax; apply Fin.ext
  match ax with
  | ⟨0, _⟩ => show win0_2.index t 0 * 1 + 1 * (0 : ℕ) = _; rw [e0]; show pb t * 1 + 1 * 0 = pb t; omega
  | ⟨1, _⟩ => show win0_2.index t 1 * 32 + 1 * u.val = _; rw [e1]; show 0 * 32 + 1 * u.val = u.val; omega
  | ⟨2, _⟩ => show win0_2.index t 2 * 256 + 1 * e.val = _; rw [e2]; show ph t * 256 + 1 * e.val = ph t * 256 + e.val; omega
  | ⟨3, _⟩ => show win0_2.index t 3 * 256 + 1 * κ.val = _; rw [e3]; show 0 * 256 + 1 * κ.val = κ.val; omega

theorem blk3 (A : FVec Ideal S8x1024x128 .bf16) (h : Fin 2) (κ : Fin 1024) (l : Fin 128) :
    ((cfg0.win 3).blk t).view.read (Elt Ideal) A (ix3 h κ l)
      = A (ix3 (⟨2 * ph t + h.val, by have := ph_lt t; omega⟩ : Fin 8) κ l) := by
  obtain ⟨e0, e1, e2⟩ := at3 t
  show A _ = _
  congr 1; funext ax; apply Fin.ext
  match ax with
  | ⟨0, _⟩ => show win0_3.index t 0 * 2 + 1 * h.val = _; rw [e0]; show ph t * 2 + 1 * h.val = 2 * ph t + h.val; omega
  | ⟨1, _⟩ => show win0_3.index t 1 * 1024 + 1 * κ.val = _; rw [e1]; show 0 * 1024 + 1 * κ.val = κ.val; omega
  | ⟨2, _⟩ => show win0_3.index t 2 * 128 + 1 * l.val = _; rw [e2]; show 0 * 128 + 1 * l.val = l.val; omega

theorem blk4 (A : FVec Ideal S256x512 .f32) (κ : Fin 256) (x : Fin 512) :
    ((cfg0.win 4).blk t).view.read (Elt Ideal) A (ix2 κ x) = A (ix2 κ x) := by
  obtain ⟨e0, e1⟩ := at4 t
  show A _ = _
  congr 1; funext ax; apply Fin.ext
  match ax with
  | ⟨0, _⟩ => show win0_4.index t 0 * 256 + 1 * κ.val = _; rw [e0]; show 0 * 256 + 1 * κ.val = κ.val; omega
  | ⟨1, _⟩ => show win0_4.index t 1 * 512 + 1 * x.val = _; rw [e1]; show 0 * 512 + 1 * x.val = x.val; omega

theorem blk5 (A : FVec Ideal S8x1x512 .f32) (h : Fin 2) (x : Fin 512) :
    ((cfg0.win 5).blk t).view.read (Elt Ideal) A (ix3 h (0 : Fin 1) x)
      = A (ix3 (⟨2 * ph t + h.val, by have := ph_lt t; omega⟩ : Fin 8) (0 : Fin 1) x) := by
  obtain ⟨e0, e1, e2⟩ := at5 t
  show A _ = _
  congr 1; funext ax; apply Fin.ext
  match ax with
  | ⟨0, _⟩ => show win0_5.index t 0 * 2 + 1 * h.val = _; rw [e0]; show ph t * 2 + 1 * h.val = 2 * ph t + h.val; omega
  | ⟨1, _⟩ => show win0_5.index t 1 * 1 + 1 * (0 : ℕ) = _; rw [e1]; rfl
  | ⟨2, _⟩ => show win0_5.index t 2 * 512 + 1 * x.val = _; rw [e2]; show 0 * 512 + 1 * x.val = x.val; omega

theorem blk6 (A : FVec Ideal S4x64 .f32) (r : Fin 4) (x : Fin 64) :
    ((cfg0.win 6).blk t).view.read (Elt Ideal) A (ix2 r x) = A (ix2 r x) := by
  obtain ⟨e0, e1⟩ := at6 t
  show A _ = _
  congr 1; funext ax; apply Fin.ext
  match ax with
  | ⟨0, _⟩ => show win0_6.index t 0 * 4 + 1 * r.val = _; rw [e0]; show 0 * 4 + 1 * r.val = r.val; omega
  | ⟨1, _⟩ => show win0_6.index t 1 * 64 + 1 * x.val = _; rw [e1]; show 0 * 64 + 1 * x.val = x.val; omega

theorem blk7 (A : FVec Ideal S1x128 .f32) (x : Fin 128) :
    ((cfg0.win 7).blk t).view.read (Elt Ideal) A (ix2 (0 : Fin 1) x) = A (ix2 (0 : Fin 1) x) := by
  obtain ⟨e0, e1⟩ := at7 t
  show A _ = _
  congr 1; funext ax; apply Fin.ext
  match ax with
  | ⟨0, _⟩ => show win0_7.index t 0 * 1 + 1 * (0 : ℕ) = _; rw [e0]; rfl
  | ⟨1, _⟩ => show win0_7.index t 1 * 128 + 1 * x.val = _; rw [e1]; show 0 * 128 + 1 * x.val = x.val; omega

theorem blk8 (A : FVec Ideal S16384x1024 .f32) (y x : Fin 256) :
    ((cfg0.win 8).blk t).view.read (Elt Ideal) A (ix2 y x)
      = A (ix2 (⟨(pb t * 32 + pq t) * 256 + y.val, by have := pb_lt t; have := pq_lt t; omega⟩ : Fin 16384) (⟨ph t * 256 + x.val, by have := ph_lt t; omega⟩ : Fin 1024)) := by
  obtain ⟨e0, e1⟩ := at8 t
  show A _ = _
  congr 1; funext ax; apply Fin.ext
  match ax with
  | ⟨0, _⟩ => show win0_8.index t 0 * 256 + 1 * y.val = _; rw [e0]; show (pb t * 32 + pq t) * 256 + 1 * y.val = (pb t * 32 + pq t) * 256 + y.val; omega
  | ⟨1, _⟩ => show win0_8.index t 1 * 256 + 1 * x.val = _; rw [e1]; show ph t * 256 + 1 * x.val = ph t * 256 + x.val; omega

/-- An element of the result is in the block of the point of its batch, head pair and query tile. -/
theorem mem_blk8 (i : S16384x1024.Idx) :
    i ∈ ((cfg0.win 8).blk t).view.set ↔ ((pb t * 32 + pq t) * 256 ≤ (i 0 : ℕ) ∧ (i 0 : ℕ) < (pb t * 32 + pq t) * 256 + 256) ∧ ph t * 256 ≤ (i 1 : ℕ) ∧ (i 1 : ℕ) < ph t * 256 + 256 := by
  obtain ⟨e0, e1⟩ := at8 t
  show i ∈ ((View.whole main_v50).slice (win0_8.rect t)).set ↔ _
  rw [View.set_slice_whole, Rect.mem_set_unit]
  refine ⟨fun h => ⟨?_, ?_⟩, fun h a => ?_⟩
  · have : win0_8.index t 0 * 256 ≤ (i 0 : ℕ) ∧ (i 0 : ℕ) < win0_8.index t 0 * 256 + 256 := h 0
    rw [e0] at this; exact this
  · have : win0_8.index t 1 * 256 ≤ (i 1 : ℕ) ∧ (i 1 : ℕ) < win0_8.index t 1 * 256 + 256 := h 1
    rw [e1] at this; exact this
  · match a with
    | ⟨0, _⟩ => show win0_8.index t 0 * 256 ≤ (i 0 : ℕ) ∧ (i 0 : ℕ) < win0_8.index t 0 * 256 + 256
                rw [e0]; exact h.1
    | ⟨1, _⟩ => show win0_8.index t 1 * 256 ≤ (i 1 : ℕ) ∧ (i 1 : ℕ) < win0_8.index t 1 * 256 + 256
                rw [e1]; exact h.2

/-- The result's blocks tile its array. -/
theorem cover8 (i : S16384x1024.Idx) :
    ∃ t : Fin cfg0.N, (cfg0.win 8).flush t = true ∧ i ∈ ((cfg0.win 8).blk t).view.set := by
  have h0 : (i 0 : ℕ) < 16384 := (i 0).isLt
  have h1 : (i 1 : ℕ) < 1024 := (i 1).isLt
  obtain ⟨t, e0, e1, e2⟩ := point ⟨(i 0 : ℕ) / 8192, by omega⟩ ⟨(i 1 : ℕ) / 256, by omega⟩ ⟨(i 0 : ℕ) / 256 % 32, by omega⟩
  refine ⟨t, flush0_8 t, (mem_blk8 t i).2 ?_⟩
  have e0' : pb t = (i 0 : ℕ) / 8192 := e0
  have e1' : ph t = (i 1 : ℕ) / 256 := e1
  have e2' : pq t = (i 0 : ℕ) / 256 % 32 := e2
  rw [e0', e1', e2']
  omega

end Cert.KernelIdeal.Attn
-- ==== Proof.Value.lean ====
/-
  The run of the kernel's program over the reals: the result array ends at differential attention of the arguments.
-/
module

public import proofs.«01_k».proof.Proof.Exact
public import proofs.«01_k».proof.Proof.Blocks

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Attend Cert.KernelIdeal.Attn

local notation "𝕄" => MT nD τ sig Unit (Elt Ideal) ℕ (UR sig nD τ) ℕ

/-- The result, over the reals: rows by batch and query, columns by head and feature. -/
def OUT (I : Inp) (g : ℕ → EReal) : FVec Ideal S16384x1024 .f32 := fun j =>
  fin (ot I ((j 0 : ℕ) / 8192) ((j 1 : ℕ) / 128) ((j 0 : ℕ) % 8192)) (g ((j 1 : ℕ) % 128)) ((j 1 : ℕ) % 128)

variable (m : (ℓ : Loc nD τ sig) → Buf (Elt Ideal) ℓ) (ρ : Dev nD → PrngReg) (I : Dev nD → Inp) (gg : Dev nD → ℕ → EReal)

/-- What the windows' blocks hold at every point, by the real numbers `I` and the weights `gg`. -/
structure Staged : Prop where
  reads : ∀ c t, Reads (dataOf (I c) (pb t) (ph t) (pq t)) (iblk m c 0 t) (iblk m c 1 t) (iblk m c 2 t) (iblk m c 3 t) (iblk m c 4 t) (iblk m c 5 t)
  lam : ∀ c t, k0_pay397 (F := Ideal) (iblk m c 6 t) (ix2 (0 : Fin 1) (0 : Fin 1)) = ((I c).lam : EReal)
  g : ∀ c t (e : Fin 128), (show FVec Ideal S1x128 .f32 from iblk m c 7 t) (ix2 (0 : Fin 1) e) = gg c e.val

/-- The proof data on core `c`: each input's block left as it was, the output's buffer at its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => ((cfg0.win 8).blk t).view.read (Elt Ideal) (OUT (I c) (gg c))
  Φ _ := Pipeline.ΦA spec0 c
  q _ := fullShare
  owed _ := 0

theorem A_eq (c : Dev nD) (w : Fin cfg0.W) : (dats m I gg 0 c).A w = V m c (Pipeline.arrRef spec0 w) := by dsimp only [dats]

theorem after0_0 (c : Dev nD) (t : Fin cfg0.N) : (dats m I gg 0 c).after 0 t = iblk m c 0 t := by dsimp only [dats]
theorem after0_1 (c : Dev nD) (t : Fin cfg0.N) : (dats m I gg 0 c).after 1 t = iblk m c 1 t := by dsimp only [dats]
theorem after0_2 (c : Dev nD) (t : Fin cfg0.N) : (dats m I gg 0 c).after 2 t = iblk m c 2 t := by dsimp only [dats]
theorem after0_3 (c : Dev nD) (t : Fin cfg0.N) : (dats m I gg 0 c).after 3 t = iblk m c 3 t := by dsimp only [dats]
theorem after0_4 (c : Dev nD) (t : Fin cfg0.N) : (dats m I gg 0 c).after 4 t = iblk m c 4 t := by dsimp only [dats]
theorem after0_5 (c : Dev nD) (t : Fin cfg0.N) : (dats m I gg 0 c).after 5 t = iblk m c 5 t := by dsimp only [dats]
theorem after0_6 (c : Dev nD) (t : Fin cfg0.N) : (dats m I gg 0 c).after 6 t = iblk m c 6 t := by dsimp only [dats]
theorem after0_7 (c : Dev nD) (t : Fin cfg0.N) : (dats m I gg 0 c).after 7 t = iblk m c 7 t := by dsimp only [dats]
theorem after0_8 (c : Dev nD) (t : Fin cfg0.N) : (dats m I gg 0 c).after 8 t = ((cfg0.win 8).blk t).view.read (Elt Ideal) (OUT (I c) (gg c)) := by dsimp only [dats]
theorem before0_0 (c : Dev nD) (t : Fin cfg0.N) (d) : (dats m I gg 0 c).before 0 t d = iblk m c 0 t :=
  before0_0_of m (dats m I gg 0 c) (A_eq m I gg c 0) (after0_0 m I gg c) t d
theorem before0_1 (c : Dev nD) (t : Fin cfg0.N) (d) : (dats m I gg 0 c).before 1 t d = iblk m c 1 t :=
  before0_1_of m (dats m I gg 0 c) (A_eq m I gg c 1) (after0_1 m I gg c) t d
theorem before0_2 (c : Dev nD) (t : Fin cfg0.N) (d) : (dats m I gg 0 c).before 2 t d = iblk m c 2 t :=
  before0_2_of m (dats m I gg 0 c) (A_eq m I gg c 2) (after0_2 m I gg c) t d
theorem before0_3 (c : Dev nD) (t : Fin cfg0.N) (d) : (dats m I gg 0 c).before 3 t d = iblk m c 3 t :=
  before0_3_of m (dats m I gg 0 c) (A_eq m I gg c 3) (after0_3 m I gg c) t d
theorem before0_4 (c : Dev nD) (t : Fin cfg0.N) (d) : (dats m I gg 0 c).before 4 t d = iblk m c 4 t :=
  before0_4_of m (dats m I gg 0 c) (A_eq m I gg c 4) (after0_4 m I gg c) t d
theorem before0_5 (c : Dev nD) (t : Fin cfg0.N) (d) : (dats m I gg 0 c).before 5 t d = iblk m c 5 t :=
  before0_5_of m (dats m I gg 0 c) (A_eq m I gg c 5) (after0_5 m I gg c) t d
theorem before0_6 (c : Dev nD) (t : Fin cfg0.N) (d) : (dats m I gg 0 c).before 6 t d = iblk m c 6 t :=
  before0_6_of m (dats m I gg 0 c) (A_eq m I gg c 6) (after0_6 m I gg c) t d
theorem before0_7 (c : Dev nD) (t : Fin cfg0.N) (d) : (dats m I gg 0 c).before 7 t d = iblk m c 7 t :=
  before0_7_of m (dats m I gg 0 c) (A_eq m I gg c 7) (after0_7 m I gg c) t d

/-- What the body is called with at point `t`, -/
def bodyPre (c : Dev nD) (t : Fin cfg0.N) : sProp 𝕄 :=
  iprop((dats m I gg 0 c).Φ t.castSucc ∗ (dats m I gg 0 c).owesAt () t.castSucc
    ∗ (∃ d, owns (c : Thread nD τ) (st0_0 t) fullShare ((dats m I gg 0 c).before 0 t d))
    ∗ (∃ d, owns (c : Thread nD τ) (st0_1 t) fullShare ((dats m I gg 0 c).before 1 t d))
    ∗ (∃ d, owns (c : Thread nD τ) (st0_2 t) fullShare ((dats m I gg 0 c).before 2 t d))
    ∗ (∃ d, owns (c : Thread nD τ) (st0_3 t) fullShare ((dats m I gg 0 c).before 3 t d))
    ∗ (∃ d, owns (c : Thread nD τ) (st0_4 t) fullShare ((dats m I gg 0 c).before 4 t d))
    ∗ (∃ d, owns (c : Thread nD τ) (st0_5 t) fullShare ((dats m I gg 0 c).before 5 t d))
    ∗ (∃ d, owns (c : Thread nD τ) (st0_6 t) fullShare ((dats m I gg 0 c).before 6 t d))
    ∗ (∃ d, owns (c : Thread nD τ) (st0_7 t) fullShare ((dats m I gg 0 c).before 7 t d))
    ∗ (∃ d, owns (c : Thread nD τ) (st0_8 t) fullShare ((dats m I gg 0 c).before 8 t d)))

/-- and what it returns. -/
def bodyPost (c : Dev nD) (t : Fin cfg0.N) : sProp 𝕄 :=
  iprop((dats m I gg 0 c).Φ t.succ ∗ (dats m I gg 0 c).owesAt () t.succ
    ∗ owns (c : Thread nD τ) (st0_0 t) fullShare ((dats m I gg 0 c).after 0 t)
    ∗ owns (c : Thread nD τ) (st0_1 t) fullShare ((dats m I gg 0 c).after 1 t)
    ∗ owns (c : Thread nD τ) (st0_2 t) fullShare ((dats m I gg 0 c).after 2 t)
    ∗ owns (c : Thread nD τ) (st0_3 t) fullShare ((dats m I gg 0 c).after 3 t)
    ∗ owns (c : Thread nD τ) (st0_4 t) fullShare ((dats m I gg 0 c).after 4 t)
    ∗ owns (c : Thread nD τ) (st0_5 t) fullShare ((dats m I gg 0 c).after 5 t)
    ∗ owns (c : Thread nD τ) (st0_6 t) fullShare ((dats m I gg 0 c).after 6 t)
    ∗ owns (c : Thread nD τ) (st0_7 t) fullShare ((dats m I gg 0 c).after 7 t)
    ∗ owns (c : Thread nD τ) (st0_8 t) fullShare ((dats m I gg 0 c).after 8 t))

/-- What the body leaves in the output's buffer is its block of the result. -/
theorem left_eq (H : Staged m I gg) (c : Dev nD) (t : Fin cfg0.N)
    (arg9 : Memref sig .tc .vmem S4x64 .f32) (arg10 : Memref sig .tc .vmem S1x128 .f32) (arg11 : Memref sig .tc .vmem S256x256 .f32)
    (f6 : BufTy.Contents (Elt Ideal) arg9.view.ty) (f7 : BufTy.Contents (Elt Ideal) arg10.view.ty) (f8 : BufTy.Contents (Elt Ideal) arg11.view.ty)
    (hf6 : arg9.view.read (Elt Ideal) f6 = iblk m c 6 t) (hf7 : arg10.view.read (Elt Ideal) f7 = iblk m c 7 t)
    (L : List (View.Piece (Elt Ideal) S256x256 .f32)) (hS : Spec (dataOf (I c) (pb t) (ph t) (pq t)) arg9 arg10 f6 f7 L) :
    arg11.view.read (Elt Ideal) (arg11.view.writes (Elt Ideal) f8 L) = ((cfg0.win 8).blk t).view.read (Elt Ideal) (OUT (I c) (gg c)) := by
  funext j
  obtain ⟨y, x, rfl⟩ : ∃ y x : Fin 256, j = ix2 y x := ⟨j 0, j 1, by
    funext a; match a with
    | ⟨0, _⟩ => rfl
    | ⟨1, _⟩ => rfl⟩
  have hl := H.lam c t
  rw [← hf6] at hl
  have hg := H.g c t ⟨x.val % 128, Nat.mod_lt _ (by decide)⟩
  rw [out_apply arg9 arg10 arg11 f6 f7 (I c) (pb t) (ph t) (pq t) L f8 hl hS y x, hf7]
  refine Eq.trans ?_ (blk8 t (OUT (I c) (gg c)) y x).symm
  have hb := pb_lt t; have hh := ph_lt t; have hq := pq_lt t
  have hy := y.isLt; have hx := x.isLt
  show fin _ ((show FVec Ideal S1x128 .f32 from iblk m c 7 t) _) _ = fin (ot (I c) (((pb t * 32 + pq t) * 256 + y.val) / 8192) ((ph t * 256 + x.val) / 128) (((pb t * 32 + pq t) * 256 + y.val) % 8192)) (gg c ((ph t * 256 + x.val) % 128)) ((ph t * 256 + x.val) % 128)
  rw [hg, show ((pb t * 32 + pq t) * 256 + y.val) / 8192 = pb t by omega, show (ph t * 256 + x.val) / 128 = 2 * ph t + x.val / 128 by omega,
    show ((pb t * 32 + pq t) * 256 + y.val) % 8192 = pq t * 256 + y.val by omega, show (ph t * 256 + x.val) % 128 = x.val % 128 by omega]

set_option maxHeartbeats 1000000 in
/-- The body at any point: the inputs hold their blocks, the run of the point's branch applies, and the invariant is closed
    again with the scratch buffers at what the run leaves. -/
theorem sound_body (H : Staged m I gg) (c : Dev nD) (t : Fin cfg0.N) :
    bodyPre m I gg c t ⊢ wp frame (wpE (defs₀ (F := Ideal)) Variants.none c none) Set.univ (bodyAt0 t) (fun _ => bodyPost m I gg c t) := by
  unfold bodyPre bodyPost bodyAt0
  simp only [before0_0, before0_1, before0_2, before0_3, before0_4, before0_5, before0_6, before0_7]
  rw [show (dats m I gg 0 c).Φ t.succ = (dats m I gg 0 c).Φ t.castSucc from rfl,
    show (dats m I gg 0 c).owesAt () t.succ = (dats m I gg 0 c).owesAt () t.castSucc from rfl,
    show (dats m I gg 0 c).Φ t.castSucc = Pipeline.ΦA spec0 c from rfl, PhiA_eq,
    after0_0, after0_1, after0_2, after0_3, after0_4, after0_5, after0_6, after0_7, after0_8]
  unfold owns
  iintro ⟨⟨⟨⟨%e12, %f12, -, S0⟩, ⟨%e13, %f13, -, S1⟩, ⟨%e14, %f14, -, S2⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩⟩
  obtain ⟨L, hL, hS⟩ := exists_spec (dataOf (I c) (pb t) (ph t) (pq t)) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _)
    f0 f1 f2 f3 f4 f5 f6 f7 f8 f12 f13 f14 rfl (by rw [hf0, hf1, hf2, hf3, hf4, hf5]; exact H.reads c t)
  iapply (hL Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  iintro ⟨H0, H1, H2, H3, H4, H5, H6, H7, H8, ⟨%g12, S0⟩, ⟨%g13, S1⟩, ⟨%g14, S2⟩⟩
  isplitl [Hg S0 S1 S2]
  · isplitr [Hg]; swap; · iexact Hg
    isplitl [S0]
    · iexists _, g12; isplitr; swap; · iexact S0
      ipureintro; rfl
    isplitl [S1]
    · iexists _, g13; isplitr; swap; · iexact S1
      ipureintro; rfl
    iexists _, g14; isplitr; swap; · iexact S2
    ipureintro; rfl
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  iexists _; isplitr; swap; · iexact H8
  ipureintro
  exact left_eq m I gg H c t (st0_6 t) (st0_7 t) (st0_8 t) f6 f7 f8 hf6 hf7 L hS

/-- The library's body obligation, at every point. -/
theorem body_obligation (H : Staged m I gg) (c : Dev nD) :
    BodyObligation (dats m I gg 0 c) (defs₀ (F := Ideal)) Variants.none () Set.univ := fun t => by
  rw [bigSep_W0, bigSep_W0, defs₀_row]
  exact triple_restated (sound_body m I gg H c t) rfl .rfl fun _ => .rfl

-- the implicit arguments are found by unifying the conclusion with this one, which takes unfolding plain definitions in a
-- metavariable's type
set_option backward.isDefEq.respectTransparency.types false in
/-- The launch: every window's array ends at what its blocks make of it, every other buffer as the region found it. -/
theorem run_main (H : Staged m I gg) : θ_run defs (onTc (τ := τ) (main (F := Ideal))) (s₀ m ρ)
    (fun r => (Pipeline.FramePost cfgs (dats m I gg) 0 (V m)) r ∧ r.2.sem = fun _ => 0) :=
  Pipeline.θ_run_frame (Q' := _) cfgs (dats m I gg) (0 : Fin 1) launch0 defs₀ Variants.none m ρ main
    (hbody := fun c => (body_obligation m I gg H c).loose) (hshare := fun c => (dats m I gg 0 c).share_full fun _ => rfl)
    (howed := fun _ _ => rfl) (V := V m) (hmain := hmain m Variants.none) (hA := A_eq m I gg) (hΦ := fun _ _ => rfl)

/-- The result array ends at the result. -/
theorem final_o (c : Dev nD) : (dats m I gg 0 c).arrAt 8 cfg0.N = OUT (I c) (gg c) :=
  (dats m I gg 0 c).arrAt_eq_of_cover 8 (OUT (I c) (gg c)) (fun t _ => by
    show (cfg0.win 8).cut (grid0.coords t) ((dats m I gg 0 c).after 8 t) = _
    rw [after0_8]) cover8

/-- The run, read: the result array, and the arguments as they were. -/
theorem run (H : Staged m I gg) : θ_run defs (onTc (τ := τ) (main (F := Ideal))) ⟨m, fun _ => 0, ρ⟩ (fun r => ∀ c : Dev nD,
      r.2.mem ((c.tc : Thread nD τ).loc main_v50) = OUT (I c) (gg c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (final_o m I gg c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩) (run_main m ρ I gg H)

end Cert.KernelIdeal.Whole
-- ==== Proof.Staged.lean ====
/-
  The blocks of the host code's arrays hold the arguments' numbers: queries scaled into powers of two, keys, values, the
  digits of positions, and the weight of the second branch.
-/
module

public import proofs.«01_k».proof.Proof.Host
public import proofs.«01_k».proof.Proof.Inputs
public import proofs.«01_k».proof.Proof.Value

@[expose] public section

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo
open Cert.Attend Cert.KernelIdeal.Attn

variable (m : (ℓ : Loc nD τ sig) → Buf (Elt Ideal) ℓ) (c : Dev nD)

theorem cut_four (x : S2x8192x1024.Idx → EReal) (hs : S2x8192x1024.ShapeCasts S2x32x256x1024) (ht : S2x32x256x1024.Transposes [0, 1, 3, 2] S2x32x1024x256)
    (b : Fin 2) (u : Fin 32) (f : Fin 1024) (y : Fin 256) :
    transpose S2x32x1024x256 [0, 1, 3, 2] (shapeCast S2x32x256x1024 x hs) ht (ix4 b u f y) = x (ix3 b (⟨u.val * 256 + y.val, by omega⟩ : Fin 8192) f) := by
  rw [transpose_apply [0, 1, 3, 2] _ _ (ix4 b u f y) (ix4 b u y f) (by intro a; match a with | ⟨0, _⟩ => rfl | ⟨1, _⟩ => rfl | ⟨2, _⟩ => rfl | ⟨3, _⟩ => rfl),
    shapeCast_apply _ _ (ix4 b u y f) (ix3 b (⟨u.val * 256 + y.val, by omega⟩ : Fin 8192) f) (by
      rw [Shape.rowMajor_val_three, Shape.rowMajor_val_four]
      show (b.val * 8192 + (u.val * 256 + y.val)) * 1024 + f.val = ((b.val * 32 + u.val) * 256 + y.val) * 1024 + f.val
      omega)]

theorem q_at (h0 : IsReal (A0 m c)) (b : Fin 2) (u : Fin 32) (f : Fin 1024) (y : Fin 256) :
    (V m c main_v6 : FVec Ideal S2x32x1024x256 .bf16) (ix4 b u f y) = ((re3 (A0 m c) b (u.val * 256 + y.val) f * (8⁻¹ * L2) : ℝ) : EReal) := by
  rw [V_q]
  refine Eq.trans (cut_four (mulf (A0 m c) (broadcastInDim S2x8192x1024 ![] bcast_S_S2x8192x1024 (Host.divf (constant (F := Ideal) S_ .f32 0x3E000000#32)
    (Host.log (constant (F := Ideal) S_ .f32 0x40000000#32))))) _ _ b u f y) ?_
  rw [mulf_apply, broadcastInDim_apply ![] _ _ _ ix0 (fun a => a.elim0), re3_eq (A0 m c) h0]
  show _ * Ideal.div (Ideal.ofBits .f32 0x3E000000#32) (Ideal.log (Ideal.ofBits .f32 0x40000000#32)) = _
  rw [c_eighth, c_two, log_two, Ideal.div_coe log_two_ne, ← EReal.coe_mul]
  refine (EReal.coe_mul _ _).symm.trans ?_
  rw [one_div]

theorem k_at (h1 : IsReal (A1 m c)) (b : Fin 2) (B : Fin 8) (κ f : Fin 1024) :
    (V m c main_v22 : FVec Ideal S2x8x1024x1024 .bf16) (ix4 b B κ f) = ((re3 (A1 m c) b (B.val * 1024 + κ.val) f : ℝ) : EReal) := by
  rw [V_k, shapeCast_apply _ _ (ix4 b B κ f) (ix3 b (⟨B.val * 1024 + κ.val, by omega⟩ : Fin 8192) f) (by
    rw [Shape.rowMajor_val_three, Shape.rowMajor_val_four]
    show (b.val * 8192 + (B.val * 1024 + κ.val)) * 1024 + f.val = ((b.val * 8 + B.val) * 1024 + κ.val) * 1024 + f.val
    omega)]
  exact re3_eq (A1 m c) h1 b ⟨B.val * 1024 + κ.val, by omega⟩ f

theorem v_at (h2 : IsReal (A2 m c)) (b : Fin 2) (u : Fin 32) (f : Fin 1024) (y : Fin 256) :
    (V m c main_v10 : FVec Ideal S2x32x1024x256 .bf16) (ix4 b u f y) = ((re3 (A2 m c) b (u.val * 256 + y.val) f : ℝ) : EReal) := by
  rw [V_v]
  exact (cut_four _ _ _ b u f y).trans (re3_eq (A2 m c) h2 b ⟨u.val * 256 + y.val, by omega⟩ f)

theorem slopes_at (H : Fin 8) : slopes (ix1 H) = ((slope H.val : ℝ) : EReal) := by
  have e : S8.rowMajor (ix1 H) = H := Fin.ext (Shape.rowMajor_val_one _)
  show Ideal.ofBits .f32 (lit0 (S8.rowMajor (ix1 H))) = _
  rw [e]
  unfold Attend.slope
  match H with
  | ⟨0, _⟩ => show Ideal.ofBits .f32 0x3F000000#32 = _; simp [Ideal.ofBits, Ideal.ieee, -EReal.coe_mul] <;> norm_num
  | ⟨1, _⟩ => show Ideal.ofBits .f32 0x3E800000#32 = _; simp [Ideal.ofBits, Ideal.ieee, -EReal.coe_mul] <;> norm_num
  | ⟨2, _⟩ => show Ideal.ofBits .f32 0x3E000000#32 = _; simp [Ideal.ofBits, Ideal.ieee, -EReal.coe_mul] <;> norm_num
  | ⟨3, _⟩ => show Ideal.ofBits .f32 0x3D800000#32 = _; simp [Ideal.ofBits, Ideal.ieee, -EReal.coe_mul] <;> norm_num
  | ⟨4, _⟩ => show Ideal.ofBits .f32 0x3D000000#32 = _; simp [Ideal.ofBits, Ideal.ieee, -EReal.coe_mul] <;> norm_num
  | ⟨5, _⟩ => show Ideal.ofBits .f32 0x3C800000#32 = _; simp [Ideal.ofBits, Ideal.ieee, -EReal.coe_mul] <;> norm_num
  | ⟨6, _⟩ => show Ideal.ofBits .f32 0x3C000000#32 = _; simp [Ideal.ofBits, Ideal.ieee, -EReal.coe_mul] <;> norm_num
  | ⟨7, _⟩ => show Ideal.ofBits .f32 0x3B800000#32 = _; simp [Ideal.ofBits, Ideal.ieee, -EReal.coe_mul] <;> norm_num

/-- The low byte of a position. -/
theorem low_byte : ∀ κ : Fin 1024, IntOp.andi (BitVec.ofNat 32 κ.val) 255#32 = BitVec.ofNat 32 (κ.val % 256) := by decide +kernel

theorem lane_lt4 : ∀ l : Fin 128, IntOp.cmpi .slt (BitVec.ofNat 32 l.val) 4#32 = if l.val < 4 then 1 else 0 := by decide +kernel
theorem lane_lt8 : ∀ l : Fin 128, IntOp.cmpi .slt (BitVec.ofNat 32 l.val) 8#32 = if l.val < 8 then 1 else 0 := by decide +kernel
theorem word_small : ∀ κ : Fin 1024, (BitVec.ofNat 32 (κ.val % 256)).toInt = ((κ.val % 256 : ℕ) : ℤ) := by decide +kernel

theorem digits_at (H : Fin 8) (κ : Fin 1024) (l : Fin 128) : (digits (ix3 H κ l)).toInt = ((dig κ l : ℕ) : ℤ) := by
  have e : digits (ix3 H κ l) = Scalar.select (IntOp.cmpi .slt (BitVec.ofNat 32 l.val) 4#32)
      (BitVec.ofNat 32 κ.val - IntOp.andi (BitVec.ofNat 32 κ.val) 255#32)
      (Scalar.select (IntOp.cmpi .slt (BitVec.ofNat 32 l.val) 8#32) (IntOp.andi (BitVec.ofNat 32 κ.val) 255#32) 0#32) := rfl
  rw [e, low_byte, lane_lt4, lane_lt8]
  unfold Scalar.select dig
  by_cases h4 : l.val < 4
  · rw [if_pos h4, if_pos rfl, if_pos h4, sub_toInt _ _ (by omega) (by omega)]; omega
  · rw [if_neg h4, if_neg (by decide), if_neg h4]
    by_cases h8 : l.val < 8
    · rw [if_pos h8, if_pos rfl, if_pos h8, word_small]
    · rw [if_neg h8, if_neg (by decide), if_neg h8]; rfl

theorem pos_at (H : Fin 8) (κ : Fin 1024) (l : Fin 128) :
    (V m c main_v38 : FVec Ideal S8x1024x128 .bf16) (ix3 H κ l) = ((slope H.val * (dig κ l : ℕ) : ℝ) : EReal) := by
  rw [V_pos]
  show broadcastInDim S8x1024x128 ![0, 1, 2] _ (broadcastInDim S8x1x1 ![0] _ slopes) (ix3 H κ l) * (((digits (ix3 H κ l)).toInt : ℝ) : EReal) = _
  rw [broadcastInDim_apply ![0, 1, 2] _ _ (ix3 H κ l) (ix3 H (0 : Fin 1) (0 : Fin 1)) (by intro a; match a with | ⟨0, _⟩ => rfl | ⟨1, _⟩ => rfl | ⟨2, _⟩ => rfl),
    broadcastInDim_apply ![0] _ _ (ix3 H (0 : Fin 1) (0 : Fin 1)) (ix1 H) (by intro a; match a with | ⟨0, _⟩ => rfl), slopes_at, digits_at, ← EReal.coe_mul]
  norm_cast

theorem slope_at (H : Fin 8) (x : Fin 512) :
    (V m c main_v49 : FVec Ideal S8x1x512 .f32) (ix3 H (0 : Fin 1) x) = ((slope H.val * L2 : ℝ) : EReal) := by
  rw [V_slope, broadcastInDim_apply ![0, 1, 2] _ _ (ix3 H (0 : Fin 1) x) (ix3 H (0 : Fin 1) (0 : Fin 1)) (by intro a; match a with | ⟨0, _⟩ => rfl | ⟨1, _⟩ => rfl | ⟨2, _⟩ => rfl),
    broadcastInDim_apply ![0] _ _ (ix3 H (0 : Fin 1) (0 : Fin 1)) (ix1 H) (by intro a; match a with | ⟨0, _⟩ => rfl)]
  show Ideal.div (slopes (ix1 H)) (broadcastInDim S8 ![] bcast_S_S8 (Host.log (constant (F := Ideal) S_ .f32 0x40000000#32)) (ix1 H)) = _
  rw [broadcastInDim_apply ![] _ _ _ ix0 (fun a => a.elim0), slopes_at]
  show Ideal.div _ (Ideal.log (Ideal.ofBits .f32 0x40000000#32)) = _
  rw [c_two, log_two, Ideal.div_coe log_two_ne, ← EReal.coe_mul, one_div]

theorem low_byte' : ∀ x : Fin 512, IntOp.andi (BitVec.ofNat 32 x.val) 255#32 = BitVec.ofNat 32 (x.val % 256) := by decide +kernel

theorem rel_at (κ : Fin 256) (x : Fin 512) :
    (V m c main_v44 : FVec Ideal S256x512 .f32) (ix2 κ x) = (((κ.val : ℝ) - ((x.val % 256 : ℕ) : ℝ) : ℝ) : EReal) := by
  rw [V_rel]
  show (((BitVec.ofNat 32 κ.val - IntOp.andi (BitVec.ofNat 32 x.val) 255#32).toInt : ℝ) : EReal) = _
  rw [low_byte', sub_toInt _ _ (by omega) (by omega)]
  push_cast; rfl

/-- The four rows of the weights' parameters. -/
theorem lam_row (r : ℕ) (hr : r < 4) (B : FVec Ideal S1x64 .f32)
    (hB : ![A3 m c, A4 m c, A5 m c, A6 m c] ⟨r, hr⟩ = B) (x : Fin 64) :
    (V m c main_v19 : FVec Ideal S4x64 .f32) (ix2 (⟨r, hr⟩ : Fin 4) x) = B (ix2 (0 : Fin 1) x) := by
  have e (A : FVec Ideal S1x64 .f32) (x : Fin 64) :
      broadcastInDim S1x64 ![1] bcast_S64_S1x64_1 (shapeCast S64 A shapeCasts_S1x64_S64) (ix2 (0 : Fin 1) x) = A (ix2 (0 : Fin 1) x) := by
    rw [broadcastInDim_apply ![1] _ _ (ix2 (0 : Fin 1) x) (ix1 x) (by intro a; match a with | ⟨0, _⟩ => rfl),
      shapeCast_apply _ _ (ix1 x) (ix2 (0 : Fin 1) x) (by
        rw [Shape.rowMajor_val_two, Shape.rowMajor_val_one]
        show 0 * 64 + x.val = x.val
        omega)]
  rw [V_lam, ← hB]
  have off (r : ℕ) (hr : r < 4) : ∀ b : Fin S1x64.rank, b.cast rfl ≠ (0 : Fin S4x64.rank) →
      ((ix2 (0 : Fin 1) x : S1x64.Idx) b).val = ((ix2 (⟨r, hr⟩ : Fin 4) x : S4x64.Idx) (b.cast rfl)).val := by
    intro b hb
    match b with
    | ⟨0, _⟩ => exact absurd rfl hb
    | ⟨1, _⟩ => rfl
  match r, hr with
  | 0, hr =>
    refine Eq.trans (concatenate_apply_piece (0 : Fin 2) _ _ (ix2 (⟨0, hr⟩ : Fin 4) x) 0 ?_ S1x64 _ ?_ rfl 0 ?_ (ix2 (0 : Fin 1) x) (off 0 hr) rfl) (e _ x)
    · exact hr
    · rfl
    · rfl
  | 1, hr =>
    refine Eq.trans (concatenate_apply_piece (0 : Fin 2) _ _ (ix2 (⟨1, hr⟩ : Fin 4) x) 1 ?_ S1x64 _ ?_ rfl 1 ?_ (ix2 (0 : Fin 1) x) (off 1 hr) rfl) (e _ x)
    · exact hr
    · rfl
    · rfl
  | 2, hr =>
    refine Eq.trans (concatenate_apply_piece (0 : Fin 2) _ _ (ix2 (⟨2, hr⟩ : Fin 4) x) 2 ?_ S1x64 _ ?_ rfl 2 ?_ (ix2 (0 : Fin 1) x) (off 2 hr) rfl) (e _ x)
    · exact hr
    · rfl
    · rfl
  | 3, hr =>
    refine Eq.trans (concatenate_apply_piece (0 : Fin 2) _ _ (ix2 (⟨3, hr⟩ : Fin 4) x) 3 ?_ S1x64 _ ?_ rfl 3 ?_ (ix2 (0 : Fin 1) x) (off 3 hr) rfl) (e _ x)
    · exact hr
    · rfl
    · rfl

theorem g_at (x : Fin 128) : (V m c main_v21 : FVec Ideal S1x128 .f32) (ix2 (0 : Fin 1) x) = A7 m c (ix2 (0 : Fin 1) x) := by
  rw [V_g, shapeCast_apply _ _ (ix2 (0 : Fin 1) x) (ix1 x) (by
      rw [Shape.rowMajor_val_two, Shape.rowMajor_val_one]
      show x.val = 0 * 128 + x.val
      omega),
    shapeCast_apply _ _ (ix1 x) (ix2 (0 : Fin 1) x) (by
      rw [Shape.rowMajor_val_two, Shape.rowMajor_val_one]
      show 0 * 128 + x.val = x.val
      omega)]

/-- A product of two rows, summed. -/
theorem row_sum (w : FVec Ideal S4x64 .f32) (r r' : ℕ) (hr : r < 4) (hr' : r' < 4) (h1 : S4x64.Slices ![r, 0] S1x64) (h2 : S4x64.Slices ![r', 0] S1x64)
    (hR : S1x64.Reduces [1] S1) (hF : FKind.Formats .f32) (hN : (0x00000000#32 : BitVec FTy.f32.bits) = FKind.add.neutral .f32 hF) (hS : S1.ShapeCasts S1x1) :
    shapeCast S1x1 (multiReduction (F := Ideal) .add [1] S1 (mulf (extractStridedSlice S1x64 ![r, 0] w h1) (extractStridedSlice S1x64 ![r', 0] w h2)) 0x00000000#32 hR hF hN) hS (ix2 (0 : Fin 1) (0 : Fin 1))
      = ∑ t : Fin 64, w (ix2 (⟨r, hr⟩ : Fin 4) t) * w (ix2 (⟨r', hr'⟩ : Fin 4) t) := by
  rw [shapeCast_apply _ _ (ix2 (0 : Fin 1) (0 : Fin 1)) (ix1 (0 : Fin 1)) (by rw [Shape.rowMajor_val_two, Shape.rowMajor_val_one]; rfl),
    Ideal.multiReduction_add_single]
  refine Finset.sum_congr rfl fun t _ => ?_
  have ek : hR.lift (ix1 (0 : Fin 1)) t = ix2 (0 : Fin 1) t := by
    funext b; match b with
    | ⟨0, _⟩ => rfl
    | ⟨1, _⟩ => rfl
  refine (congrArg _ ek).trans ?_
  exact congrArg₂ (fun u v : EReal => u * v) (slice2_axis0_apply r w h1 (0 : Fin 1) t ⟨r, hr⟩ rfl) (slice2_axis0_apply r' w h2 (0 : Fin 1) t ⟨r', hr'⟩ rfl)

theorem lam_of_rows (w : FVec Ideal S4x64 .f32) :
    k0_pay397 (F := Ideal) w (ix2 (0 : Fin 1) (0 : Fin 1))
      = Ideal.exp (∑ t : Fin 64, w (ix2 (0 : Fin 4) t) * w (ix2 (1 : Fin 4) t)) - Ideal.exp (∑ t : Fin 64, w (ix2 (2 : Fin 4) t) * w (ix2 (3 : Fin 4) t))
        + Ideal.ofBits .f32 0x3E4CCCCD#32 := by
  unfold k0_pay397
  dsimp only
  rw [shapeCast_self]
  exact congrArg₂ (fun u v : EReal => Ideal.exp u - Ideal.exp v + Ideal.ofBits .f32 0x3E4CCCCD#32)
    (row_sum w 0 1 (by decide) (by decide) _ _ _ _ _ _) (row_sum w 2 3 (by decide) (by decide) _ _ _ _ _ _)

/-- The host code stages the arguments. -/
theorem staged (H : ∀ c : Dev nD, IsReal (A0 m c) ∧ IsReal (A1 m c) ∧ IsReal (A2 m c) ∧ IsReal (A3 m c) ∧ IsReal (A4 m c) ∧ IsReal (A5 m c) ∧ IsReal (A6 m c)) :
    Staged m (fun c => inpOf (A0 m c) (A1 m c) (A2 m c) (A3 m c) (A4 m c) (A5 m c) (A6 m c)) (fun c => gainOf (A7 m c)) where
  reads c t := by
    obtain ⟨h0, h1, h2, h3, h4, h5, h6⟩ := H c
    exact
      { q := fun d y => (blk0 t (V m c main_v6) d y).trans (q_at m c h0 _ _ _ y)
        k := fun B κ d => (blk1 t (V m c main_v22) B κ d).trans (k_at m c h1 _ B κ _)
        v := fun u e κ => (blk2 t (V m c main_v10) u e κ).trans (v_at m c h2 _ u _ κ)
        pos := fun h κ l => (blk3 t (V m c main_v38) h κ l).trans (pos_at m c _ κ l)
        rel := fun κ x => (blk4 t (V m c main_v44) κ x).trans (rel_at m c κ x)
        slope := fun h x => (blk5 t (V m c main_v49) h x).trans (slope_at m c _ x) }
  lam c t := by
    obtain ⟨h0, h1, h2, h3, h4, h5, h6⟩ := H c
    have e (r : Fin 4) (x : Fin 64) : (show FVec Ideal S4x64 .f32 from iblk m c 6 t) (ix2 r x) = (V m c main_v19 : FVec Ideal S4x64 .f32) (ix2 r x) := blk6 t (V m c main_v19) r x
    refine (lam_of_rows _).trans (Eq.trans ?_ (lam_eq (A3 m c) (A4 m c) (A5 m c) (A6 m c) h3 h4 h5 h6))
    refine congrArg₂ (fun u v : EReal => Ideal.exp u - Ideal.exp v + Ideal.ofBits .f32 0x3E4CCCCD#32) (Finset.sum_congr rfl fun x _ => ?_) (Finset.sum_congr rfl fun x _ => ?_)
    · exact congrArg₂ (fun u v : EReal => u * v) ((e 0 x).trans (lam_row m c 0 (by decide) (A3 m c) rfl x)) ((e 1 x).trans (lam_row m c 1 (by decide) (A4 m c) rfl x))
    · exact congrArg₂ (fun u v : EReal => u * v) ((e 2 x).trans (lam_row m c 2 (by decide) (A5 m c) rfl x)) ((e 3 x).trans (lam_row m c 3 (by decide) (A6 m c) rfl x))
  g c t x := ((blk7 t (V m c main_v21) x).trans (g_at m c x)).trans (gainOf_eq (A7 m c) x).symm

end Cert.KernelIdeal.Whole
-- ==== Proof.Ref.lean ====
/-
  The reference's program computes differential attention over the reals, element by element.
-/
module

public import proofs.«01_k».proof.Proof.Gen.ReferenceIdeal.Run
public import proofs.«01_k».proof.Proof.Gen.ReferenceIdeal.Read
public import proofs.«01_k».proof.Proof.Inputs
public import proofs.«01_k».proof.Proof.Ops
public import Idealize.ShloMosaic.Lib.ValueIdx
public import Idealize.ShloMosaic.Lib.IdealHost
public import Idealize.ShloMosaic.Lib.WordCmp

@[expose] public section

set_option maxRecDepth 16384

noncomputable section

namespace Cert.ReferenceIdeal.Whole

open Cert.ReferenceIdeal Cert.ReferenceIdeal.Gen Cert.ReferenceIdeal.Read
open Idealize.ShloMosaic Idealize.ShloMosaic.TcCoe Idealize.ShloMosaic.ValueIdx
open Cert.Attend
open Cert.KernelIdeal.Attn (sum_coe fold_max_real)

variable (a0 a1 a2 : FVec Ideal S2x8192x1024 .f32) (a3 a4 a5 a6 : FVec Ideal S1x64 .f32) (a7 : FVec Ideal S1x128 .f32)

/-- The weight of the second branch. -/
theorem lam_at (h3 : IsReal a3) (h4 : IsReal a4) (h5 : IsReal a5) (h6 : IsReal a6) (i : S_.Idx) :
    val_main_v14 (F := Ideal) a3 a4 a5 a6 i = ((lamOf a3 a4 a5 a6 : ℝ) : EReal) := by
  have key (x y : FVec Ideal S1x64 .f32) (g : S64.Idx → EReal) (hg : ∀ t : Fin 64, g (ix1 t) = x (ix2 0 t) * y (ix2 0 t)) :
      Ideal.ofBits .f32 0x00000000#32 + ∑ j : S64.Idx, g j = ∑ t : Fin 64, x (ix2 0 t) * y (ix2 0 t) := by
    rw [Ideal.ofBits_zero_f32, zero_add]
    refine Fintype.sum_bijective (fun j : S64.Idx => (j 0 : Fin 64)) ⟨fun j k h => ?_, fun t => ⟨ix1 t, rfl⟩⟩ _ _ fun j => ?_
    · rw [eq_ix1 j, eq_ix1 k]; exact congrArg ix1 h
    · exact (congrArg g (eq_ix1 j)).trans (hg (j 0))
  have e0 (t : Fin 64) : idx_main_v3 (ix1 t) = ix2 (0 : Fin 1) t := by
    funext a
    match a with
    | ⟨0, _⟩ => rfl
    | ⟨1, _⟩ => exact Fin.ext (Nat.mod_eq_of_lt t.isLt)
  rw [val_main_v14_apply, val_main_v13_apply, val_main_v7_apply, val_main_v12_apply, val_main_v6_apply, val_main_v11_apply, val_main_cst_1_apply]
  refine Eq.trans ?_ (lam_eq a3 a4 a5 a6 h3 h4 h5 h6)
  show Ideal.exp (Ideal.ofBits .f32 0x00000000#32 + _) - Ideal.exp (Ideal.ofBits .f32 0x00000000#32 + _) + _ = _
  rw [key a3 a4 _ fun t => ?_, key a5 a6 _ fun t => ?_]
  · rfl
  · rw [val_main_v10_apply, val_main_v8_apply, val_main_v9_apply]
    exact congrArg₂ (fun u w : EReal => u * w) (congrArg a5 (e0 t)) (congrArg a6 (e0 t))
  · rw [val_main_v5_apply, val_main_v3_apply, val_main_v4_apply]
    exact congrArg₂ (fun u w : EReal => u * w) (congrArg a3 (e0 t)) (congrArg a4 (e0 t))

/-- A head's slope. -/
theorem slope_at (H : Fin 8) : val_main_v35 (F := Ideal) (ix1 H) = ((slope H.val : ℝ) : EReal) := by
  rw [val_main_v35_apply, val_main_v34_apply, val_main_v33_apply, val_main_v31_apply, val_main_v32_apply, val_main_v30_apply, val_main_v29_apply,
    val_main_v28_apply, val_main_cst_6_apply, val_main_cst_5_apply, val_main_cst_4_apply, val_main_cst_3_apply]
  have e : val_main_v27 (F := Ideal) (ix1 H) = ((H.val : ℝ) : EReal) := by
    show (((BitVec.ofNat 32 H.val).toInt : ℝ) : EReal) = _
    rw [show (BitVec.ofNat 32 H.val).toInt = (H.val : ℤ) from (by decide +kernel : ∀ H : Fin 8, (BitVec.ofNat 32 H.val).toInt = (H.val : ℤ)) H]
    norm_cast
  rw [e]
  show Ideal.pow (Ideal.ofBits .f32 0x40000000#32) (Ideal.div (Ideal.ofBits .f32 0xC1000000#32 * (Ideal.ofBits .f32 0x3F800000#32 + _)) (Ideal.ofBits .f32 0x41000000#32)) = _
  rw [c_two, c_neg_eight, c_one, c_eight, Ideal.div_coe (by norm_num), ← EReal.coe_add, ← EReal.coe_mul, ← EReal.coe_mul]
  show ((Real.rpow 2 _ : ℝ) : EReal) = _
  congr 1
  rw [show (-8 * (1 + (H.val : ℝ)) * (1 / 8) : ℝ) = -((H.val + 1 : ℕ) : ℝ) by push_cast; ring]
  show (2 : ℝ) ^ (-((H.val + 1 : ℕ) : ℝ)) = ((2 : ℝ) ^ (H.val + 1))⁻¹
  rw [Real.rpow_neg (by norm_num), Real.rpow_natCast]

/-- The product of a query and a key. -/
theorem dot_at (h0 : IsReal a0) (h1 : IsReal a1) (b j : Fin 2) (h : Fin 8) (q k : Fin 8192) :
    val_main_v15 (F := Ideal) a0 a1 (ix5 b j h q k)
      = ((∑ t ∈ Finset.range 64, re3 a0 b q (h.val * 128 + j.val * 64 + t) * re3 a1 b k (h.val * 128 + j.val * 64 + t) : ℝ) : EReal) := by
  rw [val_main_v15_apply, ← Fin.sum_univ_eq_sum_range (fun t => re3 a0 b q (h.val * 128 + j.val * 64 + t) * re3 a1 b k (h.val * 128 + j.val * 64 + t)) 64, ← sum_coe]
  refine Finset.sum_congr rfl fun t _ => ?_
  rw [val_main_v0_apply, val_main_v1_apply, EReal.coe_mul]
  refine congrArg₂ (fun u w : EReal => u * w) (re3_at a0 h0 _ _ _ _ ?_ ?_ ?_) (re3_at a1 h1 _ _ _ _ ?_ ?_ ?_)
  · show ((((b.val * 8192 + q.val) * 8 + h.val) * 2 + j.val) * 64 + t.val) / 8388608 = b.val; omega
  · show ((((b.val * 8192 + q.val) * 8 + h.val) * 2 + j.val) * 64 + t.val) / 1024 % 8192 = q.val; omega
  · show ((((b.val * 8192 + q.val) * 8 + h.val) * 2 + j.val) * 64 + t.val) % 1024 = h.val * 128 + j.val * 64 + t.val; omega
  · show ((((b.val * 8192 + k.val) * 8 + h.val) * 2 + j.val) * 64 + t.val) / 8388608 = b.val; omega
  · show ((((b.val * 8192 + k.val) * 8 + h.val) * 2 + j.val) * 64 + t.val) / 1024 % 8192 = k.val; omega
  · show ((((b.val * 8192 + k.val) * 8 + h.val) * 2 + j.val) * 64 + t.val) % 1024 = h.val * 128 + j.val * 64 + t.val; omega

/-- The distance of a query and a key, as a word. -/
theorem dist_at (q k : Fin 8192) : (val_main_v23 (F := Ideal) (ix2 q k)).toInt = (q.val : ℤ) - (k.val : ℤ) := by
  rw [val_main_v23_apply, val_main_v21_apply, val_main_v22_apply, val_main_v19_apply, val_main_v20_apply, val_main_v18_apply, val_main_v18_apply]
  exact sub_toInt q.val k.val (by omega) (by omega)

/-- The bias, with the mask. -/
theorem bias_at (h : Fin 8) (q k : Fin 8192) :
    val_main_v43 (F := Ideal) (ix3 h q k) = if k.val ≤ q.val then ((slope h.val * ((k.val : ℝ) - (q.val : ℝ)) : ℝ) : EReal) else ⊥ := by
  rw [val_main_v43_apply, val_main_call0_v1_apply, val_main_call0_v2_apply, val_main_call0_v0_apply, val_main_cst_7_apply, val_main_v26_apply, val_main_v25_apply,
    val_main_v24_apply, val_main_c_apply, val_main_v42_apply, val_main_v40_apply, val_main_v41_apply, val_main_v39_apply, val_main_v38_apply, val_main_v37_apply,
    val_main_v36_apply]
  have e1 : val_main_v35 (F := Ideal) (idx_main_v36 (idx_main_v40 (ix3 h q k))) = ((slope h.val : ℝ) : EReal) := slope_at h
  have e2 : (val_main_v23 (F := Ideal) (idx_main_v24 (idx_main_call0_v1 (ix3 h q k)))).toInt = (q.val : ℤ) - (k.val : ℤ) := dist_at q k
  have e3 : (val_main_v23 (F := Ideal) (idx_main_v38 (idx_main_v41 (ix3 h q k)))).toInt = (q.val : ℤ) - (k.val : ℤ) := dist_at q k
  have e4 : IntOp.cmpi .sge (val_main_v23 (F := Ideal) (idx_main_v24 (idx_main_call0_v1 (ix3 h q k)))) 0#32 = 1 ↔ k.val ≤ q.val := by
    refine (IntOp.cmpi_sge).trans ?_
    rw [e2, show (0#32 : BitVec 32).toInt = 0 from by decide]
    omega
  show (if _ = (1 : BitVec 1) then FloatOps.mulf (F := Ideal) (φ := .f32) (FloatOps.hostNegf (val_main_v35 (F := Ideal) (idx_main_v36 (idx_main_v40 (ix3 h q k))))) (((val_main_v23 (F := Ideal) (idx_main_v38 (idx_main_v41 (ix3 h q k)))).toInt : ℝ) : EReal) else Ideal.ofBits .f32 0xFF800000#32) = _
  rw [e1, e3, c_bot]
  by_cases hk : k.val ≤ q.val
  · rw [if_pos (e4.2 hk), if_pos hk]
    show -((slope h.val : ℝ) : EReal) * _ = _
    rw [← EReal.coe_neg, ← EReal.coe_mul]
    congr 1
    push_cast; ring
  · rw [if_neg (fun hh => hk (e4.1 hh)), if_neg hk]

/-- The masked scores. -/
theorem score_at (h0 : IsReal a0) (h1 : IsReal a1) (b j : Fin 2) (h : Fin 8) (q k : Fin 8192) :
    val_main_v46 (F := Ideal) a0 a1 (ix5 b j h q k) = if k.val ≤ q.val then ((sc (inpOf a0 a1 a2 a3 a4 a5 a6) b h j q k : ℝ) : EReal) else ⊥ := by
  rw [val_main_v46_apply, val_main_v17_apply, val_main_v16_apply, val_main_cst_2_apply, val_main_v45_apply, val_main_v44_apply, dot_at a0 a1 h0 h1]
  have e : val_main_v43 (F := Ideal) (idx_main_v44 (idx_main_v45 (ix5 b j h q k))) = _ := bias_at h q k
  rw [e]
  show ((_ : ℝ) : EReal) * Ideal.ofBits .f32 0x3E000000#32 + _ = _
  rw [c_eighth, ← EReal.coe_mul]
  by_cases hk : k.val ≤ q.val
  · rw [if_pos hk, if_pos hk, ← EReal.coe_add]; rfl
  · rw [if_neg hk, if_neg hk, EReal.add_bot]

include a2 a3 a4 a5 a6 in
/-- The maxima of the rows of scores are real. -/
theorem rowmax_at (h0 : IsReal a0) (h1 : IsReal a1) (b j : Fin 2) (h : Fin 8) (q : Fin 8192) :
    ∃ M : ℝ, val_main_v49 (F := Ideal) a0 a1 (ix4 b j h q) = (M : EReal) := by
  have hne : ∀ i, val_main_v46 (F := Ideal) a0 a1 i ≠ ⊤ := fun i => by
    rw [eq_ix5 i]
    refine (congrArg (· ≠ ⊤) (score_at a0 a1 a2 a3 a4 a5 a6 h0 h1 (i 0) (i 1) (i 2) (i 3) (i 4))).mpr ?_
    split
    · exact EReal.coe_ne_top _
    · exact bot_ne_top
  have hq : val_main_v46 (F := Ideal) a0 a1 (ix5 b j h q q) ≠ ⊥ := by
    refine (congrArg (· ≠ ⊥) (score_at a0 a1 a2 a3 a4 a5 a6 h0 h1 b j h q q)).mpr ?_
    rw [if_pos le_rfl]; exact EReal.coe_ne_bot _
  obtain ⟨M, hM⟩ := fold_max_real (Finset.univ.filter fun i => reducesTo_S2x2x8x8192x8192_S2x2x8x8192_d4.drop i = ix4 b j h q)
    (val_main_v46 (F := Ideal) a0 a1) (fun i _ => hne i) (ix5 b j h q q) (by
      refine Finset.mem_filter.2 ⟨Finset.mem_univ _, ?_⟩
      funext a
      match a with
      | ⟨0, _⟩ => rfl
      | ⟨1, _⟩ => rfl
      | ⟨2, _⟩ => rfl
      | ⟨3, _⟩ => rfl) hq
  refine ⟨M, ?_⟩
  rw [val_main_v49_apply, val_main_v48_apply, val_main_cst_9_apply]
  have e : val_main_v47 (F := Ideal) a0 a1 (ix4 b j h q) = (M : EReal) := by
    rw [← hM, ← c_bot]
    exact Host.reduce_eq_fold (FloatOps.maximumf (F := Ideal) (φ := .f32)) _ _ _ _ _
  rw [e]
  show max (Ideal.ofBits .f32 0xFF800000#32) _ = _
  rw [c_bot]; exact max_eq_right bot_le

theorem row_idx (b j : Fin 2) (h : Fin 8) (q k : Fin 8192) : idx_main_v50 (idx_main_v51 (ix5 b j h q k)) = ix4 b j h q := by
  funext a
  match a with
  | ⟨0, _⟩ => rfl
  | ⟨1, _⟩ => rfl
  | ⟨2, _⟩ => rfl
  | ⟨3, _⟩ => rfl

theorem sum_idx (b j : Fin 2) (h : Fin 8) (q k : Fin 8192) : idx_main_v54 (ix4 b j h q) k = ix5 b j h q k := by
  funext a
  match a with
  | ⟨0, _⟩ => rfl
  | ⟨1, _⟩ => rfl
  | ⟨2, _⟩ => rfl
  | ⟨3, _⟩ => rfl
  | ⟨4, _⟩ => rfl

/-- A row's weights: real numbers, and their sum against the values is the branch. -/
theorem prob_at (h0 : IsReal a0) (h1 : IsReal a1) (b j : Fin 2) (h : Fin 8) (q : Fin 8192) :
    ∃ w : ℕ → ℝ, (∀ k : Fin 8192, val_main_v57 (F := Ideal) a0 a1 (ix5 b j h q k) = ((w k : ℝ) : EReal))
      ∧ ∀ e : ℕ, ∑ K ∈ Finset.range 8192, re3 a2 b K (h.val * 128 + e) * w K = att (inpOf a0 a1 a2 a3 a4 a5 a6) b h j e q := by
  obtain ⟨M, hM⟩ := rowmax_at a0 a1 a2 a3 a4 a5 a6 h0 h1 b j h q
  let u : ℕ → ℝ := fun K => if K ≤ q.val then Real.exp (sc (inpOf a0 a1 a2 a3 a4 a5 a6) b h j q K - M) else 0
  have hu (k : Fin 8192) : val_main_v53 (F := Ideal) a0 a1 (ix5 b j h q k) = ((u k : ℝ) : EReal) := by
    rw [val_main_v53_apply, val_main_v52_apply, val_main_v51_apply, val_main_v50_apply, score_at a0 a1 a2 a3 a4 a5 a6 h0 h1]
    have e : val_main_v49 (F := Ideal) a0 a1 (idx_main_v50 (idx_main_v51 (ix5 b j h q k))) = (M : EReal) := (congrArg _ (row_idx b j h q k)).trans hM
    rw [e]
    show Ideal.exp ((if k.val ≤ q.val then _ else (⊥ : EReal)) - (M : EReal)) = ((if k.val ≤ q.val then _ else _ : ℝ) : EReal)
    by_cases hk : k.val ≤ q.val
    · rw [if_pos hk, if_pos hk, ← EReal.coe_sub]; rfl
    · rw [if_neg hk, if_neg hk, sub_eq_add_neg, EReal.bot_add]; rfl
  have hred (f : ℕ → ℝ) : ∑ K ∈ Finset.range 8192, f K * u K = ∑ K ∈ Finset.Ico 0 (q.val + 1), f K * u K := by
    refine (Finset.sum_subset (fun K hK => Finset.mem_range.2 (by have := (Finset.mem_Ico.1 hK).2; have := q.isLt; omega)) fun K _ hK => ?_).symm
    have hK' : ¬ K ≤ q.val := fun hh => hK (Finset.mem_Ico.2 ⟨Nat.zero_le _, by omega⟩)
    show f K * (if K ≤ q.val then _ else 0) = 0
    rw [if_neg hK', mul_zero]
  let S : ℝ := ∑ K ∈ Finset.Ico 0 (q.val + 1), u K
  have hS0 : S ≠ 0 := by
    refine (Finset.sum_pos (fun K hK => ?_) ⟨0, Finset.mem_Ico.2 ⟨le_rfl, by omega⟩⟩).ne'
    show 0 < (if K ≤ q.val then _ else (0 : ℝ))
    rw [if_pos (by have := (Finset.mem_Ico.1 hK).2; omega)]; exact Real.exp_pos _
  have hS : val_main_v54 (F := Ideal) a0 a1 (ix4 b j h q) = ((S : ℝ) : EReal) := by
    rw [val_main_v54_apply]
    show Ideal.ofBits .f32 0x00000000#32 + _ = _
    rw [Ideal.ofBits_zero_f32, zero_add]
    refine (Finset.sum_congr rfl fun k _ => (congrArg _ (sum_idx b j h q k)).trans (hu k)).trans ?_
    rw [sum_coe, Fin.sum_univ_eq_sum_range u 8192]
    have e := hred fun _ => 1
    simp only [one_mul] at e
    exact congrArg (fun r : ℝ => (r : EReal)) e
  refine ⟨fun K => u K / S, fun k => ?_, fun e => ?_⟩
  · rw [val_main_v57_apply, val_main_v56_apply, val_main_v55_apply, hu k]
    have e : val_main_v54 (F := Ideal) a0 a1 (idx_main_v55 (idx_main_v56 (ix5 b j h q k))) = ((S : ℝ) : EReal) := (congrArg _ (row_idx b j h q k)).trans hS
    rw [e]
    show Ideal.div _ _ = _
    rw [Ideal.div_coe hS0, ← EReal.coe_mul, mul_one_div]
  · rw [← att_shift (inpOf a0 a1 a2 a3 a4 a5 a6) b h j e q u (-M) (fun K hK => by
      show (if K ≤ q.val then _ else (0 : ℝ)) = _
      rw [if_pos hK]; rfl)]
    show _ = (∑ K ∈ Finset.Ico 0 (q.val + 1), re3 a2 b K (h.val * 128 + e) * u K) / S
    rw [← hred fun K => re3 a2 b K (h.val * 128 + e), Finset.sum_div]
    exact Finset.sum_congr rfl fun K _ => (mul_div_assoc _ _ _).symm

/-- The values against the difference of the branches. -/
theorem ot_at (h0 : IsReal a0) (h1 : IsReal a1) (h2 : IsReal a2) (h3 : IsReal a3) (h4 : IsReal a4) (h5 : IsReal a5) (h6 : IsReal a6)
    (b : Fin 2) (q : Fin 8192) (h : Fin 8) (e : Fin 128) :
    val_main_v66 (F := Ideal) a0 a1 a2 a3 a4 a5 a6 (ix4 b q h e) = ((ot (inpOf a0 a1 a2 a3 a4 a5 a6) b h q e : ℝ) : EReal) := by
  obtain ⟨w0, hw0, hs0⟩ := prob_at a0 a1 a2 a3 a4 a5 a6 h0 h1 b 0 h q
  obtain ⟨w1, hw1, hs1⟩ := prob_at a0 a1 a2 a3 a4 a5 a6 h0 h1 b 1 h q
  rw [val_main_v66_apply, val_main_v65_apply]
  have hk (k : Fin 8192) : val_main_v2 (F := Ideal) a2 (lidx_main_v65 (idx_main_v66 (ix4 b q h e)) k)
        * val_main_v64 (F := Ideal) a0 a1 a3 a4 a5 a6 (ridx_main_v65 (idx_main_v66 (ix4 b q h e)) k)
      = ((re3 a2 b k (h.val * 128 + e.val) * (w0 k - lamOf a3 a4 a5 a6 * w1 k) : ℝ) : EReal) := by
    rw [val_main_v2_apply, val_main_v64_apply, val_main_v63_apply, val_main_v62_apply, val_main_v61_apply, val_main_v59_apply, val_main_v60_apply,
      val_main_v58_apply, lam_at a3 a4 a5 a6 h3 h4 h5 h6, EReal.coe_mul, EReal.coe_sub, EReal.coe_mul, ← hw0, ← hw1]
    refine congrArg₂ (fun u w : EReal => u * w) (re3_at a2 h2 _ _ _ _ ?_ ?_ ?_) (congrArg₂ (fun u w : EReal => u - _ * w) (congrArg _ ?_) (congrArg _ ?_))
    · show (((b.val * 8192 + k.val) * 8 + h.val) * 128 + e.val) / 8388608 = b.val; omega
    · show (((b.val * 8192 + k.val) * 8 + h.val) * 128 + e.val) / 1024 % 8192 = k.val; omega
    · show (((b.val * 8192 + k.val) * 8 + h.val) * 128 + e.val) % 1024 = h.val * 128 + e.val; omega
    · funext a
      match a with
      | ⟨0, _⟩ => refine Fin.ext ?_; show (((b.val * 8 + h.val) * 8192 + q.val) * 8192 + k.val) / 536870912 = b.val; omega
      | ⟨1, _⟩ => rfl
      | ⟨2, _⟩ => refine Fin.ext ?_; show (((b.val * 8 + h.val) * 8192 + q.val) * 8192 + k.val) / 67108864 % 8 = h.val; omega
      | ⟨3, _⟩ => refine Fin.ext ?_; show (((b.val * 8 + h.val) * 8192 + q.val) * 8192 + k.val) / 8192 % 8192 = q.val; omega
      | ⟨4, _⟩ => refine Fin.ext ?_; show (((b.val * 8 + h.val) * 8192 + q.val) * 8192 + k.val) % 8192 = k.val; omega
    · funext a
      match a with
      | ⟨0, _⟩ => refine Fin.ext ?_; show (((b.val * 8 + h.val) * 8192 + q.val) * 8192 + k.val) / 536870912 = b.val; omega
      | ⟨1, _⟩ => rfl
      | ⟨2, _⟩ => refine Fin.ext ?_; show (((b.val * 8 + h.val) * 8192 + q.val) * 8192 + k.val) / 67108864 % 8 = h.val; omega
      | ⟨3, _⟩ => refine Fin.ext ?_; show (((b.val * 8 + h.val) * 8192 + q.val) * 8192 + k.val) / 8192 % 8192 = q.val; omega
      | ⟨4, _⟩ => refine Fin.ext ?_; show (((b.val * 8 + h.val) * 8192 + q.val) * 8192 + k.val) % 8192 = k.val; omega
  refine (Finset.sum_congr rfl fun k _ => hk k).trans ?_
  rw [sum_coe, Fin.sum_univ_eq_sum_range (fun k => re3 a2 b k (h.val * 128 + e.val) * (w0 k - lamOf a3 a4 a5 a6 * w1 k)) 8192]
  refine congrArg (fun r : ℝ => (r : EReal)) ?_
  show _ = att (inpOf a0 a1 a2 a3 a4 a5 a6) b h 0 e q - lamOf a3 a4 a5 a6 * att (inpOf a0 a1 a2 a3 a4 a5 a6) b h 1 e q
  rw [show att (inpOf a0 a1 a2 a3 a4 a5 a6) b h 0 e q = _ from (hs0 e).symm, show att (inpOf a0 a1 a2 a3 a4 a5 a6) b h 1 e q = _ from (hs1 e).symm, Finset.mul_sum, ← Finset.sum_sub_distrib]
  exact Finset.sum_congr rfl fun K _ => by ring

/-- An element of the result. -/
theorem fin_at (h0 : IsReal a0) (h1 : IsReal a1) (h2 : IsReal a2) (h3 : IsReal a3) (h4 : IsReal a4) (h5 : IsReal a5) (h6 : IsReal a6)
    (b : Fin 2) (q : Fin 8192) (h : Fin 8) (e : Fin 128) :
    val_main_v82 (F := Ideal) a0 a1 a2 a3 a4 a5 a6 a7 (ix4 b q h e) = fin (ot (inpOf a0 a1 a2 a3 a4 a5 a6) b h q) (gainOf a7 e) e := by
  rw [val_main_v82_apply, val_main_v81_apply, val_main_v80_apply, val_main_v79_apply, val_main_v78_apply, val_main_v77_apply, val_main_v76_apply,
    val_main_v75_apply, val_main_v74_apply, val_main_v73_apply, val_main_v72_apply, val_main_v71_apply, val_main_v70_apply, val_main_v69_apply,
    val_main_v68_apply, ot_at a0 a1 a2 a3 a4 a5 a6 h0 h1 h2 h3 h4 h5 h6, gainOf_eq]
  have eg : a7 (idx_main_v77 (idx_main_v78 (idx_main_v79 (ix4 b q h e)))) = a7 (ix2 (0 : Fin 1) e) := by
    refine congrArg a7 ?_
    funext a
    match a with
    | ⟨0, _⟩ => rfl
    | ⟨1, _⟩ => exact Fin.ext (Nat.mod_eq_of_lt e.isLt)
  have es : ∑ k : Fin 128, val_main_v67 (F := Ideal) a0 a1 a2 a3 a4 a5 a6 (idx_main_v68 (idx_main_v69 (idx_main_v75 (ix4 b q h e))) k)
      = ∑ k : Fin 128, ((ot (inpOf a0 a1 a2 a3 a4 a5 a6) b h q k.val : ℝ) : EReal) * ((ot (inpOf a0 a1 a2 a3 a4 a5 a6) b h q k.val : ℝ) : EReal) := by
    refine Finset.sum_congr rfl fun k _ => ?_
    rw [val_main_v67_apply]
    have ek : val_main_v66 (F := Ideal) a0 a1 a2 a3 a4 a5 a6 (idx_main_v68 (idx_main_v69 (idx_main_v75 (ix4 b q h e))) k) = _ :=
      ot_at a0 a1 a2 a3 a4 a5 a6 h0 h1 h2 h3 h4 h5 h6 b q h k
    rw [ek]; rfl
  have ez : val_main_cst_11 (F := Ideal) (Shape.Idx.first h_S_) = (0 : EReal) := Ideal.ofBits_zero_f32
  rw [eg, es, ez, zero_add]
  rfl

/-- The reference's result. -/
theorem res_at (h0 : IsReal a0) (h1 : IsReal a1) (h2 : IsReal a2) (h3 : IsReal a3) (h4 : IsReal a4) (h5 : IsReal a5) (h6 : IsReal a6)
    (i : S16384x1024.Idx) :
    val_main_v83 (F := Ideal) a0 a1 a2 a3 a4 a5 a6 a7 i
      = fin (ot (inpOf a0 a1 a2 a3 a4 a5 a6) ((i 0 : ℕ) / 8192) ((i 1 : ℕ) / 128) ((i 0 : ℕ) % 8192)) (gainOf a7 ((i 1 : ℕ) % 128)) ((i 1 : ℕ) % 128) := by
  have b0 : (i 0).val < 16384 := (i 0).isLt
  have b1 : (i 1).val < 1024 := (i 1).isLt
  rw [val_main_v83_apply]
  refine Eq.trans (congrArg _ ?_) (fin_at a0 a1 a2 a3 a4 a5 a6 a7 h0 h1 h2 h3 h4 h5 h6 ⟨(i 0).val / 8192, by omega⟩ ⟨(i 0).val % 8192, by omega⟩ ⟨(i 1).val / 128, by omega⟩ ⟨(i 1).val % 128, by omega⟩)
  funext a
  match a with
  | ⟨0, _⟩ => refine Fin.ext ?_; show ((i 0).val * 1024 + (i 1).val) / 8388608 = (i 0).val / 8192; omega
  | ⟨1, _⟩ => refine Fin.ext ?_; show ((i 0).val * 1024 + (i 1).val) / 1024 % 8192 = (i 0).val % 8192; omega
  | ⟨2, _⟩ => refine Fin.ext ?_; show ((i 0).val * 1024 + (i 1).val) / 128 % 8 = (i 1).val / 128; omega
  | ⟨3, _⟩ => refine Fin.ext ?_; show ((i 0).val * 1024 + (i 1).val) % 128 = (i 1).val % 128; omega

end Cert.ReferenceIdeal.Whole
-- ==== Proof.FfnRow.lean ====
/-
  One row of the feed-forward layer as a function of the row and the weights: the gated product, the scaled sum with the row
  itself, and the normalisation. Both programs compute this expression at every row, so nothing is asked of the entries.
-/
module

public import Idealize.ShloMosaic.Lib.MatmulPlain
public import Idealize.ShloMosaic.Lib.ValueLayout
public import Idealize.ShloMosaic.Lib.IdealHost
public import Idealize.ShloMosaic.Lib.Pipeline.Value
public import Idealize.ShloMosaic.PureOps.Ideal.Laws

@[expose] public section

noncomputable section

namespace Cert.FfnRow

open Idealize.ShloMosaic Idealize.ShloMosaic.ValueIdx

/-- The gate: a value times its logistic. -/
def silu (z : EReal) : EReal := z * Ideal.logistic z

/-- A row through the layer, before the normalisation: the row scaled, and half of the gated product through the last weight. -/
def pre (x : Fin 1024 → EReal) (wg wu : Fin 1024 → Fin 2816 → EReal) (wd : Fin 2816 → Fin 1024 → EReal) (j : Fin 1024) : EReal :=
  Ideal.ofBits .f32 0x3F9837F0#32 * x j
    + Ideal.ofBits .f32 0x3F000000#32 * ∑ k : Fin 2816, silu (∑ l : Fin 1024, x l * wg l k) * (∑ l : Fin 1024, x l * wu l k) * wd k j

/-- The mean of a row. -/
def mean (h : Fin 1024 → EReal) : EReal := Ideal.div (∑ k : Fin 1024, h k) (Ideal.ofBits .f32 0x44800000#32)

/-- A row less its mean. -/
def centred (h : Fin 1024 → EReal) (j : Fin 1024) : EReal := h j - mean h

/-- A row normalised, then scaled and shifted. -/
def norm (h g b : Fin 1024 → EReal) (j : Fin 1024) : EReal :=
  centred h j * Ideal.rsqrt (mean (fun k => centred h k * centred h k) + Ideal.ofBits .f32 0x3727C5AC#32) * g j + b j

/-- Rows of the batches one after the other: the batch of a row, and its place there. -/
def batch (r : Fin 16384) : Fin 2 := ⟨r.val / 8192, by omega⟩
def place (r : Fin 16384) : Fin 8192 := ⟨r.val % 8192, Nat.mod_lt _ (by decide)⟩

/-- The layer's result, row after row. -/
def result (x0 : FVec Ideal ⟨3, ![2, 8192, 1024]⟩ .f32) (x1 x2 : FVec Ideal ⟨2, ![1, 1024]⟩ .f32) (x3 x4 : FVec Ideal ⟨3, ![1, 1024, 2816]⟩ .f32)
    (x5 : FVec Ideal ⟨3, ![1, 2816, 1024]⟩ .f32) (r : Fin 16384) (j : Fin 1024) : EReal :=
  norm (pre (fun l => x0 (ix3 (batch r) (place r) l)) (fun l k => x3 (ix3 (0 : Fin 1) l k)) (fun l k => x4 (ix3 (0 : Fin 1) l k))
    (fun k l => x5 (ix3 (0 : Fin 1) k l))) (fun l => x1 (ix2 (0 : Fin 1) l)) (fun l => x2 (ix2 (0 : Fin 1) l)) j

theorem eq1 {a : ℕ} (i j : (⟨1, ![a]⟩ : Shape).Idx) (h0 : (i 0).val = (j 0).val) : i = j :=
  funext fun x => match x with
  | ⟨0, _⟩ => Fin.ext h0

theorem eq2 {a b : ℕ} (i j : (⟨2, ![a, b]⟩ : Shape).Idx) (h0 : (i 0).val = (j 0).val) (h1 : (i 1).val = (j 1).val) : i = j :=
  funext fun x => match x with
  | ⟨0, _⟩ => Fin.ext h0
  | ⟨1, _⟩ => Fin.ext h1

theorem eq3 {a b c : ℕ} (i j : (⟨3, ![a, b, c]⟩ : Shape).Idx) (h0 : (i 0).val = (j 0).val) (h1 : (i 1).val = (j 1).val)
    (h2 : (i 2).val = (j 2).val) : i = j :=
  funext fun x => match x with
  | ⟨0, _⟩ => Fin.ext h0
  | ⟨1, _⟩ => Fin.ext h1
  | ⟨2, _⟩ => Fin.ext h2

/-- A product of two blocks, from nothing. -/
theorem matmul_sum {n m p : ℕ} {φ₁ φ₂ : FTy} (lhs : FVec Ideal ⟨2, ![n, m]⟩ φ₁) (rhs : FVec Ideal ⟨2, ![m, p]⟩ φ₂) (r : Fin n) (c : Fin p) :
    matmul (DotDims.plain n m p) none lhs rhs (constant (F := Ideal) ⟨2, ![n, p]⟩ .f32 0x00000000#32) (ix2 r c)
      = ∑ k : Fin m, (lhs (ix2 r k) * rhs (ix2 k c) : EReal) := by
  show FloatOps.matmul (DotDims.plain n m p) none lhs rhs _ (ix2 r c) = _
  rw [Ideal.matmul_plain_apply]
  show Ideal.ofBits .f32 0x00000000#32 + _ = _
  rw [Ideal.ofBits_zero_f32, zero_add]

/-- The sum along a row. -/
theorem row_total {n p : ℕ} (v : FVec Ideal ⟨2, ![n, p]⟩ .f32) (hd : (⟨2, ![n, p]⟩ : Shape).Reduces [1] ⟨1, ![n]⟩)
    (h0 : FKind.Formats .f32) (h1 : (0x00000000#32 : BitVec FTy.f32.bits) = FKind.add.neutral .f32 h0) (r : Fin n) :
    multiReduction .add [1] ⟨1, ![n]⟩ v 0x00000000#32 hd h0 h1 (ix1 r) = ∑ k : Fin p, (v (ix2 r k) : EReal) := by
  rw [Ideal.multiReduction_add_single]
  exact Finset.sum_congr rfl fun k _ => congrArg v (eq2 _ _ rfl rfl)

end Cert.FfnRow
-- ==== Proof.FfnKernel.lean ====
/-
  The tiled program of the feed-forward layer: a step's block read at an element, the blocks it is handed, and the result array.
-/
module

public import proofs.«01_k».proof.Proof.FfnRow
public import proofs.«01_k».proof.Proof.Gen.FfnIdeal
public import proofs.«01_k».proof.Proof.Gen.FfnIdeal.Frame
public import proofs.«01_k».proof.Proof.Gen.FfnIdeal.Value
public import Idealize.ShloMosaic.Lib.StableHlo.RunRead

@[expose] public section

set_option maxRecDepth 16384

noncomputable section

namespace Cert.FfnIdeal.Block

open Cert.FfnIdeal Cert.FfnIdeal.Gen Cert.FfnRow
open Idealize.ShloMosaic Idealize.ShloMosaic.TcCoe Idealize.ShloMosaic.ValueIdx Idealize.ShloMosaic.StableHlo
open Idealize.ShloMosaic.Pipeline (Dat)

/-! ## A step's block -/

section Step

variable (P0 : FVec Ideal S256x1024 .f32) (P1 P2 : FVec Ideal S1024x2816 .bf16) (P3 : FVec Ideal S2816x1024 .bf16) (P4 P5 : FVec Ideal S1x1024 .f32)

/-- The gated product of a block of rows. -/
def gated : FVec Ideal S256x2816 .f32 :=
  let g : FVec Ideal S256x2816 .f32 := matmul (DotDims.plain 256 1024 2816) none (truncf .bf16 P0 bitsLt_bf16_f32) P1 (constant S256x2816 .f32 0x00000000#32)
  let u : FVec Ideal S256x2816 .f32 := matmul (DotDims.plain 256 1024 2816) none (truncf .bf16 P0 bitsLt_bf16_f32) P2 (constant S256x2816 .f32 0x00000000#32)
  mulf (mulf g (logistic g)) u

/-- The block before the normalisation. -/
def sumBlock : FVec Ideal S256x1024 .f32 :=
  addf (mulf (broadcast S256x1024 (Scalar.ofBits (F := Ideal) .f32 0x3F9837F0#32)) P0)
    (mulf (broadcast S256x1024 (Scalar.ofBits (F := Ideal) .f32 0x3F000000#32))
      (matmul (DotDims.plain 256 2816 1024) none (truncf .bf16 (gated P0 P1 P2) bitsLt_bf16_f32) P3 (constant S256x1024 .f32 0x00000000#32)))

theorem centred_eq : k0_pay4 P0 P1 P2 P3 = subf (sumBlock P0 P1 P2 P3) (broadcastTo S256x1024 (divf (shapeCast S256x1
    (multiReduction .add [1] S256 (sumBlock P0 P1 P2 P3) 0x00000000#32 reduces_S256x1024_S256 (.inl rfl) rfl) shapeCasts_S256_S256x1)
    (broadcast S256x1 (Scalar.ofBits (F := Ideal) .f32 0x44800000#32))) broadcasts_S256x1_S256x1024) := by
  unfold k0_pay4
  simp only [shapeCast_self]
  rfl

/-- The row of a block, before the normalisation. -/
abbrev row (r : Fin 256) : Fin 1024 → EReal :=
  pre (fun l => P0 (ix2 r l)) (fun l k => P1 (ix2 l k)) (fun l k => P2 (ix2 l k)) (fun k l => P3 (ix2 k l))

theorem gated_apply (r : Fin 256) (k : Fin 2816) : gated P0 P1 P2 (ix2 r k)
    = silu (∑ l : Fin 1024, (P0 (ix2 r l) * P1 (ix2 l k) : EReal)) * (∑ l : Fin 1024, (P0 (ix2 r l) * P2 (ix2 l k) : EReal)) := by
  have eg := matmul_sum (truncf (F := Ideal) .bf16 P0 bitsLt_bf16_f32) P1 r k
  have eu := matmul_sum (truncf (F := Ideal) .bf16 P0 bitsLt_bf16_f32) P2 r k
  exact congrArg₂ (fun u v : EReal => silu u * v) eg eu

theorem sumBlock_apply (r : Fin 256) (j : Fin 1024) : sumBlock P0 P1 P2 P3 (ix2 r j) = row P0 P1 P2 P3 r j := by
  have e := matmul_sum (truncf (F := Ideal) .bf16 (gated P0 P1 P2) bitsLt_bf16_f32) P3 r j
  refine congrArg (fun z : EReal => Ideal.ofBits .f32 0x3F9837F0#32 * P0 (ix2 r j) + Ideal.ofBits .f32 0x3F000000#32 * z) (e.trans ?_)
  exact Finset.sum_congr rfl fun k _ => congrArg (fun z : EReal => z * P3 (ix2 k j)) (gated_apply P0 P1 P2 r k)

theorem centred_apply (r : Fin 256) (j : Fin 1024) : k0_pay4 (F := Ideal) P0 P1 P2 P3 (ix2 r j) = centred (row P0 P1 P2 P3 r) j := by
  rw [centred_eq]
  refine congrArg₂ (fun u v : EReal => u - v) (sumBlock_apply P0 P1 P2 P3 r j) ?_
  rw [broadcastTo_apply _ _ (ix2 r j) (ix2 r (0 : Fin 1)) (fun a => match a with
    | ⟨0, _⟩ => by show r.val = (if (256 : ℕ) = 1 then 0 else r.val); rw [if_neg (by decide)]
    | ⟨1, _⟩ => by show 0 = (if (1 : ℕ) = 1 then 0 else j.val); rw [if_pos rfl])]
  refine congrArg (fun u : EReal => Ideal.div u (Ideal.ofBits .f32 0x44800000#32)) ?_
  rw [shapeCast_apply _ _ (ix2 r (0 : Fin 1)) (ix1 r) (by rw [Shape.rowMajor_val_one, Shape.rowMajor_val_two]; show r.val = r.val * 1 + 0; omega)]
  exact (row_total (sumBlock P0 P1 P2 P3) _ _ _ r).trans (Finset.sum_congr rfl fun k _ => sumBlock_apply P0 P1 P2 P3 r k)

/-- What a step leaves, at an element. -/
theorem step_apply (r : Fin 256) (j : Fin 1024) : Value.E6 (F := Ideal) P0 P1 P2 P3 P4 P5 (ix2 r j)
    = norm (row P0 P1 P2 P3 r) (fun l => P4 (ix2 (0 : Fin 1) l)) (fun l => P5 (ix2 (0 : Fin 1) l)) j := by
  have e0 : k0_pay4 (F := Ideal) P0 P1 P2 P3 (Value.ix6_0 (ix2 r j)) = centred (row P0 P1 P2 P3 r) j := by
    rw [show Value.ix6_0 (ix2 r j) = ix2 r j from eq2 _ _ rfl rfl]
    exact centred_apply P0 P1 P2 P3 r j
  have e1 : multiReduction (F := Ideal) .add [1] S256 (mulf (k0_pay4 (F := Ideal) P0 P1 P2 P3) (k0_pay4 P0 P1 P2 P3)) 0x00000000#32 reduces_S256x1024_S256 (.inl rfl) rfl
      (Value.ix6_1 (ix2 r j)) = ∑ k : Fin 1024, (centred (row P0 P1 P2 P3 r) k * centred (row P0 P1 P2 P3 r) k : EReal) := by
    rw [show Value.ix6_1 (ix2 r j) = ix1 r from eq1 _ _ rfl]
    exact (row_total (mulf (k0_pay4 (F := Ideal) P0 P1 P2 P3) (k0_pay4 P0 P1 P2 P3)) _ _ _ r).trans (Finset.sum_congr rfl fun k _ =>
      congrArg₂ (fun u v : EReal => u * v) (centred_apply P0 P1 P2 P3 r k) (centred_apply P0 P1 P2 P3 r k))
  have e3 : P4 (Value.ix6_3 (ix2 r j)) = P4 (ix2 (0 : Fin 1) j) := congrArg P4 (eq2 _ _ rfl rfl)
  have e4 : P5 (Value.ix6_4 (ix2 r j)) = P5 (ix2 (0 : Fin 1) j) := congrArg P5 (eq2 _ _ rfl rfl)
  unfold Value.E6
  rw [e0, e1, e3, e4]
  rfl

/-- A load of a whole block reads the block. -/
theorem load_whole {a b : ℕ} {e : EltTy} (X : (⟨2, ![a, b]⟩ : Shape).Idx → Elt Ideal e)
    (inb : ∀ x, (![0, 0] : Fin 2 → ℕ) x + (⟨2, ![a, b]⟩ : Shape).size x ≤ (⟨2, ![a, b]⟩ : Shape).size x) :
    View.ld (Val := Elt Ideal) (S := ⟨2, ![a, b]⟩) (e' := e) X (Rect.unit (s := ⟨2, ![a, b]⟩) ![0, 0] (⟨2, ![a, b]⟩ : Shape).size inb) = X :=
  funext fun y => congrArg X (eq2 _ _ (by show 0 + 1 * (y 0).val = (y 0).val; omega) (by show 0 + 1 * (y 1).val = (y 1).val; omega))

theorem step_out (r : Fin 256) (j : Fin 1024) : out0_6 (F := Ideal) P0 P1 P2 P3 P4 P5 (ix2 r j)
    = norm (row P0 P1 P2 P3 r) (fun l => P4 (ix2 (0 : Fin 1) l)) (fun l => P5 (ix2 (0 : Fin 1) l)) j := by
  unfold out0_6
  rw [Value.canon6_eq]
  have l0 := load_whole (e := .f32) P0 inb_S256x1024_S256x1024_0_0
  have l1 := load_whole (e := .bf16) P1 inb_S1024x2816_S1024x2816_0_0
  have l2 := load_whole (e := .bf16) P2 inb_S1024x2816_S1024x2816_0_0
  have l3 := load_whole (e := .bf16) P3 inb_S2816x1024_S2816x1024_0_0
  have l4 := load_whole (e := .f32) P4 inb_S1x1024_S1x1024_0_0
  have l5 := load_whole (e := .f32) P5 inb_S1x1024_S1x1024_0_0
  refine (congrFun (congr (congr (congr (congr (congr (congrArg (Value.E6 (F := Ideal)) l0) l1) l2) l3) l4) l5) (ix2 r j)).trans ?_
  exact step_apply P0 P1 P2 P3 P4 P5 r j

end Step

/-! ## The arrays and their blocks -/

variable (m : (ℓ : Loc nD τ sig) → Buf (Elt Ideal) ℓ) (c : Dev nD)

abbrev A0 : FVec Ideal S2x8192x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x1024x2816 .f32 := m ((c : Thread nD τ).loc main_arg3)
abbrev A4 : FVec Ideal S1x1024x2816 .f32 := m ((c : Thread nD τ).loc main_arg4)
abbrev A5 : FVec Ideal S1x2816x1024 .f32 := m ((c : Thread nD τ).loc main_arg5)

theorem V_x : (V m c main_v0 : FVec Ideal S16384x1024 .f32) = shapeCast S16384x1024 (A0 m c) shapeCasts_S2x8192x1024_S16384x1024 := by
  after_reads_simp
  rfl
theorem V_wg : (V m c main_v2 : FVec Ideal S1024x2816 .bf16) = truncf .bf16 (shapeCast S1024x2816 (A3 m c) shapeCasts_S1x1024x2816_S1024x2816) bitsLt_bf16_f32 := by
  after_reads_simp
  rfl
theorem V_wu : (V m c main_v4 : FVec Ideal S1024x2816 .bf16) = truncf .bf16 (shapeCast S1024x2816 (A4 m c) shapeCasts_S1x1024x2816_S1024x2816) bitsLt_bf16_f32 := by
  after_reads_simp
  rfl
theorem V_wd : (V m c main_v6 : FVec Ideal S2816x1024 .bf16) = truncf .bf16 (shapeCast S2816x1024 (A5 m c) shapeCasts_S1x2816x1024_S2816x1024) bitsLt_bf16_f32 := by
  after_reads_simp
  rfl
theorem V_g : (V m c main_v8 : FVec Ideal S1x1024 .f32) = shapeCast S1x1024 (shapeCast S1024 (A1 m c) shapeCasts_S1x1024_S1024) shapeCasts_S1024_S1x1024 := by
  after_reads_simp
  rfl
theorem V_b : (V m c main_v10 : FVec Ideal S1x1024 .f32) = shapeCast S1x1024 (shapeCast S1024 (A2 m c) shapeCasts_S1x1024_S1024) shapeCasts_S1024_S1x1024 := by
  after_reads_simp
  rfl

/-- A row of the first array is the row of its batch. -/
theorem rows_apply (x : FVec Ideal S2x8192x1024 .f32) (h : S2x8192x1024.ShapeCasts S16384x1024) (r : Fin 16384) (l : Fin 1024) :
    shapeCast S16384x1024 x h (ix2 r l) = x (ix3 (batch r) (place r) l) :=
  shapeCast_apply _ _ (ix2 r l) (ix3 (batch r) (place r) l) (by
    rw [Shape.rowMajor_val_three, Shape.rowMajor_val_two]
    show (r.val / 8192 * 8192 + r.val % 8192) * 1024 + l.val = r.val * 1024 + l.val
    omega)

theorem flat_apply (x : FVec Ideal S1x1024 .f32) (h : S1x1024.ShapeCasts S1024) (h' : S1024.ShapeCasts S1x1024) (l : Fin 1024) :
    shapeCast S1x1024 (shapeCast S1024 x h) h' (ix2 (0 : Fin 1) l) = x (ix2 (0 : Fin 1) l) := by
  rw [shapeCast_apply _ _ (ix2 (0 : Fin 1) l) (ix1 l) (by rw [Shape.rowMajor_val_one, Shape.rowMajor_val_two]; show l.val = 0 * 1024 + l.val; omega),
    shapeCast_apply _ _ (ix1 l) (ix2 (0 : Fin 1) l) (by rw [Shape.rowMajor_val_one, Shape.rowMajor_val_two]; show 0 * 1024 + l.val = l.val; omega)]

variable (t : Fin cfg0.N)

theorem N_eq : cfg0.N = 64 := rfl

theorem t_lt : t.val < 64 := Nat.lt_of_lt_of_eq t.isLt N_eq

/-- The row of the whole array at a row of a block. -/
def at' (r : Fin 256) : Fin 16384 := ⟨t.val * 256 + r.val, by have := t_lt t; omega⟩

/-- Where a window's block starts. -/
theorem start0 : ∀ t : Fin cfg0.N, win0_0.index t 0 = t.val ∧ win0_0.index t 1 = 0 :=
  (by decide +kernel : ∀ t : Fin grid0.N, win0_0.index t 0 = t.val ∧ win0_0.index t 1 = 0)
theorem start1 : ∀ t : Fin cfg0.N, win0_1.index t 0 = 0 ∧ win0_1.index t 1 = 0 :=
  (by decide +kernel : ∀ t : Fin grid0.N, win0_1.index t 0 = 0 ∧ win0_1.index t 1 = 0)
theorem start2 : ∀ t : Fin cfg0.N, win0_2.index t 0 = 0 ∧ win0_2.index t 1 = 0 :=
  (by decide +kernel : ∀ t : Fin grid0.N, win0_2.index t 0 = 0 ∧ win0_2.index t 1 = 0)
theorem start3 : ∀ t : Fin cfg0.N, win0_3.index t 0 = 0 ∧ win0_3.index t 1 = 0 :=
  (by decide +kernel : ∀ t : Fin grid0.N, win0_3.index t 0 = 0 ∧ win0_3.index t 1 = 0)
theorem start4 : ∀ t : Fin cfg0.N, win0_4.index t 0 = 0 ∧ win0_4.index t 1 = 0 :=
  (by decide +kernel : ∀ t : Fin grid0.N, win0_4.index t 0 = 0 ∧ win0_4.index t 1 = 0)
theorem start5 : ∀ t : Fin cfg0.N, win0_5.index t 0 = 0 ∧ win0_5.index t 1 = 0 :=
  (by decide +kernel : ∀ t : Fin grid0.N, win0_5.index t 0 = 0 ∧ win0_5.index t 1 = 0)
theorem start6 : ∀ t : Fin cfg0.N, win0_6.index t 0 = t.val ∧ win0_6.index t 1 = 0 :=
  (by decide +kernel : ∀ t : Fin grid0.N, win0_6.index t 0 = t.val ∧ win0_6.index t 1 = 0)

theorem blk0 (A : FVec Ideal S16384x1024 .f32) (r : Fin 256) (l : Fin 1024) :
    ((cfg0.win 0).blk t).view.read (Elt Ideal) A (ix2 r l) = A (ix2 (at' t r) l) := by
  obtain ⟨e0, e1⟩ := start0 t
  exact congrArg A (eq2 _ _ (by show win0_0.index t 0 * 256 + 1 * r.val = t.val * 256 + r.val; rw [e0]; omega)
    (by show win0_0.index t 1 * 1024 + 1 * l.val = l.val; rw [e1]; omega))
theorem blk1 (A : FVec Ideal S1024x2816 .bf16) (l : Fin 1024) (k : Fin 2816) :
    ((cfg0.win 1).blk t).view.read (Elt Ideal) A (ix2 l k) = A (ix2 l k) := by
  obtain ⟨e0, e1⟩ := start1 t
  exact congrArg A (eq2 _ _ (by show win0_1.index t 0 * 1024 + 1 * l.val = l.val; rw [e0]; omega)
    (by show win0_1.index t 1 * 2816 + 1 * k.val = k.val; rw [e1]; omega))
theorem blk2 (A : FVec Ideal S1024x2816 .bf16) (l : Fin 1024) (k : Fin 2816) :
    ((cfg0.win 2).blk t).view.read (Elt Ideal) A (ix2 l k) = A (ix2 l k) := by
  obtain ⟨e0, e1⟩ := start2 t
  exact congrArg A (eq2 _ _ (by show win0_2.index t 0 * 1024 + 1 * l.val = l.val; rw [e0]; omega)
    (by show win0_2.index t 1 * 2816 + 1 * k.val = k.val; rw [e1]; omega))
theorem blk3 (A : FVec Ideal S2816x1024 .bf16) (k : Fin 2816) (l : Fin 1024) :
    ((cfg0.win 3).blk t).view.read (Elt Ideal) A (ix2 k l) = A (ix2 k l) := by
  obtain ⟨e0, e1⟩ := start3 t
  exact congrArg A (eq2 _ _ (by show win0_3.index t 0 * 2816 + 1 * k.val = k.val; rw [e0]; omega)
    (by show win0_3.index t 1 * 1024 + 1 * l.val = l.val; rw [e1]; omega))
theorem blk4 (A : FVec Ideal S1x1024 .f32) (l : Fin 1024) :
    ((cfg0.win 4).blk t).view.read (Elt Ideal) A (ix2 (0 : Fin 1) l) = A (ix2 (0 : Fin 1) l) := by
  obtain ⟨e0, e1⟩ := start4 t
  exact congrArg A (eq2 _ _ (by show win0_4.index t 0 * 1 + 1 * 0 = 0; rw [e0])
    (by show win0_4.index t 1 * 1024 + 1 * l.val = l.val; rw [e1]; omega))
theorem blk5 (A : FVec Ideal S1x1024 .f32) (l : Fin 1024) :
    ((cfg0.win 5).blk t).view.read (Elt Ideal) A (ix2 (0 : Fin 1) l) = A (ix2 (0 : Fin 1) l) := by
  obtain ⟨e0, e1⟩ := start5 t
  exact congrArg A (eq2 _ _ (by show win0_5.index t 0 * 1 + 1 * 0 = 0; rw [e0])
    (by show win0_5.index t 1 * 1024 + 1 * l.val = l.val; rw [e1]; omega))
theorem blk6 (A : FVec Ideal S16384x1024 .f32) (r : Fin 256) (l : Fin 1024) :
    ((cfg0.win 6).blk t).view.read (Elt Ideal) A (ix2 r l) = A (ix2 (at' t r) l) := by
  obtain ⟨e0, e1⟩ := start6 t
  exact congrArg A (eq2 _ _ (by show win0_6.index t 0 * 256 + 1 * r.val = t.val * 256 + r.val; rw [e0]; omega)
    (by show win0_6.index t 1 * 1024 + 1 * l.val = l.val; rw [e1]; omega))

/-- An element of the result is in the block of its row's tile. -/
theorem mem_blk6 (i : S16384x1024.Idx) :
    i ∈ ((cfg0.win 6).blk t).view.set ↔ t.val * 256 ≤ (i 0 : ℕ) ∧ (i 0 : ℕ) < t.val * 256 + 256 := by
  obtain ⟨e0, e1⟩ := start6 t
  have hi : (i 1 : ℕ) < 1024 := (i 1).isLt
  show i ∈ ((View.whole main_v11).slice (win0_6.rect t)).set ↔ _
  rw [View.set_slice_whole, Rect.mem_set_unit]
  refine ⟨fun h => ?_, fun h a => ?_⟩
  · have : win0_6.index t 0 * 256 ≤ (i 0 : ℕ) ∧ (i 0 : ℕ) < win0_6.index t 0 * 256 + 256 := h 0
    rw [e0] at this; exact this
  · match a with
    | ⟨0, _⟩ => show win0_6.index t 0 * 256 ≤ (i 0 : ℕ) ∧ (i 0 : ℕ) < win0_6.index t 0 * 256 + 256
                rw [e0]; exact h
    | ⟨1, _⟩ => show win0_6.index t 1 * 1024 ≤ (i 1 : ℕ) ∧ (i 1 : ℕ) < win0_6.index t 1 * 1024 + 1024
                rw [e1, Nat.zero_mul, Nat.zero_add]; exact ⟨Nat.zero_le _, hi⟩

/-- The result's blocks tile its array. -/
theorem cover6 (i : S16384x1024.Idx) : ∃ t : Fin cfg0.N, (cfg0.win 6).flush t = true ∧ i ∈ ((cfg0.win 6).blk t).view.set := by
  have h0 : (i 0 : ℕ) < 16384 := (i 0).isLt
  have hN : (i 0 : ℕ) / 256 < cfg0.N := Nat.lt_of_lt_of_eq (by omega : (i 0 : ℕ) / 256 < 64) N_eq.symm
  refine ⟨⟨(i 0 : ℕ) / 256, hN⟩, flush0_6 _, (mem_blk6 _ i).2 ?_⟩
  exact ⟨Nat.div_mul_le_self _ _, by
    have := Nat.lt_div_mul_add (a := (i 0 : ℕ)) (b := 256) (by decide)
    exact this⟩

/-! ## What each step is handed -/

theorem in0 (r : Fin 256) (l : Fin 1024) : (show FVec Ideal S256x1024 .f32 from iblk m c 0 t) (ix2 r l) = A0 m c (ix3 (batch (at' t r)) (place (at' t r)) l) :=
  (blk0 t (V m c main_v0) r l).trans ((congrFun (V_x m c) _).trans (rows_apply _ _ _ _))
theorem in1 (l : Fin 1024) (k : Fin 2816) : (show FVec Ideal S1024x2816 .bf16 from iblk m c 1 t) (ix2 l k) = A3 m c (ix3 (0 : Fin 1) l k) :=
  (blk1 t (V m c main_v2) l k).trans ((congrFun (V_wg m c) _).trans (shapeCast_1ab_ab_apply _ _ l k))
theorem in2 (l : Fin 1024) (k : Fin 2816) : (show FVec Ideal S1024x2816 .bf16 from iblk m c 2 t) (ix2 l k) = A4 m c (ix3 (0 : Fin 1) l k) :=
  (blk2 t (V m c main_v4) l k).trans ((congrFun (V_wu m c) _).trans (shapeCast_1ab_ab_apply _ _ l k))
theorem in3 (k : Fin 2816) (l : Fin 1024) : (show FVec Ideal S2816x1024 .bf16 from iblk m c 3 t) (ix2 k l) = A5 m c (ix3 (0 : Fin 1) k l) :=
  (blk3 t (V m c main_v6) k l).trans ((congrFun (V_wd m c) _).trans (shapeCast_1ab_ab_apply _ _ k l))
theorem in4 (l : Fin 1024) : (show FVec Ideal S1x1024 .f32 from iblk m c 4 t) (ix2 (0 : Fin 1) l) = A1 m c (ix2 (0 : Fin 1) l) :=
  (blk4 t (V m c main_v8) l).trans ((congrFun (V_g m c) _).trans (flat_apply _ _ _ l))
theorem in5 (l : Fin 1024) : (show FVec Ideal S1x1024 .f32 from iblk m c 5 t) (ix2 (0 : Fin 1) l) = A2 m c (ix2 (0 : Fin 1) l) :=
  (blk5 t (V m c main_v10) l).trans ((congrFun (V_b m c) _).trans (flat_apply _ _ _ l))

/-- The result array. -/
def OUT : FVec Ideal S16384x1024 .f32 := fun i => result (A0 m c) (A1 m c) (A2 m c) (A3 m c) (A4 m c) (A5 m c) (i 0) (i 1)

/-- A step's result at an element is the result's. -/
theorem out_apply (r : Fin 256) (j : Fin 1024) :
    out0_6 (F := Ideal) (iblk m c 0 t) (iblk m c 1 t) (iblk m c 2 t) (iblk m c 3 t) (iblk m c 4 t) (iblk m c 5 t) (ix2 r j) = OUT m c (ix2 (at' t r) j) := by
  refine (step_out _ _ _ _ _ _ r j).trans ?_
  have h0 : (fun l : Fin 1024 => (show FVec Ideal S256x1024 .f32 from iblk m c 0 t) (ix2 r l)) = fun l => A0 m c (ix3 (batch (at' t r)) (place (at' t r)) l) :=
    funext fun l => in0 m c t r l
  have h1 : (fun (l : Fin 1024) (k : Fin 2816) => (show FVec Ideal S1024x2816 .bf16 from iblk m c 1 t) (ix2 l k)) = fun l k => A3 m c (ix3 (0 : Fin 1) l k) :=
    funext fun l => funext fun k => in1 m c t l k
  have h2 : (fun (l : Fin 1024) (k : Fin 2816) => (show FVec Ideal S1024x2816 .bf16 from iblk m c 2 t) (ix2 l k)) = fun l k => A4 m c (ix3 (0 : Fin 1) l k) :=
    funext fun l => funext fun k => in2 m c t l k
  have h3 : (fun (k : Fin 2816) (l : Fin 1024) => (show FVec Ideal S2816x1024 .bf16 from iblk m c 3 t) (ix2 k l)) = fun k l => A5 m c (ix3 (0 : Fin 1) k l) :=
    funext fun k => funext fun l => in3 m c t k l
  have h4 : (fun l : Fin 1024 => (show FVec Ideal S1x1024 .f32 from iblk m c 4 t) (ix2 (0 : Fin 1) l)) = fun l => A1 m c (ix2 (0 : Fin 1) l) :=
    funext fun l => in4 m c t l
  have h5 : (fun l : Fin 1024 => (show FVec Ideal S1x1024 .f32 from iblk m c 5 t) (ix2 (0 : Fin 1) l)) = fun l => A2 m c (ix2 (0 : Fin 1) l) :=
    funext fun l => in5 m c t l
  have hr := congr (congr (congr (congrArg pre h0) h1) h2) h3
  exact congrFun (congr (congr (congrArg norm hr) h4) h5) j

/-- The result array ends at the result. -/
theorem final_o : (dats m 0 c).arrAt 6 cfg0.N = OUT m c :=
  (dats m 0 c).arrAt_eq_of_cover 6 (OUT m c) (fun t _ => by
    have e : (show FVec Ideal S256x1024 .f32 from out0_6 (F := Ideal) (iblk m c 0 t) (iblk m c 1 t) (iblk m c 2 t) (iblk m c 3 t) (iblk m c 4 t) (iblk m c 5 t))
        = ((cfg0.win 6).blk t).view.read (Elt Ideal) (OUT m c) := by
      funext y
      rw [show y = ix2 (y 0) (y 1) from eq2 _ _ rfl rfl]
      exact (out_apply m c t (y 0) (y 1)).trans (blk6 t (OUT m c) (y 0) (y 1)).symm
    rw [Value.flushed6]
    exact e) cover6

end Cert.FfnIdeal.Block
-- ==== Proof.FfnReference.lean ====
/-
  The plain program of the feed-forward layer, read operation by operation: every row of its result is the row function.
-/
module

public import proofs.«01_k».proof.Proof.FfnRow
public import proofs.«01_k».proof.Proof.Gen.FfnReferenceIdeal
public import proofs.«01_k».proof.Proof.Gen.FfnReferenceIdeal.Run
public import proofs.«01_k».proof.Proof.Gen.FfnReferenceIdeal.Read

@[expose] public section

set_option maxRecDepth 16384

noncomputable section

namespace Cert.FfnReferenceIdeal.Read

open Cert.FfnReferenceIdeal Cert.FfnReferenceIdeal.Gen Cert.FfnRow
open Idealize.ShloMosaic Idealize.ShloMosaic.ValueIdx Idealize.ShloMosaic.StableHlo

variable (x0 : FVec Ideal S2x8192x1024 .f32) (x1 x2 : FVec Ideal S1x1024 .f32) (x3 x4 : FVec Ideal S1x1024x2816 .f32)
  (x5 : FVec Ideal S1x2816x1024 .f32) (b : Fin 2) (s : Fin 8192)

/-- A product with the first weight, and with the second. -/
theorem gate_apply (k : Fin 2816) :
    val_main_v1 (F := Ideal) x0 x3 (ix3 b s k) = ∑ l : Fin 1024, (x0 (ix3 b s l) * x3 (ix3 (0 : Fin 1) l k) : EReal) := by
  rw [val_main_v1_apply]
  refine Finset.sum_congr rfl fun l _ => ?_
  rw [val_main_v0_apply]
  exact congrArg₂ (fun u v : EReal => u * v) (congrArg x0 (eq3 _ _ rfl rfl rfl))
    (congrArg x3 (eq3 _ _ rfl (by show (l.val * 2816 + k.val) / 2816 % 1024 = l.val; omega) (by show (l.val * 2816 + k.val) % 2816 = k.val; omega)))

theorem up_apply (k : Fin 2816) :
    val_main_v4 (F := Ideal) x0 x4 (ix3 b s k) = ∑ l : Fin 1024, (x0 (ix3 b s l) * x4 (ix3 (0 : Fin 1) l k) : EReal) := by
  rw [val_main_v4_apply]
  refine Finset.sum_congr rfl fun l _ => ?_
  rw [val_main_v3_apply]
  exact congrArg₂ (fun u v : EReal => u * v) (congrArg x0 (eq3 _ _ rfl rfl rfl))
    (congrArg x4 (eq3 _ _ rfl (by show (l.val * 2816 + k.val) / 2816 % 1024 = l.val; omega) (by show (l.val * 2816 + k.val) % 2816 = k.val; omega)))

/-- The gate, by the expression of the plain program. -/
theorem silu_apply (k : Fin 2816) :
    val_main_v2 (F := Ideal) x0 x3 (ix3 b s k) = silu (∑ l : Fin 1024, (x0 (ix3 b s l) * x3 (ix3 (0 : Fin 1) l k) : EReal)) := by
  rw [val_main_v2_apply, val_main_call0_v5_apply, val_main_call0_v4_apply, val_main_call0_cst_0_apply, val_main_call0_v3_apply,
    val_main_call0_v2_apply, val_main_call0_cst_apply, val_main_call0_v1_apply, val_main_call0_v0_apply, gate_apply]
  generalize (∑ l : Fin 1024, (x0 (ix3 b s l) * x3 (ix3 (0 : Fin 1) l k) : EReal)) = z
  show z * Ideal.div (Ideal.ofBits .f32 0x3F800000#32) (Ideal.ofBits .f32 0x3F800000#32 + Ideal.exp (-z)) = _
  rw [Ideal.ofBits_one_f32]
  rfl

/-- The row function before the normalisation. -/
abbrev row (b : Fin 2) (s : Fin 8192) : Fin 1024 → EReal :=
  pre (fun l => x0 (ix3 b s l)) (fun l k => x3 (ix3 (0 : Fin 1) l k)) (fun l k => x4 (ix3 (0 : Fin 1) l k)) (fun k l => x5 (ix3 (0 : Fin 1) k l))

theorem pre_apply (j : Fin 1024) : val_main_v12 (F := Ideal) x0 x3 x4 x5 (ix3 b s j) = row x0 x3 x4 x5 b s j := by
  rw [val_main_v12_apply, val_main_v9_apply, val_main_v8_apply, val_main_cst_apply, val_main_v11_apply, val_main_v10_apply, val_main_cst_0_apply,
    val_main_v7_apply]
  refine congrArg (fun z : EReal => Ideal.ofBits .f32 0x3F9837F0#32 * x0 (ix3 b s j) + Ideal.ofBits .f32 0x3F000000#32 * z) ?_
  refine Finset.sum_congr rfl fun k _ => ?_
  refine congrArg₂ (fun u v : EReal => u * v) ?_ ?_
  · rw [show lidx_main_v7 (ix3 b s j) k = ix3 b s k from eq3 _ _ rfl rfl rfl, val_main_v5_apply, silu_apply, up_apply]
    rfl
  · rw [val_main_v6_apply]
    exact congrArg x5 (eq3 _ _ rfl (by show (k.val * 1024 + j.val) / 1024 % 2816 = k.val; omega) (by show (k.val * 1024 + j.val) % 1024 = j.val; omega))

/-- The mean of a row. -/
theorem mean_apply : val_main_v16 (F := Ideal) x0 x3 x4 x5 (ix3 b s (0 : Fin 1)) = mean (row x0 x3 x4 x5 b s) := by
  rw [val_main_v16_apply, val_main_v15_apply, val_main_cst_2_apply, val_main_v14_apply, val_main_v13_apply, val_main_cst_1_apply]
  have e : ∀ k : Fin 1024, val_main_v12 (F := Ideal) x0 x3 x4 x5 (idx_main_v13 (idx_main_v14 (ix3 b s (0 : Fin 1))) k) = row x0 x3 x4 x5 b s k := fun k => by
    rw [show idx_main_v13 (idx_main_v14 (ix3 b s (0 : Fin 1))) k = ix3 b s k from eq3 _ _ rfl rfl rfl, pre_apply]
  rw [Finset.sum_congr rfl fun k _ => e k]
  show Ideal.div (Ideal.ofBits .f32 0x00000000#32 + _) _ = _
  rw [Ideal.ofBits_zero_f32, zero_add]
  rfl

theorem centred_apply (j : Fin 1024) : val_main_v18 (F := Ideal) x0 x3 x4 x5 (ix3 b s j) = centred (row x0 x3 x4 x5 b s) j := by
  rw [val_main_v18_apply, val_main_v17_apply, pre_apply, show idx_main_v17 (ix3 b s j) = ix3 b s (0 : Fin 1) from eq3 _ _ rfl rfl rfl, mean_apply]
  rfl

theorem centred_again (j : Fin 1024) : val_main_v25 (F := Ideal) x0 x3 x4 x5 (ix3 b s j) = centred (row x0 x3 x4 x5 b s) j := by
  rw [val_main_v25_apply, val_main_v24_apply, pre_apply, show idx_main_v24 (ix3 b s j) = ix3 b s (0 : Fin 1) from eq3 _ _ rfl rfl rfl, mean_apply]
  rfl

/-- The variance of a row. -/
theorem var_apply : val_main_v23 (F := Ideal) x0 x3 x4 x5 (ix3 b s (0 : Fin 1))
    = mean (fun k => centred (row x0 x3 x4 x5 b s) k * centred (row x0 x3 x4 x5 b s) k) := by
  rw [val_main_v23_apply, val_main_v22_apply, val_main_cst_4_apply, val_main_v21_apply, val_main_v20_apply, val_main_cst_3_apply]
  have e : ∀ k : Fin 1024, val_main_v19 (F := Ideal) x0 x3 x4 x5 (idx_main_v20 (idx_main_v21 (ix3 b s (0 : Fin 1))) k)
      = centred (row x0 x3 x4 x5 b s) k * centred (row x0 x3 x4 x5 b s) k := fun k => by
    rw [show idx_main_v20 (idx_main_v21 (ix3 b s (0 : Fin 1))) k = ix3 b s k from eq3 _ _ rfl rfl rfl, val_main_v19_apply, centred_apply]
    rfl
  rw [Finset.sum_congr rfl fun k _ => e k]
  show Ideal.div (Ideal.ofBits .f32 0x00000000#32 + _) _ = _
  rw [Ideal.ofBits_zero_f32, zero_add]
  rfl

theorem scale_apply (j : Fin 1024) : val_main_v33 (F := Ideal) x1 (ix3 b s j) = x1 (ix2 (0 : Fin 1) j) := by
  rw [val_main_v33_apply, val_main_v32_apply, val_main_v31_apply]
  exact congrArg x1 (eq2 _ _ rfl (Nat.mod_eq_of_lt j.isLt))

theorem shift_apply (j : Fin 1024) : val_main_v37 (F := Ideal) x2 (ix3 b s j) = x2 (ix2 (0 : Fin 1) j) := by
  rw [val_main_v37_apply, val_main_v36_apply, val_main_v35_apply]
  exact congrArg x2 (eq2 _ _ rfl (Nat.mod_eq_of_lt j.isLt))

theorem norm_apply (j : Fin 1024) : val_main_v38 (F := Ideal) x0 x1 x2 x3 x4 x5 (ix3 b s j)
    = norm (row x0 x3 x4 x5 b s) (fun l => x1 (ix2 (0 : Fin 1) l)) (fun l => x2 (ix2 (0 : Fin 1) l)) j := by
  rw [val_main_v38_apply, val_main_v34_apply, val_main_v30_apply, centred_again, scale_apply, shift_apply, val_main_v29_apply,
    show idx_main_v29 (ix3 b s j) = ix3 b s (0 : Fin 1) from eq3 _ _ rfl rfl rfl, val_main_v28_apply, val_main_v27_apply, var_apply,
    val_main_v26_apply, val_main_cst_5_apply]
  rfl

/-- The plain program's result. -/
theorem out_apply (r : Fin 16384) (j : Fin 1024) : val_main_v39 (F := Ideal) x0 x1 x2 x3 x4 x5 (ix2 r j) = result x0 x1 x2 x3 x4 x5 r j := by
  rw [val_main_v39_apply, show idx_main_v39 (ix2 r j) = ix3 (batch r) (place r) j from
    eq3 _ _ (by show (r.val * 1024 + j.val) / 8388608 = r.val / 8192; omega) (by show (r.val * 1024 + j.val) / 1024 % 8192 = r.val % 8192; omega)
      (by show (r.val * 1024 + j.val) % 1024 = j.val; omega), norm_apply]
  rfl

end Cert.FfnReferenceIdeal.Read
-- ==== Proof.Ffn.lean ====
/-
  The feed-forward call: both programs leave the layer's result, whatever the arguments hold.
-/
module

public import proofs.«01_k».proof.Defs
public import proofs.«01_k».proof.Proof.FfnKernel
public import proofs.«01_k».proof.Proof.FfnReference
public import proofs.«01_k».proof.Proof.Gen.Ffn
public import proofs.«01_k».proof.Proof.Gen.Ffn.Frame

@[expose] public section

noncomputable section

namespace Cert.FfnIdeal.Block

open Idealize.ShloMosaic Idealize.ShloMosaic.TcCoe Idealize.ShloMosaic.ValueIdx Idealize.SL.Sem

/-- The plain program ends with its arguments as they were; it has no counters. -/
theorem frame_reference : Cert.quiescent_FfnReferenceIdeal (hFfnReferenceIdeal := Cert.FfnReferenceIdeal.Gen.facts) := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The tiled program leaves the layer's result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_o m c), (h c).2⟩) (Value.run_blocks m ρ)

/-- The two programs leave one result. -/
theorem algebraic : Cert.algebraic_FfnIdeal_FfnReferenceIdeal (hFfnIdeal := Cert.FfnIdeal.Gen.facts)
    (hFfnReferenceIdeal := Cert.FfnReferenceIdeal.Gen.facts) := by
  intro m g m' g' _ heq
  refine ⟨_, run m g, ?_⟩
  refine (θ_run Cert.FfnReferenceIdeal.defs _ _).mono (fun r h c => ⟨?_, (h c).2⟩) (Cert.FfnReferenceIdeal.Value.run (F := Ideal) m' g')
  obtain ⟨e0, e1, e2, e3, e4, e5⟩ := heq c
  refine ((h c).1.trans (Cert.FfnReferenceIdeal.Read.val_main_v39_eq m' c)).trans ?_
  rw [e0, e1, e2, e3, e4, e5]
  funext i
  rw [show i = ix2 (i 0) (i 1) from FfnRow.eq2 _ _ rfl rfl]
  exact Cert.FfnReferenceIdeal.Read.out_apply _ _ _ _ _ _ (i 0) (i 1)

end Cert.FfnIdeal.Block
-- ==== Proof.ProjRow.lean ====
/-
  The combined input projection as functions of a row and the weights: seven sections of one product, the gate of two of them,
  and the order in which the results are laid out.
-/
module

public import proofs.«01_k».proof.Proof.FfnRow

@[expose] public section

noncomputable section

namespace Cert.ProjRow

open Cert.FfnRow
open Idealize.ShloMosaic Idealize.ShloMosaic.ValueIdx

/-- A column of a section. -/
def col (p : Fin 7) (j : Fin 1024) : Fin 7168 := ⟨p.val * 1024 + j.val, by omega⟩

/-- A section of a row's product with the weights. -/
def part (x : Fin 1024 → EReal) (w : Fin 1024 → Fin 7168 → EReal) (p : Fin 7) (j : Fin 1024) : EReal := ∑ l : Fin 1024, x l * w l (col p j)

/-- The gate by the error function. -/
def gelu (u : EReal) : EReal :=
  Ideal.ofBits .f32 0x3F000000#32 * u * (Ideal.ofBits .f32 0x3F800000#32 + Ideal.erf (u * Ideal.ofBits .f32 0x3F3504F3#32))

/-- What a query is multiplied by. -/
def scale : EReal := (((1 / 8) * (Real.log 2)⁻¹ : ℝ) : EReal)

/-- The column of a head and a place in it. -/
def cell (a : Fin 8) (b : Fin 128) : Fin 1024 := ⟨a.val * 128 + b.val, by omega⟩

/-- The row of a batch, a tile and a place in it. -/
def tileRow (b : Fin 2) (u : Fin 32) (r : Fin 256) : Fin 16384 := ⟨(b.val * 32 + u.val) * 256 + r.val, by omega⟩

/-- A section by the arrays' rows, one batch after the other. -/
def sect (h : FVec Ideal ⟨3, ![2, 8192, 1024]⟩ .f32) (w : FVec Ideal ⟨3, ![1, 1024, 7168]⟩ .f32) (r : Fin 16384) (p : Fin 7) : Fin 1024 → EReal :=
  part (fun l => h (ix3 (batch r) (place r) l)) (fun l k => w (ix3 (0 : Fin 1) l k)) p

/-! ## The results -/

section Results

variable (h : FVec Ideal ⟨3, ![2, 8192, 1024]⟩ .f32) (w : FVec Ideal ⟨3, ![1, 1024, 7168]⟩ .f32) (g b : FVec Ideal ⟨2, ![1, 1024]⟩ .f32)

/-- A section by head. -/
def heads (p : Fin 7) : FVec Ideal ⟨3, ![16384, 8, 128]⟩ .f32 := fun i => sect h w (i 0) p (cell (i 1) (i 2))
/-- The scaled queries by tile, and the values by tile: columns before rows. -/
def queries : FVec Ideal ⟨4, ![2, 32, 1024, 256]⟩ .bf16 := fun i => sect h w (tileRow (i 0) (i 1) (i 3)) 0 (i 2) * scale
def values : FVec Ideal ⟨4, ![2, 32, 1024, 256]⟩ .bf16 := fun i => sect h w (tileRow (i 0) (i 1) (i 3)) 2 (i 2)
/-- The keys by row. -/
def keys : FVec Ideal ⟨2, ![16384, 1024]⟩ .bf16 := fun i => sect h w (i 0) 1 (i 1)
/-- The gated section, the normalised one, and the two logistic ones, by row. -/
def gated : FVec Ideal ⟨2, ![16384, 1024]⟩ .f32 := fun i => gelu (sect h w (i 0) 3 (i 1))
def normed : FVec Ideal ⟨2, ![16384, 1024]⟩ .f32 := fun i =>
  norm (fun k => gelu (sect h w (i 0) 4 k)) (fun l => g (ix2 (0 : Fin 1) l)) (fun l => b (ix2 (0 : Fin 1) l)) (i 1)
def gates (p : Fin 7) : FVec Ideal ⟨2, ![16384, 1024]⟩ .f32 := fun i => Ideal.logistic (sect h w (i 0) p (i 1))

end Results

theorem eq4 {a b c d : ℕ} (i j : (⟨4, ![a, b, c, d]⟩ : Shape).Idx) (h0 : (i 0).val = (j 0).val) (h1 : (i 1).val = (j 1).val)
    (h2 : (i 2).val = (j 2).val) (h3 : (i 3).val = (j 3).val) : i = j :=
  funext fun x => match x with
  | ⟨0, _⟩ => Fin.ext h0
  | ⟨1, _⟩ => Fin.ext h1
  | ⟨2, _⟩ => Fin.ext h2
  | ⟨3, _⟩ => Fin.ext h3

/-! ## Constants -/

/-- Dividing an eighth of a value by the logarithm of two scales it, at the infinities also. -/
theorem scale_eq (x : EReal) :
    Ideal.div (x * Ideal.ofBits .f32 0x3E000000#32) (Ideal.log (Ideal.ofBits .f32 0x40000000#32)) = x * scale := by
  have e8 : Ideal.ofBits .f32 0x3E000000#32 = ((1 / 8 : ℝ) : EReal) := by
    simp [Ideal.ofBits, Ideal.ieee, -EReal.coe_mul]
    norm_num
  have e2 : Ideal.ofBits .f32 0x40000000#32 = ((2 : ℝ) : EReal) := by
    simp [Ideal.ofBits, Ideal.ieee, -EReal.coe_mul] <;> norm_num
  have el : Ideal.log ((2 : ℝ) : EReal) = ((Real.log 2 : ℝ) : EReal) := by
    show (if (2 : ℝ) ≤ 0 then (⊥ : EReal) else ((Real.log 2 : ℝ) : EReal)) = _
    rw [if_neg (by norm_num)]
  have hne : ((Real.log 2 : ℝ) : EReal) ≠ 0 := fun h => (Real.log_pos (by norm_num : (1 : ℝ) < 2)).ne' (EReal.coe_eq_zero.1 h)
  rw [e8, e2, el, Ideal.div, if_neg hne, mul_assoc, ← EReal.coe_inv, ← EReal.coe_mul]
  rfl

/-- The gate by the complementary error function of the negated argument. -/
theorem gelu_eq (u : EReal) :
    Ideal.ofBits .f32 0x3F000000#32 * u * Ideal.erfc (-u * Ideal.ofBits .f32 0x3F3504F3#32) = gelu u := by
  rw [gelu, neg_mul, Ideal.erfc_neg, Ideal.ofBits_one_f32]

end Cert.ProjRow
-- ==== Proof.ProjKernel.lean ====
/-
  The tiled program of the input projection: what a step computes from its block of rows and the weights, read at an element.
-/
module

public import proofs.«01_k».proof.Proof.ProjRow
public import proofs.«01_k».proof.Proof.FfnKernel
public import proofs.«01_k».proof.Proof.Gen.ProjIdeal
public import proofs.«01_k».proof.Proof.Gen.ProjIdeal.Frame
public import Idealize.ShloMosaic.Lib.Pipeline.Value
public import Idealize.ShloMosaic.Lib.StableHlo.RunRead

@[expose] public section

set_option maxRecDepth 16384

noncomputable section

namespace Cert.ProjIdeal.Block

open Cert.ProjIdeal Cert.ProjIdeal.Gen Cert.FfnRow Cert.ProjRow
open Idealize.ShloMosaic Idealize.ShloMosaic.TcCoe Idealize.ShloMosaic.ValueIdx Idealize.ShloMosaic.StableHlo

/-! ## The payloads over a block of rows and a block of weights -/

section Payload

variable (X : FVec Ideal S256x1024 .f32) (W : FVec Ideal S1024x1024 .bf16)

/-- The product of a block of rows with a block of weights. -/
def prod : FVec Ideal S256x1024 .f32 :=
  matmul (DotDims.plain 256 1024 1024) none (truncf .bf16 X bitsLt_bf16_f32) W (constant S256x1024 .f32 0x00000000#32)

theorem prod_apply (r : Fin 256) (j : Fin 1024) : prod X W (ix2 r j) = ∑ l : Fin 1024, (X (ix2 r l) * W (ix2 l j) : EReal) :=
  matmul_sum (truncf (F := Ideal) .bf16 X bitsLt_bf16_f32) W r j

theorem pay5_eq : k0_pay5 (F := Ideal) X W = prod X W := by
  unfold k0_pay5 k0_pay4
  simp only [shapeCast_self]
  rfl
theorem pay6_eq : k0_pay6 (F := Ideal) X W = prod X W := by
  unfold k0_pay6 k0_pay4
  simp only [shapeCast_self]
  rfl

/-- Rows re-laid by head, and columns before rows. -/
theorem heads_apply (x : FVec Ideal S256x1024 .f32) (h : S256x1024.ShapeCasts S256x8x128) (r : Fin 256) (a : Fin 8) (b : Fin 128) :
    shapeCast S256x8x128 x h (ix3 r a b) = x (ix2 r (cell a b)) :=
  shapeCast_apply _ _ (ix3 r a b) (ix2 r (cell a b)) (by
    rw [Shape.rowMajor_val_two, Shape.rowMajor_val_three]
    show r.val * 1024 + (a.val * 128 + b.val) = (r.val * 8 + a.val) * 128 + b.val
    omega)
theorem turned_apply (x : FVec Ideal S256x1024 .f32) (h : S256x1024.Transposes [1, 0] S1024x256) (h' : S1024x256.ShapeCasts S1x1x1024x256)
    (r : Fin 256) (j : Fin 1024) :
    shapeCast S1x1x1024x256 (truncf (F := Ideal) .bf16 (transpose S1024x256 [1, 0] x h) bitsLt_bf16_f32) h' (ix4 (0 : Fin 1) (0 : Fin 1) j r) = x (ix2 r j) := by
  refine (shapeCast_apply _ _ (ix4 (0 : Fin 1) (0 : Fin 1) j r) (ix2 j r) (by
    rw [Shape.rowMajor_val_two, Shape.rowMajor_val_four]
    show j.val * 256 + r.val = ((0 * 1 + 0) * 1024 + j.val) * 256 + r.val
    omega)).trans ?_
  exact transpose_apply [1, 0] _ _ (ix2 j r) (ix2 r j) (fun b => match b with | ⟨0, _⟩ => rfl | ⟨1, _⟩ => rfl)

theorem pay7_eq : k0_pay7 (F := Ideal) X W = shapeCast S1x1x1024x256 (truncf .bf16 (transpose S1024x256 [1, 0]
    (mulf (prod X W) (broadcast S256x1024 (Named.named κ "q_prescale" 0x3E38AA3B#32))) transposes_S256x1024_p1_0_S1024x256) bitsLt_bf16_f32)
    shapeCasts_S1024x256_S1x1x1024x256 := by
  unfold k0_pay7 k0_pay4
  simp only [shapeCast_self]
  rfl

theorem pay7_apply (r : Fin 256) (j : Fin 1024) : k0_pay7 (F := Ideal) X W (ix4 (0 : Fin 1) (0 : Fin 1) j r) = (prod X W (ix2 r j) * scale : EReal) := by
  rw [pay7_eq, turned_apply]
  exact congrArg (fun s : EReal => (prod X W (ix2 r j) * s : EReal)) (IdealRules.named_const.ideal_named_scalar _ _ _ _ rfl)
theorem pay9_apply (r : Fin 256) (j : Fin 1024) : k0_pay9 (F := Ideal) X W (ix4 (0 : Fin 1) (0 : Fin 1) j r) = prod X W (ix2 r j) := by
  unfold k0_pay9
  rw [pay6_eq]
  exact turned_apply _ _ _ r j
theorem pay8_apply (r : Fin 256) (j : Fin 1024) : k0_pay8 (F := Ideal) X W (ix2 r j) = prod X W (ix2 r j) := congrFun (pay5_eq X W) (ix2 r j)
theorem pay10_apply (r : Fin 256) (a : Fin 8) (b : Fin 128) : k0_pay10 (F := Ideal) X W (ix3 r a b) = prod X W (ix2 r (cell a b)) := by
  unfold k0_pay10
  rw [pay5_eq]
  exact heads_apply _ _ r a b
theorem pay11_apply (r : Fin 256) (a : Fin 8) (b : Fin 128) : k0_pay11 (F := Ideal) X W (ix3 r a b) = prod X W (ix2 r (cell a b)) := by
  unfold k0_pay11
  rw [pay6_eq]
  exact heads_apply _ _ r a b

/-- The gate of a product. -/
def gate : FVec Ideal S256x1024 .f32 :=
  mulf (mulf (broadcast S256x1024 (Scalar.ofBits (F := Ideal) .f32 0x3F000000#32)) (prod X W))
    (addf (broadcast S256x1024 (Scalar.ofBits (F := Ideal) .f32 0x3F800000#32))
      (erf (mulf (prod X W) (broadcast S256x1024 (Scalar.ofBits (F := Ideal) .f32 0x3F3504F3#32)))))

theorem gate_apply (r : Fin 256) (j : Fin 1024) : gate X W (ix2 r j) = gelu (prod X W (ix2 r j)) := rfl

theorem pay12_eq : k0_pay12 (F := Ideal) (k0_pay4 X) W = gate X W := by
  unfold k0_pay12 k0_pay4
  simp only [shapeCast_self]
  rfl
theorem pay2_eq : k0_pay2 (F := Ideal) (k0_pay4 X) W = logistic (prod X W) := by
  unfold k0_pay2 k0_pay4
  simp only [shapeCast_self]
  rfl
theorem pay3_eq : k0_pay3 (F := Ideal) (k0_pay4 X) W = logistic (prod X W) := by
  unfold k0_pay3 k0_pay4
  simp only [shapeCast_self]
  rfl

theorem pay15_eq : k0_pay15 (F := Ideal) (k0_pay4 X) W = subf (gate X W) (broadcastTo S256x1024 (divf (shapeCast S256x1
    (multiReduction .add [1] S256 (gate X W) 0x00000000#32 reduces_S256x1024_S256 (.inl rfl) rfl) shapeCasts_S256_S256x1)
    (broadcast S256x1 (Scalar.ofBits (F := Ideal) .f32 0x44800000#32))) broadcasts_S256x1_S256x1024) := by
  unfold k0_pay15 k0_pay4
  simp only [shapeCast_self]
  rfl

/-- A column repeated along the rows. -/
theorem spread_apply (x : FVec Ideal S256x1 .f32) (h : S256x1.Broadcasts S256x1024) (r : Fin 256) (j : Fin 1024) :
    broadcastTo S256x1024 x h (ix2 r j) = x (ix2 r (0 : Fin 1)) :=
  broadcastTo_apply _ _ (ix2 r j) (ix2 r (0 : Fin 1)) (fun a => match a with
    | ⟨0, _⟩ => by show r.val = (if (256 : ℕ) = 1 then 0 else r.val); rw [if_neg (by decide)]
    | ⟨1, _⟩ => by show 0 = (if (1 : ℕ) = 1 then 0 else j.val); rw [if_pos rfl])
/-- A row repeated. -/
theorem repeat_apply (x : FVec Ideal S1x1024 .f32) (h : S1x1024.Broadcasts S256x1024) (r : Fin 256) (j : Fin 1024) :
    broadcastTo S256x1024 x h (ix2 r j) = x (ix2 (0 : Fin 1) j) :=
  broadcastTo_apply _ _ (ix2 r j) (ix2 (0 : Fin 1) j) (fun a => match a with
    | ⟨0, _⟩ => by show 0 = (if (1 : ℕ) = 1 then 0 else r.val); rw [if_pos rfl]
    | ⟨1, _⟩ => by show j.val = (if (1024 : ℕ) = 1 then 0 else j.val); rw [if_neg (by decide)])
/-- The row sums as a column. -/
theorem total_apply (x : FVec Ideal S256x1024 .f32) (h : S256x1024.Reduces [1] S256) (h0 : FKind.Formats .f32)
    (h1 : (0x00000000#32 : BitVec FTy.f32.bits) = FKind.add.neutral .f32 h0) (h' : S256.ShapeCasts S256x1) (r : Fin 256) :
    shapeCast S256x1 (multiReduction .add [1] S256 x 0x00000000#32 h h0 h1) h' (ix2 r (0 : Fin 1)) = ∑ k : Fin 1024, (x (ix2 r k) : EReal) := by
  rw [shapeCast_apply _ _ (ix2 r (0 : Fin 1)) (ix1 r) (by rw [Shape.rowMajor_val_one, Shape.rowMajor_val_two]; show r.val = r.val * 1 + 0; omega)]
  exact row_total x _ _ _ r

/-- A gated row. -/
abbrev grow (r : Fin 256) : Fin 1024 → EReal := fun k => gelu (prod X W (ix2 r k))

theorem pay15_apply (r : Fin 256) (j : Fin 1024) : k0_pay15 (F := Ideal) (k0_pay4 X) W (ix2 r j) = centred (grow X W r) j := by
  rw [pay15_eq]
  refine congrArg (fun u : EReal => gelu (prod X W (ix2 r j)) - u) ?_
  rw [spread_apply]
  exact congrArg (fun u : EReal => Ideal.div u (Ideal.ofBits .f32 0x44800000#32)) (total_apply (gate X W) _ _ _ _ r)
theorem pay16_apply (r : Fin 256) (j : Fin 1024) : k0_pay16 (F := Ideal) (k0_pay4 X) W (ix2 r j) = (centred (grow X W r) j * centred (grow X W r) j : EReal) :=
  congrArg₂ (fun u v : EReal => u * v) (pay15_apply X W r j) (pay15_apply X W r j)

/-- What the normalisation leaves of a centred block and its square. -/
theorem pay1_apply (G B : FVec Ideal S1x1024 .f32) (r : Fin 256) (j : Fin 1024) :
    k0_pay1 (F := Ideal) (k0_pay13 G) (k0_pay14 (F := Ideal) B) (k0_pay15 (F := Ideal) (k0_pay4 X) W) (k0_pay16 (F := Ideal) (k0_pay4 X) W) (ix2 r j)
      = norm (grow X W r) (fun l => G (ix2 (0 : Fin 1) l)) (fun l => B (ix2 (0 : Fin 1) l)) j := by
  unfold k0_pay1 k0_pay13 k0_pay14
  simp only [shapeCast_self]
  have e1 := repeat_apply G broadcasts_S1x1024_S256x1024 r j
  have e2 := repeat_apply B broadcasts_S1x1024_S256x1024 r j
  have e3 := (total_apply (k0_pay16 (F := Ideal) (k0_pay4 X) W) reduces_S256x1024_S256 (.inl rfl) rfl shapeCasts_S256_S256x1 r).trans
    (Finset.sum_congr rfl fun k _ => pay16_apply X W r k)
  refine congrArg₂ (fun u v : EReal => u + v) (congrArg₂ (fun u v : EReal => u * v) (congrArg₂ (fun u v : EReal => u * v) (pay15_apply X W r j) ?_) e1) e2
  refine (spread_apply _ _ r j).trans ?_
  exact congrArg (fun u : EReal => Ideal.rsqrt (Ideal.div u (Ideal.ofBits .f32 0x44800000#32) + Ideal.ofBits .f32 0x3727C5AC#32)) e3

end Payload

/-! ## A step's blocks -/

/-- A block written whole is what was written. -/
theorem canon_rows (P : FVec Ideal S256x1024 .f32) (y : S256x1024.Idx) :
    View.canon (Val := Elt Ideal) (e := .f32) [⟨r0_0, P⟩] y = P y := by
  refine View.canon_apply_of_pieces (Val := Elt Ideal) (e := .f32) P _ ?_ y (cover0_9 (F := Ideal) P y)
  intro pc hpc
  rcases List.mem_cons.mp hpc with rfl | hpc
  · exact fun x => congrArg P (eq2 _ _ (by show (x 0).val = 0 + 1 * (x 0).val; omega) (by show (x 1).val = 0 + 1 * (x 1).val; omega))
  nomatch hpc
theorem canon_rows_half (P : FVec Ideal S256x1024 .bf16) (y : S256x1024.Idx) :
    View.canon (Val := Elt Ideal) (e := .bf16) [⟨r0_0, P⟩] y = P y := by
  refine View.canon_apply_of_pieces (Val := Elt Ideal) (e := .bf16) P _ ?_ y (cover0_7 (F := Ideal) P y)
  intro pc hpc
  rcases List.mem_cons.mp hpc with rfl | hpc
  · exact fun x => congrArg P (eq2 _ _ (by show (x 0).val = 0 + 1 * (x 0).val; omega) (by show (x 1).val = 0 + 1 * (x 1).val; omega))
  nomatch hpc
theorem canon_heads (P : FVec Ideal S256x8x128 .f32) (y : S256x8x128.Idx) :
    View.canon (Val := Elt Ideal) (e := .f32) [⟨r0_5, P⟩] y = P y := by
  refine View.canon_apply_of_pieces (Val := Elt Ideal) (e := .f32) P _ ?_ y (cover0_4 (F := Ideal) P y)
  intro pc hpc
  rcases List.mem_cons.mp hpc with rfl | hpc
  · exact fun x => congrArg P (eq3 _ _ (by show (x 0).val = 0 + 1 * (x 0).val; omega) (by show (x 1).val = 0 + 1 * (x 1).val; omega)
      (by show (x 2).val = 0 + 1 * (x 2).val; omega))
  nomatch hpc
theorem canon_tiles (P : FVec Ideal S1x1x1024x256 .bf16) (y : S1x1x1024x256.Idx) :
    View.canon (Val := Elt Ideal) (e := .bf16) [⟨r0_4, P⟩] y = P y := by
  refine View.canon_apply_of_pieces (Val := Elt Ideal) (e := .bf16) P _ ?_ y (cover0_6 (F := Ideal) P y)
  intro pc hpc
  rcases List.mem_cons.mp hpc with rfl | hpc
  · exact fun x => congrArg P (eq4 _ _ (by show (x 0).val = 0 + 1 * (x 0).val; omega) (by show (x 1).val = 0 + 1 * (x 1).val; omega)
      (by show (x 2).val = 0 + 1 * (x 2).val; omega) (by show (x 3).val = 0 + 1 * (x 3).val; omega))
  nomatch hpc

section Step

variable (P0 : FVec Ideal S256x1024 .f32) (P1 : FVec Ideal S1024x7168 .bf16) (P2 P3 : FVec Ideal S1x1024 .f32)

/-- A section of a row of a block. -/
abbrev secB (r : Fin 256) (p : Fin 7) : Fin 1024 → EReal := part (fun l => P0 (ix2 r l)) (fun l k => P1 (ix2 l k)) p

/-- A load of a section's columns. -/
theorem ld_cols (o : ℕ) (inb : ∀ x, (![0, o] : Fin 2 → ℕ) x + S1024x1024.size x ≤ S1024x7168.size x) (p : Fin 7) (ho : o = p.val * 1024)
    (l j : Fin 1024) :
    (show FVec Ideal S1024x1024 .bf16 from View.ld (Val := Elt Ideal) (S := S1024x7168) (e' := .bf16) P1 (Rect.unit (s := S1024x7168) ![0, o] S1024x1024.size inb))
      (ix2 l j) = P1 (ix2 l (col p j)) :=
  congrArg P1 (eq2 _ _ (by show 0 + 1 * l.val = l.val; omega) (by show o + 1 * j.val = p.val * 1024 + j.val; omega))

/-- The product of a step's rows with a section's columns. -/
theorem prod_ld (o : ℕ) (inb : ∀ x, (![0, o] : Fin 2 → ℕ) x + S1024x1024.size x ≤ S1024x7168.size x) (p : Fin 7) (ho : o = p.val * 1024)
    (r : Fin 256) (j : Fin 1024) :
    prod (show FVec Ideal S256x1024 .f32 from View.ld (Val := Elt Ideal) (S := S256x1024) (e' := .f32) P0 r0_0)
      (show FVec Ideal S1024x1024 .bf16 from View.ld (Val := Elt Ideal) (S := S1024x7168) (e' := .bf16) P1 (Rect.unit (s := S1024x7168) ![0, o] S1024x1024.size inb))
      (ix2 r j) = secB P0 P1 r p j :=
  (prod_apply _ _ r j).trans (Finset.sum_congr rfl fun l _ => congrArg₂ (fun u v : EReal => u * v)
    (congrFun (Cert.FfnIdeal.Block.load_whole (e := .f32) P0 inb_S256x1024_S256x1024_0_0) (ix2 r l)) (ld_cols P1 o inb p ho l j))

theorem step4 (r : Fin 256) (a : Fin 8) (b : Fin 128) : out0_4 (F := Ideal) P0 P1 P2 P3 (ix3 r a b) = secB P0 P1 r 1 (cell a b) :=
  (canon_heads _ _).trans ((pay10_apply _ _ r a b).trans (prod_ld P0 P1 1024 inb_S1024x7168_S1024x1024_0_1024 1 rfl r _))
theorem step5 (r : Fin 256) (a : Fin 8) (b : Fin 128) : out0_5 (F := Ideal) P0 P1 P2 P3 (ix3 r a b) = secB P0 P1 r 2 (cell a b) :=
  (canon_heads _ _).trans ((pay11_apply _ _ r a b).trans (prod_ld P0 P1 2048 inb_S1024x7168_S1024x1024_0_2048 2 rfl r _))
theorem step6 (r : Fin 256) (j : Fin 1024) : out0_6 (F := Ideal) P0 P1 P2 P3 (ix4 (0 : Fin 1) (0 : Fin 1) j r) = (secB P0 P1 r 0 j * scale : EReal) :=
  (canon_tiles _ _).trans ((pay7_apply _ _ r j).trans
    (congrArg (fun u : EReal => u * scale) (prod_ld P0 P1 0 inb_S1024x7168_S1024x1024_0_0 0 rfl r j)))
theorem step7 (r : Fin 256) (j : Fin 1024) : out0_7 (F := Ideal) P0 P1 P2 P3 (ix2 r j) = secB P0 P1 r 1 j :=
  (canon_rows_half _ _).trans ((pay8_apply _ _ r j).trans (prod_ld P0 P1 1024 inb_S1024x7168_S1024x1024_0_1024 1 rfl r j))
theorem step8 (r : Fin 256) (j : Fin 1024) : out0_8 (F := Ideal) P0 P1 P2 P3 (ix4 (0 : Fin 1) (0 : Fin 1) j r) = secB P0 P1 r 2 j :=
  (canon_tiles _ _).trans ((pay9_apply _ _ r j).trans (prod_ld P0 P1 2048 inb_S1024x7168_S1024x1024_0_2048 2 rfl r j))
theorem step9 (r : Fin 256) (j : Fin 1024) : out0_9 (F := Ideal) P0 P1 P2 P3 (ix2 r j) = gelu (secB P0 P1 r 3 j) :=
  (canon_rows _ _).trans ((congrFun (pay12_eq _ _) (ix2 r j)).trans
    (congrArg gelu (prod_ld P0 P1 3072 inb_S1024x7168_S1024x1024_0_3072 3 rfl r j)))
theorem step10 (r : Fin 256) (j : Fin 1024) : out0_10 (F := Ideal) P0 P1 P2 P3 (ix2 r j)
    = norm (fun k => gelu (secB P0 P1 r 4 k)) (fun l => P2 (ix2 (0 : Fin 1) l)) (fun l => P3 (ix2 (0 : Fin 1) l)) j := by
  refine (canon_rows _ _).trans ((pay1_apply _ _ _ _ r j).trans ?_)
  have e := funext fun k => congrArg gelu (prod_ld P0 P1 4096 inb_S1024x7168_S1024x1024_0_4096 4 rfl r k)
  have e2 := Cert.FfnIdeal.Block.load_whole (e := .f32) P2 inb_S1x1024_S1x1024_0_0
  have e3 := Cert.FfnIdeal.Block.load_whole (e := .f32) P3 inb_S1x1024_S1x1024_0_0
  exact congrFun (congr (congr (congrArg norm e) (funext fun l => congrFun e2 (ix2 (0 : Fin 1) l))) (funext fun l => congrFun e3 (ix2 (0 : Fin 1) l))) j
theorem step11 (r : Fin 256) (j : Fin 1024) : out0_11 (F := Ideal) P0 P1 P2 P3 (ix2 r j) = Ideal.logistic (secB P0 P1 r 5 j) :=
  (canon_rows _ _).trans ((congrFun (pay2_eq _ _) (ix2 r j)).trans
    (congrArg Ideal.logistic (prod_ld P0 P1 5120 inb_S1024x7168_S1024x1024_0_5120 5 rfl r j)))
theorem step12 (r : Fin 256) (j : Fin 1024) : out0_12 (F := Ideal) P0 P1 P2 P3 (ix2 r j) = Ideal.logistic (secB P0 P1 r 6 j) :=
  (canon_rows _ _).trans ((congrFun (pay3_eq _ _) (ix2 r j)).trans
    (congrArg Ideal.logistic (prod_ld P0 P1 6144 inb_S1024x7168_S1024x1024_0_6144 6 rfl r j)))

end Step

end Cert.ProjIdeal.Block
-- ==== Proof.ProjBlocks.lean ====
/-
  The tiled program of the input projection: the blocks its steps are handed, and the arrays its steps leave.
-/
module

public import proofs.«01_k».proof.Proof.ProjKernel

@[expose] public section

set_option maxRecDepth 16384

noncomputable section

namespace Cert.ProjIdeal.Block

open Cert.ProjIdeal Cert.ProjIdeal.Gen Cert.FfnRow Cert.ProjRow
open Idealize.ShloMosaic Idealize.ShloMosaic.TcCoe Idealize.ShloMosaic.ValueIdx Idealize.ShloMosaic.StableHlo
open Idealize.ShloMosaic.Pipeline (Dat)

variable (m : (ℓ : Loc nD τ sig) → Buf (Elt Ideal) ℓ) (c : Dev nD)

abbrev A0 : FVec Ideal S2x8192x1024 .f32 := m ((c : Thread nD τ).loc main_arg0)
abbrev A1 : FVec Ideal S1x1024x7168 .f32 := m ((c : Thread nD τ).loc main_arg1)
abbrev A2 : FVec Ideal S1x1024 .f32 := m ((c : Thread nD τ).loc main_arg2)
abbrev A3 : FVec Ideal S1x1024 .f32 := m ((c : Thread nD τ).loc main_arg3)

theorem V_x : (V m c main_v4 : FVec Ideal S16384x1024 .f32) = shapeCast S16384x1024 (A0 m c) shapeCasts_S2x8192x1024_S16384x1024 := by
  after_reads_simp
  rfl
theorem V_w : (V m c main_v6 : FVec Ideal S1024x7168 .bf16) = truncf .bf16 (shapeCast S1024x7168 (A1 m c) shapeCasts_S1x1024x7168_S1024x7168) bitsLt_bf16_f32 := by
  after_reads_simp
  rfl
theorem V_g : (V m c main_v1 : FVec Ideal S1x1024 .f32) = shapeCast S1x1024 (shapeCast S1024 (A2 m c) shapeCasts_S1x1024_S1024) shapeCasts_S1024_S1x1024 := by
  after_reads_simp
  rfl
theorem V_b : (V m c main_v3 : FVec Ideal S1x1024 .f32) = shapeCast S1x1024 (shapeCast S1024 (A3 m c) shapeCasts_S1x1024_S1024) shapeCasts_S1024_S1x1024 := by
  after_reads_simp
  rfl

variable (t : Fin cfg0.N)

theorem N_eq : cfg0.N = 64 := rfl

theorem t_lt : t.val < 64 := Nat.lt_of_lt_of_eq t.isLt N_eq

/-- The row of the whole array at a row of a block. -/
def at' (r : Fin 256) : Fin 16384 := ⟨t.val * 256 + r.val, by have := t_lt t; omega⟩

/-- The batch and the tile of a block. -/
def tb : Fin 2 := ⟨t.val / 32, by have := t_lt t; omega⟩
def tq : Fin 32 := ⟨t.val % 32, Nat.mod_lt _ (by decide)⟩

theorem tile_at (r : Fin 256) : tileRow (tb t) (tq t) r = at' t r :=
  Fin.ext (by show (t.val / 32 * 32 + t.val % 32) * 256 + r.val = t.val * 256 + r.val; omega)

/-! ## Where a window's block starts -/

theorem start0 : ∀ t : Fin cfg0.N, win0_0.index t 0 = t.val ∧ win0_0.index t 1 = 0 :=
  (by decide +kernel : ∀ t : Fin grid0.N, win0_0.index t 0 = t.val ∧ win0_0.index t 1 = 0)
theorem start1 : ∀ t : Fin cfg0.N, win0_1.index t 0 = 0 ∧ win0_1.index t 1 = 0 :=
  (by decide +kernel : ∀ t : Fin grid0.N, win0_1.index t 0 = 0 ∧ win0_1.index t 1 = 0)
theorem start2 : ∀ t : Fin cfg0.N, win0_2.index t 0 = 0 ∧ win0_2.index t 1 = 0 :=
  (by decide +kernel : ∀ t : Fin grid0.N, win0_2.index t 0 = 0 ∧ win0_2.index t 1 = 0)
theorem start3 : ∀ t : Fin cfg0.N, win0_3.index t 0 = 0 ∧ win0_3.index t 1 = 0 :=
  (by decide +kernel : ∀ t : Fin grid0.N, win0_3.index t 0 = 0 ∧ win0_3.index t 1 = 0)
theorem start4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem start6 : ∀ t : Fin cfg0.N, win0_6.index t 0 = t.val / 32 ∧ win0_6.index t 1 = t.val % 32 ∧ win0_6.index t 2 = 0 ∧ win0_6.index t 3 = 0 :=
  (by decide +kernel : ∀ t : Fin grid0.N, win0_6.index t 0 = t.val / 32 ∧ win0_6.index t 1 = t.val % 32 ∧ win0_6.index t 2 = 0 ∧ win0_6.index t 3 = 0)

/-- The other result windows move with these. -/
theorem same5 : win0_5.index t = win0_4.index t := rfl
theorem same8 : win0_8.index t = win0_6.index t := rfl
theorem same7 : win0_7.index t = win0_0.index t := rfl
theorem same9 : win0_9.index t = win0_0.index t := rfl
theorem same10 : win0_10.index t = win0_0.index t := rfl
theorem same11 : win0_11.index t = win0_0.index t := rfl
theorem same12 : win0_12.index t = win0_0.index t := rfl

/-- An element under a window's block, from where the block starts. -/
theorem under2 (f : Fin 2 → ℕ) (h0 : f 0 = t.val) (h1 : f 1 = 0) (r : Fin 256) (l : Fin 1024) (i : (⟨2, ![16384, 1024]⟩ : Shape).Idx)
    (g0 : (i 0).val = f 0 * 256 + 1 * r.val) (g1 : (i 1).val = f 1 * 1024 + 1 * l.val) : i = ix2 (at' t r) l :=
  eq2 _ _ (by rw [g0, h0]; show t.val * 256 + 1 * r.val = t.val * 256 + r.val; omega) (by rw [g1, h1]; show 0 * 1024 + 1 * l.val = l.val; omega)
theorem under3 (f : Fin 3 → ℕ) (h0 : f 0 = t.val) (h1 : f 1 = 0) (h2 : f 2 = 0) (r : Fin 256) (a : Fin 8) (b : Fin 128)
    (i : (⟨3, ![16384, 8, 128]⟩ : Shape).Idx) (g0 : (i 0).val = f 0 * 256 + 1 * r.val) (g1 : (i 1).val = f 1 * 8 + 1 * a.val)
    (g2 : (i 2).val = f 2 * 128 + 1 * b.val) : i = ix3 (at' t r) a b :=
  eq3 _ _ (by rw [g0, h0]; show t.val * 256 + 1 * r.val = t.val * 256 + r.val; omega) (by rw [g1, h1]; show 0 * 8 + 1 * a.val = a.val; omega)
    (by rw [g2, h2]; show 0 * 128 + 1 * b.val = b.val; omega)
theorem under4 (f : Fin 4 → ℕ) (h0 : f 0 = t.val / 32) (h1 : f 1 = t.val % 32) (h2 : f 2 = 0) (h3 : f 3 = 0) (j : Fin 1024) (r : Fin 256)
    (i : (⟨4, ![2, 32, 1024, 256]⟩ : Shape).Idx) (g0 : (i 0).val = f 0 * 1 + 1 * 0) (g1 : (i 1).val = f 1 * 1 + 1 * 0)
    (g2 : (i 2).val = f 2 * 1024 + 1 * j.val) (g3 : (i 3).val = f 3 * 256 + 1 * r.val) : i = ix4 (tb t) (tq t) j r :=
  eq4 _ _ (by rw [g0, h0]; show t.val / 32 * 1 + 1 * 0 = t.val / 32; omega) (by rw [g1, h1]; show t.val % 32 * 1 + 1 * 0 = t.val % 32; omega)
    (by rw [g2, h2]; show 0 * 1024 + 1 * j.val = j.val; omega) (by rw [g3, h3]; show 0 * 256 + 1 * r.val = r.val; omega)

/-! ## What each step is handed -/

theorem in0 (r : Fin 256) (l : Fin 1024) : (show FVec Ideal S256x1024 .f32 from iblk m c 0 t) (ix2 r l) = A0 m c (ix3 (batch (at' t r)) (place (at' t r)) l) := by
  have e : ((cfg0.win 0).blk t).view.read (Elt Ideal) (V m c main_v4) (ix2 r l) = (V m c main_v4 : FVec Ideal S16384x1024 .f32) (ix2 (at' t r) l) :=
    congrArg (V m c main_v4 : FVec Ideal S16384x1024 .f32) (under2 t (win0_0.index t) (start0 t).1 (start0 t).2 r l _ rfl rfl)
  exact e.trans ((congrFun (V_x m c) _).trans (Cert.FfnIdeal.Block.rows_apply _ _ _ _))
theorem in1 (l : Fin 1024) (k : Fin 7168) : (show FVec Ideal S1024x7168 .bf16 from iblk m c 1 t) (ix2 l k) = A1 m c (ix3 (0 : Fin 1) l k) := by
  have e : ((cfg0.win 1).blk t).view.read (Elt Ideal) (V m c main_v6) (ix2 l k) = (V m c main_v6 : FVec Ideal S1024x7168 .bf16) (ix2 l k) := by
    obtain ⟨e0, e1⟩ := start1 t
    exact congrArg (V m c main_v6 : FVec Ideal S1024x7168 .bf16) (eq2 _ _ (by show win0_1.index t 0 * 1024 + 1 * l.val = l.val; rw [e0]; omega)
      (by show win0_1.index t 1 * 7168 + 1 * k.val = k.val; rw [e1]; omega))
  exact e.trans ((congrFun (V_w m c) _).trans (shapeCast_1ab_ab_apply _ _ l k))
theorem in2 (l : Fin 1024) : (show FVec Ideal S1x1024 .f32 from iblk m c 2 t) (ix2 (0 : Fin 1) l) = A2 m c (ix2 (0 : Fin 1) l) := by
  have e : ((cfg0.win 2).blk t).view.read (Elt Ideal) (V m c main_v1) (ix2 (0 : Fin 1) l) = (V m c main_v1 : FVec Ideal S1x1024 .f32) (ix2 (0 : Fin 1) l) := by
    obtain ⟨e0, e1⟩ := start2 t
    exact congrArg (V m c main_v1 : FVec Ideal S1x1024 .f32) (eq2 _ _ (by show win0_2.index t 0 * 1 + 1 * 0 = 0; rw [e0])
      (by show win0_2.index t 1 * 1024 + 1 * l.val = l.val; rw [e1]; omega))
  exact e.trans ((congrFun (V_g m c) _).trans (Cert.FfnIdeal.Block.flat_apply _ _ _ l))
theorem in3 (l : Fin 1024) : (show FVec Ideal S1x1024 .f32 from iblk m c 3 t) (ix2 (0 : Fin 1) l) = A3 m c (ix2 (0 : Fin 1) l) := by
  have e : ((cfg0.win 3).blk t).view.read (Elt Ideal) (V m c main_v3) (ix2 (0 : Fin 1) l) = (V m c main_v3 : FVec Ideal S1x1024 .f32) (ix2 (0 : Fin 1) l) := by
    obtain ⟨e0, e1⟩ := start3 t
    exact congrArg (V m c main_v3 : FVec Ideal S1x1024 .f32) (eq2 _ _ (by show win0_3.index t 0 * 1 + 1 * 0 = 0; rw [e0])
      (by show win0_3.index t 1 * 1024 + 1 * l.val = l.val; rw [e1]; omega))
  exact e.trans ((congrFun (V_b m c) _).trans (Cert.FfnIdeal.Block.flat_apply _ _ _ l))

/-- A section of a row of a step's block is the row's. -/
theorem sec_eq (r : Fin 256) (p : Fin 7) : secB (iblk m c 0 t) (iblk m c 1 t) r p = sect (A0 m c) (A1 m c) (at' t r) p :=
  congrFun (congr (congrArg part (funext fun l => in0 m c t r l)) (funext fun l => funext fun k => in1 m c t l k)) p

/-! ## The blocks tile the arrays -/

/-- The step of a row, and of a batch and a tile. -/
def ptRow (r : ℕ) (h : r < 16384) : Fin cfg0.N := ⟨r / 256, Nat.lt_of_lt_of_eq (by omega : r / 256 < 64) N_eq.symm⟩
def ptTile (b u : ℕ) (hb : b < 2) (hu : u < 32) : Fin cfg0.N := ⟨b * 32 + u, Nat.lt_of_lt_of_eq (by omega : b * 32 + u < 64) N_eq.symm⟩

theorem tiles2 (f : Fin 2 → ℕ) (i : (⟨2, ![16384, 1024]⟩ : Shape).Idx) (h0 : f 0 = (i 0).val / 256) (h1 : f 1 = 0) (a : Fin 2) :
    f a * ![256, 1024] a ≤ (i a).val ∧ (i a).val < f a * ![256, 1024] a + ![256, 1024] a := by
  have hi : (i 1).val < 1024 := (i 1).isLt
  match a with
  | ⟨0, _⟩ => show f 0 * 256 ≤ (i 0).val ∧ (i 0).val < f 0 * 256 + 256
              rw [h0]; exact ⟨Nat.div_mul_le_self _ _, Nat.lt_div_mul_add (by decide)⟩
  | ⟨1, _⟩ => show f 1 * 1024 ≤ (i 1).val ∧ (i 1).val < f 1 * 1024 + 1024
              rw [h1, Nat.zero_mul, Nat.zero_add]; exact ⟨Nat.zero_le _, hi⟩
theorem tiles3 (f : Fin 3 → ℕ) (i : (⟨3, ![16384, 8, 128]⟩ : Shape).Idx) (h0 : f 0 = (i 0).val / 256) (h1 : f 1 = 0) (h2 : f 2 = 0) (a : Fin 3) :
    f a * ![256, 8, 128] a ≤ (i a).val ∧ (i a).val < f a * ![256, 8, 128] a + ![256, 8, 128] a := by
  have hi : (i 1).val < 8 := (i 1).isLt
  have hj : (i 2).val < 128 := (i 2).isLt
  match a with
  | ⟨0, _⟩ => show f 0 * 256 ≤ (i 0).val ∧ (i 0).val < f 0 * 256 + 256
              rw [h0]; exact ⟨Nat.div_mul_le_self _ _, Nat.lt_div_mul_add (by decide)⟩
  | ⟨1, _⟩ => show f 1 * 8 ≤ (i 1).val ∧ (i 1).val < f 1 * 8 + 8
              rw [h1, Nat.zero_mul, Nat.zero_add]; exact ⟨Nat.zero_le _, hi⟩
  | ⟨2, _⟩ => show f 2 * 128 ≤ (i 2).val ∧ (i 2).val < f 2 * 128 + 128
              rw [h2, Nat.zero_mul, Nat.zero_add]; exact ⟨Nat.zero_le _, hj⟩
theorem tiles4 (f : Fin 4 → ℕ) (i : (⟨4, ![2, 32, 1024, 256]⟩ : Shape).Idx) (h0 : f 0 = (i 0).val) (h1 : f 1 = (i 1).val) (h2 : f 2 = 0) (h3 : f 3 = 0)
    (a : Fin 4) : f a * ![1, 1, 1024, 256] a ≤ (i a).val ∧ (i a).val < f a * ![1, 1, 1024, 256] a + ![1, 1, 1024, 256] a := by
  have hi : (i 2).val < 1024 := (i 2).isLt
  have hj : (i 3).val < 256 := (i 3).isLt
  match a with
  | ⟨0, _⟩ => show f 0 * 1 ≤ (i 0).val ∧ (i 0).val < f 0 * 1 + 1
              rw [h0, Nat.mul_one]; exact ⟨Nat.le_refl _, Nat.lt_succ_self _⟩
  | ⟨1, _⟩ => show f 1 * 1 ≤ (i 1).val ∧ (i 1).val < f 1 * 1 + 1
              rw [h1, Nat.mul_one]; exact ⟨Nat.le_refl _, Nat.lt_succ_self _⟩
  | ⟨2, _⟩ => show f 2 * 1024 ≤ (i 2).val ∧ (i 2).val < f 2 * 1024 + 1024
              rw [h2, Nat.zero_mul, Nat.zero_add]; exact ⟨Nat.zero_le _, hi⟩
  | ⟨3, _⟩ => show f 3 * 256 ≤ (i 3).val ∧ (i 3).val < f 3 * 256 + 256
              rw [h3, Nat.zero_mul, Nat.zero_add]; exact ⟨Nat.zero_le _, hj⟩

theorem start_tile (b u : ℕ) (hb : b < 2) (hu : u < 32) :
    win0_6.index (ptTile b u hb hu) 0 = b ∧ win0_6.index (ptTile b u hb hu) 1 = u ∧ win0_6.index (ptTile b u hb hu) 2 = 0 ∧ win0_6.index (ptTile b u hb hu) 3 = 0 := by
  obtain ⟨e0, e1, e2, e3⟩ := start6 (ptTile b u hb hu)
  exact ⟨e0.trans (by show (b * 32 + u) / 32 = b; omega), e1.trans (by show (b * 32 + u) % 32 = u; omega), e2, e3⟩

theorem cover4 (i : S16384x8x128.Idx) : ∃ t : Fin cfg0.N, (cfg0.win 4).flush t = true ∧ i ∈ ((cfg0.win 4).blk t).view.set := by
  refine ⟨ptRow (i 0).val (i 0).isLt, flush0_4 _, ?_⟩
  show i ∈ ((View.whole main_v7_0).slice (win0_4.rect (ptRow (i 0).val (i 0).isLt))).set
  rw [View.set_slice_whole, Rect.mem_set_unit]
  exact fun a => tiles3 (win0_4.index _) i (start4 (ptRow (i 0).val (i 0).isLt)).1 (start4 (ptRow (i 0).val (i 0).isLt)).2.1 (start4 (ptRow (i 0).val (i 0).isLt)).2.2 a
theorem cover5 (i : S16384x8x128.Idx) : ∃ t : Fin cfg0.N, (cfg0.win 5).flush t = true ∧ i ∈ ((cfg0.win 5).blk t).view.set := by
  refine ⟨ptRow (i 0).val (i 0).isLt, flush0_5 _, ?_⟩
  show i ∈ ((View.whole main_v7_1).slice (win0_5.rect (ptRow (i 0).val (i 0).isLt))).set
  rw [View.set_slice_whole, Rect.mem_set_unit]
  exact fun a => tiles3 (win0_5.index _) i (start4 (ptRow (i 0).val (i 0).isLt)).1 (start4 (ptRow (i 0).val (i 0).isLt)).2.1 (start4 (ptRow (i 0).val (i 0).isLt)).2.2 a
theorem cover6 (i : S2x32x1024x256.Idx) : ∃ t : Fin cfg0.N, (cfg0.win 6).flush t = true ∧ i ∈ ((cfg0.win 6).blk t).view.set := by
  obtain ⟨e0, e1, e2, e3⟩ := start_tile (i 0).val (i 1).val (i 0).isLt (i 1).isLt
  refine ⟨ptTile (i 0).val (i 1).val (i 0).isLt (i 1).isLt, flush0_6 _, ?_⟩
  show i ∈ ((View.whole main_v7_2).slice (win0_6.rect (ptTile (i 0).val (i 1).val (i 0).isLt (i 1).isLt))).set
  rw [View.set_slice_whole, Rect.mem_set_unit]
  exact fun a => tiles4 (win0_6.index _) i e0 e1 e2 e3 a
theorem cover8 (i : S2x32x1024x256.Idx) : ∃ t : Fin cfg0.N, (cfg0.win 8).flush t = true ∧ i ∈ ((cfg0.win 8).blk t).view.set := by
  obtain ⟨e0, e1, e2, e3⟩ := start_tile (i 0).val (i 1).val (i 0).isLt (i 1).isLt
  refine ⟨ptTile (i 0).val (i 1).val (i 0).isLt (i 1).isLt, flush0_8 _, ?_⟩
  show i ∈ ((View.whole main_v7_4).slice (win0_8.rect (ptTile (i 0).val (i 1).val (i 0).isLt (i 1).isLt))).set
  rw [View.set_slice_whole, Rect.mem_set_unit]
  exact fun a => tiles4 (win0_8.index _) i e0 e1 e2 e3 a
theorem cover7 (i : S16384x1024.Idx) : ∃ t : Fin cfg0.N, (cfg0.win 7).flush t = true ∧ i ∈ ((cfg0.win 7).blk t).view.set := by
  refine ⟨ptRow (i 0).val (i 0).isLt, flush0_7 _, ?_⟩
  show i ∈ ((View.whole main_v7_3).slice (win0_7.rect (ptRow (i 0).val (i 0).isLt))).set
  rw [View.set_slice_whole, Rect.mem_set_unit]
  exact fun a => tiles2 (win0_7.index _) i (start0 (ptRow (i 0).val (i 0).isLt)).1 (start0 (ptRow (i 0).val (i 0).isLt)).2 a
theorem cover9 (i : S16384x1024.Idx) : ∃ t : Fin cfg0.N, (cfg0.win 9).flush t = true ∧ i ∈ ((cfg0.win 9).blk t).view.set := by
  refine ⟨ptRow (i 0).val (i 0).isLt, flush0_9 _, ?_⟩
  show i ∈ ((View.whole main_v7_5).slice (win0_9.rect (ptRow (i 0).val (i 0).isLt))).set
  rw [View.set_slice_whole, Rect.mem_set_unit]
  exact fun a => tiles2 (win0_9.index _) i (start0 (ptRow (i 0).val (i 0).isLt)).1 (start0 (ptRow (i 0).val (i 0).isLt)).2 a
theorem cover10 (i : S16384x1024.Idx) : ∃ t : Fin cfg0.N, (cfg0.win 10).flush t = true ∧ i ∈ ((cfg0.win 10).blk t).view.set := by
  refine ⟨ptRow (i 0).val (i 0).isLt, flush0_10 _, ?_⟩
  show i ∈ ((View.whole main_v7_6).slice (win0_10.rect (ptRow (i 0).val (i 0).isLt))).set
  rw [View.set_slice_whole, Rect.mem_set_unit]
  exact fun a => tiles2 (win0_10.index _) i (start0 (ptRow (i 0).val (i 0).isLt)).1 (start0 (ptRow (i 0).val (i 0).isLt)).2 a
theorem cover11 (i : S16384x1024.Idx) : ∃ t : Fin cfg0.N, (cfg0.win 11).flush t = true ∧ i ∈ ((cfg0.win 11).blk t).view.set := by
  refine ⟨ptRow (i 0).val (i 0).isLt, flush0_11 _, ?_⟩
  show i ∈ ((View.whole main_v7_7).slice (win0_11.rect (ptRow (i 0).val (i 0).isLt))).set
  rw [View.set_slice_whole, Rect.mem_set_unit]
  exact fun a => tiles2 (win0_11.index _) i (start0 (ptRow (i 0).val (i 0).isLt)).1 (start0 (ptRow (i 0).val (i 0).isLt)).2 a
theorem cover12 (i : S16384x1024.Idx) : ∃ t : Fin cfg0.N, (cfg0.win 12).flush t = true ∧ i ∈ ((cfg0.win 12).blk t).view.set := by
  refine ⟨ptRow (i 0).val (i 0).isLt, flush0_12 _, ?_⟩
  show i ∈ ((View.whole main_v7_8).slice (win0_12.rect (ptRow (i 0).val (i 0).isLt))).set
  rw [View.set_slice_whole, Rect.mem_set_unit]
  exact fun a => tiles2 (win0_12.index _) i (start0 (ptRow (i 0).val (i 0).isLt)).1 (start0 (ptRow (i 0).val (i 0).isLt)).2 a

/-! ## The result arrays -/

/-- A section at a tile's row. -/
theorem sec_tile (r : Fin 256) (p : Fin 7) : secB (iblk m c 0 t) (iblk m c 1 t) r p = sect (A0 m c) (A1 m c) (tileRow (tb t) (tq t) r) p := by
  rw [tile_at]
  exact sec_eq m c t r p

theorem final4 : (dats m 0 c).arrAt 4 cfg0.N = heads (A0 m c) (A1 m c) 1 :=
  (dats m 0 c).arrAt_eq_of_cover 4 (heads (A0 m c) (A1 m c) 1) (fun t _ => by
    have e : (show FVec Ideal S256x8x128 .f32 from out0_4 (F := Ideal) (iblk m c 0 t) (iblk m c 1 t) (iblk m c 2 t) (iblk m c 3 t))
        = ((cfg0.win 4).blk t).view.read (Elt Ideal) (heads (A0 m c) (A1 m c) 1) := funext fun y => by
      rw [show y = ix3 (y 0) (y 1) (y 2) from eq3 _ _ rfl rfl rfl]
      refine ((step4 _ _ _ _ (y 0) (y 1) (y 2)).trans (congrFun (sec_eq m c t (y 0) 1) (cell (y 1) (y 2)))).trans ?_
      exact (congrArg (heads (A0 m c) (A1 m c) 1) (under3 t (win0_4.index t) (start4 t).1 (start4 t).2.1 (start4 t).2.2 (y 0) (y 1) (y 2) _ rfl rfl rfl)).symm
    show (cfg0.win 4).cut (grid0.coords t) ((dats m 0 c).after 4 t) = _
    rw [after0_4]
    exact e) cover4
theorem final5 : (dats m 0 c).arrAt 5 cfg0.N = heads (A0 m c) (A1 m c) 2 :=
  (dats m 0 c).arrAt_eq_of_cover 5 (heads (A0 m c) (A1 m c) 2) (fun t _ => by
    have e : (show FVec Ideal S256x8x128 .f32 from out0_5 (F := Ideal) (iblk m c 0 t) (iblk m c 1 t) (iblk m c 2 t) (iblk m c 3 t))
        = ((cfg0.win 5).blk t).view.read (Elt Ideal) (heads (A0 m c) (A1 m c) 2) := funext fun y => by
      rw [show y = ix3 (y 0) (y 1) (y 2) from eq3 _ _ rfl rfl rfl]
      refine ((step5 _ _ _ _ (y 0) (y 1) (y 2)).trans (congrFun (sec_eq m c t (y 0) 2) (cell (y 1) (y 2)))).trans ?_
      exact (congrArg (heads (A0 m c) (A1 m c) 2) (under3 t (win0_5.index t) (start4 t).1 (start4 t).2.1 (start4 t).2.2 (y 0) (y 1) (y 2) _ rfl rfl rfl)).symm
    show (cfg0.win 5).cut (grid0.coords t) ((dats m 0 c).after 5 t) = _
    rw [after0_5]
    exact e) cover5
/-- An element of a step's block of tiles. -/
theorem tile_idx (y : S1x1x1024x256.Idx) : y = ix4 (0 : Fin 1) (0 : Fin 1) (y 2) (y 3) :=
  eq4 _ _ (Nat.lt_one_iff.1 (y 0).isLt) (Nat.lt_one_iff.1 (y 1).isLt) rfl rfl
theorem final6 : (dats m 0 c).arrAt 6 cfg0.N = queries (A0 m c) (A1 m c) :=
  (dats m 0 c).arrAt_eq_of_cover 6 (queries (A0 m c) (A1 m c)) (fun t _ => by
    have e : (show FVec Ideal S1x1x1024x256 .bf16 from out0_6 (F := Ideal) (iblk m c 0 t) (iblk m c 1 t) (iblk m c 2 t) (iblk m c 3 t))
        = ((cfg0.win 6).blk t).view.read (Elt Ideal) (queries (A0 m c) (A1 m c)) := funext fun y => by
      rw [tile_idx y]
      refine ((step6 _ _ _ _ (y 3) (y 2)).trans (congrArg (fun u : EReal => u * scale) (congrFun (sec_tile m c t (y 3) 0) (y 2)))).trans ?_
      exact (congrArg (queries (A0 m c) (A1 m c)) (under4 t (win0_6.index t) (start6 t).1 (start6 t).2.1 (start6 t).2.2.1 (start6 t).2.2.2 (y 2) (y 3) _ rfl rfl rfl rfl)).symm
    show (cfg0.win 6).cut (grid0.coords t) ((dats m 0 c).after 6 t) = _
    rw [after0_6]
    exact e) cover6
theorem final8 : (dats m 0 c).arrAt 8 cfg0.N = values (A0 m c) (A1 m c) :=
  (dats m 0 c).arrAt_eq_of_cover 8 (values (A0 m c) (A1 m c)) (fun t _ => by
    have e : (show FVec Ideal S1x1x1024x256 .bf16 from out0_8 (F := Ideal) (iblk m c 0 t) (iblk m c 1 t) (iblk m c 2 t) (iblk m c 3 t))
        = ((cfg0.win 8).blk t).view.read (Elt Ideal) (values (A0 m c) (A1 m c)) := funext fun y => by
      rw [tile_idx y]
      refine ((step8 _ _ _ _ (y 3) (y 2)).trans (congrFun (sec_tile m c t (y 3) 2) (y 2))).trans ?_
      exact (congrArg (values (A0 m c) (A1 m c)) (under4 t (win0_8.index t) (start6 t).1 (start6 t).2.1 (start6 t).2.2.1 (start6 t).2.2.2 (y 2) (y 3) _ rfl rfl rfl rfl)).symm
    show (cfg0.win 8).cut (grid0.coords t) ((dats m 0 c).after 8 t) = _
    rw [after0_8]
    exact e) cover8
theorem final7 : (dats m 0 c).arrAt 7 cfg0.N = keys (A0 m c) (A1 m c) :=
  (dats m 0 c).arrAt_eq_of_cover 7 (keys (A0 m c) (A1 m c)) (fun t _ => by
    have e : (show FVec Ideal S256x1024 .bf16 from out0_7 (F := Ideal) (iblk m c 0 t) (iblk m c 1 t) (iblk m c 2 t) (iblk m c 3 t))
        = ((cfg0.win 7).blk t).view.read (Elt Ideal) (keys (A0 m c) (A1 m c)) := funext fun y => by
      rw [show y = ix2 (y 0) (y 1) from eq2 _ _ rfl rfl]
      refine ((step7 _ _ _ _ (y 0) (y 1)).trans (congrFun (sec_eq m c t (y 0) 1) (y 1))).trans ?_
      exact (congrArg (keys (A0 m c) (A1 m c)) (under2 t (win0_7.index t) (start0 t).1 (start0 t).2 (y 0) (y 1) _ rfl rfl)).symm
    show (cfg0.win 7).cut (grid0.coords t) ((dats m 0 c).after 7 t) = _
    rw [after0_7]
    exact e) cover7
theorem final9 : (dats m 0 c).arrAt 9 cfg0.N = gated (A0 m c) (A1 m c) :=
  (dats m 0 c).arrAt_eq_of_cover 9 (gated (A0 m c) (A1 m c)) (fun t _ => by
    have e : (show FVec Ideal S256x1024 .f32 from out0_9 (F := Ideal) (iblk m c 0 t) (iblk m c 1 t) (iblk m c 2 t) (iblk m c 3 t))
        = ((cfg0.win 9).blk t).view.read (Elt Ideal) (gated (A0 m c) (A1 m c)) := funext fun y => by
      rw [show y = ix2 (y 0) (y 1) from eq2 _ _ rfl rfl]
      refine ((step9 _ _ _ _ (y 0) (y 1)).trans (congrArg gelu (congrFun (sec_eq m c t (y 0) 3) (y 1)))).trans ?_
      exact (congrArg (gated (A0 m c) (A1 m c)) (under2 t (win0_9.index t) (start0 t).1 (start0 t).2 (y 0) (y 1) _ rfl rfl)).symm
    show (cfg0.win 9).cut (grid0.coords t) ((dats m 0 c).after 9 t) = _
    rw [after0_9]
    exact e) cover9
theorem final10 : (dats m 0 c).arrAt 10 cfg0.N = normed (A0 m c) (A1 m c) (A2 m c) (A3 m c) :=
  (dats m 0 c).arrAt_eq_of_cover 10 (normed (A0 m c) (A1 m c) (A2 m c) (A3 m c)) (fun t _ => by
    have e : (show FVec Ideal S256x1024 .f32 from out0_10 (F := Ideal) (iblk m c 0 t) (iblk m c 1 t) (iblk m c 2 t) (iblk m c 3 t))
        = ((cfg0.win 10).blk t).view.read (Elt Ideal) (normed (A0 m c) (A1 m c) (A2 m c) (A3 m c)) := funext fun y => by
      rw [show y = ix2 (y 0) (y 1) from eq2 _ _ rfl rfl]
      have e0 := funext fun k => congrArg gelu (congrFun (sec_eq m c t (y 0) 4) k)
      have e1 := congr (congr (congrArg norm e0) (funext fun l => in2 m c t l)) (funext fun l => in3 m c t l)
      refine ((step10 _ _ _ _ (y 0) (y 1)).trans (congrFun e1 (y 1))).trans ?_
      exact (congrArg (normed (A0 m c) (A1 m c) (A2 m c) (A3 m c)) (under2 t (win0_10.index t) (start0 t).1 (start0 t).2 (y 0) (y 1) _ rfl rfl)).symm
    show (cfg0.win 10).cut (grid0.coords t) ((dats m 0 c).after 10 t) = _
    rw [after0_10]
    exact e) cover10
theorem final11 : (dats m 0 c).arrAt 11 cfg0.N = gates (A0 m c) (A1 m c) 5 :=
  (dats m 0 c).arrAt_eq_of_cover 11 (gates (A0 m c) (A1 m c) 5) (fun t _ => by
    have e : (show FVec Ideal S256x1024 .f32 from out0_11 (F := Ideal) (iblk m c 0 t) (iblk m c 1 t) (iblk m c 2 t) (iblk m c 3 t))
        = ((cfg0.win 11).blk t).view.read (Elt Ideal) (gates (A0 m c) (A1 m c) 5) := funext fun y => by
      rw [show y = ix2 (y 0) (y 1) from eq2 _ _ rfl rfl]
      refine ((step11 _ _ _ _ (y 0) (y 1)).trans (congrArg Ideal.logistic (congrFun (sec_eq m c t (y 0) 5) (y 1)))).trans ?_
      exact (congrArg (gates (A0 m c) (A1 m c) 5) (under2 t (win0_11.index t) (start0 t).1 (start0 t).2 (y 0) (y 1) _ rfl rfl)).symm
    show (cfg0.win 11).cut (grid0.coords t) ((dats m 0 c).after 11 t) = _
    rw [after0_11]
    exact e) cover11
theorem final12 : (dats m 0 c).arrAt 12 cfg0.N = gates (A0 m c) (A1 m c) 6 :=
  (dats m 0 c).arrAt_eq_of_cover 12 (gates (A0 m c) (A1 m c) 6) (fun t _ => by
    have e : (show FVec Ideal S256x1024 .f32 from out0_12 (F := Ideal) (iblk m c 0 t) (iblk m c 1 t) (iblk m c 2 t) (iblk m c 3 t))
        = ((cfg0.win 12).blk t).view.read (Elt Ideal) (gates (A0 m c) (A1 m c) 6) := funext fun y => by
      rw [show y = ix2 (y 0) (y 1) from eq2 _ _ rfl rfl]
      refine ((step12 _ _ _ _ (y 0) (y 1)).trans (congrArg Ideal.logistic (congrFun (sec_eq m c t (y 0) 6) (y 1)))).trans ?_
      exact (congrArg (gates (A0 m c) (A1 m c) 6) (under2 t (win0_12.index t) (start0 t).1 (start0 t).2 (y 0) (y 1) _ rfl rfl)).symm
    show (cfg0.win 12).cut (grid0.coords t) ((dats m 0 c).after 12 t) = _
    rw [after0_12]
    exact e) cover12

end Cert.ProjIdeal.Block
-- ==== Proof.ProjReference.lean ====
/-
  The plain program of the input projection, read operation by operation: its nine results are the functions of a row.
-/
module

public import proofs.«01_k».proof.Proof.ProjRow
public import proofs.«01_k».proof.Proof.Gen.ProjReferenceIdeal
public import proofs.«01_k».proof.Proof.Gen.ProjReferenceIdeal.Run
public import proofs.«01_k».proof.Proof.Gen.ProjReferenceIdeal.Read

@[expose] public section

set_option maxRecDepth 16384

noncomputable section

namespace Cert.ProjReferenceIdeal.Read

open Cert.ProjReferenceIdeal Cert.ProjReferenceIdeal.Gen Cert.FfnRow Cert.ProjRow
open Idealize.ShloMosaic Idealize.ShloMosaic.ValueIdx Idealize.ShloMosaic.StableHlo

variable (x0 : FVec Ideal S2x8192x1024 .f32) (x1 : FVec Ideal S1x1024x7168 .f32) (x2 x3 : FVec Ideal S1x1024 .f32)
  (b : Fin 2) (s : Fin 8192) (j : Fin 1024)

/-- A section of the product at a batch and a place. -/
abbrev sec (p : Fin 7) : Fin 1024 → EReal := part (fun l => x0 (ix3 b s l)) (fun l k => x1 (ix3 (0 : Fin 1) l k)) p

theorem prod_apply (k : Fin 7168) :
    val_main_v1 (F := Ideal) x0 x1 (ix3 b s k) = ∑ l : Fin 1024, (x0 (ix3 b s l) * x1 (ix3 (0 : Fin 1) l k) : EReal) := by
  rw [val_main_v1_apply]
  refine Finset.sum_congr rfl fun l _ => ?_
  rw [val_main_v0_apply]
  exact congrArg₂ (fun u v : EReal => u * v) (congrArg x0 (eq3 _ _ rfl rfl rfl))
    (congrArg x1 (eq3 _ _ rfl (by show (l.val * 7168 + k.val) / 7168 % 1024 = l.val; omega) (by show (l.val * 7168 + k.val) % 7168 = k.val; omega)))

theorem q_apply : val_main_v2 (F := Ideal) x0 x1 (ix3 b s j) = sec x0 x1 b s 0 j := by
  rw [val_main_v2_apply, show idx_main_v2 (ix3 b s j) = ix3 b s (col 0 j) from eq3 _ _ rfl rfl (by show j.val = 0 * 1024 + j.val; omega), prod_apply]
  rfl
theorem k_apply : val_main_v3 (F := Ideal) x0 x1 (ix3 b s j) = sec x0 x1 b s 1 j := by
  rw [val_main_v3_apply, show idx_main_v3 (ix3 b s j) = ix3 b s (col 1 j) from eq3 _ _ rfl rfl rfl, prod_apply]
  rfl
theorem v_apply : val_main_v4 (F := Ideal) x0 x1 (ix3 b s j) = sec x0 x1 b s 2 j := by
  rw [val_main_v4_apply, show idx_main_v4 (ix3 b s j) = ix3 b s (col 2 j) from eq3 _ _ rfl rfl rfl, prod_apply]
  rfl
theorem u_apply : val_main_v5 (F := Ideal) x0 x1 (ix3 b s j) = sec x0 x1 b s 3 j := by
  rw [val_main_v5_apply, show idx_main_v5 (ix3 b s j) = ix3 b s (col 3 j) from eq3 _ _ rfl rfl rfl, prod_apply]
  rfl
theorem vg_apply : val_main_v6 (F := Ideal) x0 x1 (ix3 b s j) = sec x0 x1 b s 4 j := by
  rw [val_main_v6_apply, show idx_main_v6 (ix3 b s j) = ix3 b s (col 4 j) from eq3 _ _ rfl rfl rfl, prod_apply]
  rfl
theorem ga_apply : val_main_v7 (F := Ideal) x0 x1 (ix3 b s j) = sec x0 x1 b s 5 j := by
  rw [val_main_v7_apply, show idx_main_v7 (ix3 b s j) = ix3 b s (col 5 j) from eq3 _ _ rfl rfl rfl, prod_apply]
  rfl
theorem gm_apply : val_main_v8 (F := Ideal) x0 x1 (ix3 b s j) = sec x0 x1 b s 6 j := by
  rw [val_main_v8_apply, show idx_main_v8 (ix3 b s j) = ix3 b s (col 6 j) from eq3 _ _ rfl rfl rfl, prod_apply]
  rfl

/-- The scaled queries. -/
theorem scaled_apply : val_main_v13 (F := Ideal) x0 x1 (ix3 b s j) = sec x0 x1 b s 0 j * scale := by
  rw [val_main_v13_apply, val_main_v10_apply, val_main_v9_apply, val_main_cst_apply, val_main_v12_apply, val_main_v11_apply, val_main_cst_0_apply, q_apply]
  exact scale_eq _

/-- The two gated sections. -/
theorem gu_apply : val_main_v20 (F := Ideal) x0 x1 (ix3 b s j) = gelu (sec x0 x1 b s 3 j) := by
  rw [val_main_v20_apply, val_main_v15_apply, val_main_v14_apply, val_main_cst_1_apply, val_main_v19_apply, val_main_v18_apply, val_main_v16_apply,
    val_main_v17_apply, val_main_cst_2_apply, u_apply]
  exact gelu_eq _
theorem gv_apply : val_main_v27 (F := Ideal) x0 x1 (ix3 b s j) = gelu (sec x0 x1 b s 4 j) := by
  rw [val_main_v27_apply, val_main_v22_apply, val_main_v21_apply, val_main_cst_3_apply, val_main_v26_apply, val_main_v25_apply, val_main_v23_apply,
    val_main_v24_apply, val_main_cst_4_apply, vg_apply]
  exact gelu_eq _

/-- The row that is normalised. -/
abbrev row : Fin 1024 → EReal := fun k => gelu (sec x0 x1 b s 4 k)

theorem mean_apply : val_main_v31 (F := Ideal) x0 x1 (ix3 b s (0 : Fin 1)) = mean (row x0 x1 b s) := by
  rw [val_main_v31_apply, val_main_v30_apply, val_main_cst_6_apply, val_main_v29_apply, val_main_v28_apply, val_main_cst_5_apply]
  have e : ∀ k : Fin 1024, val_main_v27 (F := Ideal) x0 x1 (idx_main_v28 (idx_main_v29 (ix3 b s (0 : Fin 1))) k) = row x0 x1 b s k := fun k => by
    rw [show idx_main_v28 (idx_main_v29 (ix3 b s (0 : Fin 1))) k = ix3 b s k from eq3 _ _ rfl rfl rfl, gv_apply]
  rw [Finset.sum_congr rfl fun k _ => e k]
  show Ideal.div (Ideal.ofBits .f32 0x00000000#32 + _) _ = _
  rw [Ideal.ofBits_zero_f32, zero_add]
  rfl

theorem centred_apply : val_main_v33 (F := Ideal) x0 x1 (ix3 b s j) = centred (row x0 x1 b s) j := by
  rw [val_main_v33_apply, val_main_v32_apply, gv_apply, show idx_main_v32 (ix3 b s j) = ix3 b s (0 : Fin 1) from eq3 _ _ rfl rfl rfl, mean_apply]
  rfl

theorem centred_again : val_main_v40 (F := Ideal) x0 x1 (ix3 b s j) = centred (row x0 x1 b s) j := by
  rw [val_main_v40_apply, val_main_v39_apply, gv_apply, show idx_main_v39 (ix3 b s j) = ix3 b s (0 : Fin 1) from eq3 _ _ rfl rfl rfl, mean_apply]
  rfl

theorem var_apply : val_main_v38 (F := Ideal) x0 x1 (ix3 b s (0 : Fin 1)) = mean (fun k => centred (row x0 x1 b s) k * centred (row x0 x1 b s) k) := by
  rw [val_main_v38_apply, val_main_v37_apply, val_main_cst_8_apply, val_main_v36_apply, val_main_v35_apply, val_main_cst_7_apply]
  have e : ∀ k : Fin 1024, val_main_v34 (F := Ideal) x0 x1 (idx_main_v35 (idx_main_v36 (ix3 b s (0 : Fin 1))) k)
      = centred (row x0 x1 b s) k * centred (row x0 x1 b s) k := fun k => by
    rw [show idx_main_v35 (idx_main_v36 (ix3 b s (0 : Fin 1))) k = ix3 b s k from eq3 _ _ rfl rfl rfl, val_main_v34_apply, centred_apply]
    rfl
  rw [Finset.sum_congr rfl fun k _ => e k]
  show Ideal.div (Ideal.ofBits .f32 0x00000000#32 + _) _ = _
  rw [Ideal.ofBits_zero_f32, zero_add]
  rfl

theorem gain_apply : val_main_v48 (F := Ideal) x2 (ix3 b s j) = x2 (ix2 (0 : Fin 1) j) := by
  rw [val_main_v48_apply, val_main_v47_apply, val_main_v46_apply]
  exact congrArg x2 (eq2 _ _ rfl (Nat.mod_eq_of_lt j.isLt))

theorem shift_apply : val_main_v52 (F := Ideal) x3 (ix3 b s j) = x3 (ix2 (0 : Fin 1) j) := by
  rw [val_main_v52_apply, val_main_v51_apply, val_main_v50_apply]
  exact congrArg x3 (eq2 _ _ rfl (Nat.mod_eq_of_lt j.isLt))

theorem norm_apply : val_main_v53 (F := Ideal) x0 x1 x2 x3 (ix3 b s j)
    = norm (row x0 x1 b s) (fun l => x2 (ix2 (0 : Fin 1) l)) (fun l => x3 (ix2 (0 : Fin 1) l)) j := by
  rw [val_main_v53_apply, val_main_v49_apply, val_main_v45_apply, centred_again, gain_apply, shift_apply, val_main_v44_apply,
    show idx_main_v44 (ix3 b s j) = ix3 b s (0 : Fin 1) from eq3 _ _ rfl rfl rfl, val_main_v43_apply, val_main_v42_apply, var_apply,
    val_main_v41_apply, val_main_cst_9_apply]
  rfl

/-- The two logistic sections, by the expression of the plain program. -/
theorem logistic_eq (z : EReal) : Ideal.div (Ideal.ofBits .f32 0x3F800000#32) (Ideal.ofBits .f32 0x3F800000#32 + Ideal.exp (-z)) = Ideal.logistic z := by
  rw [Ideal.ofBits_one_f32]
  rfl
theorem sga_apply : val_main_v71 (F := Ideal) x0 x1 (ix3 b s j) = Ideal.logistic (sec x0 x1 b s 5 j) := by
  rw [val_main_v71_apply, val_main_v70_apply, val_main_cst_11_apply, val_main_v69_apply, val_main_v68_apply, val_main_cst_10_apply, val_main_v67_apply,
    val_main_v66_apply, ga_apply]
  exact logistic_eq _
theorem sgm_apply : val_main_v78 (F := Ideal) x0 x1 (ix3 b s j) = Ideal.logistic (sec x0 x1 b s 6 j) := by
  rw [val_main_v78_apply, val_main_v77_apply, val_main_cst_13_apply, val_main_v76_apply, val_main_v75_apply, val_main_cst_12_apply, val_main_v74_apply,
    val_main_v73_apply, gm_apply]
  exact logistic_eq _

/-! ## The nine results -/

/-- The index of a row-by-row result. -/
theorem by_row {i : S2x8192x1024.Idx} (r : Fin 16384) (j : Fin 1024) (h0 : (i 0).val = (r.val * 1024 + j.val) / 8388608)
    (h1 : (i 1).val = (r.val * 1024 + j.val) / 1024 % 8192) (h2 : (i 2).val = (r.val * 1024 + j.val) % 1024) : i = ix3 (batch r) (place r) j :=
  eq3 _ _ (by rw [h0]; show _ = r.val / 8192; omega) (by rw [h1]; show _ = r.val % 8192; omega) (by rw [h2]; show _ = j.val; omega)

theorem heads_k : val_main_v54 (F := Ideal) x0 x1 = heads x0 x1 1 := funext fun i => by
  have h0 : (i 0).val < 16384 := (i 0).isLt
  have h1 : (i 1).val < 8 := (i 1).isLt
  have h2 : (i 2).val < 128 := (i 2).isLt
  have e : idx_main_v54 i = ix3 (batch (i 0)) (place (i 0)) (cell (i 1) (i 2)) :=
    eq3 _ _ (by show (((i 0).val * 8 + (i 1).val) * 128 + (i 2).val) / 8388608 = (i 0).val / 8192; omega)
      (by show (((i 0).val * 8 + (i 1).val) * 128 + (i 2).val) / 1024 % 8192 = (i 0).val % 8192; omega)
      (by show (((i 0).val * 8 + (i 1).val) * 128 + (i 2).val) % 1024 = (i 1).val * 128 + (i 2).val; omega)
  rw [val_main_v54_apply]
  exact (congrArg (val_main_v3 (F := Ideal) x0 x1) e).trans (k_apply x0 x1 _ _ _)
theorem heads_v : val_main_v55 (F := Ideal) x0 x1 = heads x0 x1 2 := funext fun i => by
  have h0 : (i 0).val < 16384 := (i 0).isLt
  have h1 : (i 1).val < 8 := (i 1).isLt
  have h2 : (i 2).val < 128 := (i 2).isLt
  have e : idx_main_v55 i = ix3 (batch (i 0)) (place (i 0)) (cell (i 1) (i 2)) :=
    eq3 _ _ (by show (((i 0).val * 8 + (i 1).val) * 128 + (i 2).val) / 8388608 = (i 0).val / 8192; omega)
      (by show (((i 0).val * 8 + (i 1).val) * 128 + (i 2).val) / 1024 % 8192 = (i 0).val % 8192; omega)
      (by show (((i 0).val * 8 + (i 1).val) * 128 + (i 2).val) % 1024 = (i 1).val * 128 + (i 2).val; omega)
  rw [val_main_v55_apply]
  exact (congrArg (val_main_v4 (F := Ideal) x0 x1) e).trans (v_apply x0 x1 _ _ _)

/-- The index of a result by tile. -/
theorem by_tile {i : S2x8192x1024.Idx} (b : Fin 2) (u : Fin 32) (r : Fin 256) (j : Fin 1024)
    (h0 : (i 0).val = (((b.val * 32 + u.val) * 256 + r.val) * 1024 + j.val) / 8388608)
    (h1 : (i 1).val = (((b.val * 32 + u.val) * 256 + r.val) * 1024 + j.val) / 1024 % 8192)
    (h2 : (i 2).val = (((b.val * 32 + u.val) * 256 + r.val) * 1024 + j.val) % 1024) : i = ix3 (batch (tileRow b u r)) (place (tileRow b u r)) j :=
  by_row (tileRow b u r) j h0 h1 h2

theorem tiles_q : val_main_v58 (F := Ideal) x0 x1 = queries x0 x1 := funext fun i => by
  rw [val_main_v58_apply, val_main_v57_apply, val_main_v56_apply]
  exact (congrArg (val_main_v13 (F := Ideal) x0 x1) (by_tile (i 0) (i 1) (i 3) (i 2) rfl rfl rfl)).trans (scaled_apply x0 x1 _ _ _)
theorem tiles_v : val_main_v63 (F := Ideal) x0 x1 = values x0 x1 := funext fun i => by
  rw [val_main_v63_apply, val_main_v62_apply, val_main_v61_apply]
  exact (congrArg (val_main_v4 (F := Ideal) x0 x1) (by_tile (i 0) (i 1) (i 3) (i 2) rfl rfl rfl)).trans (v_apply x0 x1 _ _ _)
theorem rows_k : val_main_v60 (F := Ideal) x0 x1 = keys x0 x1 := funext fun i => by
  rw [val_main_v60_apply, val_main_v59_apply]
  exact (congrArg (val_main_v3 (F := Ideal) x0 x1) (by_row (i 0) (i 1) rfl rfl rfl)).trans (k_apply x0 x1 _ _ _)
theorem rows_gu : val_main_v64 (F := Ideal) x0 x1 = gated x0 x1 := funext fun i => by
  rw [val_main_v64_apply]
  exact (congrArg (val_main_v20 (F := Ideal) x0 x1) (by_row (i 0) (i 1) rfl rfl rfl)).trans (gu_apply x0 x1 _ _ _)
theorem rows_vn : val_main_v65 (F := Ideal) x0 x1 x2 x3 = normed x0 x1 x2 x3 := funext fun i => by
  rw [val_main_v65_apply]
  exact (congrArg (val_main_v53 (F := Ideal) x0 x1 x2 x3) (by_row (i 0) (i 1) rfl rfl rfl)).trans (norm_apply x0 x1 x2 x3 _ _ _)
theorem rows_ga : val_main_v72 (F := Ideal) x0 x1 = gates x0 x1 5 := funext fun i => by
  rw [val_main_v72_apply]
  exact (congrArg (val_main_v71 (F := Ideal) x0 x1) (by_row (i 0) (i 1) rfl rfl rfl)).trans (sga_apply x0 x1 _ _ _)
theorem rows_gm : val_main_v79 (F := Ideal) x0 x1 = gates x0 x1 6 := funext fun i => by
  rw [val_main_v79_apply]
  exact (congrArg (val_main_v78 (F := Ideal) x0 x1) (by_row (i 0) (i 1) rfl rfl rfl)).trans (sgm_apply x0 x1 _ _ _)

end Cert.ProjReferenceIdeal.Read
-- ==== Proof.Proj.lean ====
/-
  The input projection: both programs leave the nine sections of the product, whatever the arguments hold.
-/
module

public import proofs.«01_k».proof.Defs
public import proofs.«01_k».proof.Proof.ProjBlocks
public import proofs.«01_k».proof.Proof.ProjReference
public import proofs.«01_k».proof.Proof.Gen.Proj
public import proofs.«01_k».proof.Proof.Gen.Proj.Frame

@[expose] public section

noncomputable section

namespace Cert.ProjIdeal.Block

open Cert.ProjIdeal.Gen Cert.ProjRow
open Idealize.ShloMosaic Idealize.ShloMosaic.TcCoe Idealize.SL.Sem

/-- The plain program ends with its arguments as they were; it has no counters. -/
theorem frame_reference : Cert.quiescent_ProjReferenceIdeal (hProjReferenceIdeal := Cert.ProjReferenceIdeal.Gen.facts) := fun m ρ _ =>
  (θ_run Cert.ProjReferenceIdeal.defs _ _).mono (fun r h => ⟨fun c => (h c).2.2.2.2.2.2.2.2.2,
      Idealize.ShloMosaic.sem_eq_zero_of_no_sems (by decide) r.2⟩)
    (Cert.ProjReferenceIdeal.Value.run (F := Ideal) m ρ)

/-- The tiled program leaves the nine results and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7_0) = heads (A0 m c) (A1 m c) 1
      ∧ r.2.mem ((c.tc : Thread nD τ).loc main_v7_1) = heads (A0 m c) (A1 m c) 2
      ∧ r.2.mem ((c.tc : Thread nD τ).loc main_v7_2) = queries (A0 m c) (A1 m c)
      ∧ r.2.mem ((c.tc : Thread nD τ).loc main_v7_3) = keys (A0 m c) (A1 m c)
      ∧ r.2.mem ((c.tc : Thread nD τ).loc main_v7_4) = values (A0 m c) (A1 m c)
      ∧ r.2.mem ((c.tc : Thread nD τ).loc main_v7_5) = gated (A0 m c) (A1 m c)
      ∧ r.2.mem ((c.tc : Thread nD τ).loc main_v7_6) = normed (A0 m c) (A1 m c) (A2 m c) (A3 m c)
      ∧ r.2.mem ((c.tc : Thread nD τ).loc main_v7_7) = gates (A0 m c) (A1 m c) 5
      ∧ r.2.mem ((c.tc : Thread nD τ).loc main_v7_8) = gates (A0 m c) (A1 m c) 6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    exact ⟨((h c).1 4).trans (final4 m c), ((h c).1 5).trans (final5 m c), ((h c).1 6).trans (final6 m c), ((h c).1 7).trans (final7 m c),
      ((h c).1 8).trans (final8 m c), ((h c).1 9).trans (final9 m c), ((h c).1 10).trans (final10 m c), ((h c).1 11).trans (final11 m c),
      ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

/-- The rounded constant of the tiled program stands for the number it is named after. -/
theorem preserves : Cert.preserves_Proj_ProjIdeal :=
  IdealRules.named_const.statement Cert.ProjIdeal.κ "q_prescale" .f32 0x3E38AA3B#32 _ rfl

/-- The two programs leave the same nine results. -/
theorem algebraic : Cert.algebraic_ProjIdeal_ProjReferenceIdeal (hProjIdeal := Cert.ProjIdeal.Gen.facts)
    (hProjReferenceIdeal := Cert.ProjReferenceIdeal.Gen.facts) := by
  intro m g m' g' _ heq
  refine ⟨_, _, _, _, _, _, _, _, _, run m g, ?_⟩
  refine (θ_run Cert.ProjReferenceIdeal.defs _ _).mono (fun r h c => ?_) (Cert.ProjReferenceIdeal.Value.run (F := Ideal) m' g')
  obtain ⟨e0, e1, e2, e3⟩ := heq c
  obtain ⟨h4, h5, h6, h7, h8, h9, h10, h11, h12, hargs⟩ := h c
  refine ⟨h4.trans ?_, h5.trans ?_, h6.trans ?_, h7.trans ?_, h8.trans ?_, h9.trans ?_, h10.trans ?_, h11.trans ?_, h12.trans ?_, hargs⟩
  · refine (Cert.ProjReferenceIdeal.Read.heads_k _ _).trans ?_
    rw [e0, e1]
  · refine (Cert.ProjReferenceIdeal.Read.heads_v _ _).trans ?_
    rw [e0, e1]
  · refine (Cert.ProjReferenceIdeal.Read.tiles_q _ _).trans ?_
    rw [e0, e1]
  · refine (Cert.ProjReferenceIdeal.Read.rows_k _ _).trans ?_
    rw [e0, e1]
  · refine (Cert.ProjReferenceIdeal.Read.tiles_v _ _).trans ?_
    rw [e0, e1]
  · refine (Cert.ProjReferenceIdeal.Read.rows_gu _ _).trans ?_
    rw [e0, e1]
  · refine ((Cert.ProjReferenceIdeal.Read.val_main_v65_eq m' c).trans (Cert.ProjReferenceIdeal.Read.rows_vn _ _ _ _)).trans ?_
    rw [e0, e1, e2, e3]
  · refine (Cert.ProjReferenceIdeal.Read.rows_ga _ _).trans ?_
    rw [e0, e1]
  · refine (Cert.ProjReferenceIdeal.Read.rows_gm _ _).trans ?_
    rw [e0, e1]

end Cert.ProjIdeal.Block
-- ==== Proof.MixRow.lean ====
/-
  One row of the mixing and feed-forward part: the rows of a part at or before a row, weighted and shifted; the two gates and the
  product with the output weight; the normalisation; and the feed-forward layer. Both programs compute this expression at every row.
-/
module

public import proofs.«01_k».proof.Proof.FfnRow

@[expose] public section

noncomputable section

namespace Cert.MixRow

open Idealize.ShloMosaic Idealize.ShloMosaic.ValueIdx Cert.FfnRow

/-- A weight of row `q` for row `t` of a part: nothing of a later row is taken. -/
def weight (t q : Fin 128) (w : EReal) : EReal := if q.val ≤ t.val then w else 0

/-- A part mixed along its rows. -/
def spatial (t : Fin 128) (w v : Fin 128 → EReal) (b : EReal) : EReal := (∑ q : Fin 128, weight t q (w q) * v q) + b

/-- A row before the first normalisation: the row scaled, and the gated sum through the output weight. -/
def first (h o ga gm u f : Fin 1024 → EReal) (w : Fin 1024 → Fin 1024 → EReal) (j : Fin 1024) : EReal :=
  Ideal.ofBits .f32 0x3F9837F0#32 * h j + ∑ l : Fin 1024, (ga l * o l + gm l * (u l * f l)) * w l j

/-- The group of a column. -/
def group (l : Fin 1024) : Fin 8 := ⟨l.val / 128, by omega⟩

/-- The part of 128 rows a row is in, as its row `q`; and the row's place in its part. -/
def inPart (s : Fin 8192) (q : Fin 128) : Fin 8192 := ⟨s.val / 128 * 128 + q.val, by omega⟩
def along (s : Fin 8192) : Fin 128 := ⟨s.val % 128, Nat.mod_lt _ (by decide)⟩

theorem eq4 {a b c d : ℕ} (i j : (⟨4, ![a, b, c, d]⟩ : Shape).Idx) (h0 : (i 0).val = (j 0).val) (h1 : (i 1).val = (j 1).val)
    (h2 : (i 2).val = (j 2).val) (h3 : (i 3).val = (j 3).val) : i = j :=
  funext fun x => match x with
  | ⟨0, _⟩ => Fin.ext h0
  | ⟨1, _⟩ => Fin.ext h1
  | ⟨2, _⟩ => Fin.ext h2
  | ⟨3, _⟩ => Fin.ext h3

/-- A place as a signed word; and the bit of a comparison of two places. -/
theorem place_int (q : Fin 128) : (BitVec.ofNat 32 q.val).toInt = (q.val : ℤ) := by
  revert q
  decide +kernel

theorem place_le (t q : Fin 128) : (BitVec.ofNat 32 q.val).sle (BitVec.ofNat 32 t.val) = decide (q.val ≤ t.val) := by
  unfold BitVec.sle
  rw [place_int, place_int]
  exact decide_eq_decide.mpr Int.ofNat_le

section Whole

variable (x0 x1 x2 x3 x4 x5 : FVec Ideal ⟨3, ![2, 8192, 1024]⟩ .f32) (x6 : FVec Ideal ⟨4, ![1, 8, 128, 128]⟩ .f32)
  (x7 : FVec Ideal ⟨3, ![1, 8, 128]⟩ .f32) (x8 : FVec Ideal ⟨3, ![1, 1024, 1024]⟩ .f32) (x9 x10 : FVec Ideal ⟨2, ![1, 1024]⟩ .f32)
  (x11 x12 : FVec Ideal ⟨3, ![1, 1024, 2816]⟩ .f32) (x13 : FVec Ideal ⟨3, ![1, 2816, 1024]⟩ .f32) (x14 x15 : FVec Ideal ⟨2, ![1, 1024]⟩ .f32)
  (b : Fin 2) (s : Fin 8192)

/-- The mixed part at a row and a column. -/
def mixed (l : Fin 1024) : EReal :=
  spatial (along s) (fun q => x6 (ix4 (0 : Fin 1) (group l) (along s) q)) (fun q => x5 (ix3 b (inPart s q) l)) (x7 (ix3 (0 : Fin 1) (group l) (along s)))

/-- A row before the first normalisation. -/
def start : Fin 1024 → EReal :=
  first (fun l => x0 (ix3 b s l)) (fun l => x1 (ix3 b s l)) (fun l => x2 (ix3 b s l)) (fun l => x3 (ix3 b s l)) (fun l => x4 (ix3 b s l))
    (mixed x5 x6 x7 b s) (fun l j => x8 (ix3 (0 : Fin 1) l j))

/-- …and after it. -/
def middle : Fin 1024 → EReal :=
  norm (start x0 x1 x2 x3 x4 x5 x6 x7 x8 b s) (fun l => x9 (ix2 (0 : Fin 1) l)) (fun l => x10 (ix2 (0 : Fin 1) l))

/-- A row before the last normalisation. -/
def last : Fin 1024 → EReal :=
  pre (middle x0 x1 x2 x3 x4 x5 x6 x7 x8 x9 x10 b s) (fun l k => x11 (ix3 (0 : Fin 1) l k)) (fun l k => x12 (ix3 (0 : Fin 1) l k)) (fun k l => x13 (ix3 (0 : Fin 1) k l))

/-- The result, row after row. -/
def result (r : Fin 16384) (j : Fin 1024) : EReal :=
  norm (last x0 x1 x2 x3 x4 x5 x6 x7 x8 x9 x10 x11 x12 x13 (batch r) (place r)) (fun l => x14 (ix2 (0 : Fin 1) l)) (fun l => x15 (ix2 (0 : Fin 1) l)) j

end Whole

end Cert.MixRow
-- ==== Proof.MixPart.lean ====
/-
  The mixed block of a step: the sixteen parts the tiled program writes, and the block read back from them.
-/
module

public import proofs.«01_k».proof.Proof.MixRow
public import proofs.«01_k».proof.Proof.Gen.MixIdeal
public import proofs.«01_k».proof.Proof.Gen.MixIdeal.Frame
public import Idealize.ShloMosaic.Lib.Pipeline.Value

@[expose] public section

set_option maxRecDepth 16384

noncomputable section

namespace Cert.MixIdeal.Block

open Cert.MixIdeal Cert.MixIdeal.Gen Cert.FfnRow Cert.MixRow
open Idealize.ShloMosaic Idealize.ShloMosaic.TcCoe Idealize.ShloMosaic.ValueIdx

/-! ## The triangle -/

/-- The rows a row of a part takes. -/
abbrev keep : IVec S128x128 1 :=
  k0_pay6 (iota .tc S128x128 32 [0] iota_S128x128_d0_w32) (iota .tc S128x128 32 [1] iota_S128x128_d1_w32) k0_pay2 k0_pay3 k0_pay4 k0_pay5

/-- Every row of a part is in one part, and so is every column. -/
theorem one_part : ∀ t : Fin 128, k0_pay2 (ix2 t (0 : Fin 128)) = 0#32 := by decide +kernel
theorem one_part' : ∀ q : Fin 128, select (andi k0_pay4 k0_pay5) (subi k0_pay3 (broadcast S128x128 1#32)) k0_pay3 (ix2 (0 : Fin 128) q) = 0#32 := by
  decide +kernel

theorem keep_apply (t q : Fin 128) : keep (ix2 t q) = BitVec.ofBool (decide (q.val ≤ t.val)) := by
  have a : k0_pay2 (ix2 t q) = 0#32 := one_part t
  have b : select (andi k0_pay4 k0_pay5) (subi k0_pay3 (broadcast S128x128 1#32)) k0_pay3 (ix2 t q) = 0#32 := one_part' q
  have i0 : iota .tc S128x128 32 [0] iota_S128x128_d0_w32 (ix2 t q) = BitVec.ofNat 32 t.val := congrArg (BitVec.ofNat 32) (by show 0 * 128 + t.val = t.val; omega)
  have i1 : iota .tc S128x128 32 [1] iota_S128x128_d1_w32 (ix2 t q) = BitVec.ofNat 32 q.val := congrArg (BitVec.ofNat 32) (by show 0 * 128 + q.val = q.val; omega)
  show IntOp.andi (IntOp.cmpi .eq (k0_pay2 (ix2 t q)) (select (andi k0_pay4 k0_pay5) (subi k0_pay3 (broadcast S128x128 1#32)) k0_pay3 (ix2 t q)))
    (IntOp.cmpi .sle (iota .tc S128x128 32 [1] iota_S128x128_d1_w32 (ix2 t q)) (iota .tc S128x128 32 [0] iota_S128x128_d0_w32 (ix2 t q))) = _
  rw [a, b, i0, i1]
  show 1#1 &&& BitVec.ofBool ((BitVec.ofNat 32 q.val).sle (BitVec.ofNat 32 t.val)) = _
  rw [place_le]
  cases decide (q.val ≤ t.val) <;> rfl

/-! ## A load of an input -/

theorem load2 {sp : Space} {e : EltTy} {n0 n1 z0 z1 : ℕ} {a : Memref sig .tc sp ⟨2, ![n0, n1]⟩ e} (h : a.IsWhole) (X : (⟨2, ![n0, n1]⟩ : Shape).Idx → Elt Ideal e)
    (off : Fin 2 → ℕ) (inb) (i : Fin z0) (j : Fin z1) (I : Fin n0) (J : Fin n1) (h0 : off 0 + i.val = I.val) (h1 : off 1 + j.val = J.val) :
    a.view.readAt (Elt Ideal) (Rect.unit (s := ⟨2, ![n0, n1]⟩) off ![z0, z1] inb).toLoadRect (h.unread X) (ix2 i j) = X (ix2 I J) := by
  rw [View.readAt_apply, h.read_unread]
  exact congrArg X (eq2 _ _ (by show off 0 + 1 * i.val = I.val; omega) (by show off 1 + 1 * j.val = J.val; omega))
theorem load3 {sp : Space} {e : EltTy} {n0 n1 n2 z0 z1 z2 : ℕ} {a : Memref sig .tc sp ⟨3, ![n0, n1, n2]⟩ e} (h : a.IsWhole)
    (X : (⟨3, ![n0, n1, n2]⟩ : Shape).Idx → Elt Ideal e) (off : Fin 3 → ℕ) (inb) (i : Fin z0) (j : Fin z1) (k : Fin z2) (I : Fin n0) (J : Fin n1) (K : Fin n2)
    (h0 : off 0 + i.val = I.val) (h1 : off 1 + j.val = J.val) (h2 : off 2 + k.val = K.val) :
    a.view.readAt (Elt Ideal) (Rect.unit (s := ⟨3, ![n0, n1, n2]⟩) off ![z0, z1, z2] inb).toLoadRect (h.unread X) (ix3 i j k) = X (ix3 I J K) := by
  rw [View.readAt_apply, h.read_unread]
  exact congrArg X (eq3 _ _ (by show off 0 + 1 * i.val = I.val; omega) (by show off 1 + 1 * j.val = J.val; omega) (by show off 2 + 1 * k.val = K.val; omega))

/-! ## A part -/

section Part

variable (W : FVec Ideal S1x128x128 .f32) (v : FVec Ideal S128x128 .f32) (b : FVec Ideal S1x128x1 .f32) (u : FVec Ideal S128x128 .f32)

/-- A part mixed along its rows and gated. -/
def part : FVec Ideal S128x128 .f32 :=
  mulf u (addf (matmul (DotDims.plain 128 128 128) none
    (truncf .bf16 (select keep (shapeCast S128x128 W shapeCasts_S1x128x128_S128x128) (broadcast S128x128 (Scalar.ofBits (F := Ideal) .f32 0x00000000#32))) bitsLt_bf16_f32)
    (truncf .bf16 v bitsLt_bf16_f32) (constant S128x128 .f32 0x00000000#32))
    (broadcastTo S128x128 (shapeCast S128x1 b shapeCasts_S1x128x1_S128x1) broadcasts_S128x1_S128x128))

theorem kept_apply (t q : Fin 128) :
    select keep (shapeCast S128x128 W shapeCasts_S1x128x128_S128x128) (broadcast S128x128 (Scalar.ofBits (F := Ideal) .f32 0x00000000#32)) (ix2 t q)
      = weight t q (W (ix3 (0 : Fin 1) t q)) := by
  show (if keep (ix2 t q) = 1#1 then shapeCast S128x128 W shapeCasts_S1x128x128_S128x128 (ix2 t q) else Ideal.ofBits .f32 0x00000000#32) = _
  rw [keep_apply, Ideal.ofBits_zero_f32]
  unfold weight
  by_cases h : q.val ≤ t.val
  · rw [decide_eq_true h, if_pos h]
    exact shapeCast_1ab_ab_apply _ _ t q
  · rw [decide_eq_false h, if_neg h]
    rfl

theorem part_apply (t l : Fin 128) : part W v b u (ix2 t l)
    = u (ix2 t l) * spatial t (fun q => W (ix3 (0 : Fin 1) t q)) (fun q => v (ix2 q l)) (b (ix3 (0 : Fin 1) t (0 : Fin 1))) := by
  refine congrArg (fun z : EReal => u (ix2 t l) * z) (congrArg₂ (fun x y : EReal => x + y) ?_ ?_)
  · refine (matmul_sum _ (truncf (F := Ideal) .bf16 v bitsLt_bf16_f32) t l).trans (Finset.sum_congr rfl fun q _ => ?_)
    exact congrArg (fun z : EReal => z * v (ix2 q l)) (kept_apply W t q)
  · rw [broadcastTo_apply _ _ (ix2 t l) (ix2 t (0 : Fin 1)) (fun a => match a with
      | ⟨0, _⟩ => by show t.val = (if (128 : ℕ) = 1 then 0 else t.val); rw [if_neg (by decide)]
      | ⟨1, _⟩ => by show 0 = (if (1 : ℕ) = 1 then 0 else l.val); rw [if_pos rfl])]
    exact shapeCast_1ab_ab_apply _ _ t (0 : Fin 1)

end Part

/-! ## The parts side by side -/

/-- The group of a column; the place of a row in its part; and a row of its part. -/
def alongB (r : Fin 256) : Fin 128 := ⟨r.val % 128, Nat.mod_lt _ (by decide)⟩
def inPartB (r : Fin 256) (q : Fin 128) : Fin 256 := ⟨r.val / 128 * 128 + q.val, by omega⟩

variable (U V : FVec Ideal S256x1024 .f32) (W : FVec Ideal S8x128x128 .f32) (B : FVec Ideal S8x128x1 .f32)

/-- The mixed block. -/
def mixedB (r : Fin 256) (l : Fin 1024) : EReal :=
  spatial (alongB r) (fun q => W (ix3 (group l) (alongB r) q)) (fun q => V (ix2 (inPartB r q) l)) (B (ix3 (group l) (alongB r) (0 : Fin 1)))

/-- A part is where the block has it. -/
def Placed (r0 c0 : ℕ) (s : FVec Ideal S128x128 .f32) : Prop :=
  ∀ (t l : Fin 128) (r : Fin 256) (k : Fin 1024), r.val = r0 + t.val → k.val = c0 + l.val → s (ix2 t l) = U (ix2 r k) * mixedB V W B r k

theorem canon_part {a g r0 c0 : ℕ} {s : FVec Ideal S128x128 .f32} (p : Placed U V W B r0 c0 s) (hr : r0 = 128 * a) (hc : c0 = 128 * g) (inb)
    (L : List (View.Piece (Elt Ideal) S256x1024 .f32)) (r : Fin 256) (k : Fin 1024)
    (tail : ¬ (r.val / 128 = a ∧ k.val / 128 = g) → View.canon L (ix2 r k) = U (ix2 r k) * mixedB V W B r k) :
    View.canon (⟨Rect.unit (s := S256x1024) ![r0, c0] ![128, 128] inb, s⟩ :: L) (ix2 r k) = U (ix2 r k) * mixedB V W B r k := by
  by_cases h : r.val / 128 = a ∧ k.val / 128 = g
  · obtain ⟨h0, h1⟩ := h
    have e : ix2 r k = (Rect.unit (s := S256x1024) ![r0, c0] ![128, 128] inb).emb
        (ix2 (⟨r.val % 128, Nat.mod_lt _ (by decide)⟩ : Fin 128) (⟨k.val % 128, Nat.mod_lt _ (by decide)⟩ : Fin 128)) :=
      eq2 _ _ (by show r.val = r0 + 1 * (r.val % 128); omega) (by show k.val = c0 + 1 * (k.val % 128); omega)
    refine (congrArg (View.canon _) e).trans ((View.canon_cons_emb (Val := Elt Ideal) (e := .f32) (Rect.unit (s := S256x1024) ![r0, c0] ![128, 128] inb) s L _).trans (p _ _ r k ?_ ?_))
    · show r.val = r0 + r.val % 128; omega
    · show k.val = c0 + k.val % 128; omega
  · refine (View.canon_cons_of_not_mem _ _ fun hx => h ?_).trans (tail h)
    have hm := (Rect.mem_set_unit (inb := inb)).1 hx
    have m0 : r0 ≤ r.val ∧ r.val < r0 + 128 := hm 0
    have m1 : c0 ≤ k.val ∧ k.val < c0 + 128 := hm 1
    omega

section Run

variable (c : Dev nD)
  (arg5 : Memref sig .tc .vmem S256x1024 .f32) (harg5 : arg5.IsWhole) (arg6 : Memref sig .tc .vmem S256x1024 .f32) (harg6 : arg6.IsWhole)
  (arg7 : Memref sig .tc .vmem S8x128x128 .f32) (harg7 : arg7.IsWhole) (arg8 : Memref sig .tc .vmem S8x128x1 .f32) (harg8 : arg8.IsWhole)

/-- A part as the program computes it from its loads. -/
def loaded (a g r0 c0 : ℕ) (iw : ∀ x, (![g, 0, 0] : Fin 3 → ℕ) x + S1x128x128.size x ≤ S8x128x128.size x)
    (ib : ∀ x, (![g, 0, 0] : Fin 3 → ℕ) x + S1x128x1.size x ≤ S8x128x1.size x)
    (iv : ∀ x, (![r0, c0] : Fin 2 → ℕ) x + S128x128.size x ≤ S256x1024.size x) : FVec Ideal S128x128 .f32 :=
  part (arg7.view.readAt (Elt Ideal) (Rect.unit (s := S8x128x128) ![g, 0, 0] S1x128x128.size iw).toLoadRect (harg7.unread W))
    (arg6.view.readAt (Elt Ideal) (Rect.unit (s := S256x1024) ![r0, c0] S128x128.size iv).toLoadRect (harg6.unread V))
    (arg8.view.readAt (Elt Ideal) (Rect.unit (s := S8x128x1) ![g, 0, 0] S1x128x1.size ib).toLoadRect (harg8.unread B))
    (arg5.view.readAt (Elt Ideal) (Rect.unit (s := S256x1024) ![r0, c0] S128x128.size iv).toLoadRect (harg5.unread U))

theorem loaded_placed (a g r0 c0 : ℕ) (hr : r0 = 128 * a) (hc : c0 = 128 * g) (ha : a < 2) (hg : g < 8) (iw) (ib) (iv) :
    Placed U V W B r0 c0 (loaded U V W B arg5 harg5 arg6 harg6 arg7 harg7 arg8 harg8 a g r0 c0 iw ib iv) := fun t l r k h0 h1 => by
  have ht := t.isLt
  have hl := l.isLt
  have e0 : alongB r = t := Fin.ext (by show r.val % 128 = t.val; omega)
  have e1 : group k = ⟨g, hg⟩ := Fin.ext (by show k.val / 128 = g; omega)
  unfold loaded mixedB
  rw [part_apply, e0, e1]
  refine congrArg₂ (fun x y : EReal => x * y) ?_ (congr (congr (congrArg (spatial t) (funext fun q => ?_)) (funext fun q => ?_)) ?_)
  · exact load2 harg5 U _ iv t l r k h0.symm h1.symm
  · exact load3 harg7 W _ iw (0 : Fin 1) t q (⟨g, hg⟩ : Fin 8) t q rfl (Nat.zero_add _) (Nat.zero_add _)
  · exact load2 harg6 V _ iv q l (inPartB r q) k (by show r0 + q.val = r.val / 128 * 128 + q.val; omega) h1.symm
  · exact load3 harg8 B _ ib (0 : Fin 1) t (0 : Fin 1) (⟨g, hg⟩ : Fin 8) t (0 : Fin 1) rfl (Nat.zero_add _) rfl

/-- The sixteen parts as they are written. -/
def parts : List (View.Piece (Elt Ideal) S256x1024 .f32) :=
  [⟨Rect.unit ![128, 896] S128x128.size inb_S256x1024_S128x128_128_896, loaded U V W B arg5 harg5 arg6 harg6 arg7 harg7 arg8 harg8 1 7 128 896 inb_S8x128x128_S1x128x128_7_0_0 inb_S8x128x1_S1x128x1_7_0_0 inb_S256x1024_S128x128_128_896⟩,
   ⟨Rect.unit ![0, 896] S128x128.size inb_S256x1024_S128x128_0_896, loaded U V W B arg5 harg5 arg6 harg6 arg7 harg7 arg8 harg8 0 7 0 896 inb_S8x128x128_S1x128x128_7_0_0 inb_S8x128x1_S1x128x1_7_0_0 inb_S256x1024_S128x128_0_896⟩,
   ⟨Rect.unit ![128, 768] S128x128.size inb_S256x1024_S128x128_128_768, loaded U V W B arg5 harg5 arg6 harg6 arg7 harg7 arg8 harg8 1 6 128 768 inb_S8x128x128_S1x128x128_6_0_0 inb_S8x128x1_S1x128x1_6_0_0 inb_S256x1024_S128x128_128_768⟩,
   ⟨Rect.unit ![0, 768] S128x128.size inb_S256x1024_S128x128_0_768, loaded U V W B arg5 harg5 arg6 harg6 arg7 harg7 arg8 harg8 0 6 0 768 inb_S8x128x128_S1x128x128_6_0_0 inb_S8x128x1_S1x128x1_6_0_0 inb_S256x1024_S128x128_0_768⟩,
   ⟨Rect.unit ![128, 640] S128x128.size inb_S256x1024_S128x128_128_640, loaded U V W B arg5 harg5 arg6 harg6 arg7 harg7 arg8 harg8 1 5 128 640 inb_S8x128x128_S1x128x128_5_0_0 inb_S8x128x1_S1x128x1_5_0_0 inb_S256x1024_S128x128_128_640⟩,
   ⟨Rect.unit ![0, 640] S128x128.size inb_S256x1024_S128x128_0_640, loaded U V W B arg5 harg5 arg6 harg6 arg7 harg7 arg8 harg8 0 5 0 640 inb_S8x128x128_S1x128x128_5_0_0 inb_S8x128x1_S1x128x1_5_0_0 inb_S256x1024_S128x128_0_640⟩,
   ⟨Rect.unit ![128, 512] S128x128.size inb_S256x1024_S128x128_128_512, loaded U V W B arg5 harg5 arg6 harg6 arg7 harg7 arg8 harg8 1 4 128 512 inb_S8x128x128_S1x128x128_4_0_0 inb_S8x128x1_S1x128x1_4_0_0 inb_S256x1024_S128x128_128_512⟩,
   ⟨Rect.unit ![0, 512] S128x128.size inb_S256x1024_S128x128_0_512, loaded U V W B arg5 harg5 arg6 harg6 arg7 harg7 arg8 harg8 0 4 0 512 inb_S8x128x128_S1x128x128_4_0_0 inb_S8x128x1_S1x128x1_4_0_0 inb_S256x1024_S128x128_0_512⟩,
   ⟨Rect.unit ![128, 384] S128x128.size inb_S256x1024_S128x128_128_384, loaded U V W B arg5 harg5 arg6 harg6 arg7 harg7 arg8 harg8 1 3 128 384 inb_S8x128x128_S1x128x128_3_0_0 inb_S8x128x1_S1x128x1_3_0_0 inb_S256x1024_S128x128_128_384⟩,
   ⟨Rect.unit ![0, 384] S128x128.size inb_S256x1024_S128x128_0_384, loaded U V W B arg5 harg5 arg6 harg6 arg7 harg7 arg8 harg8 0 3 0 384 inb_S8x128x128_S1x128x128_3_0_0 inb_S8x128x1_S1x128x1_3_0_0 inb_S256x1024_S128x128_0_384⟩,
   ⟨Rect.unit ![128, 256] S128x128.size inb_S256x1024_S128x128_128_256, loaded U V W B arg5 harg5 arg6 harg6 arg7 harg7 arg8 harg8 1 2 128 256 inb_S8x128x128_S1x128x128_2_0_0 inb_S8x128x1_S1x128x1_2_0_0 inb_S256x1024_S128x128_128_256⟩,
   ⟨Rect.unit ![0, 256] S128x128.size inb_S256x1024_S128x128_0_256, loaded U V W B arg5 harg5 arg6 harg6 arg7 harg7 arg8 harg8 0 2 0 256 inb_S8x128x128_S1x128x128_2_0_0 inb_S8x128x1_S1x128x1_2_0_0 inb_S256x1024_S128x128_0_256⟩,
   ⟨Rect.unit ![128, 128] S128x128.size inb_S256x1024_S128x128_128_128, loaded U V W B arg5 harg5 arg6 harg6 arg7 harg7 arg8 harg8 1 1 128 128 inb_S8x128x128_S1x128x128_1_0_0 inb_S8x128x1_S1x128x1_1_0_0 inb_S256x1024_S128x128_128_128⟩,
   ⟨Rect.unit ![0, 128] S128x128.size inb_S256x1024_S128x128_0_128, loaded U V W B arg5 harg5 arg6 harg6 arg7 harg7 arg8 harg8 0 1 0 128 inb_S8x128x128_S1x128x128_1_0_0 inb_S8x128x1_S1x128x1_1_0_0 inb_S256x1024_S128x128_0_128⟩,
   ⟨Rect.unit ![128, 0] S128x128.size inb_S256x1024_S128x128_128_0, loaded U V W B arg5 harg5 arg6 harg6 arg7 harg7 arg8 harg8 1 0 128 0 inb_S8x128x128_S1x128x128_0_0_0 inb_S8x128x1_S1x128x1_0_0_0 inb_S256x1024_S128x128_128_0⟩,
   ⟨Rect.unit ![0, 0] S128x128.size inb_S256x1024_S128x128_0_0, loaded U V W B arg5 harg5 arg6 harg6 arg7 harg7 arg8 harg8 0 0 0 0 inb_S8x128x128_S1x128x128_0_0_0 inb_S8x128x1_S1x128x1_0_0_0 inb_S256x1024_S128x128_0_0⟩]

theorem parts_eq : kernelRun0_A.sl.HS0_16 (F := Ideal) c arg5 harg5 arg6 harg6 arg7 harg7 arg8 harg8 U V W B = parts U V W B arg5 harg5 arg6 harg6 arg7 harg7 arg8 harg8 := by
  simp only [kernelRun0_A.sl.HS0_16, kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, k0_pay8, k0_pay9, k0_pay10, k0_pay11, k0_pay13, k0_pay14, k0_pay15, k0_pay17, k0_pay18, k0_pay19, k0_pay21, k0_pay22, k0_pay23,
    k0_pay25, k0_pay26, k0_pay27, k0_pay29, k0_pay30, k0_pay31, k0_pay33, k0_pay34, k0_pay36, k0_pay37, shapeCast_self]
  rfl

/-- The block read back from the parts. -/
theorem parts_apply (r : Fin 256) (k : Fin 1024) : View.canon (parts U V W B arg5 harg5 arg6 harg6 arg7 harg7 arg8 harg8) (ix2 r k) = U (ix2 r k) * mixedB V W B r k := by
  have P0 := fun (g c0 : ℕ) (hc : c0 = 128 * g) (hg : g < 8) iw ib iv => loaded_placed U V W B arg5 harg5 arg6 harg6 arg7 harg7 arg8 harg8 0 g 0 c0 rfl hc (by decide) hg iw ib iv
  have P1 := fun (g c0 : ℕ) (hc : c0 = 128 * g) (hg : g < 8) iw ib iv => loaded_placed U V W B arg5 harg5 arg6 harg6 arg7 harg7 arg8 harg8 1 g 128 c0 rfl hc (by decide) hg iw ib iv
  refine canon_part U V W B (P1 7 896 rfl (by decide) _ _ _) (a := 1) (g := 7) rfl rfl _ _ r k fun h17 => ?_
  refine canon_part U V W B (P0 7 896 rfl (by decide) _ _ _) (a := 0) (g := 7) rfl rfl _ _ r k fun h07 => ?_
  refine canon_part U V W B (P1 6 768 rfl (by decide) _ _ _) (a := 1) (g := 6) rfl rfl _ _ r k fun h16 => ?_
  refine canon_part U V W B (P0 6 768 rfl (by decide) _ _ _) (a := 0) (g := 6) rfl rfl _ _ r k fun h06 => ?_
  refine canon_part U V W B (P1 5 640 rfl (by decide) _ _ _) (a := 1) (g := 5) rfl rfl _ _ r k fun h15 => ?_
  refine canon_part U V W B (P0 5 640 rfl (by decide) _ _ _) (a := 0) (g := 5) rfl rfl _ _ r k fun h05 => ?_
  refine canon_part U V W B (P1 4 512 rfl (by decide) _ _ _) (a := 1) (g := 4) rfl rfl _ _ r k fun h14 => ?_
  refine canon_part U V W B (P0 4 512 rfl (by decide) _ _ _) (a := 0) (g := 4) rfl rfl _ _ r k fun h04 => ?_
  refine canon_part U V W B (P1 3 384 rfl (by decide) _ _ _) (a := 1) (g := 3) rfl rfl _ _ r k fun h13 => ?_
  refine canon_part U V W B (P0 3 384 rfl (by decide) _ _ _) (a := 0) (g := 3) rfl rfl _ _ r k fun h03 => ?_
  refine canon_part U V W B (P1 2 256 rfl (by decide) _ _ _) (a := 1) (g := 2) rfl rfl _ _ r k fun h12 => ?_
  refine canon_part U V W B (P0 2 256 rfl (by decide) _ _ _) (a := 0) (g := 2) rfl rfl _ _ r k fun h02 => ?_
  refine canon_part U V W B (P1 1 128 rfl (by decide) _ _ _) (a := 1) (g := 1) rfl rfl _ _ r k fun h11 => ?_
  refine canon_part U V W B (P0 1 128 rfl (by decide) _ _ _) (a := 0) (g := 1) rfl rfl _ _ r k fun h01 => ?_
  refine canon_part U V W B (P1 0 0 rfl (by decide) _ _ _) (a := 1) (g := 0) rfl rfl _ _ r k fun h10 => ?_
  refine canon_part U V W B (P0 0 0 rfl (by decide) _ _ _) (a := 0) (g := 0) rfl rfl _ _ r k fun h00 => ?_
  have hr : r.val / 128 = 0 ∨ r.val / 128 = 1 := by omega
  have hk : k.val / 128 = 0 ∨ k.val / 128 = 1 ∨ k.val / 128 = 2 ∨ k.val / 128 = 3 ∨ k.val / 128 = 4 ∨ k.val / 128 = 5 ∨ k.val / 128 = 6 ∨ k.val / 128 = 7 := by omega
  rcases hr with hr | hr <;> rcases hk with hk | hk | hk | hk | hk | hk | hk | hk <;> exact absurd (And.intro hr hk) (by assumption)

/-- The mixed block as the program reads it back. -/
theorem scratch_apply (arg18 : Memref sig .tc .vmem S256x1024 .f32) (r : Fin 256) (k : Fin 1024) :
    kernelRun0_A.sl.v324 (F := Ideal) c arg5 harg5 arg6 harg6 arg7 harg7 arg8 harg8 arg18 U V W B (ix2 r k) = U (ix2 r k) * mixedB V W B r k := by
  unfold kernelRun0_A.sl.v324
  rw [parts_eq, View.readCov_eq_canon']
  refine Eq.trans ?_ (parts_apply U V W B arg5 harg5 arg6 harg6 arg7 harg7 arg8 harg8 r k)
  exact congrArg (View.canon _) (eq2 _ _ (by show 0 + 1 * r.val = r.val; omega) (by show 0 + 1 * k.val = k.val; omega))

end Run

end Cert.MixIdeal.Block
-- ==== Proof.MixStep.lean ====
/-
  The tiled program's step of the mixing and feed-forward part: what it computes from its blocks, read at an element.
-/
module

public import proofs.«01_k».proof.Proof.MixPart
public import proofs.«01_k».proof.Proof.ProjKernel

@[expose] public section

set_option maxRecDepth 16384

noncomputable section

namespace Cert.MixIdeal.Block

open Cert.MixIdeal Cert.MixIdeal.Gen Cert.FfnRow Cert.MixRow
open Idealize.ShloMosaic Idealize.ShloMosaic.TcCoe Idealize.ShloMosaic.ValueIdx
open Cert.ProjIdeal.Block (spread_apply repeat_apply total_apply)

/-! ## The normalisation of a block -/

section Norm

variable (P : FVec Ideal S256x1024 .f32) (h : Fin 1024 → EReal) (r : Fin 256)

/-- A block less its rows' means. -/
def centredB : FVec Ideal S256x1024 .f32 :=
  subf P (broadcastTo S256x1024 (divf (shapeCast S256x1 (multiReduction .add [1] S256 P 0x00000000#32 reduces_S256x1024_S256 (.inl rfl) rfl) shapeCasts_S256_S256x1)
    (broadcast S256x1 (Scalar.ofBits (F := Ideal) .f32 0x44800000#32))) broadcasts_S256x1_S256x1024)

theorem centredB_apply (e : ∀ j, P (ix2 r j) = h j) (j : Fin 1024) : centredB P (ix2 r j) = centred h j := by
  refine congrArg₂ (fun u v : EReal => u - v) (e j) ((spread_apply _ _ r j).trans ?_)
  exact congrArg (fun u : EReal => Ideal.div u (Ideal.ofBits .f32 0x44800000#32)) ((total_apply P _ _ _ _ r).trans (Finset.sum_congr rfl fun k _ => e k))

/-- The rows' means of squares. -/
def squares : FVec Ideal S256x1 .f32 :=
  divf (shapeCast S256x1 (multiReduction .add [1] S256 (mulf P P) 0x00000000#32 reduces_S256x1024_S256 (.inl rfl) rfl) shapeCasts_S256_S256x1)
    (broadcast S256x1 (Scalar.ofBits (F := Ideal) .f32 0x44800000#32))

theorem squares_apply (e : ∀ j, P (ix2 r j) = h j) : squares P (ix2 r (0 : Fin 1)) = mean (fun k => h k * h k) :=
  congrArg (fun u : EReal => Ideal.div u (Ideal.ofBits .f32 0x44800000#32))
    ((total_apply (mulf P P) _ _ _ _ r).trans (Finset.sum_congr rfl fun k _ => congrArg₂ (fun u v : EReal => u * v) (e k) (e k)))

/-- A centred block scaled and shifted. -/
def scaled (v : FVec Ideal S256x1 .f32) (G B : FVec Ideal S1x1024 .f32) : FVec Ideal S256x1024 .f32 :=
  addf (mulf (mulf P (broadcastTo S256x1024 v broadcasts_S256x1_S256x1024)) (broadcastTo S256x1024 G broadcasts_S1x1024_S256x1024))
    (broadcastTo S256x1024 B broadcasts_S1x1024_S256x1024)

/-- The inverse deviations of the rows. -/
def scales (v : FVec Ideal S256x1 .f32) : FVec Ideal S256x1 .f32 := rsqrt (addf v (broadcast S256x1 (Scalar.ofBits (F := Ideal) .f32 0x3727C5AC#32)))

theorem normB_apply (e : ∀ j, P (ix2 r j) = h j) (G B : FVec Ideal S1x1024 .f32) (j : Fin 1024) :
    scaled (centredB P) (scales (squares (centredB P))) G B (ix2 r j) = norm h (fun l => G (ix2 (0 : Fin 1) l)) (fun l => B (ix2 (0 : Fin 1) l)) j := by
  have e0 := centredB_apply P h r e
  refine congrArg₂ (fun u v : EReal => u + v) (congrArg₂ (fun u v : EReal => u * v) (congrArg₂ (fun u v : EReal => u * v) (e0 j) ?_)
    (repeat_apply G _ r j)) (repeat_apply B _ r j)
  refine (spread_apply _ _ r j).trans ?_
  exact congrArg (fun u : EReal => Ideal.rsqrt (u + Ideal.ofBits .f32 0x3727C5AC#32)) (squares_apply (centredB P) (centred h) r e0)

end Norm

/-! ## The step -/

section Step

variable (H O GA GM S : FVec Ideal S256x1024 .f32) (WO : FVec Ideal S1024x1024 .bf16) (G2 B2 : FVec Ideal S1x1024 .f32)
  (WG WU : FVec Ideal S1024x2816 .bf16) (WD : FVec Ideal S2816x1024 .bf16) (G3 B3 : FVec Ideal S1x1024 .f32)

/-- The block before the first normalisation. -/
def firstB : FVec Ideal S256x1024 .f32 :=
  addf (mulf (broadcast S256x1024 (Scalar.ofBits (F := Ideal) .f32 0x3F9837F0#32)) H)
    (matmul (DotDims.plain 256 1024 1024) none (truncf .bf16 (addf (mulf GA O) (mulf GM S)) bitsLt_bf16_f32) WO (constant S256x1024 .f32 0x00000000#32))

theorem pay40_eq : k0_pay40 (F := Ideal) GA O GM S WO H = centredB (firstB H O GA GM S WO) := by
  unfold k0_pay40
  simp only [shapeCast_self]
  rfl
theorem pay41_eq : k0_pay41 (F := Ideal) GA O GM S WO H = scales (squares (centredB (firstB H O GA GM S WO))) := by
  unfold k0_pay41
  rw [pay40_eq]
  rfl
theorem pay44_eq (D : FVec Ideal S256x1024 .f32) (v : FVec Ideal S256x1 .f32) :
    k0_pay44 (F := Ideal) G2 B2 D v WG WU WD = centredB (Cert.FfnIdeal.Block.sumBlock (scaled D v G2 B2) WG WU WD) := by
  unfold k0_pay44
  simp only [shapeCast_self]
  rfl
theorem pay45_eq (D : FVec Ideal S256x1024 .f32) (v : FVec Ideal S256x1 .f32) :
    k0_pay45 (F := Ideal) G2 B2 D v WG WU WD = squares (centredB (Cert.FfnIdeal.Block.sumBlock (scaled D v G2 B2) WG WU WD)) := by
  unfold k0_pay45
  rw [pay44_eq]
  rfl

/-- What a step computes. -/
def stepB : FVec Ideal S256x1024 .f32 :=
  k0_pay1 (k0_pay42 G3) (k0_pay43 B3)
    (k0_pay44 (k0_pay38 G2) (k0_pay39 B2) (k0_pay40 GA O GM S WO H) (k0_pay41 GA O GM S WO H) WG WU WD)
    (k0_pay45 (k0_pay38 G2) (k0_pay39 B2) (k0_pay40 GA O GM S WO H) (k0_pay41 GA O GM S WO H) WG WU WD) (FloatOps.ofBits .f32 0x3727C5AC#32)

theorem stepB_eq : stepB H O GA GM S WO G2 B2 WG WU WD G3 B3
    = let h2 := scaled (centredB (firstB H O GA GM S WO)) (scales (squares (centredB (firstB H O GA GM S WO)))) G2 B2
      let P := Cert.FfnIdeal.Block.sumBlock h2 WG WU WD
      scaled (centredB P) (scales (squares (centredB P))) G3 B3 := by
  unfold stepB k0_pay38 k0_pay39 k0_pay42 k0_pay43
  rw [shapeCast_self, shapeCast_self, shapeCast_self, shapeCast_self, pay40_eq, pay41_eq, pay44_eq, pay45_eq]
  rfl

/-- A step's block, from what its blocks hold along a row. -/
theorem stepB_apply (r : Fin 256) (j : Fin 1024) (h o ga gm u f : Fin 1024 → EReal) (hh : ∀ l, H (ix2 r l) = h l) (ho : ∀ l, O (ix2 r l) = o l)
    (hga : ∀ l, GA (ix2 r l) = ga l) (hgm : ∀ l, GM (ix2 r l) = gm l) (hs : ∀ l, S (ix2 r l) = u l * f l) :
    stepB H O GA GM S WO G2 B2 WG WU WD G3 B3 (ix2 r j)
      = norm (pre (norm (first h o ga gm u f (fun l k => WO (ix2 l k))) (fun l => G2 (ix2 (0 : Fin 1) l)) (fun l => B2 (ix2 (0 : Fin 1) l)))
          (fun l k => WG (ix2 l k)) (fun l k => WU (ix2 l k)) (fun k l => WD (ix2 k l)))
        (fun l => G3 (ix2 (0 : Fin 1) l)) (fun l => B3 (ix2 (0 : Fin 1) l)) j := by
  rw [stepB_eq]
  refine normB_apply _ _ r (fun k => ?_) G3 B3 j
  refine (Cert.FfnIdeal.Block.sumBlock_apply _ WG WU WD r k).trans ?_
  refine congrFun (congrArg (fun x : Fin 1024 → EReal => pre x _ _ _) (funext fun l => ?_)) k
  refine normB_apply _ _ r (fun i => ?_) G2 B2 l
  refine congrArg₂ (fun u v : EReal => u + v) (congrArg (fun z : EReal => Ideal.ofBits .f32 0x3F9837F0#32 * z) (hh i)) ?_
  refine (matmul_sum (truncf (F := Ideal) .bf16 (addf (mulf GA O) (mulf GM S)) bitsLt_bf16_f32) WO r i).trans (Finset.sum_congr rfl fun l _ => ?_)
  refine congrArg (fun z : EReal => z * WO (ix2 l i)) ?_
  exact congrArg₂ (fun x y : EReal => x + y) (congrArg₂ (fun x y : EReal => x * y) (hga l) (ho l)) (congrArg₂ (fun x y : EReal => x * y) (hgm l) (hs l))

end Step

/-- A block written whole is what was written. -/
theorem canon_whole (P : FVec Ideal S256x1024 .f32) (inb) (y : S256x1024.Idx) :
    View.canon (Val := Elt Ideal) (e := .f32) [⟨Rect.unit (s := S256x1024) ![0, 0] ![256, 1024] inb, P⟩] y = P y := by
  have e : y = (Rect.unit (s := S256x1024) ![0, 0] ![256, 1024] inb).emb y :=
    eq2 _ _ (by show (y 0).val = 0 + 1 * (y 0).val; omega) (by show (y 1).val = 0 + 1 * (y 1).val; omega)
  exact (congrArg (View.canon _) e).trans (View.canon_cons_emb (Val := Elt Ideal) (e := .f32) (Rect.unit (s := S256x1024) ![0, 0] ![256, 1024] inb) P [] y)

end Cert.MixIdeal.Block
-- ==== Proof.MixBlocks.lean ====
/-
  The mixing and feed-forward part: the blocks the tiled program's steps are handed, and the array its steps leave.
-/
module

public import proofs.«01_k».proof.Proof.MixStep
public import Idealize.ShloMosaic.Lib.StableHlo.RunRead

@[expose] public section

set_option maxRecDepth 16384

noncomputable section

namespace Cert.MixIdeal.Block

open Cert.MixIdeal Cert.MixIdeal.Gen Cert.FfnRow Cert.MixRow
open Idealize.ShloMosaic Idealize.ShloMosaic.TcCoe Idealize.ShloMosaic.ValueIdx Idealize.ShloMosaic.StableHlo
open Idealize.ShloMosaic.Pipeline (Dat)
open Cert.FfnIdeal.Block (rows_apply flat_apply)

variable (m : (ℓ : Loc nD τ sig) → Buf (Elt Ideal) ℓ) (c : Dev nD)

abbrev A0 : FVec Ideal S2x8192x1024 .f32 := m ((c : Thread nD τ).loc main_arg0)
abbrev A1 : FVec Ideal S2x8192x1024 .f32 := m ((c : Thread nD τ).loc main_arg1)
abbrev A2 : FVec Ideal S2x8192x1024 .f32 := m ((c : Thread nD τ).loc main_arg2)
abbrev A3 : FVec Ideal S2x8192x1024 .f32 := m ((c : Thread nD τ).loc main_arg3)
abbrev A4 : FVec Ideal S2x8192x1024 .f32 := m ((c : Thread nD τ).loc main_arg4)
abbrev A5 : FVec Ideal S2x8192x1024 .f32 := m ((c : Thread nD τ).loc main_arg5)
abbrev A6 : FVec Ideal S1x8x128x128 .f32 := m ((c : Thread nD τ).loc main_arg6)
abbrev A7 : FVec Ideal S1x8x128 .f32 := m ((c : Thread nD τ).loc main_arg7)
abbrev A8 : FVec Ideal S1x1024x1024 .f32 := m ((c : Thread nD τ).loc main_arg8)
abbrev A9 : FVec Ideal S1x1024 .f32 := m ((c : Thread nD τ).loc main_arg9)
abbrev A10 : FVec Ideal S1x1024 .f32 := m ((c : Thread nD τ).loc main_arg10)
abbrev A11 : FVec Ideal S1x1024x2816 .f32 := m ((c : Thread nD τ).loc main_arg11)
abbrev A12 : FVec Ideal S1x1024x2816 .f32 := m ((c : Thread nD τ).loc main_arg12)
abbrev A13 : FVec Ideal S1x2816x1024 .f32 := m ((c : Thread nD τ).loc main_arg13)
abbrev A14 : FVec Ideal S1x1024 .f32 := m ((c : Thread nD τ).loc main_arg14)
abbrev A15 : FVec Ideal S1x1024 .f32 := m ((c : Thread nD τ).loc main_arg15)

/-! ## The arrays the call is given -/

theorem V_0 : (V m c main_v16 : FVec Ideal S16384x1024 .f32) = shapeCast S16384x1024 (A0 m c) shapeCasts_S2x8192x1024_S16384x1024 := by
  after_reads_simp
  rfl
theorem V_1 : (V m c main_v17 : FVec Ideal S16384x1024 .f32) = shapeCast S16384x1024 (A1 m c) shapeCasts_S2x8192x1024_S16384x1024 := by
  after_reads_simp
  rfl
theorem V_2 : (V m c main_v18 : FVec Ideal S16384x1024 .f32) = shapeCast S16384x1024 (A2 m c) shapeCasts_S2x8192x1024_S16384x1024 := by
  after_reads_simp
  rfl
theorem V_3 : (V m c main_v19 : FVec Ideal S16384x1024 .f32) = shapeCast S16384x1024 (A3 m c) shapeCasts_S2x8192x1024_S16384x1024 := by
  after_reads_simp
  rfl
theorem V_4 : (V m c main_v20 : FVec Ideal S16384x1024 .f32) = shapeCast S16384x1024 (A4 m c) shapeCasts_S2x8192x1024_S16384x1024 := by
  after_reads_simp
  rfl
theorem V_5 : (V m c main_v21 : FVec Ideal S16384x1024 .f32) = shapeCast S16384x1024 (A5 m c) shapeCasts_S2x8192x1024_S16384x1024 := by
  after_reads_simp
  rfl
theorem V_6 : (V m c main_v22 : FVec Ideal S8x128x128 .f32) = shapeCast S8x128x128 (A6 m c) shapeCasts_S1x8x128x128_S8x128x128 := by
  after_reads_simp
  rfl
theorem V_7 : (V m c main_v24 : FVec Ideal S8x128x1 .f32) = broadcastInDim S8x128x1 ![0, 1] bcast_S8x128_S8x128x1_0_1 (shapeCast S8x128 (A7 m c) shapeCasts_S1x8x128_S8x128) := by
  after_reads_simp
  rfl
theorem V_8 : (V m c main_v7 : FVec Ideal S1024x1024 .bf16) = truncf .bf16 (shapeCast S1024x1024 (A8 m c) shapeCasts_S1x1024x1024_S1024x1024) bitsLt_bf16_f32 := by
  after_reads_simp
  rfl
theorem V_11 : (V m c main_v1 : FVec Ideal S1024x2816 .bf16) = truncf .bf16 (shapeCast S1024x2816 (A11 m c) shapeCasts_S1x1024x2816_S1024x2816) bitsLt_bf16_f32 := by
  after_reads_simp
  rfl
theorem V_12 : (V m c main_v3 : FVec Ideal S1024x2816 .bf16) = truncf .bf16 (shapeCast S1024x2816 (A12 m c) shapeCasts_S1x1024x2816_S1024x2816) bitsLt_bf16_f32 := by
  after_reads_simp
  rfl
theorem V_13 : (V m c main_v5 : FVec Ideal S2816x1024 .bf16) = truncf .bf16 (shapeCast S2816x1024 (A13 m c) shapeCasts_S1x2816x1024_S2816x1024) bitsLt_bf16_f32 := by
  after_reads_simp
  rfl
theorem V_9 : (V m c main_v9 : FVec Ideal S1x1024 .f32) = shapeCast S1x1024 (shapeCast S1024 (A9 m c) shapeCasts_S1x1024_S1024) shapeCasts_S1024_S1x1024 := by
  after_reads_simp
  rfl
theorem V_10 : (V m c main_v11 : FVec Ideal S1x1024 .f32) = shapeCast S1x1024 (shapeCast S1024 (A10 m c) shapeCasts_S1x1024_S1024) shapeCasts_S1024_S1x1024 := by
  after_reads_simp
  rfl
theorem V_14 : (V m c main_v13 : FVec Ideal S1x1024 .f32) = shapeCast S1x1024 (shapeCast S1024 (A14 m c) shapeCasts_S1x1024_S1024) shapeCasts_S1024_S1x1024 := by
  after_reads_simp
  rfl
theorem V_15 : (V m c main_v15 : FVec Ideal S1x1024 .f32) = shapeCast S1x1024 (shapeCast S1024 (A15 m c) shapeCasts_S1x1024_S1024) shapeCasts_S1024_S1x1024 := by
  after_reads_simp
  rfl

variable (t : Fin cfg0.N)

theorem N_eq : cfg0.N = 64 := rfl

theorem t_lt : t.val < 64 := Nat.lt_of_lt_of_eq t.isLt N_eq

/-- The row of the whole array at a row of a block. -/
def at' (r : Fin 256) : Fin 16384 := ⟨t.val * 256 + r.val, by have := t_lt t; omega⟩

/-! ## Where a window's block starts -/

theorem start0 : ∀ t : Fin cfg0.N, win0_0.index t 0 = t.val ∧ win0_0.index t 1 = 0 :=
  (by decide +kernel : ∀ t : Fin grid0.N, win0_0.index t 0 = t.val ∧ win0_0.index t 1 = 0)
theorem same1 : win0_1.index t = win0_0.index t := rfl
theorem same2 : win0_2.index t = win0_0.index t := rfl
theorem same3 : win0_3.index t = win0_0.index t := rfl
theorem same4 : win0_4.index t = win0_0.index t := rfl
theorem same5 : win0_5.index t = win0_0.index t := rfl
theorem same16 : win0_16.index t = win0_0.index t := rfl

/-- A row of a moving window's block, and an element of a window's block that stays. -/
theorem under2 (f : Fin 2 → ℕ) (h0 : f 0 = t.val) (h1 : f 1 = 0) (r : Fin 256) (l : Fin 1024) (i : (⟨2, ![16384, 1024]⟩ : Shape).Idx)
    (g0 : (i 0).val = f 0 * 256 + 1 * r.val) (g1 : (i 1).val = f 1 * 1024 + 1 * l.val) : i = ix2 (at' t r) l :=
  eq2 _ _ (by rw [g0, h0]; show t.val * 256 + 1 * r.val = t.val * 256 + r.val; omega) (by rw [g1, h1]; show 0 * 1024 + 1 * l.val = l.val; omega)
theorem still2 {a b : ℕ} (f : Fin 2 → ℕ) (h0 : f 0 = 0) (h1 : f 1 = 0) (r : Fin a) (l : Fin b) (i : (⟨2, ![a, b]⟩ : Shape).Idx)
    (g0 : (i 0).val = f 0 * a + 1 * r.val) (g1 : (i 1).val = f 1 * b + 1 * l.val) : i = ix2 r l :=
  eq2 _ _ (by rw [g0, h0, Nat.zero_mul, Nat.one_mul, Nat.zero_add]; rfl) (by rw [g1, h1, Nat.zero_mul, Nat.one_mul, Nat.zero_add]; rfl)
theorem still3 {a b d : ℕ} (f : Fin 3 → ℕ) (h0 : f 0 = 0) (h1 : f 1 = 0) (h2 : f 2 = 0) (r : Fin a) (l : Fin b) (k : Fin d) (i : (⟨3, ![a, b, d]⟩ : Shape).Idx)
    (g0 : (i 0).val = f 0 * a + 1 * r.val) (g1 : (i 1).val = f 1 * b + 1 * l.val) (g2 : (i 2).val = f 2 * d + 1 * k.val) : i = ix3 r l k :=
  eq3 _ _ (by rw [g0, h0, Nat.zero_mul, Nat.one_mul, Nat.zero_add]; rfl) (by rw [g1, h1, Nat.zero_mul, Nat.one_mul, Nat.zero_add]; rfl)
    (by rw [g2, h2, Nat.zero_mul, Nat.one_mul, Nat.zero_add]; rfl)

/-! ## What each step is handed -/

theorem in0 (r : Fin 256) (l : Fin 1024) : (show FVec Ideal S256x1024 .f32 from iblk m c 0 t) (ix2 r l) = A0 m c (ix3 (batch (at' t r)) (place (at' t r)) l) :=
  (congrArg (V m c main_v16 : FVec Ideal S16384x1024 .f32) (under2 t (win0_0.index t) (start0 t).1 (start0 t).2 r l _ rfl rfl)).trans
    ((congrFun (V_0 m c) _).trans (rows_apply _ _ _ _))
theorem in1 (r : Fin 256) (l : Fin 1024) : (show FVec Ideal S256x1024 .f32 from iblk m c 1 t) (ix2 r l) = A1 m c (ix3 (batch (at' t r)) (place (at' t r)) l) :=
  (congrArg (V m c main_v17 : FVec Ideal S16384x1024 .f32) (under2 t (win0_1.index t) (start0 t).1 (start0 t).2 r l _ rfl rfl)).trans
    ((congrFun (V_1 m c) _).trans (rows_apply _ _ _ _))
theorem in2 (r : Fin 256) (l : Fin 1024) : (show FVec Ideal S256x1024 .f32 from iblk m c 2 t) (ix2 r l) = A2 m c (ix3 (batch (at' t r)) (place (at' t r)) l) :=
  (congrArg (V m c main_v18 : FVec Ideal S16384x1024 .f32) (under2 t (win0_2.index t) (start0 t).1 (start0 t).2 r l _ rfl rfl)).trans
    ((congrFun (V_2 m c) _).trans (rows_apply _ _ _ _))
theorem in3 (r : Fin 256) (l : Fin 1024) : (show FVec Ideal S256x1024 .f32 from iblk m c 3 t) (ix2 r l) = A3 m c (ix3 (batch (at' t r)) (place (at' t r)) l) :=
  (congrArg (V m c main_v19 : FVec Ideal S16384x1024 .f32) (under2 t (win0_3.index t) (start0 t).1 (start0 t).2 r l _ rfl rfl)).trans
    ((congrFun (V_3 m c) _).trans (rows_apply _ _ _ _))
theorem in4 (r : Fin 256) (l : Fin 1024) : (show FVec Ideal S256x1024 .f32 from iblk m c 4 t) (ix2 r l) = A4 m c (ix3 (batch (at' t r)) (place (at' t r)) l) :=
  (congrArg (V m c main_v20 : FVec Ideal S16384x1024 .f32) (under2 t (win0_4.index t) (start0 t).1 (start0 t).2 r l _ rfl rfl)).trans
    ((congrFun (V_4 m c) _).trans (rows_apply _ _ _ _))
theorem in5 (r : Fin 256) (l : Fin 1024) : (show FVec Ideal S256x1024 .f32 from iblk m c 5 t) (ix2 r l) = A5 m c (ix3 (batch (at' t r)) (place (at' t r)) l) :=
  (congrArg (V m c main_v21 : FVec Ideal S16384x1024 .f32) (under2 t (win0_5.index t) (start0 t).1 (start0 t).2 r l _ rfl rfl)).trans
    ((congrFun (V_5 m c) _).trans (rows_apply _ _ _ _))
theorem in6 (g : Fin 8) (x q : Fin 128) : (show FVec Ideal S8x128x128 .f32 from iblk m c 6 t) (ix3 g x q) = A6 m c (ix4 (0 : Fin 1) g x q) :=
  (congrArg (V m c main_v22 : FVec Ideal S8x128x128 .f32) (still3 (win0_6.index t) rfl rfl rfl g x q _ rfl rfl rfl)).trans
    ((congrFun (V_6 m c) _).trans (shapeCast_apply _ _ (ix3 g x q) (ix4 (0 : Fin 1) g x q) (by
      rw [Shape.rowMajor_val_four, Shape.rowMajor_val_three]
      show ((0 * 8 + g.val) * 128 + x.val) * 128 + q.val = (g.val * 128 + x.val) * 128 + q.val
      omega)))
theorem in7 (g : Fin 8) (x : Fin 128) : (show FVec Ideal S8x128x1 .f32 from iblk m c 7 t) (ix3 g x (0 : Fin 1)) = A7 m c (ix3 (0 : Fin 1) g x) :=
  (congrArg (V m c main_v24 : FVec Ideal S8x128x1 .f32) (still3 (win0_7.index t) rfl rfl rfl g x (0 : Fin 1) _ rfl rfl rfl)).trans
    ((congrFun (V_7 m c) _).trans ((congrArg (shapeCast S8x128 (A7 m c) shapeCasts_S1x8x128_S8x128) (eq2 _ (ix2 g x) rfl rfl)).trans
      (shapeCast_1ab_ab_apply _ _ g x)))
theorem in8 (l : Fin 1024) (k : Fin 1024) : (show FVec Ideal S1024x1024 .bf16 from iblk m c 8 t) (ix2 l k) = A8 m c (ix3 (0 : Fin 1) l k) :=
  (congrArg (V m c main_v7 : FVec Ideal S1024x1024 .bf16) (still2 (win0_8.index t) rfl rfl l k _ rfl rfl)).trans
    ((congrFun (V_8 m c) _).trans (shapeCast_1ab_ab_apply _ _ l k))
theorem in11 (l : Fin 1024) (k : Fin 2816) : (show FVec Ideal S1024x2816 .bf16 from iblk m c 11 t) (ix2 l k) = A11 m c (ix3 (0 : Fin 1) l k) :=
  (congrArg (V m c main_v1 : FVec Ideal S1024x2816 .bf16) (still2 (win0_11.index t) rfl rfl l k _ rfl rfl)).trans
    ((congrFun (V_11 m c) _).trans (shapeCast_1ab_ab_apply _ _ l k))
theorem in12 (l : Fin 1024) (k : Fin 2816) : (show FVec Ideal S1024x2816 .bf16 from iblk m c 12 t) (ix2 l k) = A12 m c (ix3 (0 : Fin 1) l k) :=
  (congrArg (V m c main_v3 : FVec Ideal S1024x2816 .bf16) (still2 (win0_12.index t) rfl rfl l k _ rfl rfl)).trans
    ((congrFun (V_12 m c) _).trans (shapeCast_1ab_ab_apply _ _ l k))
theorem in13 (l : Fin 2816) (k : Fin 1024) : (show FVec Ideal S2816x1024 .bf16 from iblk m c 13 t) (ix2 l k) = A13 m c (ix3 (0 : Fin 1) l k) :=
  (congrArg (V m c main_v5 : FVec Ideal S2816x1024 .bf16) (still2 (win0_13.index t) rfl rfl l k _ rfl rfl)).trans
    ((congrFun (V_13 m c) _).trans (shapeCast_1ab_ab_apply _ _ l k))
theorem in9 (l : Fin 1024) : (show FVec Ideal S1x1024 .f32 from iblk m c 9 t) (ix2 (0 : Fin 1) l) = A9 m c (ix2 (0 : Fin 1) l) :=
  (congrArg (V m c main_v9 : FVec Ideal S1x1024 .f32) (still2 (win0_9.index t) rfl rfl (0 : Fin 1) l _ rfl rfl)).trans
    ((congrFun (V_9 m c) _).trans (flat_apply _ _ _ l))
theorem in10 (l : Fin 1024) : (show FVec Ideal S1x1024 .f32 from iblk m c 10 t) (ix2 (0 : Fin 1) l) = A10 m c (ix2 (0 : Fin 1) l) :=
  (congrArg (V m c main_v11 : FVec Ideal S1x1024 .f32) (still2 (win0_10.index t) rfl rfl (0 : Fin 1) l _ rfl rfl)).trans
    ((congrFun (V_10 m c) _).trans (flat_apply _ _ _ l))
theorem in14 (l : Fin 1024) : (show FVec Ideal S1x1024 .f32 from iblk m c 14 t) (ix2 (0 : Fin 1) l) = A14 m c (ix2 (0 : Fin 1) l) :=
  (congrArg (V m c main_v13 : FVec Ideal S1x1024 .f32) (still2 (win0_14.index t) rfl rfl (0 : Fin 1) l _ rfl rfl)).trans
    ((congrFun (V_14 m c) _).trans (flat_apply _ _ _ l))
theorem in15 (l : Fin 1024) : (show FVec Ideal S1x1024 .f32 from iblk m c 15 t) (ix2 (0 : Fin 1) l) = A15 m c (ix2 (0 : Fin 1) l) :=
  (congrArg (V m c main_v15 : FVec Ideal S1x1024 .f32) (still2 (win0_15.index t) rfl rfl (0 : Fin 1) l _ rfl rfl)).trans
    ((congrFun (V_15 m c) _).trans (flat_apply _ _ _ l))

/-- The mixed block of a step is the mixed part of its rows. -/
theorem mixed_eq (r : Fin 256) (l : Fin 1024) : mixedB (iblk m c 5 t) (iblk m c 6 t) (iblk m c 7 t) r l
    = mixed (A5 m c) (A6 m c) (A7 m c) (batch (at' t r)) (place (at' t r)) l := by
  have ht := t_lt t
  have hr := r.isLt
  have ea : along (place (at' t r)) = alongB r := Fin.ext (by show (t.val * 256 + r.val) % 8192 % 128 = r.val % 128; omega)
  unfold mixedB mixed
  rw [ea]
  refine congr (congr (congrArg (spatial (alongB r)) (funext fun q => in6 m c t _ _ q)) (funext fun q => ?_)) (in7 m c t _ _)
  have hq := q.isLt
  refine (in5 m c t (inPartB r q) l).trans (congrArg (A5 m c) (eq3 _ _ ?_ ?_ rfl))
  · show (t.val * 256 + (r.val / 128 * 128 + q.val)) / 8192 = (t.val * 256 + r.val) / 8192; omega
  · show (t.val * 256 + (r.val / 128 * 128 + q.val)) % 8192 = (t.val * 256 + r.val) % 8192 / 128 * 128 + q.val; omega

/-- The result array. -/
def OUT : FVec Ideal S16384x1024 .f32 := fun i => result (A0 m c) (A1 m c) (A2 m c) (A3 m c) (A4 m c) (A5 m c) (A6 m c) (A7 m c) (A8 m c) (A9 m c) (A10 m c) (A11 m c) (A12 m c) (A13 m c) (A14 m c) (A15 m c) (i 0) (i 1)

/-- A step's result at an element is the result's. -/
theorem out_apply (r : Fin 256) (j : Fin 1024) : (show FVec Ideal S256x1024 .f32 from outsAt0 m c t) (ix2 r j) = OUT m c (ix2 (at' t r) j) := by
  unfold outsAt0 out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _)]
  unfold kernelRun0_A
  refine (canon_whole _ _ (ix2 r j)).trans ?_
  refine (stepB_apply _ _ _ _ _ _ _ _ _ _ _ _ _ r j _ _ _ _ _ _
    (fun l => (load2 (hs0_0 t) _ _ _ r l r l (Nat.zero_add _) (Nat.zero_add _)).trans (in0 m c t r l))
    (fun l => (load2 (hs0_1 t) _ _ _ r l r l (Nat.zero_add _) (Nat.zero_add _)).trans (in1 m c t r l))
    (fun l => (load2 (hs0_2 t) _ _ _ r l r l (Nat.zero_add _) (Nat.zero_add _)).trans (in2 m c t r l))
    (fun l => (load2 (hs0_3 t) _ _ _ r l r l (Nat.zero_add _) (Nat.zero_add _)).trans (in3 m c t r l))
    (fun l => (scratch_apply (iblk m c 4 t) (iblk m c 5 t) (iblk m c 6 t) (iblk m c 7 t) c _ _ _ _ _ _ _ _ _ r l).trans
      (congrArg₂ (fun u v : EReal => u * v) (in4 m c t r l) (mixed_eq m c t r l)))).trans ?_
  have hwo := fun (l k : Fin 1024) => (load2 (hs0_8 t) (iblk m c 8 t) ![0, 0] inb_S1024x1024_S1024x1024_0_0 l k l k (Nat.zero_add _) (Nat.zero_add _)).trans (in8 m c t l k)
  have hwg := fun (l : Fin 1024) (k : Fin 2816) => (load2 (hs0_11 t) (iblk m c 11 t) ![0, 0] inb_S1024x2816_S1024x2816_0_0 l k l k (Nat.zero_add _) (Nat.zero_add _)).trans (in11 m c t l k)
  have hwu := fun (l : Fin 1024) (k : Fin 2816) => (load2 (hs0_12 t) (iblk m c 12 t) ![0, 0] inb_S1024x2816_S1024x2816_0_0 l k l k (Nat.zero_add _) (Nat.zero_add _)).trans (in12 m c t l k)
  have hwd := fun (l : Fin 2816) (k : Fin 1024) => (load2 (hs0_13 t) (iblk m c 13 t) ![0, 0] inb_S2816x1024_S2816x1024_0_0 l k l k (Nat.zero_add _) (Nat.zero_add _)).trans (in13 m c t l k)
  have hg2 := fun (l : Fin 1024) => (load2 (hs0_9 t) (iblk m c 9 t) ![0, 0] inb_S1x1024_S1x1024_0_0 (0 : Fin 1) l (0 : Fin 1) l (Nat.zero_add _) (Nat.zero_add _)).trans (in9 m c t l)
  have hb2 := fun (l : Fin 1024) => (load2 (hs0_10 t) (iblk m c 10 t) ![0, 0] inb_S1x1024_S1x1024_0_0 (0 : Fin 1) l (0 : Fin 1) l (Nat.zero_add _) (Nat.zero_add _)).trans (in10 m c t l)
  have hg3 := fun (l : Fin 1024) => (load2 (hs0_14 t) (iblk m c 14 t) ![0, 0] inb_S1x1024_S1x1024_0_0 (0 : Fin 1) l (0 : Fin 1) l (Nat.zero_add _) (Nat.zero_add _)).trans (in14 m c t l)
  have hb3 := fun (l : Fin 1024) => (load2 (hs0_15 t) (iblk m c 15 t) ![0, 0] inb_S1x1024_S1x1024_0_0 (0 : Fin 1) l (0 : Fin 1) l (Nat.zero_add _) (Nat.zero_add _)).trans (in15 m c t l)
  have e1 := congrArg (first (fun l => A0 m c (ix3 (batch (at' t r)) (place (at' t r)) l)) (fun l => A1 m c (ix3 (batch (at' t r)) (place (at' t r)) l))
    (fun l => A2 m c (ix3 (batch (at' t r)) (place (at' t r)) l)) (fun l => A3 m c (ix3 (batch (at' t r)) (place (at' t r)) l))
    (fun l => A4 m c (ix3 (batch (at' t r)) (place (at' t r)) l)) (mixed (A5 m c) (A6 m c) (A7 m c) (batch (at' t r)) (place (at' t r))))
    (funext fun l => funext fun k => hwo l k)
  have e2 := congr (congr (congrArg norm e1) (funext hg2)) (funext hb2)
  have e3 := congr (congr (congr (congrArg pre e2) (funext fun l => funext fun k => hwg l k)) (funext fun l => funext fun k => hwu l k)) (funext fun l => funext fun k => hwd l k)
  exact congrFun (congr (congr (congrArg norm e3) (funext hg3)) (funext hb3)) j

/-! ## The blocks tile the array -/

/-- An element of the result is in the block of its row's tile. -/
theorem mem_blk16 (i : S16384x1024.Idx) :
    i ∈ ((cfg0.win 16).blk t).view.set ↔ t.val * 256 ≤ (i 0 : ℕ) ∧ (i 0 : ℕ) < t.val * 256 + 256 := by
  have e0 : win0_16.index t 0 = t.val := (start0 t).1
  have e1 : win0_16.index t 1 = 0 := (start0 t).2
  have hi : (i 1 : ℕ) < 1024 := (i 1).isLt
  show i ∈ ((View.whole main_v25).slice (win0_16.rect t)).set ↔ _
  rw [View.set_slice_whole, Rect.mem_set_unit]
  refine ⟨fun h => ?_, fun h a => ?_⟩
  · have : win0_16.index t 0 * 256 ≤ (i 0 : ℕ) ∧ (i 0 : ℕ) < win0_16.index t 0 * 256 + 256 := h 0
    rw [e0] at this; exact this
  · match a with
    | ⟨0, _⟩ => show win0_16.index t 0 * 256 ≤ (i 0 : ℕ) ∧ (i 0 : ℕ) < win0_16.index t 0 * 256 + 256
                rw [e0]; exact h
    | ⟨1, _⟩ => show win0_16.index t 1 * 1024 ≤ (i 1 : ℕ) ∧ (i 1 : ℕ) < win0_16.index t 1 * 1024 + 1024
                rw [e1, Nat.zero_mul, Nat.zero_add]; exact ⟨Nat.zero_le _, hi⟩

theorem cover16 (i : S16384x1024.Idx) : ∃ t : Fin cfg0.N, (cfg0.win 16).flush t = true ∧ i ∈ ((cfg0.win 16).blk t).view.set := by
  have h0 : (i 0 : ℕ) < 16384 := (i 0).isLt
  have hN : (i 0 : ℕ) / 256 < cfg0.N := Nat.lt_of_lt_of_eq (by omega : (i 0 : ℕ) / 256 < 64) N_eq.symm
  refine ⟨⟨(i 0 : ℕ) / 256, hN⟩, flush0_16 _, (mem_blk16 _ i).2 ?_⟩
  exact ⟨Nat.div_mul_le_self _ _, Nat.lt_div_mul_add (a := (i 0 : ℕ)) (b := 256) (by decide)⟩

/-- The result array ends at the result. -/
theorem final : (dats m 0 c).arrAt 16 cfg0.N = OUT m c :=
  (dats m 0 c).arrAt_eq_of_cover 16 (OUT m c) (fun t _ => by
    have e : (show FVec Ideal S256x1024 .f32 from outsAt0 m c t) = ((cfg0.win 16).blk t).view.read (Elt Ideal) (OUT m c) := funext fun y => by
      rw [show y = ix2 (y 0) (y 1) from eq2 _ _ rfl rfl]
      exact (out_apply m c t (y 0) (y 1)).trans
        (congrArg (OUT m c) (under2 t (win0_16.index t) (start0 t).1 (start0 t).2 (y 0) (y 1) _ rfl rfl)).symm
    show (cfg0.win 16).cut (grid0.coords t) ((dats m 0 c).after 16 t) = _
    rw [after0_16]
    exact e) cover16

end Cert.MixIdeal.Block
-- ==== Proof.MixReference.lean ====
/-
  The plain program of the mixing and feed-forward part, read operation by operation: every row of its result is the row function.
-/
module

public import proofs.«01_k».proof.Proof.MixRow
public import proofs.«01_k».proof.Proof.FfnReference
public import proofs.«01_k».proof.Proof.Gen.MixReferenceIdeal
public import proofs.«01_k».proof.Proof.Gen.MixReferenceIdeal.Run
public import proofs.«01_k».proof.Proof.Gen.MixReferenceIdeal.Read

@[expose] public section

set_option maxRecDepth 16384

noncomputable section

namespace Cert.MixReferenceIdeal.Read

open Cert.MixReferenceIdeal Cert.MixReferenceIdeal.Gen Cert.FfnRow Cert.MixRow
open Idealize.ShloMosaic Idealize.ShloMosaic.ValueIdx Idealize.ShloMosaic.StableHlo

variable (x0 x1 x2 x3 x4 x5 : FVec Ideal S2x8192x1024 .f32) (x6 : FVec Ideal S1x8x128x128 .f32) (x7 : FVec Ideal S1x8x128 .f32)
  (x8 : FVec Ideal S1x1024x1024 .f32) (x9 x10 : FVec Ideal S1x1024 .f32) (x11 x12 : FVec Ideal S1x1024x2816 .f32)
  (x13 : FVec Ideal S1x2816x1024 .f32) (x14 x15 : FVec Ideal S1x1024 .f32) (b : Fin 2) (s : Fin 8192)

/-! ## The mixing -/

/-- The triangle of ones. -/
theorem tril_apply (t q : Fin 128) : val_main_v2 (F := Ideal) (ix2 t q) = (if q.val ≤ t.val then (1 : EReal) else 0) := by
  rw [val_main_v2_apply, val_main_call0_v4_apply, val_main_call0_v2_apply, val_main_call0_v0_apply, val_main_call0_v1_apply, val_main_call0_c_apply,
    val_main_call0_v3_apply, val_main_v1_apply, val_main_cst_apply, val_main_call0_v5_apply, val_main_call0_cst_apply]
  show (if (BitVec.ofBool ((BitVec.ofNat 32 q.val).sle (BitVec.ofNat 32 t.val + 0#32))) = 1#1 then Ideal.ofBits .f32 0x3F800000#32 else Ideal.ofBits .f32 0x00000000#32) = _
  rw [BitVec.add_zero, place_le, Ideal.ofBits_one_f32, Ideal.ofBits_zero_f32]
  by_cases h : q.val ≤ t.val
  · rw [if_pos h, decide_eq_true h]; rfl
  · rw [if_neg h, decide_eq_false h]; rfl

/-- The weights, with nothing of a later row. -/
theorem weight_apply (g : Fin 8) (t q : Fin 128) : val_main_v5 (F := Ideal) x6 (ix3 g t q) = weight t q (x6 (ix4 (0 : Fin 1) g t q)) := by
  rw [val_main_v5_apply, val_main_v0_apply, val_main_v4_apply, val_main_v3_apply,
    show idx_main_v3 (idx_main_v4 (ix3 g t q)) = ix2 t q from eq2 _ _ rfl rfl, tril_apply,
    show idx_main_v0 (ix3 g t q) = ix4 (0 : Fin 1) g t q from eq4 _ _ rfl
      (by show ((g.val * 128 + t.val) * 128 + q.val) / 16384 % 8 = g.val; omega)
      (by show ((g.val * 128 + t.val) * 128 + q.val) / 128 % 128 = t.val; omega)
      (by show ((g.val * 128 + t.val) * 128 + q.val) % 128 = q.val; omega)]
  show x6 (ix4 (0 : Fin 1) g t q) * (if q.val ≤ t.val then (1 : EReal) else 0) = _
  unfold weight
  by_cases h : q.val ≤ t.val
  · rw [if_pos h, if_pos h, mul_one]
  · rw [if_neg h, if_neg h, mul_zero]

theorem mixed_apply (l : Fin 1024) : val_main_v15 (F := Ideal) x5 x6 x7 (ix3 b s l) = mixed x5 x6 x7 b s l := by
  rw [val_main_v15_apply, val_main_v13_apply, val_main_v8_apply, val_main_v7_apply, val_main_v12_apply, val_main_v11_apply, val_main_v10_apply, val_main_v9_apply]
  have hb := b.isLt
  have hs := s.isLt
  have hl := l.isLt
  refine congrArg₂ (fun u v : EReal => u + v) (Finset.sum_congr rfl fun q _ => ?_) ?_
  · have hq := q.isLt
    rw [show ridx_main_v7 (idx_main_v8 (idx_main_v15 (ix3 b s l))) q = ix3 (group l) (along s) q from eq3 _ _
      (by show ((b.val * 8192 + s.val) * 1024 + l.val) / 128 % 8 = l.val / 128; omega)
      (by show ((b.val * 8192 + s.val) * 1024 + l.val) / 1024 % 128 = s.val % 128; omega) rfl, weight_apply, val_main_v6_apply]
    refine (mul_comm _ _).trans (congrArg (fun z : EReal => weight (along s) q (x6 (ix4 (0 : Fin 1) (group l) (along s) q)) * z) (congrArg x5 ?_))
    have e0 : ((b.val * 8192 + s.val) * 1024 + l.val) / 8388608 = b.val := by omega
    have e1 : ((b.val * 8192 + s.val) * 1024 + l.val) / 131072 % 64 = s.val / 128 := by omega
    have e3 : ((b.val * 8192 + s.val) * 1024 + l.val) / 128 % 8 = l.val / 128 := by omega
    have e4 : ((b.val * 8192 + s.val) * 1024 + l.val) % 128 = l.val % 128 := by omega
    refine eq3 _ _ ?_ ?_ ?_
    · show ((((((b.val * 8192 + s.val) * 1024 + l.val) / 8388608 * 64 + ((b.val * 8192 + s.val) * 1024 + l.val) / 131072 % 64) * 128 + q.val) * 8
        + ((b.val * 8192 + s.val) * 1024 + l.val) / 128 % 8) * 128 + ((b.val * 8192 + s.val) * 1024 + l.val) % 128) / 8388608 = b.val
      rw [e0, e1, e3, e4]; omega
    · show ((((((b.val * 8192 + s.val) * 1024 + l.val) / 8388608 * 64 + ((b.val * 8192 + s.val) * 1024 + l.val) / 131072 % 64) * 128 + q.val) * 8
        + ((b.val * 8192 + s.val) * 1024 + l.val) / 128 % 8) * 128 + ((b.val * 8192 + s.val) * 1024 + l.val) % 128) / 1024 % 8192 = s.val / 128 * 128 + q.val
      rw [e0, e1, e3, e4]; omega
    · show ((((((b.val * 8192 + s.val) * 1024 + l.val) / 8388608 * 64 + ((b.val * 8192 + s.val) * 1024 + l.val) / 131072 % 64) * 128 + q.val) * 8
        + ((b.val * 8192 + s.val) * 1024 + l.val) / 128 % 8) * 128 + ((b.val * 8192 + s.val) * 1024 + l.val) % 128) % 1024 = l.val
      rw [e0, e1, e3, e4]; omega
  · have e3 : ((b.val * 8192 + s.val) * 1024 + l.val) / 128 % 8 = l.val / 128 := by omega
    have e2 : ((b.val * 8192 + s.val) * 1024 + l.val) / 1024 % 128 = s.val % 128 := by omega
    refine congrArg x7 (eq3 _ _ rfl ?_ ?_)
    · show (((b.val * 8192 + s.val) * 1024 + l.val) / 128 % 8 * 128 + ((b.val * 8192 + s.val) * 1024 + l.val) / 1024 % 128) / 128 % 8 = l.val / 128
      rw [e3, e2]; omega
    · show (((b.val * 8192 + s.val) * 1024 + l.val) / 128 % 8 * 128 + ((b.val * 8192 + s.val) * 1024 + l.val) / 1024 % 128) % 128 = s.val % 128
      rw [e3, e2]; omega

theorem start_apply (j : Fin 1024) : val_main_v23 (F := Ideal) x0 x1 x2 x3 x4 x5 x6 x7 x8 (ix3 b s j) = start x0 x1 x2 x3 x4 x5 x6 x7 x8 b s j := by
  rw [val_main_v23_apply, val_main_v22_apply, val_main_v21_apply, val_main_cst_0_apply, val_main_v20_apply]
  refine congrArg (fun z : EReal => Ideal.ofBits .f32 0x3F9837F0#32 * x0 (ix3 b s j) + z) ?_
  refine Finset.sum_congr rfl fun l _ => ?_
  rw [show lidx_main_v20 (ix3 b s j) l = ix3 b s l from eq3 _ _ rfl rfl rfl, val_main_v18_apply, val_main_v14_apply, val_main_v17_apply, val_main_v16_apply, mixed_apply,
    val_main_v19_apply]
  refine congrArg (fun z : EReal => (x2 (ix3 b s l) * x1 (ix3 b s l) + x3 (ix3 b s l) * (x4 (ix3 b s l) * mixed x5 x6 x7 b s l)) * z) (congrArg x8 (eq3 _ _ rfl ?_ ?_))
  · show (l.val * 1024 + j.val) / 1024 % 1024 = l.val; omega
  · show (l.val * 1024 + j.val) % 1024 = j.val; omega

/-! ## The first normalisation -/

/-- The mean of a row. -/
theorem mean_first_apply : val_main_v27 (F := Ideal) x0 x1 x2 x3 x4 x5 x6 x7 x8 (ix3 b s (0 : Fin 1)) = mean (start x0 x1 x2 x3 x4 x5 x6 x7 x8 b s) := by
  rw [val_main_v27_apply, val_main_v26_apply, val_main_cst_2_apply, val_main_v25_apply, val_main_v24_apply, val_main_cst_1_apply]
  have e : ∀ k : Fin 1024, val_main_v23 (F := Ideal) x0 x1 x2 x3 x4 x5 x6 x7 x8 (idx_main_v24 (idx_main_v25 (ix3 b s (0 : Fin 1))) k) = start x0 x1 x2 x3 x4 x5 x6 x7 x8 b s k := fun k => by
    rw [show idx_main_v24 (idx_main_v25 (ix3 b s (0 : Fin 1))) k = ix3 b s k from eq3 _ _ rfl rfl rfl, start_apply]
  rw [Finset.sum_congr rfl fun k _ => e k]
  show Ideal.div (Ideal.ofBits .f32 0x00000000#32 + _) _ = _
  rw [Ideal.ofBits_zero_f32, zero_add]
  rfl

theorem centred_first_apply (j : Fin 1024) : val_main_v29 (F := Ideal) x0 x1 x2 x3 x4 x5 x6 x7 x8 (ix3 b s j) = centred (start x0 x1 x2 x3 x4 x5 x6 x7 x8 b s) j := by
  rw [val_main_v29_apply, val_main_v28_apply, start_apply, show idx_main_v28 (ix3 b s j) = ix3 b s (0 : Fin 1) from eq3 _ _ rfl rfl rfl, mean_first_apply]
  rfl

theorem centred_first_again (j : Fin 1024) : val_main_v36 (F := Ideal) x0 x1 x2 x3 x4 x5 x6 x7 x8 (ix3 b s j) = centred (start x0 x1 x2 x3 x4 x5 x6 x7 x8 b s) j := by
  rw [val_main_v36_apply, val_main_v35_apply, start_apply, show idx_main_v35 (ix3 b s j) = ix3 b s (0 : Fin 1) from eq3 _ _ rfl rfl rfl, mean_first_apply]
  rfl

/-- The variance of a row. -/
theorem var_first_apply : val_main_v34 (F := Ideal) x0 x1 x2 x3 x4 x5 x6 x7 x8 (ix3 b s (0 : Fin 1))
    = mean (fun k => centred (start x0 x1 x2 x3 x4 x5 x6 x7 x8 b s) k * centred (start x0 x1 x2 x3 x4 x5 x6 x7 x8 b s) k) := by
  rw [val_main_v34_apply, val_main_v33_apply, val_main_cst_4_apply, val_main_v32_apply, val_main_v31_apply, val_main_cst_3_apply]
  have e : ∀ k : Fin 1024, val_main_v30 (F := Ideal) x0 x1 x2 x3 x4 x5 x6 x7 x8 (idx_main_v31 (idx_main_v32 (ix3 b s (0 : Fin 1))) k)
      = centred (start x0 x1 x2 x3 x4 x5 x6 x7 x8 b s) k * centred (start x0 x1 x2 x3 x4 x5 x6 x7 x8 b s) k := fun k => by
    rw [show idx_main_v31 (idx_main_v32 (ix3 b s (0 : Fin 1))) k = ix3 b s k from eq3 _ _ rfl rfl rfl, val_main_v30_apply, centred_first_apply]
    rfl
  rw [Finset.sum_congr rfl fun k _ => e k]
  show Ideal.div (Ideal.ofBits .f32 0x00000000#32 + _) _ = _
  rw [Ideal.ofBits_zero_f32, zero_add]
  rfl

theorem scale_first_apply (j : Fin 1024) : val_main_v44 (F := Ideal) x9 (ix3 b s j) = x9 (ix2 (0 : Fin 1) j) := by
  rw [val_main_v44_apply, val_main_v43_apply, val_main_v42_apply]
  exact congrArg x9 (eq2 _ _ rfl (Nat.mod_eq_of_lt j.isLt))

theorem shift_first_apply (j : Fin 1024) : val_main_v48 (F := Ideal) x10 (ix3 b s j) = x10 (ix2 (0 : Fin 1) j) := by
  rw [val_main_v48_apply, val_main_v47_apply, val_main_v46_apply]
  exact congrArg x10 (eq2 _ _ rfl (Nat.mod_eq_of_lt j.isLt))

theorem norm_first_apply (j : Fin 1024) : val_main_v49 (F := Ideal) x0 x1 x2 x3 x4 x5 x6 x7 x8 x9 x10 (ix3 b s j)
    = norm (start x0 x1 x2 x3 x4 x5 x6 x7 x8 b s) (fun l => x9 (ix2 (0 : Fin 1) l)) (fun l => x10 (ix2 (0 : Fin 1) l)) j := by
  rw [val_main_v49_apply, val_main_v45_apply, val_main_v41_apply, centred_first_again, scale_first_apply, shift_first_apply, val_main_v40_apply,
    show idx_main_v40 (ix3 b s j) = ix3 b s (0 : Fin 1) from eq3 _ _ rfl rfl rfl, val_main_v39_apply, val_main_v38_apply, var_first_apply,
    val_main_v37_apply, val_main_cst_5_apply]
  rfl

/-! ## The feed-forward layer and the last normalisation -/

/-- The rest of the program is the feed-forward layer's own program, at the normalised rows. -/
theorem rest_eq : val_main_v88 (F := Ideal) x0 x1 x2 x3 x4 x5 x6 x7 x8 x9 x10 x11 x12 x13 x14 x15
    = Cert.FfnReferenceIdeal.Read.val_main_v38 (F := Ideal) (val_main_v49 (F := Ideal) x0 x1 x2 x3 x4 x5 x6 x7 x8 x9 x10) x14 x15 x11 x12 x13 := rfl

/-- The plain program's result. -/
theorem out_apply (r : Fin 16384) (j : Fin 1024) : val_main_v89 (F := Ideal) x0 x1 x2 x3 x4 x5 x6 x7 x8 x9 x10 x11 x12 x13 x14 x15 (ix2 r j) = Cert.MixRow.result x0 x1 x2 x3 x4 x5 x6 x7 x8 x9 x10 x11 x12 x13 x14 x15 r j := by
  rw [val_main_v89_apply, show idx_main_v89 (ix2 r j) = ix3 (batch r) (place r) j from
    eq3 _ _ (by show (r.val * 1024 + j.val) / 8388608 = r.val / 8192; omega) (by show (r.val * 1024 + j.val) / 1024 % 8192 = r.val % 8192; omega)
      (by show (r.val * 1024 + j.val) % 1024 = j.val; omega), rest_eq]
  refine (Cert.FfnReferenceIdeal.Read.norm_apply (val_main_v49 (F := Ideal) x0 x1 x2 x3 x4 x5 x6 x7 x8 x9 x10) x14 x15 x11 x12 x13 (batch r) (place r) j).trans ?_
  have e : (fun l => val_main_v49 (F := Ideal) x0 x1 x2 x3 x4 x5 x6 x7 x8 x9 x10 (ix3 (batch r) (place r) l)) = middle x0 x1 x2 x3 x4 x5 x6 x7 x8 x9 x10 (batch r) (place r) :=
    funext fun l => norm_first_apply x0 x1 x2 x3 x4 x5 x6 x7 x8 x9 x10 (batch r) (place r) l
  show norm (pre (fun l => val_main_v49 (F := Ideal) x0 x1 x2 x3 x4 x5 x6 x7 x8 x9 x10 (ix3 (batch r) (place r) l)) _ _ _) _ _ j = _
  rw [e]
  rfl

end Cert.MixReferenceIdeal.Read
-- ==== Proof.Mix.lean ====
/-
  The mixing and feed-forward part: both programs leave the same array, whatever the arguments hold.
-/
module

public import proofs.«01_k».proof.Defs
public import proofs.«01_k».proof.Proof.MixBlocks
public import proofs.«01_k».proof.Proof.MixReference
public import proofs.«01_k».proof.Proof.Gen.Mix
public import proofs.«01_k».proof.Proof.Gen.Mix.Frame

@[expose] public section

noncomputable section

namespace Cert.MixIdeal.Block

open Cert.MixIdeal.Gen Cert.MixRow
open Idealize.ShloMosaic Idealize.ShloMosaic.TcCoe Idealize.ShloMosaic.ValueIdx Idealize.SL.Sem

/-- The plain program ends with its arguments as they were; it has no counters. -/
theorem frame_reference : Cert.quiescent_MixReferenceIdeal (hMixReferenceIdeal := Cert.MixReferenceIdeal.Gen.facts) := fun m ρ _ =>
  (θ_run Cert.MixReferenceIdeal.defs _ _).mono (fun r h => ⟨fun c => (h c).2,
      Idealize.ShloMosaic.sem_eq_zero_of_no_sems (by decide) r.2⟩)
    (Cert.MixReferenceIdeal.Value.run (F := Ideal) m ρ)

/-- The tiled program leaves the result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    exact ⟨((h c).1 16).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩)
    (run_main m ρ)

/-- The two programs leave one result. -/
theorem algebraic : Cert.algebraic_MixIdeal_MixReferenceIdeal (hMixIdeal := Cert.MixIdeal.Gen.facts)
    (hMixReferenceIdeal := Cert.MixReferenceIdeal.Gen.facts) := by
  intro m g m' g' _ heq
  refine ⟨_, run m g, ?_⟩
  refine (θ_run Cert.MixReferenceIdeal.defs _ _).mono (fun r h c => ⟨?_, (h c).2⟩) (Cert.MixReferenceIdeal.Value.run (F := Ideal) m' g')
  obtain ⟨e0, e1, e2, e3, e4, e5, e6, e7, e8, e9, e10, e11, e12, e13, e14, e15⟩ := heq c
  refine ((h c).1.trans (Cert.MixReferenceIdeal.Read.val_main_v89_eq (StableHlo.launchContents m' c))).trans ?_
  show Cert.MixReferenceIdeal.Read.val_main_v89 (F := Ideal) (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1))
    (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg3))
    (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5))
    (m' ((c.tc : Thread Cert.MixReferenceIdeal.nD Cert.MixReferenceIdeal.τ).loc Cert.MixReferenceIdeal.main_arg6)) (m' ((c.tc : Thread Cert.MixReferenceIdeal.nD Cert.MixReferenceIdeal.τ).loc Cert.MixReferenceIdeal.main_arg7))
    (m' ((c.tc : Thread Cert.MixReferenceIdeal.nD Cert.MixReferenceIdeal.τ).loc Cert.MixReferenceIdeal.main_arg8)) (m' ((c.tc : Thread Cert.MixReferenceIdeal.nD Cert.MixReferenceIdeal.τ).loc Cert.MixReferenceIdeal.main_arg9))
    (m' ((c.tc : Thread Cert.MixReferenceIdeal.nD Cert.MixReferenceIdeal.τ).loc Cert.MixReferenceIdeal.main_arg10)) (m' ((c.tc : Thread Cert.MixReferenceIdeal.nD Cert.MixReferenceIdeal.τ).loc Cert.MixReferenceIdeal.main_arg11))
    (m' ((c.tc : Thread Cert.MixReferenceIdeal.nD Cert.MixReferenceIdeal.τ).loc Cert.MixReferenceIdeal.main_arg12)) (m' ((c.tc : Thread Cert.MixReferenceIdeal.nD Cert.MixReferenceIdeal.τ).loc Cert.MixReferenceIdeal.main_arg13))
    (m' ((c.tc : Thread Cert.MixReferenceIdeal.nD Cert.MixReferenceIdeal.τ).loc Cert.MixReferenceIdeal.main_arg14)) (m' ((c.tc : Thread Cert.MixReferenceIdeal.nD Cert.MixReferenceIdeal.τ).loc Cert.MixReferenceIdeal.main_arg15))
    = _
  rw [e0, e1, e2, e3, e4, e5, e6, e7, e8, e9, e10, e11, e12, e13, e14, e15]
  refine funext fun i => ?_
  rw [show i = ix2 (i 0) (i 1) from FfnRow.eq2 _ _ rfl rfl]
  exact Cert.MixReferenceIdeal.Read.out_apply (A0 m c) (A1 m c) (A2 m c) (A3 m c) (A4 m c) (A5 m c) (A6 m c) (A7 m c) (A8 m c) (A9 m c) (A10 m c) (A11 m c) (A12 m c) (A13 m c) (A14 m c) (A15 m c) (i 0) (i 1)

end Cert.MixIdeal.Block
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Body
public import proofs.«01_k».proof.Proof.Bits.Body
public import proofs.«01_k».proof.Proof.Staged
public import proofs.«01_k».proof.Proof.Ref
public import proofs.«01_k».proof.Proof.Ffn
public import proofs.«01_k».proof.Proof.Proj
public import proofs.«01_k».proof.Proof.Mix
public import Idealize.ShloMosaic.Adequacy
public import Idealize.ShloMosaic.Init

@[expose] public section

noncomputable section

namespace Cert.Proof

open Idealize.ShloMosaic Idealize.SL.Sem

/-- The host program ends with its arguments as they were; it has no counters. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Each named constant of the kernel stands for the value its name gives. -/
theorem preserves : Cert.preserves_Kernel_KernelIdeal :=
  ⟨IdealRules.named_const.statement Cert.KernelIdeal.κ "log2e_0" .f32 0x3FB90000#32 _ rfl,
    IdealRules.named_const.statement Cert.KernelIdeal.κ "log2e_1" .f32 0xBB2C0000#32 _ rfl,
    IdealRules.named_const.statement Cert.KernelIdeal.κ "log2e_2" .f32 0x36ED0000#32 _ rfl,
    IdealRules.named_const.statement Cert.KernelIdeal.κ "log2e_3" .f32 0xB2350000#32 _ rfl,
    IdealRules.named_const.statement Cert.KernelIdeal.κ "mask" .f32 0xF149F2CA#32 _ rfl⟩

/-- The precondition's side conditions. -/
theorem preFacts : Cert.Pre_finite.Facts := ⟨by decide, by decide⟩

/-- An array whose magnitudes are all below infinity is real. -/
theorem real_of {s : Shape} (A : FVec Ideal s .f32) (dims : Fin Cert.Pre_finite.S_.rank → Fin s.rank) (hb : Cert.Pre_finite.S_.BroadcastsInDim s dims)
    (h : cmpf .olt (Host.absf A) (broadcastInDim s dims hb (constant (F := Ideal) Cert.Pre_finite.S_ .f32 0x7F800000#32)) = fun _ => 1#1) : Cert.Attend.IsReal A := by
  intro j
  have hj : Ideal.cmp .olt (max (A j) (-(A j))) (broadcastInDim s dims hb (constant (F := Ideal) Cert.Pre_finite.S_ .f32 0x7F800000#32) j) = 1#1 := congrFun h j
  rw [broadcastInDim_apply dims hb _ j ValueIdx.ix0 (fun a => a.elim0)] at hj
  replace hj : Ideal.cmp .olt (max (A j) (-(A j))) (Ideal.ofBits .f32 0x7F800000#32) = 1#1 := hj
  rw [Cert.Attend.c_top] at hj
  have hlt : max (A j) (-(A j)) < ⊤ := by
    by_contra hn
    simp [Ideal.cmp, hn] at hj
  refine (EReal.coe_toReal ?_ ?_).symm
  · intro e; rw [e] at hlt; simp at hlt
  · intro e; rw [e] at hlt; simp at hlt

/-- On real arguments the two programs leave one result: differential attention of the arguments. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre heq
  have H : ∀ c, _ := fun c => by
    obtain ⟨p0, p1, p2, p3, p4, p5, p6⟩ := hpre c
    exact And.intro (real_of (Cert.KernelIdeal.Whole.A0 m c) _ preFacts.1 p0) (And.intro (real_of (Cert.KernelIdeal.Whole.A1 m c) _ preFacts.1 p1)
      (And.intro (real_of (Cert.KernelIdeal.Whole.A2 m c) _ preFacts.1 p2) (And.intro (real_of (Cert.KernelIdeal.Whole.A3 m c) _ preFacts.2 p3)
      (And.intro (real_of (Cert.KernelIdeal.Whole.A4 m c) _ preFacts.2 p4) (And.intro (real_of (Cert.KernelIdeal.Whole.A5 m c) _ preFacts.2 p5)
        (real_of (Cert.KernelIdeal.Whole.A6 m c) _ preFacts.2 p6))))))
  refine ⟨_, Cert.KernelIdeal.Whole.run m g _ _ (Cert.KernelIdeal.Whole.staged m H), ?_⟩
  refine (θ_run Cert.ReferenceIdeal.defs _ _).mono (fun r h c => ⟨?_, (h c).2⟩) (Cert.ReferenceIdeal.Value.run (F := Ideal) m' g')
  obtain ⟨h0, h1, h2, h3, h4, h5, h6⟩ := H c
  obtain ⟨e0, e1, e2, e3, e4, e5, e6, e7⟩ := heq c
  refine ((h c).1.trans (Cert.ReferenceIdeal.Read.val_main_v83_eq m' c)).trans ?_
  rw [e0, e1, e2, e3, e4, e5, e6, e7]
  exact funext fun i => Cert.ReferenceIdeal.Whole.res_at _ _ _ _ _ _ _ _ h0 h1 h2 h3 h4 h5 h6 i

/-- The claims of the statement, in its order. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Proj.Gen.facts, Cert.ProjIdeal.Gen.facts, Cert.ProjReferenceIdeal.Gen.facts,
    Cert.Mix.Gen.facts, Cert.MixIdeal.Gen.facts, Cert.MixReferenceIdeal.Gen.facts, preFacts,
    fun m ρ _ => Cert.Kernel.Attn.frame m ρ, fun m ρ _ => Cert.KernelIdeal.Attn.frame m ρ, fun m ρ _ => Cert.KernelIdeal.Attn.frame m ρ,
    frame_ri, fun m ρ _ => frame_ri m ρ trivial,
    fun m ρ _ => Cert.Ffn.Gen.frame m ρ, fun m ρ _ => Cert.FfnIdeal.Gen.frame m ρ, Cert.FfnIdeal.Block.frame_reference,
    fun m ρ _ => Cert.Proj.Gen.frame m ρ, fun m ρ _ => Cert.ProjIdeal.Gen.frame m ρ, Cert.ProjIdeal.Block.frame_reference,
    fun m ρ _ => Cert.Mix.Gen.frame m ρ, fun m ρ _ => Cert.MixIdeal.Gen.frame m ρ, Cert.MixIdeal.Block.frame_reference,
    preserves, algebraic, trivial, Cert.FfnIdeal.Block.algebraic, Cert.ProjIdeal.Block.preserves, Cert.ProjIdeal.Block.algebraic,
    trivial, Cert.MixIdeal.Block.algebraic⟩

end Cert.Proof

end
